-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)) (v4 : (c : Dev Cert.Kernel12Ideal.nD) → Buf (Elt Ideal) ((c.tc : Thread Cert.Kernel12Ideal.nD Cert.Kernel12Ideal.τ).loc Cert.Kernel12Ideal.main_v3_4)) (v5 : (c : Dev Cert.Kernel12Ideal.nD) → Buf (Elt Ideal) ((c.tc : Thread Cert.Kernel12Ideal.nD Cert.Kernel12Ideal.τ).loc Cert.Kernel12Ideal.main_v3_5)) (v6 : (c : Dev Cert.Kernel12Ideal.nD) → Buf (Elt Ideal) ((c.tc : Thread Cert.Kernel12Ideal.nD Cert.Kernel12Ideal.τ).loc Cert.Kernel12Ideal.main_v3_6)) (v7 : (c : Dev Cert.Kernel12Ideal.nD) → Buf (Elt Ideal) ((c.tc : Thread Cert.Kernel12Ideal.nD Cert.Kernel12Ideal.τ).loc Cert.Kernel12Ideal.main_v3_7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_v3_4) = v4 c
          ∧ r.2.mem ((c.tc : Thread Cert.Kernel12Ideal.nD Cert.Kernel12Ideal.τ).loc Cert.Kernel12Ideal.main_v3_5) = v5 c
          ∧ r.2.mem ((c.tc : Thread Cert.Kernel12Ideal.nD Cert.Kernel12Ideal.τ).loc Cert.Kernel12Ideal.main_v3_6) = v6 c
          ∧ r.2.mem ((c.tc : Thread Cert.Kernel12Ideal.nD Cert.Kernel12Ideal.τ).loc Cert.Kernel12Ideal.main_v3_7) = v7 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v116) = v0 c
          ∧ r.2.mem ((c.tc : Thread Cert.Reference12Ideal.nD Cert.Reference12Ideal.τ).loc Cert.Reference12Ideal.main_v106) = v1 c
          ∧ r.2.mem ((c.tc : Thread Cert.Reference12Ideal.nD Cert.Reference12Ideal.τ).loc Cert.Reference12Ideal.main_v117) = v2 c
          ∧ r.2.mem ((c.tc : Thread Cert.Reference12Ideal.nD Cert.Reference12Ideal.τ).loc Cert.Reference12Ideal.main_v118) = v3 c
          ∧ r.2.mem ((c.tc : Thread Cert.Reference12Ideal.nD Cert.Reference12Ideal.τ).loc Cert.Reference12Ideal.main_v119) = v4 c
          ∧ r.2.mem ((c.tc : Thread Cert.Reference12Ideal.nD Cert.Reference12Ideal.τ).loc Cert.Reference12Ideal.main_v120) = v5 c
          ∧ r.2.mem ((c.tc : Thread Cert.Reference12Ideal.nD Cert.Reference12Ideal.τ).loc Cert.Reference12Ideal.main_v121) = v6 c
          ∧ r.2.mem ((c.tc : Thread Cert.Reference12Ideal.nD Cert.Reference12Ideal.τ).loc Cert.Reference12Ideal.main_v125) = v7 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite2 : Cert.Pre_finite2.Facts) (hPre_finite12 : Cert.Pre_finite12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite12.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part2 {F : FTy → Type} [FloatOps F] (main_arg7 : FVec F S1024 .f32) (main_v4 : IVec S8192x1024 1) (main_v9 : IVec S8192x1024 1) (main_v14 : IVec S8192x1024 1) (main_v19 : IVec S8192x2048 1) (main_v24 : IVec S8192x1024 1) (main_v29 : IVec S1024x1024 1) (main_v31 : IVec S1024 1) (main_v33 : IVec S1024 1) : IVec S8192x1024 1 × IVec S8192x1024 1 × IVec S8192x1024 1 × IVec S8192x2048 1 × IVec S8192x1024 1 × IVec S1024x1024 1 × IVec S1024 1 × IVec S1024 1 :=
  let main_v34 : IVec S1024 1 := andi main_v31 main_v33
  let main_cst_13 : FVec F S_ .f32 := constant S_ .f32 0x7F800000#32
  let main_v35 : FVec F S1024 .f32 := broadcastInDim S1024 ![] bcast_S_S1024 main_cst_13
  let main_v36 : IVec S1024 1 := cmpf .olt main_arg7 main_v35
  let main_cst_14 : FVec F S_ .f32 := constant S_ .f32 0xFF800000#32
  let main_v37 : FVec F S1024 .f32 := broadcastInDim S1024 ![] bcast_S_S1024 main_cst_14
  let main_v38 : IVec S1024 1 := cmpf .ogt main_arg7 main_v37
  let main_v39 : IVec S1024 1 := andi main_v36 main_v38
  (main_v4, main_v9, main_v14, main_v19, main_v24, main_v29, main_v34, main_v39)

def fn_part1 {F : FTy → Type} [FloatOps F] (main_arg3 : FVec F S8192x2048 .f32) (main_arg4 : FVec F S8192x1024 .f32) (main_arg5 : FVec F S1024x1024 .f32) (main_arg6 : FVec F S1024 .f32) (main_arg7 : FVec F S1024 .f32) (main_v4 : IVec S8192x1024 1) (main_v9 : IVec S8192x1024 1) (main_v14 : IVec S8192x1024 1) (main_v16 : IVec S8192x2048 1) : IVec S8192x1024 1 × IVec S8192x1024 1 × IVec S8192x1024 1 × IVec S8192x2048 1 × IVec S8192x1024 1 × IVec S1024x1024 1 × IVec S1024 1 × IVec S1024 1 :=
  let main_cst_6 : FVec F S_ .f32 := constant S_ .f32 0xFF800000#32
  let main_v17 : FVec F S8192x2048 .f32 := broadcastInDim S8192x2048 ![] bcast_S_S8192x2048 main_cst_6
  let main_v18 : IVec S8192x2048 1 := cmpf .ogt main_arg3 main_v17
  let main_v19 : IVec S8192x2048 1 := andi main_v16 main_v18
  let main_cst_7 : FVec F S_ .f32 := constant S_ .f32 0x7F800000#32
  let main_v20 : FVec F S8192x1024 .f32 := broadcastInDim S8192x1024 ![] bcast_S_S8192x1024 main_cst_7
  let main_v21 : IVec S8192x1024 1 := cmpf .olt main_arg4 main_v20
  let main_cst_8 : FVec F S_ .f32 := constant S_ .f32 0xFF800000#32
  let main_v22 : FVec F S8192x1024 .f32 := broadcastInDim S8192x1024 ![] bcast_S_S8192x1024 main_cst_8
  let main_v23 : IVec S8192x1024 1 := cmpf .ogt main_arg4 main_v22
  let main_v24 : IVec S8192x1024 1 := andi main_v21 main_v23
  let main_cst_9 : FVec F S_ .f32 := constant S_ .f32 0x7F800000#32
  let main_v25 : FVec F S1024x1024 .f32 := broadcastInDim S1024x1024 ![] bcast_S_S1024x1024 main_cst_9
  let main_v26 : IVec S1024x1024 1 := cmpf .olt main_arg5 main_v25
  let main_cst_10 : FVec F S_ .f32 := constant S_ .f32 0xFF800000#32
  let main_v27 : FVec F S1024x1024 .f32 := broadcastInDim S1024x1024 ![] bcast_S_S1024x1024 main_cst_10
  let main_v28 : IVec S1024x1024 1 := cmpf .ogt main_arg5 main_v27
  let main_v29 : IVec S1024x1024 1 := andi main_v26 main_v28
  let main_cst_11 : FVec F S_ .f32 := constant S_ .f32 0x7F800000#32
  let main_v30 : FVec F S1024 .f32 := broadcastInDim S1024 ![] bcast_S_S1024 main_cst_11
  let main_v31 : IVec S1024 1 := cmpf .olt main_arg6 main_v30
  let main_cst_12 : FVec F S_ .f32 := constant S_ .f32 0xFF800000#32
  let main_v32 : FVec F S1024 .f32 := broadcastInDim S1024 ![] bcast_S_S1024 main_cst_12
  let main_v33 : IVec S1024 1 := cmpf .ogt main_arg6 main_v32
  fn_part2 (F := F) main_arg7 main_v4 main_v9 main_v14 main_v19 main_v24 main_v29 main_v31 main_v33

def fn {F : FTy → Type} [FloatOps F] (main_arg0 : FVec F S8192x1024 .f32) (main_arg1 : FVec F S8192x1024 .f32) (main_arg2 : FVec F S8192x1024 .f32) (main_arg3 : FVec F S8192x2048 .f32) (main_arg4 : FVec F S8192x1024 .f32) (main_arg5 : FVec F S1024x1024 .f32) (main_arg6 : FVec F S1024 .f32) (main_arg7 : FVec F S1024 .f32) : IVec S8192x1024 1 × IVec S8192x1024 1 × IVec S8192x1024 1 × IVec S8192x2048 1 × IVec S8192x1024 1 × IVec S1024x1024 1 × IVec S1024 1 × IVec S1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S8192x1024 .f32 := broadcastInDim S8192x1024 ![] bcast_S_S8192x1024 main_cst_1
  let main_v6 : IVec S8192x1024 1 := cmpf .olt main_arg1 main_v5
  let main_cst_2 : FVec F S_ .f32 := constant S_ .f32 0xFF800000#32
  let main_v7 : FVec F S8192x1024 .f32 := broadcastInDim S8192x1024 ![] bcast_S_S8192x1024 main_cst_2
  let main_v8 : IVec S8192x1024 1 := cmpf .ogt main_arg1 main_v7
  let main_v9 : IVec S8192x1024 1 := andi main_v6 main_v8
  let main_cst_3 : FVec F S_ .f32 := constant S_ .f32 0x7F800000#32
  let main_v10 : FVec F S8192x1024 .f32 := broadcastInDim S8192x1024 ![] bcast_S_S8192x1024 main_cst_3
  let main_v11 : IVec S8192x1024 1 := cmpf .olt main_arg2 main_v10
  let main_cst_4 : FVec F S_ .f32 := constant S_ .f32 0xFF800000#32
  let main_v12 : FVec F S8192x1024 .f32 := broadcastInDim S8192x1024 ![] bcast_S_S8192x1024 main_cst_4
  let main_v13 : IVec S8192x1024 1 := cmpf .ogt main_arg2 main_v12
  let main_v14 : IVec S8192x1024 1 := andi main_v11 main_v13
  let main_cst_5 : FVec F S_ .f32 := constant S_ .f32 0x7F800000#32
  let main_v15 : FVec F S8192x2048 .f32 := broadcastInDim S8192x2048 ![] bcast_S_S8192x2048 main_cst_5
  let main_v16 : IVec S8192x2048 1 := cmpf .olt main_arg3 main_v15
  fn_part1 (F := F) main_arg3 main_arg4 main_arg5 main_arg6 main_arg7 main_v4 main_v9 main_v14 main_v16
-- ==== Pre_finite2.lean ====
abbrev S8192x1024 : Shape := ⟨2, ![8192, 1024]⟩
abbrev S128 : Shape := ⟨1, ![128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S128 : S_.BroadcastsInDim S128 (![] : Fin 0 → Fin S128.rank)
  bcast_S_S1024x1024 : S_.BroadcastsInDim S1024x1024 (![] : Fin 0 → Fin S1024x1024.rank)
  bitsLt_bf16_f32 : FTy.bits .bf16 < FTy.bits .f32

variable [Facts]

def fn_part1 {F : FTy → Type} [FloatOps F] (main_arg3 : FVec F S1024x1024 .f32) (main_arg4 : FVec F S8192x1024 .bf16) (main_v4 : IVec S8192x1024 1) (main_v9 : IVec S8192x1024 1) (main_v14 : IVec S128 1) (main_v16 : IVec S1024x1024 1) : IVec S8192x1024 1 × IVec S8192x1024 1 × IVec S128 1 × IVec S1024x1024 1 × IVec S8192x1024 1 :=
  let main_cst_6 : FVec F S_ .f32 := constant S_ .f32 0xFF800000#32
  let main_v17 : FVec F S1024x1024 .f32 := broadcastInDim S1024x1024 ![] bcast_S_S1024x1024 main_cst_6
  let main_v18 : IVec S1024x1024 1 := cmpf .ogt main_arg3 main_v17
  let main_v19 : IVec S1024x1024 1 := andi main_v16 main_v18
  let main_v20 : FVec F S8192x1024 .f32 := (extf .f32 · bitsLt_bf16_f32) main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_v23 : FVec F S8192x1024 .f32 := (extf .f32 · bitsLt_bf16_f32) main_arg4
  let main_cst_8 : FVec F S_ .f32 := constant S_ .f32 0xFF800000#32
  let main_v24 : FVec F S8192x1024 .f32 := broadcastInDim S8192x1024 ![] bcast_S_S8192x1024 main_cst_8
  let main_v25 : IVec S8192x1024 1 := cmpf .ogt main_v23 main_v24
  let main_v26 : IVec S8192x1024 1 := andi main_v22 main_v25
  (main_v4, main_v9, main_v14, main_v19, main_v26)

def fn {F : FTy → Type} [FloatOps F] (main_arg0 : FVec F S8192x1024 .f32) (main_arg1 : FVec F S8192x1024 .f32) (main_arg2 : FVec F S128 .f32) (main_arg3 : FVec F S1024x1024 .f32) (main_arg4 : FVec F S8192x1024 .bf16) : IVec S8192x1024 1 × IVec S8192x1024 1 × IVec S128 1 × IVec S1024x1024 1 × IVec S8192x1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S8192x1024 .f32 := broadcastInDim S8192x1024 ![] bcast_S_S8192x1024 main_cst_1
  let main_v6 : IVec S8192x1024 1 := cmpf .olt main_arg1 main_v5
  let main_cst_2 : FVec F S_ .f32 := constant S_ .f32 0xFF800000#32
  let main_v7 : FVec F S8192x1024 .f32 := broadcastInDim S8192x1024 ![] bcast_S_S8192x1024 main_cst_2
  let main_v8 : IVec S8192x1024 1 := cmpf .ogt main_arg1 main_v7
  let main_v9 : IVec S8192x1024 1 := andi main_v6 main_v8
  let main_cst_3 : FVec F S_ .f32 := constant S_ .f32 0x7F800000#32
  let main_v10 : FVec F S128 .f32 := broadcastInDim S128 ![] bcast_S_S128 main_cst_3
  let main_v11 : IVec S128 1 := cmpf .olt main_arg2 main_v10
  let main_cst_4 : FVec F S_ .f32 := constant S_ .f32 0xFF800000#32
  let main_v12 : FVec F S128 .f32 := broadcastInDim S128 ![] bcast_S_S128 main_cst_4
  let main_v13 : IVec S128 1 := cmpf .ogt main_arg2 main_v12
  let main_v14 : IVec S128 1 := andi main_v11 main_v13
  let main_cst_5 : FVec F S_ .f32 := constant S_ .f32 0x7F800000#32
  let main_v15 : FVec F S1024x1024 .f32 := broadcastInDim S1024x1024 ![] bcast_S_S1024x1024 main_cst_5
  let main_v16 : IVec S1024x1024 1 := cmpf .olt main_arg3 main_v15
  fn_part1 (F := F) main_arg3 main_arg4 main_v4 main_v9 main_v14 main_v16
-- ==== Kernel.lean ====
abbrev S8192x1024 : Shape := ⟨2, ![8192, 1024]⟩
abbrev S8192x128 : Shape := ⟨2, ![8192, 128]⟩
abbrev S128x8x128x128 : Shape := ⟨4, ![128, 8, 128, 128]⟩
abbrev S128x8x64x64 : Shape := ⟨4, ![128, 8, 64, 64]⟩
abbrev S256x1024 : Shape := ⟨2, ![256, 1024]⟩
abbrev S256x128 : Shape := ⟨2, ![256, 128]⟩
abbrev S4x8x128x128 : Shape := ⟨4, ![4, 8, 128, 128]⟩
abbrev S4x8x64x64 : Shape := ⟨4, ![4, 8, 64, 64]⟩
abbrev S8x128x128 : Shape := ⟨3, ![8, 128, 128]⟩
abbrev S1x1x64x64 : Shape := ⟨4, ![1, 1, 64, 64]⟩
abbrev S64x64 : Shape := ⟨2, ![64, 64]⟩
abbrev S64x128 : Shape := ⟨2, ![64, 128]⟩
abbrev S64x1 : Shape := ⟨2, ![64, 1]⟩
abbrev S1x1x128x128 : Shape := ⟨4, ![1, 1, 128, 128]⟩
abbrev S128x128 : Shape := ⟨2, ![128, 128]⟩
abbrev S128x64 : Shape := ⟨2, ![128, 64]⟩
abbrev S1x128 : Shape := ⟨2, ![1, 128]⟩
abbrev S1x128x128 : Shape := ⟨3, ![1, 128, 128]⟩
abbrev S128 : Shape := ⟨1, ![128]⟩
abbrev S63x128 : Shape := ⟨2, ![63, 128]⟩
abbrev S64 : Shape := ⟨1, ![64]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S128x8x128x128, .f32⟩
  | .hbm, ⟨5, _⟩ => ⟨S128x8x64x64, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S4x8x128x128, .f32⟩
  | .local _ .vmem, ⟨9, _⟩ => ⟨S4x8x128x128, .f32⟩
  | .local _ .vmem, ⟨10, _⟩ => ⟨S4x8x64x64, .bf16⟩
  | .local _ .vmem, ⟨11, _⟩ => ⟨S4x8x64x64, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x128, .f32⟩
  | .local _ .vmem, ⟨21, _⟩ => ⟨S256x128, .f32⟩
  | .local _ .vmem, ⟨22, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_off1 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v5 : Index := Scalar.indexCast v4
  let c0 : Index := 0#32
  let c0_3 : Index := 0#32
  let c0_4 : Index := 0#32
  ![v5.toNat, 0, 0, 0]
def k0_off2 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v9 : Index := Scalar.indexCast v4
  let c1 : Index := 1#32
  let c0_5 : Index := 0#32
  let c0_6 : Index := 0#32
  ![v9.toNat, 1, 0, 0]
def k0_off3 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v13 : Index := Scalar.indexCast v4
  let c2 : Index := 2#32
  let c0_7 : Index := 0#32
  let c0_8 : Index := 0#32
  ![v13.toNat, 2, 0, 0]
def k0_off4 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v17 : Index := Scalar.indexCast v4
  let c3 : Index := 3#32
  let c0_9 : Index := 0#32
  let c0_10 : Index := 0#32
  ![v17.toNat, 3, 0, 0]
def k0_off5 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v21 : Index := Scalar.indexCast v4
  let c4 : Index := 4#32
  let c0_11 : Index := 0#32
  let c0_12 : Index := 0#32
  ![v21.toNat, 4, 0, 0]
def k0_off6 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v25 : Index := Scalar.indexCast v4
  let c5 : Index := 5#32
  let c0_13 : Index := 0#32
  let c0_14 : Index := 0#32
  ![v25.toNat, 5, 0, 0]
def k0_off7 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v29 : Index := Scalar.indexCast v4
  let c6 : Index := 6#32
  let c0_15 : Index := 0#32
  let c0_16 : Index := 0#32
  ![v29.toNat, 6, 0, 0]
def k0_off8 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v33 : Index := Scalar.indexCast v4
  let c7 : Index := 7#32
  let c0_17 : Index := 0#32
  let c0_18 : Index := 0#32
  ![v33.toNat, 7, 0, 0]
def k0_mult1 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32 : BitVec 32 := 64#32
  let v37 : BitVec 32 := Scalar.muli v4 c64_i32
  v37
def k0_off9 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32 : BitVec 32 := 64#32
  let v37 : BitVec 32 := Scalar.muli v4 c64_i32
  let v38 : BitVec 32 := v37
  let v39 : Index := Scalar.indexCast v38
  let c0_19 : Index := 0#32
  ![v39.toNat, 0]
def k0_mult2 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_20 : BitVec 32 := 64#32
  let v89 : BitVec 32 := Scalar.muli v4 c64_i32_20
  v89
def k0_off10 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_20 : BitVec 32 := 64#32
  let v89 : BitVec 32 := Scalar.muli v4 c64_i32_20
  let v90 : BitVec 32 := v89
  let v91 : Index := Scalar.indexCast v90
  let c0_21 : Index := 0#32
  ![v91.toNat, 0]
def k0_mult3 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_22 : BitVec 32 := 64#32
  let v93 : BitVec 32 := Scalar.muli v4 c64_i32_22
  v93
def k0_off11 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_22 : BitVec 32 := 64#32
  let v93 : BitVec 32 := Scalar.muli v4 c64_i32_22
  let v94 : BitVec 32 := v93
  let v95 : Index := Scalar.indexCast v94
  let c128 : Index := 128#32
  ![v95.toNat, 128]
def k0_mult4 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_23 : BitVec 32 := 64#32
  let v97 : BitVec 32 := Scalar.muli v4 c64_i32_23
  v97
def k0_off12 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_23 : BitVec 32 := 64#32
  let v97 : BitVec 32 := Scalar.muli v4 c64_i32_23
  let v98 : BitVec 32 := v97
  let v99 : Index := Scalar.indexCast v98
  let c256 : Index := 256#32
  ![v99.toNat, 256]
def k0_mult5 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_24 : BitVec 32 := 64#32
  let v101 : BitVec 32 := Scalar.muli v4 c64_i32_24
  v101
def k0_off13 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_24 : BitVec 32 := 64#32
  let v101 : BitVec 32 := Scalar.muli v4 c64_i32_24
  let v102 : BitVec 32 := v101
  let v103 : Index := Scalar.indexCast v102
  let c384 : Index := 384#32
  ![v103.toNat, 384]
def k0_mult6 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_25 : BitVec 32 := 64#32
  let v105 : BitVec 32 := Scalar.muli v4 c64_i32_25
  v105
def k0_off14 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_25 : BitVec 32 := 64#32
  let v105 : BitVec 32 := Scalar.muli v4 c64_i32_25
  let v106 : BitVec 32 := v105
  let v107 : Index := Scalar.indexCast v106
  let c512 : Index := 512#32
  ![v107.toNat, 512]
def k0_mult7 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_26 : BitVec 32 := 64#32
  let v109 : BitVec 32 := Scalar.muli v4 c64_i32_26
  v109
def k0_off15 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_26 : BitVec 32 := 64#32
  let v109 : BitVec 32 := Scalar.muli v4 c64_i32_26
  let v110 : BitVec 32 := v109
  let v111 : Index := Scalar.indexCast v110
  let c640 : Index := 640#32
  ![v111.toNat, 640]
def k0_mult8 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_27 : BitVec 32 := 64#32
  let v113 : BitVec 32 := Scalar.muli v4 c64_i32_27
  v113
def k0_off16 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_27 : BitVec 32 := 64#32
  let v113 : BitVec 32 := Scalar.muli v4 c64_i32_27
  let v114 : BitVec 32 := v113
  let v115 : Index := Scalar.indexCast v114
  let c768 : Index := 768#32
  ![v115.toNat, 768]
def k0_mult9 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_28 : BitVec 32 := 64#32
  let v117 : BitVec 32 := Scalar.muli v4 c64_i32_28
  v117
def k0_off17 (k0_t1 : Fin k0_t1_loop.trips) : Fin 2 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_28 : BitVec 32 := 64#32
  let v117 : BitVec 32 := Scalar.muli v4 c64_i32_28
  let v118 : BitVec 32 := v117
  let v119 : Index := Scalar.indexCast v118
  let c896 : Index := 896#32
  ![v119.toNat, 896]
def k0_mult10 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_29 : BitVec 32 := 64#32
  let v121 : BitVec 32 := Scalar.muli v4 c64_i32_29
  v121
def k0_mult11 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_31 : BitVec 32 := 64#32
  let v125 : BitVec 32 := Scalar.muli v4 c64_i32_31
  v125
def k0_mult12 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_33 : BitVec 32 := 64#32
  let v129 : BitVec 32 := Scalar.muli v4 c64_i32_33
  v129
def k0_mult13 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_35 : BitVec 32 := 64#32
  let v133 : BitVec 32 := Scalar.muli v4 c64_i32_35
  v133
def k0_mult14 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_37 : BitVec 32 := 64#32
  let v137 : BitVec 32 := Scalar.muli v4 c64_i32_37
  v137
def k0_mult15 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_39 : BitVec 32 := 64#32
  let v141 : BitVec 32 := Scalar.muli v4 c64_i32_39
  v141
def k0_mult16 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_41 : BitVec 32 := 64#32
  let v145 : BitVec 32 := Scalar.muli v4 c64_i32_41
  v145
def k0_mult17 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_43 : BitVec 32 := 64#32
  let v149 : BitVec 32 := Scalar.muli v4 c64_i32_43
  v149
def k0_mult18 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_45 : BitVec 32 := 64#32
  let v153 : BitVec 32 := Scalar.muli v4 c64_i32_45
  v153
def k0_mult19 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_47 : BitVec 32 := 64#32
  let v157 : BitVec 32 := Scalar.muli v4 c64_i32_47
  v157
def k0_mult20 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_49 : BitVec 32 := 64#32
  let v161 : BitVec 32 := Scalar.muli v4 c64_i32_49
  v161
def k0_mult21 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_51 : BitVec 32 := 64#32
  let v165 : BitVec 32 := Scalar.muli v4 c64_i32_51
  v165
def k0_mult22 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_53 : BitVec 32 := 64#32
  let v169 : BitVec 32 := Scalar.muli v4 c64_i32_53
  v169
def k0_mult23 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_55 : BitVec 32 := 64#32
  let v173 : BitVec 32 := Scalar.muli v4 c64_i32_55
  v173
def k0_mult24 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_57 : BitVec 32 := 64#32
  let v177 : BitVec 32 := Scalar.muli v4 c64_i32_57
  v177
def k0_mult25 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_59 : BitVec 32 := 64#32
  let v181 : BitVec 32 := Scalar.muli v4 c64_i32_59
  v181
def k0_off18 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v185 : Index := Scalar.indexCast v4
  let c0_61 : Index := 0#32
  let c0_62 : Index := 0#32
  let c0_63 : Index := 0#32
  ![v185.toNat, 0, 0, 0]
def k0_off19 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v188 : Index := Scalar.indexCast v4
  let c1_64 : Index := 1#32
  let c0_65 : Index := 0#32
  let c0_66 : Index := 0#32
  ![v188.toNat, 1, 0, 0]
def k0_off20 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v191 : Index := Scalar.indexCast v4
  let c2_67 : Index := 2#32
  let c0_68 : Index := 0#32
  let c0_69 : Index := 0#32
  ![v191.toNat, 2, 0, 0]
def k0_off21 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v194 : Index := Scalar.indexCast v4
  let c3_70 : Index := 3#32
  let c0_71 : Index := 0#32
  let c0_72 : Index := 0#32
  ![v194.toNat, 3, 0, 0]
def k0_off22 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v197 : Index := Scalar.indexCast v4
  let c4_73 : Index := 4#32
  let c0_74 : Index := 0#32
  let c0_75 : Index := 0#32
  ![v197.toNat, 4, 0, 0]
def k0_off23 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v200 : Index := Scalar.indexCast v4
  let c5_76 : Index := 5#32
  let c0_77 : Index := 0#32
  let c0_78 : Index := 0#32
  ![v200.toNat, 5, 0, 0]
def k0_off24 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v203 : Index := Scalar.indexCast v4
  let c6_79 : Index := 6#32
  let c0_80 : Index := 0#32
  let c0_81 : Index := 0#32
  ![v203.toNat, 6, 0, 0]
def k0_off25 (k0_t1 : Fin k0_t1_loop.trips) : Fin 4 → Nat :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let v206 : Index := Scalar.indexCast v4
  let c7_82 : Index := 7#32
  let c0_83 : Index := 0#32
  let c0_84 : Index := 0#32
  ![v206.toNat, 7, 0, 0]
def k0_mult26 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_148 : BitVec 32 := 64#32
  let v573 : BitVec 32 := Scalar.muli v4 c64_i32_148
  v573
def k0_mult27 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_150 : BitVec 32 := 64#32
  let v577 : BitVec 32 := Scalar.muli v4 c64_i32_150
  v577
def k0_mult28 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_152 : BitVec 32 := 64#32
  let v581 : BitVec 32 := Scalar.muli v4 c64_i32_152
  v581
def k0_mult29 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_154 : BitVec 32 := 64#32
  let v585 : BitVec 32 := Scalar.muli v4 c64_i32_154
  v585
def k0_mult30 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_156 : BitVec 32 := 64#32
  let v589 : BitVec 32 := Scalar.muli v4 c64_i32_156
  v589
def k0_mult31 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_158 : BitVec 32 := 64#32
  let v593 : BitVec 32 := Scalar.muli v4 c64_i32_158
  v593
def k0_mult32 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_160 : BitVec 32 := 64#32
  let v597 : BitVec 32 := Scalar.muli v4 c64_i32_160
  v597
def k0_mult33 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_162 : BitVec 32 := 64#32
  let v601 : BitVec 32 := Scalar.muli v4 c64_i32_162
  v601
def k0_mult34 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_437 : BitVec 32 := 64#32
  let v1663 : BitVec 32 := Scalar.muli v4 c64_i32_437
  v1663
def k0_mult35 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_439 : BitVec 32 := 64#32
  let v1667 : BitVec 32 := Scalar.muli v4 c64_i32_439
  v1667
def k0_mult36 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_441 : BitVec 32 := 64#32
  let v1671 : BitVec 32 := Scalar.muli v4 c64_i32_441
  v1671
def k0_mult37 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_451 : BitVec 32 := 64#32
  let v1696 : BitVec 32 := Scalar.muli v4 c64_i32_451
  v1696
def k0_mult38 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_453 : BitVec 32 := 64#32
  let v1700 : BitVec 32 := Scalar.muli v4 c64_i32_453
  v1700
def k0_mult39 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_455 : BitVec 32 := 64#32
  let v1704 : BitVec 32 := Scalar.muli v4 c64_i32_455
  v1704
def k0_mult40 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_465 : BitVec 32 := 64#32
  let v1729 : BitVec 32 := Scalar.muli v4 c64_i32_465
  v1729
def k0_mult41 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_467 : BitVec 32 := 64#32
  let v1733 : BitVec 32 := Scalar.muli v4 c64_i32_467
  v1733
def k0_mult42 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_469 : BitVec 32 := 64#32
  let v1737 : BitVec 32 := Scalar.muli v4 c64_i32_469
  v1737
def k0_mult43 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_478 : BitVec 32 := 64#32
  let v1762 : BitVec 32 := Scalar.muli v4 c64_i32_478
  v1762
def k0_mult44 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_480 : BitVec 32 := 64#32
  let v1766 : BitVec 32 := Scalar.muli v4 c64_i32_480
  v1766
def k0_mult45 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_482 : BitVec 32 := 64#32
  let v1770 : BitVec 32 := Scalar.muli v4 c64_i32_482
  v1770
def k0_mult46 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_492 : BitVec 32 := 64#32
  let v1795 : BitVec 32 := Scalar.muli v4 c64_i32_492
  v1795
def k0_mult47 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_494 : BitVec 32 := 64#32
  let v1799 : BitVec 32 := Scalar.muli v4 c64_i32_494
  v1799
def k0_mult48 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_496 : BitVec 32 := 64#32
  let v1803 : BitVec 32 := Scalar.muli v4 c64_i32_496
  v1803
def k0_mult49 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_506 : BitVec 32 := 64#32
  let v1828 : BitVec 32 := Scalar.muli v4 c64_i32_506
  v1828
def k0_mult50 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_508 : BitVec 32 := 64#32
  let v1832 : BitVec 32 := Scalar.muli v4 c64_i32_508
  v1832
def k0_mult51 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_510 : BitVec 32 := 64#32
  let v1836 : BitVec 32 := Scalar.muli v4 c64_i32_510
  v1836
def k0_mult52 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_519 : BitVec 32 := 64#32
  let v1861 : BitVec 32 := Scalar.muli v4 c64_i32_519
  v1861
def k0_mult53 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_521 : BitVec 32 := 64#32
  let v1865 : BitVec 32 := Scalar.muli v4 c64_i32_521
  v1865
def k0_mult54 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_523 : BitVec 32 := 64#32
  let v1869 : BitVec 32 := Scalar.muli v4 c64_i32_523
  v1869
def k0_mult55 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_532 : BitVec 32 := 64#32
  let v1894 : BitVec 32 := Scalar.muli v4 c64_i32_532
  v1894
def k0_mult56 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_534 : BitVec 32 := 64#32
  let v1898 : BitVec 32 := Scalar.muli v4 c64_i32_534
  v1898
def k0_mult57 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_536 : BitVec 32 := 64#32
  let v1902 : BitVec 32 := Scalar.muli v4 c64_i32_536
  v1902
def k0_mult58 (k0_t1 : Fin k0_t1_loop.trips) : BitVec 32 :=
  let c3_i32 : BitVec 32 := 3#32
  let c0_i32_1 : BitVec 32 := 0#32
  let c1_i32 : BitVec 32 := 1#32
  let arg13 : BitVec 32 := Scf.iv c0_i32_1 c1_i32 k0_t1
  let v4 : BitVec 32 := Scalar.subi c3_i32 arg13
  let c64_i32_545 : BitVec 32 := 64#32
  let v1927 : BitVec 32 := Scalar.muli v4 c64_i32_545
  v1927
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x64x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x1024 : Shape := ⟨2, ![8192, 1024]⟩
abbrev S8192x128 : Shape := ⟨2, ![8192, 128]⟩
abbrev S128x8x128x128 : Shape := ⟨4, ![128, 8, 128, 128]⟩
abbrev S128x8x64x64 : Shape := ⟨4, ![128, 8, 64, 64]⟩
abbrev S1x8x128x128 : Shape := ⟨4, ![1, 8, 128, 128]⟩
abbrev S8x128x128 : Shape := ⟨3, ![8, 128, 128]⟩
abbrev S128x64x8x128 : Shape := ⟨4, ![128, 64, 8, 128]⟩
abbrev S128x8x64x128 : Shape := ⟨4, ![128, 8, 64, 128]⟩
abbrev S8192x8 : Shape := ⟨2, ![8192, 8]⟩
abbrev S128x64x8 : Shape := ⟨3, ![128, 64, 8]⟩
abbrev S128x8x64 : Shape := ⟨3, ![128, 8, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x8x64x1 : Shape := ⟨4, ![128, 8, 64, 1]⟩
abbrev S128x8x1x64 : Shape := ⟨4, ![128, 8, 1, 64]⟩
abbrev S_ : Shape := ⟨0, ![]⟩
abbrev S128x8x1 : Shape := ⟨3, ![128, 8, 1]⟩
abbrev S128x8 : Shape := ⟨2, ![128, 8]⟩
abbrev S128x8x1x1 : Shape := ⟨4, ![128, 8, 1, 1]⟩
abbrev S1x8x64x128 : Shape := ⟨4, ![1, 8, 64, 128]⟩
abbrev S8x64x128 : Shape := ⟨3, ![8, 64, 128]⟩
abbrev S1x8x1x1 : Shape := ⟨4, ![1, 8, 1, 1]⟩
abbrev S8x1x1 : Shape := ⟨3, ![8, 1, 1]⟩
abbrev S1x8x64x64 : Shape := ⟨4, ![1, 8, 64, 64]⟩
abbrev S8x64x64 : Shape := ⟨3, ![8, 64, 64]⟩
abbrev S8x128x64 : Shape := ⟨3, ![8, 128, 64]⟩
abbrev S128x8x128x64 : Shape := ⟨4, ![128, 8, 128, 64]⟩

abbrev nBuf : Space → Nat
  | .hbm => 252
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x128, .f32⟩
  | 4 => ⟨S128x8x128x128, .f32⟩
  | 5 => ⟨S128x8x64x64, .bf16⟩
  | 6 => ⟨S8192x1024, .f32⟩
  | 7 => ⟨S1x8x128x128, .f32⟩
  | 8 => ⟨S8x128x128, .f32⟩
  | 9 => ⟨S128x64x8x128, .f32⟩
  | 10 => ⟨S128x8x64x128, .f32⟩
  | 11 => ⟨S128x64x8x128, .f32⟩
  | 12 => ⟨S128x8x64x128, .f32⟩
  | 13 => ⟨S8192x8, .f32⟩
  | 14 => ⟨S8192x8, .f32⟩
  | 15 => ⟨S128x64x8, .f32⟩
  | 16 => ⟨S128x8x64, .f32⟩
  | 17 => ⟨S128x64x8, .f32⟩
  | 18 => ⟨S128x8x64, .f32⟩
  | 19 => ⟨S64, .i32⟩
  | 20 => ⟨S64x1, .i32⟩
  | 21 => ⟨S1x64, .i32⟩
  | 22 => ⟨S64x64, .i32⟩
  | 23 => ⟨S64x64, .i32⟩
  | 24 => ⟨S64x64, .i1⟩
  | 25 => ⟨S128x8x64x1, .f32⟩
  | 26 => ⟨S128x8x1x64, .f32⟩
  | 27 => ⟨S128x8x64x64, .f32⟩
  | 28 => ⟨S128x8x64x64, .f32⟩
  | 29 => ⟨S128x8x64x64, .f32⟩
  | 30 => ⟨S_, .f32⟩
  | 31 => ⟨S_, .f32⟩
  | 32 => ⟨S128x8x64x64, .i1⟩
  | 33 => ⟨S128x8x64x64, .f32⟩
  | 34 => ⟨S128x8x64x64, .f32⟩
  | 35 => ⟨S128x8x64x64, .f32⟩
  | 36 => ⟨S128x8x64x1, .f32⟩
  | 37 => ⟨S128x8x64x128, .f32⟩
  | 38 => ⟨S128x8x64x128, .f32⟩
  | 39 => ⟨S128x8x64, .f32⟩
  | 40 => ⟨S128x8x64x1, .f32⟩
  | 41 => ⟨S128x8x64x128, .f32⟩
  | 42 => ⟨S128x8x64x128, .f32⟩
  | 43 => ⟨S128x8x64x64, .f32⟩
  | 44 => ⟨S128x8x64x128, .f32⟩
  | 45 => ⟨S128x8x64x64, .f32⟩
  | 46 => ⟨S128x8x64x64, .f32⟩
  | 47 => ⟨S_, .f32⟩
  | 48 => ⟨S_, .f32⟩
  | 49 => ⟨S128x8x64x64, .i1⟩
  | 50 => ⟨S128x8x64x64, .f32⟩
  | 51 => ⟨S128x8x64x64, .f32⟩
  | 52 => ⟨S128x8x64, .f32⟩
  | 53 => ⟨S128x8x64x1, .f32⟩
  | 54 => ⟨S128x8x64x128, .f32⟩
  | 55 => ⟨S128x8x64x128, .f32⟩
  | 56 => ⟨S128x8x1, .f32⟩
  | 57 => ⟨S128x8, .f32⟩
  | 58 => ⟨S128x8x1, .f32⟩
  | 59 => ⟨S128x8x64, .f32⟩
  | 60 => ⟨S128x8x64, .f32⟩
  | 61 => ⟨S128x8x64, .f32⟩
  | 62 => ⟨S128x8x64x1, .f32⟩
  | 63 => ⟨S128x8x64x128, .f32⟩
  | 64 => ⟨S128x8x64x128, .f32⟩
  | 65 => ⟨S128x8, .f32⟩
  | 66 => ⟨S128x8x1x1, .f32⟩
  | 67 => ⟨S128x64x8x128, .f32⟩
  | 68 => ⟨S128x8x64x128, .f32⟩
  | 69 => ⟨S_, .f32⟩
  | 70 => ⟨S8x128x128, .f32⟩
  | 71 => ⟨S_, .f32⟩
  | 72 => ⟨S128x8x64x128, .f32⟩
  | 73 => ⟨S_, .i32⟩
  | 74 => ⟨S128x8x64x128, .f32⟩
  | 75 => ⟨S128x8x1x1, .f32⟩
  | 76 => ⟨S128x8x64x128, .f32⟩
  | 77 => ⟨S128x8x64x128, .f32⟩
  | 78 => ⟨S128x8x64x128, .f32⟩
  | 79 => ⟨S128x8x64x64, .f32⟩
  | 80 => ⟨S_, .i32⟩
  | 81 => ⟨S8x128x128, .f32⟩
  | 82 => ⟨S128x8x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S1x8x64x128, .f32⟩
  | 93 => ⟨S8x64x128, .f32⟩
  | 94 => ⟨S_, .i32⟩
  | 95 => ⟨S_, .i32⟩
  | 96 => ⟨S_, .i32⟩
  | 97 => ⟨S1x8x1x1, .f32⟩
  | 98 => ⟨S8x1x1, .f32⟩
  | 99 => ⟨S_, .i32⟩
  | 100 => ⟨S_, .i32⟩
  | 101 => ⟨S_, .i32⟩
  | 102 => ⟨S1x8x64x128, .f32⟩
  | 103 => ⟨S8x64x128, .f32⟩
  | 104 => ⟨S_, .i32⟩
  | 105 => ⟨S_, .i32⟩
  | 106 => ⟨S_, .i32⟩
  | 107 => ⟨S1x8x64x128, .f32⟩
  | 108 => ⟨S8x64x128, .f32⟩
  | 109 => ⟨S_, .i32⟩
  | 110 => ⟨S_, .i32⟩
  | 111 => ⟨S_, .i32⟩
  | 112 => ⟨S1x8x64x128, .f32⟩
  | 113 => ⟨S8x64x128, .f32⟩
  | 114 => ⟨S_, .i32⟩
  | 115 => ⟨S_, .i32⟩
  | 116 => ⟨S_, .i32⟩
  | 117 => ⟨S1x8x64x64, .f32⟩
  | 118 => ⟨S8x64x64, .f32⟩
  | 119 => ⟨S8x128x64, .f32⟩
  | 120 => ⟨S8x64x128, .f32⟩
  | 121 => ⟨S8x128x128, .f32⟩
  | 122 => ⟨S8x128x128, .f32⟩
  | 123 => ⟨S8x128x64, .f32⟩
  | 124 => ⟨S8x64x128, .f32⟩
  | 125 => ⟨S8x64x128, .f32⟩
  | 126 => ⟨S8x128x128, .f32⟩
  | 127 => ⟨S8x128x128, .f32⟩
  | _ => ⟨S8192x1024, .f32⟩

abbrev hbmTy0_1 (i : Nat) : BufTy := match i % 128 with
  | 0 => ⟨S8x128x128, .f32⟩
  | 1 => ⟨S8x64x128, .f32⟩
  | 2 => ⟨S8x128x128, .f32⟩
  | 3 => ⟨S8x128x128, .f32⟩
  | 4 => ⟨S8x128x128, .f32⟩
  | 5 => ⟨S1x8x64x128, .f32⟩
  | 6 => ⟨S_, .i32⟩
  | 7 => ⟨S_, .i32⟩
  | 8 => ⟨S_, .i32⟩
  | 9 => ⟨S128x8x64x128, .f32⟩
  | 10 => ⟨S_, .i32⟩
  | 11 => ⟨S_, .i32⟩
  | 12 => ⟨S8192x8, .f32⟩
  | 13 => ⟨S8192x8, .f32⟩
  | 14 => ⟨S128x64x8, .f32⟩
  | 15 => ⟨S128x8x64, .f32⟩
  | 16 => ⟨S128x64x8, .f32⟩
  | 17 => ⟨S128x8x64, .f32⟩
  | 18 => ⟨S128x8x64x1, .f32⟩
  | 19 => ⟨S128x8x64x64, .f32⟩
  | 20 => ⟨S128x8x128x64, .f32⟩
  | 21 => ⟨S128x8x64x128, .f32⟩
  | 22 => ⟨S128x8x64x128, .f32⟩
  | 23 => ⟨S128x8x64x128, .f32⟩
  | 24 => ⟨S128x64x8x128, .f32⟩
  | 25 => ⟨S8192x1024, .f32⟩
  | 26 => ⟨S8192x8, .f32⟩
  | 27 => ⟨S8192x8, .f32⟩
  | 28 => ⟨S128x64x8, .f32⟩
  | 29 => ⟨S128x8x64, .f32⟩
  | 30 => ⟨S128x64x8, .f32⟩
  | 31 => ⟨S128x8x64, .f32⟩
  | 32 => ⟨S128x64x8x128, .f32⟩
  | 33 => ⟨S128x8x64x128, .f32⟩
  | 34 => ⟨S128x8x64x1, .f32⟩
  | 35 => ⟨S128x8x64x128, .f32⟩
  | 36 => ⟨S128x8x64x128, .f32⟩
  | 37 => ⟨S128x8x64x64, .f32⟩
  | 38 => ⟨S128x8x64x128, .f32⟩
  | 39 => ⟨S128x64x8x128, .f32⟩
  | 40 => ⟨S128x8x64x128, .f32⟩
  | 41 => ⟨S128x64x8x128, .f32⟩
  | 42 => ⟨S128x8x64x128, .f32⟩
  | 43 => ⟨S8192x8, .f32⟩
  | 44 => ⟨S8192x8, .f32⟩
  | 45 => ⟨S128x64x8, .f32⟩
  | 46 => ⟨S128x8x64, .f32⟩
  | 47 => ⟨S128x64x8, .f32⟩
  | 48 => ⟨S128x8x64, .f32⟩
  | 49 => ⟨S64, .i32⟩
  | 50 => ⟨S64x1, .i32⟩
  | 51 => ⟨S1x64, .i32⟩
  | 52 => ⟨S64x64, .i32⟩
  | 53 => ⟨S64x64, .i32⟩
  | 54 => ⟨S64x64, .i1⟩
  | 55 => ⟨S128x8x64x1, .f32⟩
  | 56 => ⟨S128x8x1x64, .f32⟩
  | 57 => ⟨S128x8x64x64, .f32⟩
  | 58 => ⟨S128x8x64x64, .f32⟩
  | 59 => ⟨S128x8x64x64, .f32⟩
  | 60 => ⟨S_, .f32⟩
  | 61 => ⟨S_, .f32⟩
  | 62 => ⟨S128x8x64x64, .i1⟩
  | 63 => ⟨S128x8x64x64, .f32⟩
  | 64 => ⟨S128x8x64x64, .f32⟩
  | 65 => ⟨S128x8x64x64, .f32⟩
  | 66 => ⟨S128x8x64x1, .f32⟩
  | 67 => ⟨S128x8x64x128, .f32⟩
  | 68 => ⟨S128x8x64x128, .f32⟩
  | 69 => ⟨S128x8x64, .f32⟩
  | 70 => ⟨S128x8x64x1, .f32⟩
  | 71 => ⟨S128x8x64x128, .f32⟩
  | 72 => ⟨S128x8x64x128, .f32⟩
  | 73 => ⟨S128x8x64x64, .f32⟩
  | 74 => ⟨S128x8x64x128, .f32⟩
  | 75 => ⟨S128x8x64x64, .f32⟩
  | 76 => ⟨S128x8x64x64, .f32⟩
  | 77 => ⟨S_, .f32⟩
  | 78 => ⟨S_, .f32⟩
  | 79 => ⟨S128x8x64x64, .i1⟩
  | 80 => ⟨S128x8x64x64, .f32⟩
  | 81 => ⟨S128x8x64x64, .f32⟩
  | 82 => ⟨S_, .f32⟩
  | 83 => ⟨S128x8x64x64, .f32⟩
  | 84 => ⟨S128x8x64, .f32⟩
  | 85 => ⟨S128x8x64x1, .f32⟩
  | 86 => ⟨S128x8x64x128, .f32⟩
  | 87 => ⟨S128x8x64x128, .f32⟩
  | 88 => ⟨S128x8x1, .f32⟩
  | 89 => ⟨S128x8, .f32⟩
  | 90 => ⟨S128x8x1, .f32⟩
  | 91 => ⟨S128x8x64, .f32⟩
  | 92 => ⟨S128x8x64, .f32⟩
  | 93 => ⟨S128x8x64, .f32⟩
  | 94 => ⟨S128x8x64x1, .f32⟩
  | 95 => ⟨S128x8x64x128, .f32⟩
  | 96 => ⟨S128x8x64x128, .f32⟩
  | 97 => ⟨S128x8, .f32⟩
  | 98 => ⟨S128x8x1x1, .f32⟩
  | 99 => ⟨S128x8x64x128, .f32⟩
  | 100 => ⟨S128x8x64x128, .f32⟩
  | 101 => ⟨S128x8x64x128, .f32⟩
  | 102 => ⟨S128x8x64x128, .f32⟩
  | 103 => ⟨S128x8x64x128, .f32⟩
  | 104 => ⟨S128x8x128x128, .f32⟩
  | 105 => ⟨S128x8x128x128, .f32⟩
  | 106 => ⟨S128x8x128x128, .f32⟩
  | 107 => ⟨S128x8x128x128, .f32⟩
  | 108 => ⟨S128x64x8x128, .f32⟩
  | 109 => ⟨S8192x1024, .f32⟩
  | 110 => ⟨S128x64x8x128, .f32⟩
  | 111 => ⟨S128x8x64x128, .f32⟩
  | 112 => ⟨S128x8x64x64, .f32⟩
  | 113 => ⟨S128x8x64x128, .f32⟩
  | 114 => ⟨S128x8x64x128, .f32⟩
  | 115 => ⟨S128x8x64x128, .f32⟩
  | 116 => ⟨S_, .f32⟩
  | 117 => ⟨S128x8x64x64, .f32⟩
  | 118 => ⟨S128x8x64x64, .f32⟩
  | 119 => ⟨S128x8x64x64, .f32⟩
  | 120 => ⟨S128x8x64x128, .f32⟩
  | 121 => ⟨S128x8x64x128, .f32⟩
  | 122 => ⟨S128x64x8x128, .f32⟩
  | 123 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_1 : Ref sig .tc := ⟨.hbm, 69, rfl⟩
abbrev main_v54 : Ref sig .tc := ⟨.hbm, 70, rfl⟩
abbrev main_cst_2 : Ref sig .tc := ⟨.hbm, 71, rfl⟩
abbrev main_v55 : Ref sig .tc := ⟨.hbm, 72, rfl⟩
abbrev main_c : Ref sig .tc := ⟨.hbm, 73, rfl⟩
abbrev main_v56_0 : Ref sig .tc := ⟨.hbm, 74, rfl⟩
abbrev main_v56_1 : Ref sig .tc := ⟨.hbm, 75, rfl⟩
abbrev main_v56_2 : Ref sig .tc := ⟨.hbm, 76, rfl⟩
abbrev main_v56_3 : Ref sig .tc := ⟨.hbm, 77, rfl⟩
abbrev main_v56_4 : Ref sig .tc := ⟨.hbm, 78, rfl⟩
abbrev main_v56_5 : Ref sig .tc := ⟨.hbm, 79, rfl⟩
abbrev main_v56_6 : Ref sig .tc := ⟨.hbm, 80, rfl⟩
abbrev main_v56_7 : Ref sig .tc := ⟨.hbm, 81, rfl⟩
abbrev main_v56_8 : Ref sig .tc := ⟨.hbm, 82, rfl⟩
abbrev main_while0c_c_13 : Ref sig .tc := ⟨.hbm, 83, rfl⟩
abbrev main_while0c_v157 : Ref sig .tc := ⟨.hbm, 84, rfl⟩
abbrev main_while0b_c_13 : Ref sig .tc := ⟨.hbm, 85, rfl⟩
abbrev main_while0b_v157 : Ref sig .tc := ⟨.hbm, 86, rfl⟩
abbrev main_while0b_c_14 : Ref sig .tc := ⟨.hbm, 87, rfl⟩
abbrev main_while0b_v158 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_c_1 : Ref sig .tc := ⟨.hbm, 91, rfl⟩
abbrev main_while0b_call2_v0 : Ref sig .tc := ⟨.hbm, 92, rfl⟩
abbrev main_while0b_v159 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_v0 : Ref sig .tc := ⟨.hbm, 97, rfl⟩
abbrev main_while0b_v160 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_v0 : Ref sig .tc := ⟨.hbm, 102, rfl⟩
abbrev main_while0b_v161 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_v0 : Ref sig .tc := ⟨.hbm, 107, rfl⟩
abbrev main_while0b_v162 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_v0 : Ref sig .tc := ⟨.hbm, 112, rfl⟩
abbrev main_while0b_v163 : Ref sig .tc := ⟨.hbm, 113, rfl⟩
abbrev main_while0b_call7_c : Ref sig .tc := ⟨.hbm, 114, rfl⟩
abbrev main_while0b_call7_c_0 : Ref sig .tc := ⟨.hbm, 115, rfl⟩
abbrev main_while0b_call7_c_1 : Ref sig .tc := ⟨.hbm, 116, rfl⟩
abbrev main_while0b_call7_v0 : Ref sig .tc := ⟨.hbm, 117, rfl⟩
abbrev main_while0b_v164 : Ref sig .tc := ⟨.hbm, 118, rfl⟩
abbrev main_while0b_v165 : Ref sig .tc := ⟨.hbm, 119, rfl⟩
abbrev main_while0b_v166 : Ref sig .tc := ⟨.hbm, 120, rfl⟩
abbrev main_while0b_v167 : Ref sig .tc := ⟨.hbm, 121, rfl⟩
abbrev main_while0b_v168 : Ref sig .tc := ⟨.hbm, 122, rfl⟩
abbrev main_while0b_v169 : Ref sig .tc := ⟨.hbm, 123, rfl⟩
abbrev main_while0b_v170 : Ref sig .tc := ⟨.hbm, 124, rfl⟩
abbrev main_while0b_v171 : Ref sig .tc := ⟨.hbm, 125, rfl⟩
abbrev main_while0b_v172 : Ref sig .tc := ⟨.hbm, 126, rfl⟩
abbrev main_while0b_v173 : Ref sig .tc := ⟨.hbm, 127, rfl⟩
abbrev main_while0b_v174 : Ref sig .tc := ⟨.hbm, 128, rfl⟩
abbrev main_while0b_v175 : Ref sig .tc := ⟨.hbm, 129, rfl⟩
abbrev main_while0b_v176 : Ref sig .tc := ⟨.hbm, 130, rfl⟩
abbrev main_while0b_v177 : Ref sig .tc := ⟨.hbm, 131, rfl⟩
abbrev main_while0b_v178 : Ref sig .tc := ⟨.hbm, 132, rfl⟩
abbrev main_while0b_call8_v0 : Ref sig .tc := ⟨.hbm, 133, rfl⟩
abbrev main_while0b_call8_c : Ref sig .tc := ⟨.hbm, 134, rfl⟩
abbrev main_while0b_call8_c_0 : Ref sig .tc := ⟨.hbm, 135, rfl⟩
abbrev main_while0b_call8_c_1 : Ref sig .tc := ⟨.hbm, 136, rfl⟩
abbrev main_while0b_v179 : Ref sig .tc := ⟨.hbm, 137, rfl⟩
abbrev main_while0b_c_15 : Ref sig .tc := ⟨.hbm, 138, rfl⟩
abbrev main_while0b_v180 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_cst_3 : Ref sig .tc := ⟨.hbm, 188, rfl⟩
abbrev main_call9_v0 : Ref sig .tc := ⟨.hbm, 189, rfl⟩
abbrev main_call9_v1 : Ref sig .tc := ⟨.hbm, 190, rfl⟩
abbrev main_call9_v2 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_cst_4 : Ref sig .tc := ⟨.hbm, 205, rfl⟩
abbrev main_call10_v0 : Ref sig .tc := ⟨.hbm, 206, rfl⟩
abbrev main_v118_1 : Ref sig .tc := ⟨.hbm, 207, rfl⟩
abbrev main_call10_v2 : Ref sig .tc := ⟨.hbm, 208, rfl⟩
abbrev main_v118_0 : Ref sig .tc := ⟨.hbm, 209, rfl⟩
abbrev main_call10_cst : Ref sig .tc := ⟨.hbm, 210, rfl⟩
abbrev main_v118_2 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_call11_cst : Ref sig .tc := ⟨.hbm, 244, rfl⟩
abbrev main_call11_v0 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x1024 : Shape := ⟨2, ![8192, 1024]⟩
abbrev S128 : Shape := ⟨1, ![128]⟩
abbrev S1024x1024 : Shape := ⟨2, ![1024, 1024]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S1024x1024, .f32⟩
  | .hbm, ⟨4, _⟩ => ⟨S8192x1024, .bf16⟩
  | .hbm, ⟨5, _⟩ => ⟨S1x128, .f32⟩
  | .hbm, ⟨6, _⟩ => ⟨S8x128, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x1024 : Shape := ⟨2, ![8192, 1024]⟩
abbrev S128 : Shape := ⟨1, ![128]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S1x128 : Shape := ⟨2, ![1, 128]⟩
abbrev S8x128 : Shape := ⟨2, ![8, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S1024x1024, .f32⟩
  | .hbm, ⟨4, _⟩ => ⟨S8192x1024, .bf16⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x128, .f32⟩
  | .hbm, ⟨22, _⟩ => ⟨S8192x8x128, .f32⟩
  | .hbm, ⟨23, _⟩ => ⟨S1x1x128, .f32⟩
  | .hbm, ⟨24, _⟩ => ⟨S8192x8x128, .f32⟩
  | .hbm, ⟨25, _⟩ => ⟨S8192x8x128, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x8x128, .f32⟩
  | .hbm, ⟨51, _⟩ => ⟨S8192x8x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S8192x8x128, .f32⟩
  | .hbm, ⟨56, _⟩ => ⟨S8192x8x128, .f32⟩
  | .hbm, ⟨57, _⟩ => ⟨S_, .f32⟩
  | .hbm, ⟨58, _⟩ => ⟨S128, .f32⟩
  | .hbm, ⟨59, _⟩ => ⟨S8192x8x128, .f32⟩
  | .hbm, ⟨60, _⟩ => ⟨S_, .f32⟩
  | .hbm, ⟨61, _⟩ => ⟨S8192x8, .f32⟩
  | .hbm, ⟨62, _⟩ => ⟨S8192x8x1, .f32⟩
  | .hbm, ⟨63, _⟩ => ⟨S8192x8x128, .f32⟩
  | .hbm, ⟨64, _⟩ => ⟨S8192x8x128, .f32⟩
  | .hbm, ⟨65, _⟩ => ⟨S8192x8x1, .f32⟩
  | .hbm, ⟨66, _⟩ => ⟨S_, .f32⟩
  | .hbm, ⟨67, _⟩ => ⟨S8192x8x1, .f32⟩
  | .hbm, ⟨68, _⟩ => ⟨S8192x8x1, .f32⟩
  | .hbm, ⟨69, _⟩ => ⟨S_, .f32⟩
  | .hbm, ⟨70, _⟩ => ⟨S8192x8, .f32⟩
  | .hbm, ⟨71, _⟩ => ⟨S8192x8x128, .f32⟩
  | .hbm, ⟨72, _⟩ => ⟨S8192x8x128, .f32⟩
  | .hbm, ⟨73, _⟩ => ⟨S8192x8x128, .f32⟩
  | .hbm, ⟨74, _⟩ => ⟨S8192x8x128, .f32⟩
  | .hbm, ⟨75, _⟩ => ⟨S8192x8x128, .f32⟩
  | .hbm, ⟨76, _⟩ => ⟨S8192x1024, .f32⟩
  | .hbm, ⟨77, _⟩ => ⟨S8192x1024, .bf16⟩
  | .hbm, ⟨78, _⟩ => ⟨S1x128, .f32⟩
  | .hbm, ⟨79, _⟩ => ⟨S_, .i32⟩
  | .hbm, ⟨80, _⟩ => ⟨S_, .f32⟩
  | .hbm, ⟨81, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c : Ref sig .tc := ⟨.hbm, 79, rfl⟩
abbrev main_call2_v0 : Ref sig .tc := ⟨.hbm, 80, rfl⟩
abbrev main_v50 : Ref sig .tc := ⟨.hbm, 81, rfl⟩

abbrev nD : Nat := 1
abbrev τ : Topo := Topo.v7x

variable {F : FTy → Type} [FloatOps F]
-- ==== Kernel3.lean ====
abbrev S8192x1024 : Shape := ⟨2, ![8192, 1024]⟩
abbrev S1024x3072 : Shape := ⟨2, ![1024, 3072]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S3072x1024, .f32⟩
  | .hbm, ⟨4, _⟩ => ⟨S3072x1024, .bf16⟩
  | .hbm, ⟨5, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S2048x1024, .f32⟩
  | .hbm, ⟨4, _⟩ => ⟨S2048x1024, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .f32⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S8192x1024, .bf16⟩
  | .hbm, ⟨3, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S8192x3072, .f32⟩
  | .hbm, ⟨6, _⟩ => ⟨S3072x1024, .f32⟩
  | .hbm, ⟨7, _⟩ => ⟨S1024x3072, .f32⟩
  | .hbm, ⟨8, _⟩ => ⟨S3072x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x1024, .bf16⟩
  | .hbm, ⟨3, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S128 : Shape := ⟨1, ![128]⟩
abbrev S1024x1024 : Shape := ⟨2, ![1024, 1024]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S1024x1024, .f32⟩
  | .hbm, ⟨4, _⟩ => ⟨S1x128, .f32⟩
  | .hbm, ⟨5, _⟩ => ⟨S8x128, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S8192x1024, .bf16⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x1024 : Shape := ⟨2, ![8192, 1024]⟩
abbrev S128 : Shape := ⟨1, ![128]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S1024x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S1x1x128, .f32⟩
  | .hbm, ⟨19, _⟩ => ⟨S8192x8x128, .f32⟩
  | .hbm, ⟨20, _⟩ => ⟨S8192x8x128, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 19
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S8x128, .f32⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x2048, .bf16⟩
  | .hbm, ⟨16, _⟩ => ⟨S8192x1024, .bf16⟩
  | .hbm, ⟨17, _⟩ => ⟨S8192x1024, .bf16⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S8x128, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x2048, .bf16⟩
  | .local _ .vmem, ⟨23, _⟩ => ⟨S256x2048, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference12Ideal.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩
abbrev S6x1024 : Shape := ⟨2, ![6, 1024]⟩
abbrev S8x1024 : Shape := ⟨2, ![8, 1024]⟩

abbrev nBuf : Space → Nat
  | .hbm => 171
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x2048, .f32⟩
  | 4 => ⟨S8192x1024, .f32⟩
  | 5 => ⟨S1024x1024, .f32⟩
  | 6 => ⟨S1024, .f32⟩
  | 7 => ⟨S1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192, .f32⟩
  | 85 => ⟨S_, .f32⟩
  | 86 => ⟨S8192, .f32⟩
  | 87 => ⟨S8192, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8192, .f32⟩
  | 96 => ⟨S_, .f32⟩
  | 97 => ⟨S8192, .f32⟩
  | 98 => ⟨S8192, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S8192x1024, .f32⟩
  | 115 => ⟨S_, .f32⟩
  | 116 => ⟨S8192, .f32⟩
  | 117 => ⟨S8192x1, .f32⟩
  | 118 => ⟨S8192x1024, .f32⟩
  | 119 => ⟨S8192x1024, .f32⟩
  | 120 => ⟨S8192x1, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S_, .f32⟩
  | 1 => ⟨S8192, .f32⟩
  | 2 => ⟨S8192x1024, .f32⟩
  | 3 => ⟨S8192x1024, .f32⟩
  | 4 => ⟨S8192x1024, .f32⟩
  | 5 => ⟨S_, .f32⟩
  | 6 => ⟨S8192, .f32⟩
  | 7 => ⟨S8192x1, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192x2048, .f32⟩
  | 26 => ⟨S8192x1024, .f32⟩
  | 27 => ⟨S8192x1024, .f32⟩
  | 28 => ⟨S8192x1024, .f32⟩
  | 29 => ⟨S_, .f32⟩
  | 30 => ⟨S8192x2048, .f32⟩
  | 31 => ⟨S8192x2048, .f32⟩
  | 32 => ⟨S8x128, .f32⟩
  | 33 => ⟨S8192x1024, .bf16⟩
  | 34 => ⟨S8192x1024, .bf16⟩
  | 35 => ⟨S8192x2048, .bf16⟩
  | 36 => ⟨S8192x1024, .bf16⟩
  | 37 => ⟨S8192x1024, .bf16⟩
  | 38 => ⟨S1x1024, .f32⟩
  | 39 => ⟨S1x1024, .f32⟩
  | 40 => ⟨S_, .f32⟩
  | 41 => ⟨S6x1024, .f32⟩
  | 42 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_cst_18 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_21 : Ref sig .tc := ⟨.hbm, 101, rfl⟩
abbrev main_v71 : Ref sig .tc := ⟨.hbm, 102, rfl⟩
abbrev main_v72 : Ref sig .tc := ⟨.hbm, 103, rfl⟩
abbrev main_cst_22 : Ref sig .tc := ⟨.hbm, 104, rfl⟩
abbrev main_v73 : Ref sig .tc := ⟨.hbm, 105, rfl⟩
abbrev main_v74 : Ref sig .tc := ⟨.hbm, 106, rfl⟩
abbrev main_cst_23 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_24 : Ref sig .tc := ⟨.hbm, 112, rfl⟩
abbrev main_v79 : Ref sig .tc := ⟨.hbm, 113, rfl⟩
abbrev main_v80 : Ref sig .tc := ⟨.hbm, 114, rfl⟩
abbrev main_cst_25 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_26 : Ref sig .tc := ⟨.hbm, 122, rfl⟩
abbrev main_v87 : Ref sig .tc := ⟨.hbm, 123, rfl⟩
abbrev main_v88 : Ref sig .tc := ⟨.hbm, 124, rfl⟩
abbrev main_cst_27 : Ref sig .tc := ⟨.hbm, 125, rfl⟩
abbrev main_v89 : Ref sig .tc := ⟨.hbm, 126, rfl⟩
abbrev main_v90 : Ref sig .tc := ⟨.hbm, 127, rfl⟩
abbrev main_cst_28 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_29 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_30 : Ref sig .tc := ⟨.hbm, 138, rfl⟩
abbrev main_v99 : Ref sig .tc := ⟨.hbm, 139, rfl⟩
abbrev main_v100 : Ref sig .tc := ⟨.hbm, 140, rfl⟩
abbrev main_cst_31 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_32 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_33 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_34 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_35 : Ref sig .tc := ⟨.hbm, 168, rfl⟩
abbrev main_v124 : Ref sig .tc := ⟨.hbm, 169, rfl⟩
abbrev main_v125 : Ref sig .tc := ⟨.hbm, 170, rfl⟩

abbrev nD : Nat := 1
abbrev τ : Topo := Topo.v7x

variable {F : FTy → Type} [FloatOps F]
-- ==== Proof.Finite.lean ====
module
public import Idealize.ShloMosaic.Lib.Pointwise
/-! # Finite entries

What the precondition's two comparisons of an entry with the infinities say: the entry is a real number. -/
@[expose] public section
noncomputable section
open Idealize.ShloMosaic
namespace Cert.Finite

theorem top_word : Ideal.ofBits FTy.f32 0x7F800000#32 = ⊤ := by simp [Ideal.ofBits, Ideal.ieee]
theorem bot_word : Ideal.ofBits FTy.f32 0xFF800000#32 = ⊥ := by simp [Ideal.ofBits, Ideal.ieee]

/-- Below the one infinity and above the other: a real. -/
theorem real_of (x : EReal)
    (h : IntOp.andi (BitVec.ofBool (decide (x < Ideal.ofBits FTy.f32 0x7F800000#32)))
      (BitVec.ofBool (decide (Ideal.ofBits FTy.f32 0xFF800000#32 < x))) = 1#1) : ((x.toReal : ℝ) : EReal) = x := by
  rw [top_word, bot_word] at h
  have h1 : x < ⊤ := by
    by_contra hn
    rw [decide_eq_false hn] at h
    revert h; cases decide (⊥ < x) <;> decide
  have h2 : ⊥ < x := by
    by_contra hn
    rw [decide_eq_false hn] at h
    revert h; cases decide (x < ⊤) <;> decide
  exact EReal.coe_toReal h1.ne h2.ne'

end Cert.Finite
-- ==== Proof.PostPure.lean ====
module
public import proofs.«01_k».proof.Proof.Gen.Kernel2Ideal.Skeleton
public import Idealize.ShloMosaic.Lib.Pointwise
/-! # The gradient of the gated RMS norm, one row at a time

What the kernel's payloads hold at row `r` and column `c`, as formulas of the row `o`, the row `z` of the gate, the
row `g` of the gain and the row `d` of the output product's gradient, all over the extended reals. -/
@[expose] public section
set_option maxRecDepth 16384
noncomputable section
open Idealize.ShloMosaic Idealize.ShloMosaic.TcCoe
namespace Cert.Post

/-- The column at lane `l` of the head that column `c` lies in. -/
def lane (c : Fin 1024) (l : Fin 128) : Fin 1024 := ⟨c.val / 128 * 128 + l.val, by omega⟩

/-- A row. -/
abbrev Row := Fin 1024 → EReal

/-- The number 128, as its float word. -/
def c128 : EReal := Ideal.ofBits .f32 0x43000000#32
/-- The norm's small addend, as its float word. -/
def eps : EReal := Ideal.ofBits .f32 0x358637BD#32

/-- The reciprocal root mean square of column `c`'s head. -/
def irms (o : Row) (c : Fin 1024) : EReal :=
  Ideal.rsqrt (Ideal.div (∑ l : Fin 128, o (lane c l) * o (lane c l)) c128 + eps)
/-- The normalised row. -/
def nrm (o : Row) : Row := fun c => o c * irms o c
/-- The logistic function. -/
def sg (z : EReal) : EReal := Ideal.div 1 (1 + Ideal.exp (-z))
/-- The gradient that reaches the normalised row. -/
def dx (z g d : Row) : Row := fun c => d c * (z c * sg (z c)) * g c
/-- The gradient of the row itself. -/
def dO (o z g d : Row) : Row := fun c =>
  irms o c * (dx z g d c - nrm o c * Ideal.div (∑ l : Fin 128, dx z g d (lane c l) * nrm o (lane c l)) c128)
/-- The gradient of the gate. -/
def dZ (o z g d : Row) : Row := fun c => d c * nrm o c * g c * (sg (z c) * (1 + z c * (1 - sg (z c))))
/-- What the row adds to the gradient of the gain, at column `c`. -/
def dG (o z d : Row) : Row := fun c => d c * (z c * sg (z c)) * nrm o c

end Cert.Post

namespace Cert.Kernel2Ideal.Post
open Cert.Kernel2Ideal Cert.Kernel2Ideal.Gen Cert.Post

/-- Row `r` of a tile. -/
abbrev row {n m : ℕ} {φ : FTy} (x : FVec Ideal ⟨2, ![n, m]⟩ φ) (r : Fin n) : Fin m → EReal := fun c => x (ix2 r c)

/-- Eight heads side by side, read at a column. -/
theorem conc8 (F : Fin 512 → Fin 1024 → EReal) (p0 p1 p2 p3 p4 p5 p6 p7 : FVec Ideal S512x128 .f32)
    (h) (r : Fin 512) (c : Fin 1024)
    (h0 : ∀ l : Fin 128, p0 (ix2 r l) = F r ⟨0 + l.val, by omega⟩) (h1 : ∀ l : Fin 128, p1 (ix2 r l) = F r ⟨128 + l.val, by omega⟩)
    (h2 : ∀ l : Fin 128, p2 (ix2 r l) = F r ⟨256 + l.val, by omega⟩) (h3 : ∀ l : Fin 128, p3 (ix2 r l) = F r ⟨384 + l.val, by omega⟩)
    (h4 : ∀ l : Fin 128, p4 (ix2 r l) = F r ⟨512 + l.val, by omega⟩) (h5 : ∀ l : Fin 128, p5 (ix2 r l) = F r ⟨640 + l.val, by omega⟩)
    (h6 : ∀ l : Fin 128, p6 (ix2 r l) = F r ⟨768 + l.val, by omega⟩) (h7 : ∀ l : Fin 128, p7 (ix2 r l) = F r ⟨896 + l.val, by omega⟩) :
    concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩] h (ix2 r c) = F r c := by
  pointwise
  split_ifs <;> simp only [h0, h1, h2, h3, h4, h5, h6, h7] <;> congr 1 <;> ext <;> simp only [] <;> omega

/-- A sum over the lanes of column `c`'s head, at any spelling of those columns. -/
theorem sum_lane (F : Fin 1024 → EReal) (c : Fin 1024) (p : Fin 128 → Fin 1024)
    (hp : ∀ l, (p l).val = c.val / 128 * 128 + l.val) : ∑ l, F (p l) = ∑ l, F (lane c l) :=
  Finset.sum_congr rfl fun l _ => congrArg F (Fin.ext (hp l))

theorem irms_eq (o : Row) (c : Fin 1024) (p : Fin 128 → Fin 1024)
    (hp : ∀ l, (p l).val = c.val / 128 * 128 + l.val) :
    Ideal.rsqrt (Ideal.div (∑ l, o (p l) * o (p l)) (Ideal.ofBits .f32 0x43000000#32) + Ideal.ofBits .f32 0x358637BD#32) = irms o c := by
  rw [irms, c128, eps, sum_lane (fun k => o k * o k) c p hp]

theorem nrm_at (x : FVec Ideal S512x1024 .f32) (r : Fin 512) (c : Fin 1024) :
    k0_pay33 (F := Ideal) x (k0_pay5 x) (k0_pay9 x) (k0_pay13 x) (k0_pay18 (k0_pay15 x) (k0_pay16 x)) (k0_pay22 x) (k0_pay26 x) (k0_pay30 x) (ix2 r c)
      = nrm (row x r) c := by
  rw [k0_pay33]
  refine conc8 (fun r c => nrm (row x r) c) _ _ _ _ _ _ _ _ _ r c ?_ ?_ ?_ ?_ ?_ ?_ ?_ ?_ <;> intro l
  all_goals
    pointwise [k0_pay5, k0_pay9, k0_pay13, k0_pay18, k0_pay22, k0_pay26, k0_pay30, k0_pay3, k0_pay4, k0_pay7, k0_pay8,
      k0_pay11, k0_pay12, k0_pay15, k0_pay16, k0_pay17, k0_pay20, k0_pay21, k0_pay24, k0_pay25, k0_pay28, k0_pay29, k0_pay31, k0_pay32, nrm]
    exact congrArg _ (irms_eq (row x r) _ _ fun k => by simp only []; omega)

theorem irms_at (x : FVec Ideal S512x1024 .f32) (r : Fin 512) (c : Fin 1024) :
    k0_pay34 (F := Ideal) x (k0_pay6 x) (k0_pay10 x) (k0_pay14 x) (k0_pay19 (k0_pay16 x)) (k0_pay23 x) (k0_pay27 x) (k0_pay29 x) (ix2 r c)
      = irms (row x r) c := by
  rw [k0_pay34]
  refine conc8 (fun r c => irms (row x r) c) _ _ _ _ _ _ _ _ _ r c ?_ ?_ ?_ ?_ ?_ ?_ ?_ ?_ <;> intro l
  all_goals
    pointwise [k0_pay6, k0_pay10, k0_pay14, k0_pay19, k0_pay23, k0_pay27, k0_pay3, k0_pay4, k0_pay7, k0_pay8,
      k0_pay11, k0_pay12, k0_pay15, k0_pay16, k0_pay17, k0_pay20, k0_pay21, k0_pay24, k0_pay25, k0_pay28, k0_pay29, k0_pay31, k0_pay32]
    exact irms_eq (row x r) _ _ fun k => by simp only []; omega

theorem silu_at (z : FVec Ideal S512x1024 .f32) (r : Fin 512) (c : Fin 1024) :
    k0_pay36 (F := Ideal) z (ix2 r c) = row z r c * sg (row z r c) := by
  pointwise [k0_pay36, k0_pay35, sg]
  simp only [zero_sub]

theorem dog_at (dy : FVec Ideal S512x1024 .bf16) (w : FVec Ideal S1024x1024 .bf16) (r : Fin 512) (c : Fin 1024) :
    k0_pay37 (F := Ideal) dy w (ix2 r c) = ∑ k, dy (ix2 r k) * w (ix2 c k) := by
  pointwise! [k0_pay37]

/-- One head of the gradient before the last factor. -/
def dn (n u : Row) : Row := fun c =>
  u c - n c * Ideal.div (∑ l : Fin 128, u (lane c l) * n (lane c l)) c128

theorem dn_eq (n u : Row) (c : Fin 1024) (p : Fin 128 → Fin 1024)
    (hp : ∀ l, (p l).val = c.val / 128 * 128 + l.val) :
    u c - n c * Ideal.div (∑ l, u (p l) * n (p l)) (Ideal.ofBits .f32 0x43000000#32) = dn n u c := by
  rw [dn, c128, sum_lane (fun k => u k * n k) c p hp]

theorem dO_at (n v s d : FVec Ideal S512x1024 .f32) (g : FVec Ideal S1x1024 .f32) (r : Fin 512) (c : Fin 1024) :
    k0_pay1 (F := Ideal) n v (k0_pay42 s d g) (k0_pay43 n s d g) (k0_pay44 n s d g) (k0_pay45 n s d g)
      (k0_pay46 n (k0_pay42 s d g) (k0_pay43 n s d g)) (k0_pay47 n (k0_pay42 s d g) (k0_pay43 n s d g))
      (k0_pay48 n (k0_pay42 s d g) (k0_pay43 n s d g)) (k0_pay49 n (k0_pay42 s d g) (k0_pay43 n s d g))
      (k0_pay50 n (k0_pay42 s d g) (k0_pay43 n s d g)) (ix2 r c)
      = row v r c * dn (row n r) (fun c => row d r c * row s r c * row g 0 c) c := by
  rw [k0_pay1]
  refine congrArg₂ (· * ·) rfl (conc8 (fun r c => dn (row n r) (fun c => row d r c * row s r c * row g 0 c) c) _ _ _ _ _ _ _ _ _ r c ?_ ?_ ?_ ?_ ?_ ?_ ?_ ?_) <;> intro l
  all_goals
    pointwise [k0_pay44, k0_pay45, k0_pay46, k0_pay47, k0_pay48, k0_pay49, k0_pay50, k0_pay43, k0_pay42, k0_pay40]
    exact dn_eq (row n r) (fun c => row d r c * row s r c * row g 0 c) _ _ fun k => by simp only []; omega

/-- The columns of the eight heads at lane `l`. -/
def col (h : Fin 8) (l : Fin 128) : Fin 1024 := ⟨h.val * 128 + l.val, by omega⟩

theorem dG_at (n s d : FVec Ideal S512x1024 .f32) (q : FVec Ideal S1x128 .f32) (i : Fin 1) (l : Fin 128) :
    k0_pay41 (F := Ideal) n s d q (ix2 i l) = q (ix2 i l) + ∑ h : Fin 8, ∑ r : Fin 512, row d r (col h l) * row s r (col h l) * row n r (col h l) := by
  pointwise [k0_pay41, k0_pay40]
  rw [Fin.sum_univ_eight, show col 0 l = ⟨l.val, by omega⟩ from Fin.ext (by simp [col])]
  rfl

theorem dZ_at (x z : FVec Ideal S512x1024 .f32) (g : FVec Ideal S1x1024 .f32) (dy : FVec Ideal S512x1024 .bf16) (w : FVec Ideal S1024x1024 .bf16) (r : Fin 512) (c : Fin 1024) :
   k0_pay39 (F := Ideal) x (k0_pay5 x) (k0_pay9 x) (k0_pay13 x) (k0_pay18 (k0_pay15 x) (k0_pay16 x)) (k0_pay22 x) (k0_pay26 x) (k0_pay30 x) z dy w g (ix2 r c)
      = dZ (row x r) (row z r) (row g 0) (row (k0_pay37 dy w) r) c := by
  rw [show row (k0_pay37 (F := Ideal) dy w) r = fun c => ∑ k, dy (ix2 r k) * w (ix2 c k) from funext fun c => dog_at dy w r c]
  pointwise [k0_pay39, k0_pay35, k0_pay37, k0_pay38, nrm_at, dZ, sg]
  simp only [zero_sub]

/-- The gradient of the tile, at the payload's own spelling. -/
theorem dO_tile (x z : FVec Ideal S512x1024 .f32) (g : FVec Ideal S1x1024 .f32) (dy : FVec Ideal S512x1024 .bf16) (w : FVec Ideal S1024x1024 .bf16) (r : Fin 512) (c : Fin 1024) :
    k0_pay1 (F := Ideal) (k0_pay33 x (k0_pay5 x) (k0_pay9 x) (k0_pay13 x) (k0_pay18 (k0_pay15 x) (k0_pay16 x)) (k0_pay22 x) (k0_pay26 x) (k0_pay30 x)) (k0_pay34 x (k0_pay6 x) (k0_pay10 x) (k0_pay14 x) (k0_pay19 (k0_pay16 x)) (k0_pay23 x) (k0_pay27 x) (k0_pay29 x)) (k0_pay42 (k0_pay36 z) (k0_pay37 dy w) (k0_pay38 g)) (k0_pay43 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))
      (k0_pay44 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g)) (k0_pay45 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))
      (k0_pay46 (k0_pay33 x (k0_pay5 x) (k0_pay9 x) (k0_pay13 x) (k0_pay18 (k0_pay15 x) (k0_pay16 x)) (k0_pay22 x) (k0_pay26 x) (k0_pay30 x)) (k0_pay42 (k0_pay36 z) (k0_pay37 dy w) (k0_pay38 g)) (k0_pay43 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))) (k0_pay47 (k0_pay33 x (k0_pay5 x) (k0_pay9 x) (k0_pay13 x) (k0_pay18 (k0_pay15 x) (k0_pay16 x)) (k0_pay22 x) (k0_pay26 x) (k0_pay30 x)) (k0_pay42 (k0_pay36 z) (k0_pay37 dy w) (k0_pay38 g)) (k0_pay43 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))) (k0_pay48 (k0_pay33 x (k0_pay5 x) (k0_pay9 x) (k0_pay13 x) (k0_pay18 (k0_pay15 x) (k0_pay16 x)) (k0_pay22 x) (k0_pay26 x) (k0_pay30 x)) (k0_pay42 (k0_pay36 z) (k0_pay37 dy w) (k0_pay38 g)) (k0_pay43 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))) (k0_pay49 (k0_pay33 x (k0_pay5 x) (k0_pay9 x) (k0_pay13 x) (k0_pay18 (k0_pay15 x) (k0_pay16 x)) (k0_pay22 x) (k0_pay26 x) (k0_pay30 x)) (k0_pay42 (k0_pay36 z) (k0_pay37 dy w) (k0_pay38 g)) (k0_pay43 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))) (k0_pay50 (k0_pay33 x (k0_pay5 x) (k0_pay9 x) (k0_pay13 x) (k0_pay18 (k0_pay15 x) (k0_pay16 x)) (k0_pay22 x) (k0_pay26 x) (k0_pay30 x)) (k0_pay42 (k0_pay36 z) (k0_pay37 dy w) (k0_pay38 g)) (k0_pay43 (k0_pay33 x (k0_pay5 x) (k0_pay9 x) (k0_pay13 x) (k0_pay18 (k0_pay15 x) (k0_pay16 x)) (k0_pay22 x) (k0_pay26 x) (k0_pay30 x)) (k0_pay36 z) (k0_pay37 dy w) (k0_pay38 g))) (ix2 r c)
      = dO (row x r) (row z r) (row g 0) (row (k0_pay37 dy w) r) c := by
  rw [dO_at]
  have e1 : row (k0_pay33 x (k0_pay5 x) (k0_pay9 x) (k0_pay13 x) (k0_pay18 (k0_pay15 x) (k0_pay16 x)) (k0_pay22 x) (k0_pay26 x) (k0_pay30 x)) r = nrm (row x r) := funext fun c => nrm_at x r c
  have e2 : row (k0_pay34 x (k0_pay6 x) (k0_pay10 x) (k0_pay14 x) (k0_pay19 (k0_pay16 x)) (k0_pay23 x) (k0_pay27 x) (k0_pay29 x)) r c = irms (row x r) c := irms_at x r c
  have e3 : row (k0_pay36 z) r = fun c => row z r c * sg (row z r c) := funext fun c => silu_at z r c
  have e4 : row (k0_pay38 g) 0 = row g 0 := by funext c; simp only [row]; pointwise [k0_pay38]
  rw [e1, e2, e3, e4]
  rfl

/-- What the tile adds to the gain's gradient. -/
theorem dG_tile (x z : FVec Ideal S512x1024 .f32) (dy : FVec Ideal S512x1024 .bf16) (w : FVec Ideal S1024x1024 .bf16) (q : FVec Ideal S1x128 .f32) (i : Fin 1) (l : Fin 128) :
    k0_pay41 (F := Ideal) (k0_pay33 x (k0_pay5 x) (k0_pay9 x) (k0_pay13 x) (k0_pay18 (k0_pay15 x) (k0_pay16 x)) (k0_pay22 x) (k0_pay26 x) (k0_pay30 x)) (k0_pay36 z) (k0_pay37 dy w) q (ix2 i l)
      = q (ix2 i l) + ∑ h : Fin 8, ∑ r : Fin 512, dG (row x r) (row z r) (row (k0_pay37 dy w) r) (col h l) := by
  rw [dG_at]
  refine congrArg _ (Finset.sum_congr rfl fun h _ => Finset.sum_congr rfl fun r _ => ?_)
  have e1 : row (k0_pay33 x (k0_pay5 x) (k0_pay9 x) (k0_pay13 x) (k0_pay18 (k0_pay15 x) (k0_pay16 x)) (k0_pay22 x) (k0_pay26 x) (k0_pay30 x)) r = nrm (row x r) := funext fun c => nrm_at x r c
  have e3 : row (k0_pay36 z) r = fun c => row z r c * sg (row z r c) := funext fun c => silu_at z r c
  rw [e1, e3]
  rfl
end Cert.Kernel2Ideal.Post
-- ==== Proof.PostKernel.lean ====
module
public import proofs.«01_k».proof.Proof.Gen.Kernel2Ideal.Value
public import proofs.«01_k».proof.Proof.PostPure
public import Idealize.ShloMosaic.Lib.Pipeline.ValueKit
public import Idealize.ShloMosaic.Lib.Claim
public import Idealize.ShloMosaic.Lib.WritesUnit
public import Idealize.ShloMosaic.Lib.Pipeline.ReadBack
/-! # What the kernel's first two result arrays hold -/
@[expose] public section
set_option maxRecDepth 16384
noncomputable section
open Idealize.ShloMosaic Idealize.ShloMosaic.TcCoe Idealize.SL.Sem
open Idealize.ShloMosaic.Pipeline (Dat)
namespace Cert.Kernel2Ideal.Post
open Cert.Kernel2Ideal Cert.Kernel2Ideal.Gen Cert.Post
variable (m : (ℓ : Loc nD τ sig) → Buf (Elt Ideal) ℓ)

/-- The argument arrays. -/
abbrev aO (c : Dev nD) : FVec Ideal S8192x1024 .f32 := m ((c : Thread nD τ).loc main_arg0)
abbrev aZ (c : Dev nD) : FVec Ideal S8192x1024 .f32 := m ((c : Thread nD τ).loc main_arg1)
abbrev aG (c : Dev nD) : FVec Ideal S128 .f32 := m ((c : Thread nD τ).loc main_arg2)
abbrev aW (c : Dev nD) : FVec Ideal S1024x1024 .f32 := m ((c : Thread nD τ).loc main_arg3)
abbrev aD (c : Dev nD) : FVec Ideal S8192x1024 .bf16 := m ((c : Thread nD τ).loc main_arg4)

theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- Row `r` of tile `t`, as a row of the whole array. -/
def at_ (t : Fin cfg0.N) (r : Fin 512) : Fin 8192 := ⟨t.val * 512 + r.val, by have : t.val < 16 := lt_of_lt_of_eq t.isLt N_0; omega⟩

theorem blk0 (c : Dev nD) (t : Fin cfg0.N) (r : Fin 512) : row (n := 512) (m := 1024) (φ := .f32) (iblk m c 0 t) r = row (aO m c) (at_ t r) := by
  funext k; simp only [row]; blk_ext [iblk, V, idx_val t, at_]
theorem blk1 (c : Dev nD) (t : Fin cfg0.N) (r : Fin 512) : row (n := 512) (m := 1024) (φ := .f32) (iblk m c 1 t) r = row (aZ m c) (at_ t r) := by
  funext k; simp only [row]; blk_ext [iblk, V, idx_val t, at_]
theorem blk2 (c : Dev nD) (t : Fin cfg0.N) : row (n := 1) (m := 1024) (φ := .f32) (iblk m c 2 t) 0 = fun k => aG m c (ix1 ⟨k.val % 128, Nat.mod_lt _ (by decide)⟩) := by
  funext k; simp only [row]; blk_simp [iblk, idx_val t]; entry_read; pointwise; blk_ext [idx_val t]
theorem blk3 (c : Dev nD) (t : Fin cfg0.N) (r : Fin 1024) : row (n := 1024) (m := 1024) (φ := .bf16) (iblk m c 3 t) r = row (aW m c) r := by
  funext k; simp only [row]; blk_simp [iblk, idx_val t]; entry_read; pointwise; blk_ext [idx_val t]
theorem blk4 (c : Dev nD) (t : Fin cfg0.N) (r : Fin 512) : row (n := 512) (m := 1024) (φ := .bf16) (iblk m c 4 t) r = row (aD m c) (at_ t r) := by
  funext k; simp only [row]; blk_ext [iblk, V, idx_val t, at_]

/-- The output product's gradient, row `r`. -/
def dog (c : Dev nD) (r : Fin 8192) : Row := fun k => ∑ j, aD m c (ix2 r j) * aW m c (ix2 k j)
/-- The gain, repeated for every head. -/
def gain (c : Dev nD) : Row := fun k => aG m c (ix1 ⟨k.val % 128, Nat.mod_lt _ (by decide)⟩)

theorem dog_blk (c : Dev nD) (t : Fin cfg0.N) (r : Fin 512) :
    row (k0_pay37 (F := Ideal) (iblk m c 4 t) (iblk m c 3 t)) r = dog m c (at_ t r) := by
  funext k
  rw [row, dog_at]
  exact Finset.sum_congr rfl fun j _ => congrArg₂ (· * ·) (congrFun (blk4 m c t r) j) (congrFun (blk3 m c t k) j)

theorem final5 (c : Dev nD) : (dats m 0 c).arrAt 5 cfg0.N
    = fun j : S8192x1024.Idx => dO (row (aO m c) (j 0)) (row (aZ m c) (j 0)) (gain m c) (dog m c (j 0)) (j 1) := by
  refine (dats m 0 c).arrAt_eq_of_covers 5 _ (by decide +kernel) fun t hf y => ?_
  obtain ⟨r, k, rfl⟩ : ∃ (r : Fin 512) (k : Fin 1024), y = ix2 r k := ⟨_, _, eq_ix2 y⟩
  have ei : ((cfg0.win 5).blk t).view.emb (ix2 r k) = (ix2 (at_ t r) k : S8192x1024.Idx) := by blk_ext [idx_val t, at_]
  have key : dO (row (n := 512) (m := 1024) (φ := .f32) (iblk m c 0 t) r) (row (n := 512) (m := 1024) (φ := .f32) (iblk m c 1 t) r)
      (row (n := 1) (m := 1024) (φ := .f32) (iblk m c 2 t) 0) (row (k0_pay37 (F := Ideal) (iblk m c 4 t) (iblk m c 3 t)) r) k
      = dO (row (aO m c) (at_ t r)) (row (aZ m c) (at_ t r)) (gain m c) (dog m c (at_ t r)) k := by
    rw [blk0, blk1, blk2, dog_blk]; rfl
  rw [ei]
  blk_simp
  rw [after0_5]
  refine Eq.trans ?_ key
  by_cases h : t.val % 16 = 0
  · rw [outsAt0_A m c t h]; frame_out; exact dO_tile _ _ _ _ _ r k
  · rw [outsAt0_B m c t h]; frame_out; exact dO_tile _ _ _ _ _ r k

theorem final6 (c : Dev nD) : (dats m 0 c).arrAt 6 cfg0.N
    = fun j : S8192x1024.Idx => dZ (row (aO m c) (j 0)) (row (aZ m c) (j 0)) (gain m c) (dog m c (j 0)) (j 1) := by
  refine (dats m 0 c).arrAt_eq_of_covers 6 _ (by decide +kernel) fun t hf y => ?_
  obtain ⟨r, k, rfl⟩ : ∃ (r : Fin 512) (k : Fin 1024), y = ix2 r k := ⟨_, _, eq_ix2 y⟩
  have ei : ((cfg0.win 6).blk t).view.emb (ix2 r k) = (ix2 (at_ t r) k : S8192x1024.Idx) := by blk_ext [idx_val t, at_]
  have key : dZ (row (n := 512) (m := 1024) (φ := .f32) (iblk m c 0 t) r) (row (n := 512) (m := 1024) (φ := .f32) (iblk m c 1 t) r)
      (row (n := 1) (m := 1024) (φ := .f32) (iblk m c 2 t) 0) (row (k0_pay37 (F := Ideal) (iblk m c 4 t) (iblk m c 3 t)) r) k
      = dZ (row (aO m c) (at_ t r)) (row (aZ m c) (at_ t r)) (gain m c) (dog m c (at_ t r)) k := by
    rw [blk0, blk1, blk2, dog_blk]; rfl
  rw [ei]
  blk_simp
  rw [after0_6]
  refine Eq.trans ?_ key
  by_cases h : t.val % 16 = 0
  · rw [outsAt0_A m c t h]; frame_out; exact dZ_at _ _ _ _ _ r k
  · rw [outsAt0_B m c t h]; frame_out; exact dZ_at _ _ _ _ _ r k

end Cert.Kernel2Ideal.Post
-- ==== Proof.PostGain.lean ====
module
public import proofs.«01_k».proof.Proof.Gen.Kernel2Ideal.Value
public import proofs.«01_k».proof.Proof.PostPure
public import Idealize.ShloMosaic.Lib.Pipeline.ValueKit
public import proofs.«01_k».proof.Proof.PostKernel
public import Idealize.ShloMosaic.Lib.WritesUnit
public import Idealize.ShloMosaic.Lib.Pipeline.ReadBack
/-! # The kernel's third result: the gain's gradient, summed over the tiles -/
@[expose] public section
set_option maxRecDepth 16384
noncomputable section
open Idealize.ShloMosaic Idealize.ShloMosaic.TcCoe Idealize.SL.Sem
open Idealize.ShloMosaic.Pipeline (Dat)
namespace Cert.Kernel2Ideal.Post
open Cert.Kernel2Ideal Cert.Kernel2Ideal.Gen Cert.Post
variable (m : (ℓ : Loc nD τ sig) → Buf (Elt Ideal) ℓ)

/-- What tile `t` adds to the gain's gradient at lane `l`. -/
def part (c : Dev nD) (t : Fin cfg0.N) (l : Fin 128) : EReal :=
  ∑ h : Fin 8, ∑ r : Fin 512, dG (row (aO m c) (at_ t r)) (row (aZ m c) (at_ t r)) (dog m c (at_ t r)) (col h l)

theorem part_eq (c : Dev nD) (t : Fin cfg0.N) (l : Fin 128) :
    (∑ h : Fin 8, ∑ r : Fin 512, dG (row (n := 512) (m := 1024) (φ := .f32) (iblk m c 0 t) r) (row (n := 512) (m := 1024) (φ := .f32) (iblk m c 1 t) r)
      (row (k0_pay37 (F := Ideal) (iblk m c 4 t) (iblk m c 3 t)) r) (col h l)) = part m c t l := by
  simp only [part, blk0, blk1, dog_blk]

theorem emb_row0 (l : Fin 128) : (Rect.unit (s := S8x128) ![0, 0] ![1, 128] inb_S8x128_S1x128_0_0).emb (ix2 0 l) = (ix2 0 l : S8x128.Idx) := by
  funext a; fin_cases a <;> ext <;> simp [Rect.unit, Rect.emb]

theorem not_row0 (i : Fin 8) (l : Fin 128) (h : i ≠ 0) : (ix2 i l : S8x128.Idx) ∉ (Rect.unit (s := S8x128) ![0, 0] ![1, 128] inb_S8x128_S1x128_0_0).set := by
  rw [Rect.mem_set_unit]
  intro hall
  have := hall 0
  simp at this
  omega

/-- Off the last write, the earlier ones. -/
theorem canon_off {S : Shape} (r : Rect S) (w : r.shape.Idx → EReal) (L : List (View.Piece (Elt Ideal) S .f32)) (y : S.Idx) (h : y ∉ r.set) :
    View.canon (Val := Elt Ideal) (e := .f32) (⟨r, w⟩ :: L) y = View.canon L y :=
  View.canon_cons_of_not_mem (Val := Elt Ideal) (e := .f32) ⟨r, w⟩ L h

section Buffer
variable (v : View sig .tc .vmem S8x128 .f32) (Z : S8x128.Idx → EReal) (w : S1x128.Idx → EReal) (l : Fin 128)

/-- A store of row 0 over a store of the whole buffer, read in row 0 … -/
theorem canon_row0 : View.canon (Val := Elt Ideal) (s := S8x128) (e := .f32) [⟨Rect.unit ![0, 0] ![1, 128] inb_S8x128_S1x128_0_0, w⟩,
    ⟨Rect.unit ![0, 0] ![8, 128] inb_S8x128_S8x128_0_0, Z⟩] (ix2 0 l) = w (ix2 0 l) := by
  refine (congrArg _ (emb_row0 l).symm).trans ?_
  exact View.canon_cons_emb (Val := Elt Ideal) (e := .f32) (Rect.unit (s := S8x128) ![0, 0] ![1, 128] inb_S8x128_S1x128_0_0) w _ (ix2 0 l)

/-- … and below it. -/
theorem canon_rest (i : Fin 8) (h : i ≠ 0) : View.canon (Val := Elt Ideal) (s := S8x128) (e := .f32) [⟨Rect.unit ![0, 0] ![1, 128] inb_S8x128_S1x128_0_0, w⟩,
    ⟨Rect.unit ![0, 0] ![8, 128] inb_S8x128_S8x128_0_0, Z⟩] (ix2 i l) = Z (ix2 i l) := by
  refine (canon_off (Rect.unit (s := S8x128) ![0, 0] ![1, 128] inb_S8x128_S1x128_0_0) w _ _ (not_row0 i l h)).trans ?_
  exact congrFun (View.canon_cons_unit_lit (Val := Elt Ideal) (S := S8x128) (e := .f32) inb_S8x128_S8x128_0_0 Z [] (by decide)) _

/-- A load of row 0 after a store of the whole buffer. -/
theorem load_row0 : (v.readCov (Val := Elt Ideal) [⟨Rect.unit (s := S8x128) ![0, 0] ![8, 128] inb_S8x128_S8x128_0_0, Z⟩]
    (Rect.unit (s := S8x128) ![0, 0] ![1, 128] inb_S8x128_S1x128_0_0).toLoadRect : S1x128.Idx → EReal) (ix2 0 l) = Z (ix2 0 l) := by
  refine (congrFun (View.readCov_fill (Val := Elt Ideal) v inb_S8x128_S8x128_0_0 Z [] (Rect.unit ![0, 0] ![1, 128] inb_S8x128_S1x128_0_0) (by decide)) _).trans ?_
  exact congrArg Z (emb_row0 l)

/-- A store of row 0, read in row 0 … -/
theorem store_row0 (f : v.ty.Contents (Elt Ideal)) : v.read (Elt Ideal) (v.writes (Elt Ideal) f [⟨Rect.unit ![0, 0] ![1, 128] inb_S8x128_S1x128_0_0, w⟩]) (ix2 0 l) = w (ix2 0 l) := by
  refine (congrArg _ (emb_row0 l).symm).trans ?_
  exact View.read_writes_cons_emb (Val := Elt Ideal) v f (Rect.unit (s := S8x128) ![0, 0] ![1, 128] inb_S8x128_S1x128_0_0) w [] (ix2 0 l)

/-- … and below it. -/
theorem store_rest (f : v.ty.Contents (Elt Ideal)) (i : Fin 8) (h : i ≠ 0) :
    v.read (Elt Ideal) (v.writes (Elt Ideal) f [⟨Rect.unit ![0, 0] ![1, 128] inb_S8x128_S1x128_0_0, w⟩]) (ix2 i l) = v.read (Elt Ideal) f (ix2 i l) := by
  refine (View.read_writes_cons_unit_of_not_mem v f inb_S8x128_S1x128_0_0 w [] (ix2 i l) rfl (0 : Fin 2) (Or.inr ?_)).trans rfl
  have : (i : ℕ) ≠ 0 := fun h' => h (Fin.ext h')
  simp
  omega
end Buffer

/-- What tile `t` adds to the buffer: its part in row 0, nothing elsewhere. -/
def term (c : Dev nD) (t : Fin cfg0.N) : S8x128.Idx → EReal := fun j => if (j 0 : ℕ) = 0 then part m c t (j 1) else 0
theorem term_0 (c : Dev nD) (t : Fin cfg0.N) (l : Fin 128) : term m c t (ix2 0 l) = part m c t l := by simp [term]
theorem term_n (c : Dev nD) (t : Fin cfg0.N) (i : Fin 8) (l : Fin 128) (h : i ≠ 0) : term m c t (ix2 i l) = 0 := by
  have h0 : ¬ (i : ℕ) = 0 := fun h' => h (Fin.ext h')
  simp [term, h0]

theorem out7_A (c : Dev nD) (t : Fin cfg0.N) (h : t.val % 16 = 0) (i : Fin 8) (l : Fin 128) :
    (outsAt0 m c t.val t.isLt).2.2 (ix2 i l) = 0 + term m c t (ix2 i l) := by
  rw [outsAt0_A m c t h]; frame_out
  by_cases hi : i = 0
  · subst hi
    refine (canon_row0 _ _ l).trans ?_
    refine (dG_tile (iblk m c 0 t) (iblk m c 1 t) (iblk m c 4 t) (iblk m c 3 t) _ 0 l).trans ?_
    rw [part_eq, term_0, load_row0]
    pointwise [k0_pay2]
  · refine (canon_rest _ _ l i hi).trans ?_
    rw [term_n m c t i l hi]
    pointwise [k0_pay2]

theorem out7_B (c : Dev nD) (t : Fin cfg0.N) (h : ¬ t.val % 16 = 0) (i : Fin 8) (l : Fin 128) :
    (outsAt0 m c t.val t.isLt).2.2 (ix2 i l) = (outsAt0 m c (t.val - 1) (by omega)).2.2 (ix2 i l) + term m c t (ix2 i l) := by
  rw [outsAt0_B m c t h]; frame_out
  by_cases hi : i = 0
  · subst hi
    refine (store_row0 _ _ l _).trans ?_
    refine (dG_tile (iblk m c 0 t) (iblk m c 1 t) (iblk m c 4 t) (iblk m c 3 t) _ 0 l).trans ?_
    rw [part_eq, term_0]
    pointwise
  · refine (store_rest _ _ l _ i hi).trans ?_
    rw [Memref.IsWhole.read_unread, term_n m c t i l hi, add_zero]

theorem final7 (c : Dev nD) : (dats m 0 c).arrAt 7 cfg0.N
    = fun j : S8x128.Idx => if (j 0 : ℕ) = 0 then ∑ t : Fin cfg0.N, part m c t (j 1) else 0 := by
  refine (dats m 0 c).arrAt_eq_of_after_last 7 t0_15 (by decide +kernel) _ fun j => ?_
  obtain ⟨i, l, rfl⟩ : ∃ (i : Fin 8) (l : Fin 128), j = ix2 i l := ⟨_, _, eq_ix2 j⟩
  blk_simp
  rw [after0_7, Pipeline.eq_sum_fin_of_reset_step_apply_last (fun n h => (outsAt0 m c n h).2.2) 16 (fun _ => 0)
    (fun t j => term m c t j)
    (fun t h j => (congrArg _ (eq_ix2 j)).trans ((out7_A m c t h _ _).trans (congrArg (fun j => 0 + term m c t j) (eq_ix2 j).symm)))
    (fun t h j => by
      obtain ⟨i, l, rfl⟩ : ∃ (i : Fin 8) (l : Fin 128), j = ix2 i l := ⟨_, _, eq_ix2 j⟩
      exact out7_B m c t h i l)
    (le_of_eq N_0) t0_15 rfl _, zero_add]
  by_cases hi : i = 0
  · subst hi
    simp [term_0]
  · have h0 : ¬ (i : ℕ) = 0 := fun h => hi (Fin.ext h)
    simp [h0, term_n m c _ i l hi]
end Cert.Kernel2Ideal.Post
-- ==== Proof.PostRef.lean ====
module
public import proofs.«01_k».proof.Proof.Gen.Reference2Ideal.Read
public import proofs.«01_k».proof.Proof.PostPure
public import Idealize.ShloMosaic.Lib.Pointwise
/-! # The reference's results, read at an index -/
@[expose] public section
set_option maxRecDepth 16384
noncomputable section
open Idealize.ShloMosaic Idealize.ShloMosaic.TcCoe
namespace Cert.Reference2Ideal.Post
open Cert.Reference2Ideal Cert.Reference2Ideal.Read Cert.Post
open Cert.Kernel2Ideal.Post (row col)

variable (o z : FVec Ideal S8192x1024 .f32) (g : FVec Ideal S128 .f32) (w : FVec Ideal S1024x1024 .f32) (dy : FVec Ideal S8192x1024 .bf16)

/-- The gain, one lane of it for every column of a row. -/
def gainR : Row := fun k => g (ix1 ⟨(k : ℕ) % 128, Nat.mod_lt _ (by norm_num)⟩)

/-- The gradient that the product with the output weights hands back to row `r`. -/
def dogR (r : Fin 8192) : Row := fun k => ∑ j : Fin 1024, row dy r j * w (ix2 k j)

theorem lane_col (h : Fin 8) (l x : Fin 128) : lane (col h l) x = col h x := by
  apply Fin.ext; simp only [lane, col]; omega

theorem gain_col (h : Fin 8) (l : Fin 128) : gainR g (col h l) = g (ix1 l) := by
  simp only [gainR, col]; congr 2; apply Fin.ext; simp only []; omega

/-- The negative half the derivative of the inverse root carries. -/
def mhalf : EReal := Ideal.ofBits FTy.f32 0xBF000000#32

/-- What the mean square's gradient sends to every entry of a head. -/
def sR (o z g d : Row) (c : Fin 1024) : EReal :=
  Ideal.div ((∑ l, o (lane c l) * dx z g d (lane c l)) *
    (mhalf * Ideal.div (irms o c) (Ideal.div (∑ l, o (lane c l) * o (lane c l)) c128 + eps))) c128

theorem v0_at (r : Fin 8192) (h : Fin 8) (l : Fin 128) : val_main_v0 (F := Ideal) o (ix3 r h l) = row o r (col h l) := by
  pointwise [val_main_v0]; rfl

theorem v8_at (r : Fin 8192) (h : Fin 8) (l : Fin 128) : val_main_v8 (F := Ideal) o (ix3 r h 0) = irms (row o r) (col h l) := by
  pointwise [val_main_v8, val_main_v7, val_main_v6, val_main_v5, val_main_v4, val_main_v3, val_main_v2, val_main_v1, v0_at, val_main_cst_1, val_main_cst, val_main_cst_0]
  simp only [irms, lane_col]; rfl

theorem v11_at (r : Fin 8192) (h : Fin 8) (l : Fin 128) : val_main_v11 (F := Ideal) o (ix3 r h 0) =
    mhalf * Ideal.div (irms (row o r) (col h l)) (Ideal.div (∑ x, row o r (lane (col h l) x) * row o r (lane (col h l) x)) c128 + eps) := by
  pointwise [val_main_v11, val_main_v10, val_main_cst_2, val_main_v9, v8_at _ _ _ l, val_main_v7, val_main_v6, val_main_v5, val_main_v4, val_main_v3, val_main_v2, val_main_v1, v0_at, val_main_cst_1, val_main_cst, val_main_cst_0]
  simp only [lane_col]; rfl

theorem v13_at (r : Fin 8192) (h : Fin 8) (l : Fin 128) : val_main_v13 (F := Ideal) o (ix3 r h l) = nrm (row o r) (col h l) := by
  pointwise [val_main_v13, val_main_v12, v8_at _ _ _ l, v0_at]
  rfl

theorem v22_at (r : Fin 8192) (k : Fin 1024) : val_main_v22 (F := Ideal) w dy (ix2 r k) = dogR w dy r k := by
  pointwise [val_main_v22, val_main_v21]
  rfl

theorem sg_at (r : Fin 8192) (k : Fin 1024) : val_main_v18_2 (F := Ideal) z (ix2 r k) = sg (row z r k) := by
  pointwise [val_main_v18_2, val_main_call0_v4, val_main_call0_v3, val_main_call0_v2, val_main_call0_v1, val_main_call0_v0, val_main_call0_cst, val_main_call0_cst_0]
  rfl

theorem v31_at (r : Fin 8192) (h : Fin 8) (l : Fin 128) : val_main_v31 (F := Ideal) z g w dy (ix3 r h l) =
    dx (row z r) (gainR g) (dogR w dy r) (col h l) := by
  pointwise [val_main_v31, val_main_v30, val_main_v14, val_main_v26, val_main_v24, v22_at, val_main_v18_0, sg_at]
  simp only [dx, gain_col]; rfl

theorem v27_at (r : Fin 8192) (h : Fin 8) (l : Fin 128) : val_main_v27 (F := Ideal) o z w dy (ix3 r h l) =
    nrm (row o r) (col h l) * (dogR w dy r (col h l) * (row z r (col h l) * sg (row z r (col h l)))) := by
  pointwise [val_main_v27, v13_at, val_main_v26, val_main_v24, v22_at, val_main_v18_0, sg_at]
  rfl

theorem v42_at (r : Fin 8192) (h : Fin 8) (l : Fin 128) : val_main_v42 (F := Ideal) o z g w dy (ix3 r h l) =
    sR (row o r) (row z r) (gainR g) (dogR w dy r) (col h l) := by
  pointwise [val_main_v42, val_main_v41, val_main_cst_7, val_main_v40, val_main_v39, val_main_cst_6, val_main_v38, val_main_v35, val_main_v34, val_main_cst_5, val_main_v33, v0_at, v31_at]
  rw [Fin.sum_univ_one, show (0 : Fin 1) = 0 from rfl, v11_at _ _ _ l]
  simp only [sR, lane_col]; rfl

theorem v46_at (r : Fin 8192) (h : Fin 8) (l : Fin 128) : val_main_v46 (F := Ideal) o z g w dy (ix3 r h l) =
    dx (row z r) (gainR g) (dogR w dy r) (col h l) * irms (row o r) (col h l)
      + row o r (col h l) * sR (row o r) (row z r) (gainR g) (dogR w dy r) (col h l)
      + sR (row o r) (row z r) (gainR g) (dogR w dy r) (col h l) * row o r (col h l) := by
  pointwise [val_main_v46, val_main_v45, val_main_v44, val_main_v43, val_main_v37, val_main_v36, v8_at _ _ _ l, v31_at, v42_at, v0_at]

/-- A column as head and lane. -/
theorem col_div (c : Fin 1024) : col ⟨(c : ℕ) / 128, by omega⟩ ⟨(c : ℕ) % 128, by omega⟩ = c := by
  apply Fin.ext; simp only [col]; omega

theorem v47_at (r : Fin 8192) (c : Fin 1024) : val_main_v47 (F := Ideal) o z g w dy (ix2 r c) =
    dx (row z r) (gainR g) (dogR w dy r) c * irms (row o r) c
      + row o r c * sR (row o r) (row z r) (gainR g) (dogR w dy r) c
      + sR (row o r) (row z r) (gainR g) (dogR w dy r) c * row o r c := by
  have h := v46_at o z g w dy r ⟨(c : ℕ) / 128, by omega⟩ ⟨(c : ℕ) % 128, by omega⟩
  rw [col_div] at h
  rw [← h]
  pointwise [val_main_v47]

theorem v48_at (r : Fin 8192) (c : Fin 1024) : val_main_v48 (F := Ideal) o z g w dy (ix2 r c) =
    nrm (row o r) c * gainR g c * dogR w dy r c * sg (row z r c)
      + row z r c * (nrm (row o r) c * gainR g c * dogR w dy r c) * (sg (row z r c) * (1 - sg (row z r c))) := by
  have h := v13_at o r ⟨(c : ℕ) / 128, by omega⟩ ⟨(c : ℕ) % 128, by omega⟩
  rw [col_div] at h
  have hg := gain_col g ⟨(c : ℕ) / 128, by omega⟩ ⟨(c : ℕ) % 128, by omega⟩
  rw [col_div] at hg
  rw [← h, hg]
  pointwise [val_main_v48, val_main_v25, val_main_call1_v0, val_main_call1_v1, val_main_call1_v2, val_main_v23, val_main_v18_1, sg_at, v22_at, val_main_v17, val_main_v16, val_main_v15, val_main_v14, val_main_call0_v6, val_main_call0_v7, val_main_call0_cst_1]

/-- A sum over the indices that drop to lane `l` when the two leading axes go is the double sum over those axes. -/
theorem sum_lead {n0 n1 n2 : ℕ} (h : (⟨3, ![n0, n1, n2]⟩ : Shape).ReducesTo [0, 1] ⟨1, ![n2]⟩) (v : (⟨3, ![n0, n1, n2]⟩ : Shape).Idx → EReal)
    (c : EReal) (l : Fin n2) : Ideal.hostReduceAdd h v c (ix1 l) = c + ∑ a : Fin n0, ∑ b : Fin n1, v (ix3 a b l) := by
  have e : ∀ i : (⟨3, ![n0, n1, n2]⟩ : Shape).Idx, h.drop i = ix1 l ↔ ∃ k : Fin n0 × Fin n1, ix3 k.1 k.2 l = i := by
    intro i
    constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  refine congrArg (c + ·) ((Finset.sum_filter_eq_sum_of_fiber _ (fun k : Fin n0 × Fin n1 => ix3 k.1 k.2 l)
    (fun _ _ e => Prod.ext (congrFun e 0) (congrFun e 1)) e v).trans ?_)
  simp only [Fintype.sum_prod_type]

theorem v28_at (l : Fin 128) : val_main_v28 (F := Ideal) o z w dy (ix1 l) =
    ∑ r : Fin 8192, ∑ h : Fin 8, nrm (row o r) (col h l) * (dogR w dy r (col h l) * (row z r (col h l) * sg (row z r (col h l)))) := by
  pointwise [val_main_v28, val_main_cst_3]
  rw [sum_lead, zero_add]
  exact Finset.sum_congr rfl fun r _ => Finset.sum_congr rfl fun h _ => v27_at o z w dy r h l

theorem v50_at (a : Fin 8) (l : Fin 128) : val_main_v50 (F := Ideal) o z w dy (ix2 a l) =
   if (a : ℕ) = 0 then val_main_v28 (F := Ideal) o z w dy (ix1 l) else 0 := by
  pointwise [val_main_v50, val_main_v49, val_main_v32, val_main_cst_4, val_main_v29, val_main_c, val_main_call2_v0]
  by_cases ha : (a : ℕ) = 0
  · rw [dif_pos (by omega), if_pos ha, sum_lead, zero_add, Fin.sum_univ_one, Fin.sum_univ_one]
    pointwise
  · rw [dif_neg (by omega), if_neg ha]
    show (((0#32 : BitVec 32).toInt : ℝ) : EReal) = 0
    simp

end Cert.Reference2Ideal.Post
-- ==== Proof.PostReal.lean ====
module
public import proofs.«01_k».proof.Proof.PostRef
/-! # The two spellings of the gated norm's gradient agree on reals -/
@[expose] public section
noncomputable section
open Idealize.ShloMosaic Idealize.ShloMosaic.TcCoe
namespace Cert.Post
open Cert.Reference2Ideal.Post (sR mhalf)

theorem c128_coe : c128 = ((128 : ℝ) : EReal) := by
  rw [c128]; simp [Ideal.ofBits, Ideal.ieee, -EReal.coe_mul]; norm_num
theorem mhalf_coe : mhalf = ((-(1 / 2) : ℝ) : EReal) := by
  rw [mhalf]; simp [Ideal.ofBits, Ideal.ieee, -EReal.coe_mul]; norm_num
/-- The norm's small addend, as a positive real. -/
def epsR : ℝ := eps.toReal
theorem eps_coe : eps = ((epsR : ℝ) : EReal) := by
  rw [epsR, eps]; simp [Ideal.ofBits, Ideal.ieee, -EReal.coe_mul]
theorem epsR_pos : 0 < epsR := by
  rw [epsR, eps]; simp [Ideal.ofBits, Ideal.ieee, -EReal.coe_mul]

/-- A row of reals among the extended reals. -/
abbrev up (o : Fin 1024 → ℝ) : Row := fun c => (o c : EReal)

/-- A sum of reals, taken among the extended reals. -/
theorem sum_coe {n : ℕ} (f : Fin n → ℝ) : ∑ i, (f i : EReal) = ((∑ i, f i : ℝ) : EReal) := by
  induction (Finset.univ : Finset (Fin n)) using Finset.induction_on with
  | empty => simp
  | insert a s ha ih => rw [Finset.sum_insert ha, Finset.sum_insert ha, ih, EReal.coe_add]

variable (o z g d : Fin 1024 → ℝ) (c : Fin 1024)

/-- The mean square of column `c`'s head, with the small addend. -/
def msR : ℝ := (∑ l, o (lane c l) * o (lane c l)) * (1 / 128) + epsR

theorem msR_pos : 0 < msR o c := by
  have : 0 ≤ ∑ l, o (lane c l) * o (lane c l) := Finset.sum_nonneg fun l _ => mul_self_nonneg _
  have := epsR_pos
  unfold msR; positivity

theorem ms_up : Ideal.div (∑ l, up o (lane c l) * up o (lane c l)) c128 + eps = ((msR o c : ℝ) : EReal) := by
  simp only [up, ← EReal.coe_mul, sum_coe]
  rw [c128_coe, Ideal.div_coe (by norm_num), eps_coe, ← EReal.coe_mul, ← EReal.coe_add, msR]

theorem irms_up : irms (up o) c = (((√(msR o c))⁻¹ : ℝ) : EReal) := by
  rw [irms, ms_up, Ideal.rsqrt_coe, if_neg (msR_pos o c).not_gt, if_neg (msR_pos o c).ne']

/-- The logistic function of a real. -/
def sgR (x : ℝ) : ℝ := 1 / (1 + Real.exp (-x))

theorem sg_up (x : ℝ) : sg (x : EReal) = ((sgR x : ℝ) : EReal) := by
  rw [sg, ← EReal.coe_neg, Ideal.exp_coe, ← EReal.coe_one, ← EReal.coe_add, Ideal.div_coe (by positivity), ← EReal.coe_mul, sgR, one_mul]

theorem nrm_up : nrm (up o) c = ((o c * (√(msR o c))⁻¹ : ℝ) : EReal) := by
  rw [nrm, irms_up, ← EReal.coe_mul]

/-- The gradient that reaches the normalised row, on reals. -/
def dxR : ℝ := d c * (z c * sgR (z c)) * g c

theorem dx_up : dx (up z) (up g) (up d) c = ((dxR z g d c : ℝ) : EReal) := by
  simp only [dx, up, sg_up, ← EReal.coe_mul, dxR]

/-- Columns of one head have the same mean square. -/
theorem ms_lane (l : Fin 128) : msR o (lane c l) = msR o c := by
  have e : ∀ k, lane (lane c l) k = lane c k := fun k => Fin.ext (by simp only [lane]; omega)
  simp only [msR, e]

theorem sR_up : sR (up o) (up z) (up g) (up d) c =
    (((∑ l, o (lane c l) * dxR z g d (lane c l)) * (-(1 / 2) * ((√(msR o c))⁻¹ * (1 / msR o c))) * (1 / 128) : ℝ) : EReal) := by
  rw [sR, ms_up, irms_up, Ideal.div_coe (msR_pos o c).ne', mhalf_coe, c128_coe, Ideal.div_coe (by norm_num)]
  simp only [dx_up, up, ← EReal.coe_mul, sum_coe]

/-- The gradient of the row: the kernel's formula is the reference's. -/
theorem dO_up : dO (up o) (up z) (up g) (up d) c =
    dx (up z) (up g) (up d) c * irms (up o) c + up o c * sR (up o) (up z) (up g) (up d) c
      + sR (up o) (up z) (up g) (up d) c * up o c := by
  rw [dO, sR_up, dx_up, irms_up, nrm_up]
  simp only [dx_up, nrm_up, ms_lane, ← EReal.coe_mul, sum_coe]
  rw [c128_coe, Ideal.div_coe (by norm_num)]
  simp only [up, ← EReal.coe_mul, ← EReal.coe_sub, ← EReal.coe_add]
  congr 1
  have hm := msR_pos o c
  have hs : √(msR o c) * √(msR o c) = msR o c := Real.mul_self_sqrt hm.le
  have hp : 0 < √(msR o c) := Real.sqrt_pos.mpr hm
  have e1 : ∑ l, dxR z g d (lane c l) * (o (lane c l) * (√(msR o c))⁻¹) = (∑ l, o (lane c l) * dxR z g d (lane c l)) * (√(msR o c))⁻¹ := by
    rw [Finset.sum_mul]; exact Finset.sum_congr rfl fun l _ => by ring
  rw [e1]
  generalize (∑ l, o (lane c l) * dxR z g d (lane c l)) = S
  generalize √(msR o c) = s at *
  rw [← hs]
  field_simp
  ring

/-- The gradient of the gate: the kernel's formula is the reference's. -/
theorem dZ_up : dZ (up o) (up z) (up g) (up d) c =
    nrm (up o) c * up g c * up d c * sg (up z c)
      + up z c * (nrm (up o) c * up g c * up d c) * (sg (up z c) * (1 - sg (up z c))) := by
  rw [dZ, nrm_up]
  simp only [up, sg_up, ← EReal.coe_one, ← EReal.coe_mul, ← EReal.coe_sub, ← EReal.coe_add]
  congr 1; ring

end Cert.Post
-- ==== Proof.PostClaim.lean ====
module
public import proofs.«01_k».proof.Defs
public import proofs.«01_k».proof.Proof.Gen.Pre_finite2
public import proofs.«01_k».proof.Proof.Gen.Reference2Ideal.Run
public import proofs.«01_k».proof.Proof.Finite
public import proofs.«01_k».proof.Proof.PostGain
public import proofs.«01_k».proof.Proof.PostReal
/-! # The gated norm's gradient: the kernel computes what the reference computes -/
@[expose] public section
set_option maxRecDepth 16384
noncomputable section
open Idealize.ShloMosaic Idealize.ShloMosaic.TcCoe Idealize.SL.Sem
namespace Cert.Post.Claim
open Cert.Post Cert.Kernel2Ideal.Post Cert.Kernel2Ideal.Gen Cert.Kernel2Ideal.Value Cert.Reference2Ideal.Post Cert.Reference2Ideal.Read
open Cert.Kernel2Ideal (cfg0)

variable (m : (ℓ : Loc Cert.Kernel2Ideal.nD Cert.Kernel2Ideal.τ Cert.Kernel2Ideal.sig) → Buf (Elt Ideal) ℓ)

variable (h : Cert.Pre_Kernel2Ideal_finite2 m) (c : Dev Cert.Kernel2Ideal.nD)

/-! ## The arguments are real -/

include h in
theorem real_o (r : Fin 8192) (k : Fin 1024) : ((aO m c (ix2 r k)).toReal : EReal) = aO m c (ix2 r k) := by
  have e := congrFun (h c).1 (ix2 r k)
  simp only [Cert.Pre_finite2.fn, Cert.Pre_finite2.fn_part1] at e
  pointwise at e
  exact Cert.Finite.real_of _ e

include h in
theorem real_z (r : Fin 8192) (k : Fin 1024) : ((aZ m c (ix2 r k)).toReal : EReal) = aZ m c (ix2 r k) := by
  have e := congrFun (h c).2.1 (ix2 r k)
  simp only [Cert.Pre_finite2.fn, Cert.Pre_finite2.fn_part1] at e
  pointwise at e
  exact Cert.Finite.real_of _ e

include h in
theorem real_g (l : Fin 128) : ((aG m c (ix1 l)).toReal : EReal) = aG m c (ix1 l) := by
  have e := congrFun (h c).2.2.1 (ix1 l)
  simp only [Cert.Pre_finite2.fn, Cert.Pre_finite2.fn_part1] at e
  pointwise at e
  exact Cert.Finite.real_of _ e

include h in
theorem real_w (r k : Fin 1024) : ((aW m c (ix2 r k)).toReal : EReal) = aW m c (ix2 r k) := by
  have e := congrFun (h c).2.2.2.1 (ix2 r k)
  simp only [Cert.Pre_finite2.fn, Cert.Pre_finite2.fn_part1] at e
  pointwise at e
  exact Cert.Finite.real_of _ e

include h in
theorem real_d (r : Fin 8192) (k : Fin 1024) : ((aD m c (ix2 r k)).toReal : EReal) = aD m c (ix2 r k) := by
  have e := congrFun (h c).2.2.2.2 (ix2 r k)
  simp only [Cert.Pre_finite2.fn, Cert.Pre_finite2.fn_part1] at e
  pointwise at e
  exact Cert.Finite.real_of _ e

/-! ## The rows are rows of reals -/

include h in
theorem row_o (r : Fin 8192) : row (aO m c) r = up fun k => (aO m c (ix2 r k)).toReal := funext fun k => (real_o m h c r k).symm
include h in
theorem row_z (r : Fin 8192) : row (aZ m c) r = up fun k => (aZ m c (ix2 r k)).toReal := funext fun k => (real_z m h c r k).symm
include h in
theorem gain_up : gain m c = up fun k => (aG m c (ix1 ⟨(k : ℕ) % 128, Nat.mod_lt _ (by decide)⟩)).toReal := funext fun k => (real_g m h c _).symm
include h in
theorem dog_up (r : Fin 8192) : dog m c r = up fun k => ∑ j, (aD m c (ix2 r j)).toReal * (aW m c (ix2 k j)).toReal := by
  funext k
  rw [dog, up, ← sum_coe]
  exact Finset.sum_congr rfl fun j _ => by rw [EReal.coe_mul, real_d m h c, real_w m h c]

/-! ## The three results -/

include h in
theorem eq0 : (dats m 0 c).arrAt 5 cfg0.N = val_main_v47 (F := Ideal) (aO m c) (aZ m c) (aG m c) (aW m c) (aD m c) := by
  rw [final5]
  funext j
  obtain ⟨r, k, rfl⟩ : ∃ (r : Fin 8192) (k : Fin 1024), j = ix2 r k := ⟨_, _, eq_ix2 j⟩
  rw [v47_at]
  show dO (row (aO m c) r) (row (aZ m c) r) (gain m c) (dog m c r) k = _
  have e := dO_up (fun k => (aO m c (ix2 r k)).toReal) (fun k => (aZ m c (ix2 r k)).toReal)
    (fun k => (aG m c (ix1 ⟨(k : ℕ) % 128, Nat.mod_lt _ (by decide)⟩)).toReal)
    (fun k => ∑ j, (aD m c (ix2 r j)).toReal * (aW m c (ix2 k j)).toReal) k
  rw [← row_o m h c r, ← row_z m h c r, ← gain_up m h c, ← dog_up m h c r] at e
  exact e

include h in
theorem eq1 : (dats m 0 c).arrAt 6 cfg0.N = val_main_v48 (F := Ideal) (aO m c) (aZ m c) (aG m c) (aW m c) (aD m c) := by
  rw [final6]
  funext j
  obtain ⟨r, k, rfl⟩ : ∃ (r : Fin 8192) (k : Fin 1024), j = ix2 r k := ⟨_, _, eq_ix2 j⟩
  rw [v48_at]
  show dZ (row (aO m c) r) (row (aZ m c) r) (gain m c) (dog m c r) k = _
  have e := dZ_up (fun k => (aO m c (ix2 r k)).toReal) (fun k => (aZ m c (ix2 r k)).toReal)
    (fun k => (aG m c (ix1 ⟨(k : ℕ) % 128, Nat.mod_lt _ (by decide)⟩)).toReal)
    (fun k => ∑ j, (aD m c (ix2 r j)).toReal * (aW m c (ix2 k j)).toReal) k
  rw [← row_o m h c r, ← row_z m h c r, ← gain_up m h c, ← dog_up m h c r] at e
  exact e

theorem eq2 : (dats m 0 c).arrAt 7 cfg0.N = val_main_v50 (F := Ideal) (aO m c) (aZ m c) (aW m c) (aD m c) := by
  rw [final7]
  funext j
  obtain ⟨a, l, rfl⟩ : ∃ (a : Fin 8) (l : Fin 128), j = ix2 a l := ⟨_, _, eq_ix2 j⟩
  rw [v50_at, v28_at]
  refine ite_congr rfl (fun _ => ?_) fun _ => rfl
  refine (Finset.sum_congr rfl fun t _ => Finset.sum_comm).trans ?_
  refine Fin.sum_mul_add_congr (S := 16) (n := 512) fun t r hl => ?_
  exact Finset.sum_congr rfl fun h _ => mul_comm _ _

/-- The reference runs, leaves its arguments as they were, and has no semaphore to leave raised. -/
theorem frame_ref : Cert.quiescent_Reference2Ideal := fun m ρ _ =>
  (θ_run _ _ _).mono (fun r h => And.intro (fun c => (h c).2.2.2) (Idealize.ShloMosaic.sem_eq_zero_of_no_sems (by decide) r.2))
    (Cert.Reference2Ideal.Value.run (F := Ideal) m ρ)

/-- From memories that agree on the arguments, both programs end with equal results and with the arguments unchanged. -/
theorem algebraic : Cert.algebraic_Kernel2Ideal_Reference2Ideal_pre_finite2 := by
  intro m g m' g' hpre hag
  refine ⟨fun c => (dats m 0 c).arrAt 5 cfg0.N, fun c => (dats m 0 c).arrAt 6 cfg0.N, fun c => (dats m 0 c).arrAt 7 cfg0.N,
    Cert.Kernel2Ideal.Value.run_blocks m g, (θ_run _ _ _).mono (fun r hr c => ?_) (Cert.Reference2Ideal.Value.run m' g')⟩
  obtain ⟨e0, e1, e2, k⟩ := hr c
  obtain ⟨a0, a1, a2, a3, a4⟩ := hag c
  refine ⟨e0.trans ?_, e1.trans ?_, e2.trans ?_, k⟩
  · rw [val_main_v47_eq, a0, a1, a2, a3, a4]; exact (eq0 m hpre c).symm
  · rw [a0, a1, a2, a3, a4]; exact (val_main_v48_eq _ _ _ _ _).trans (eq1 m hpre c).symm
  · rw [a0, a1, a3, a4]; exact (val_main_v50_eq _ _ _ _).trans (eq2 m c).symm

end Cert.Post.Claim
-- ==== Proof.DvSteps.lean ====
module

public import proofs.«01_k».proof.Proof.Gen.ReferenceIdeal.Run
public import proofs.«01_k».proof.Proof.Gen.ReferenceIdeal.Step

/-! # The reference's run, over the states of its loop

The generated run of the reference, stated over the step of its loop: a valuation that holds a state holds, after one
trip, the next; what comes before the loop holds the first; and the results are read off the last. -/
@[expose] public section

noncomputable section

namespace Cert.ReferenceIdeal.Steps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v56_7) = s.main_v56_7
  f_8 : V0 (Proc.devRef .tc main_v56_8) = s.main_v56_8
  f_0 : V0 (Proc.devRef .tc main_v56_0) = s.main_v56_0
  f_1 : V0 (Proc.devRef .tc main_v56_1) = s.main_v56_1
  f_2 : V0 (Proc.devRef .tc main_v56_2) = s.main_v56_2
  f_3 : V0 (Proc.devRef .tc main_v56_3) = s.main_v56_3
  f_4 : V0 (Proc.devRef .tc main_v56_4) = s.main_v56_4
  f_5 : V0 (Proc.devRef .tc main_v56_5) = s.main_v56_5
  n_6 : V0 (Proc.devRef .tc main_v56_6) = constantI S_ 32 (BitVec.ofNat 32 j)

variable {V0 s j}

set_option maxRecDepth 8192 in
theorem al_0 (h : Holds V0 s j) : (constantI S_ 32 128#32 : (Proc.devRef .tc main_while0b_c_13 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 128#32) (V0 (Proc.devRef .tc main_v56_6)) : (Proc.devRef .tc main_while0b_v157 : DevRef τ sig).ty.Contents (Elt F)) = Cert.ReferenceIdeal.Step.b1 j s := by
  unfold Cert.ReferenceIdeal.Step.b1
  rw [← al_0 h, h.n_6]
  try rfl
set_option maxRecDepth 8192 in
theorem al_2 (h : Holds V0 s j) : (constantI S_ 32 1#32 : (Proc.devRef .tc main_while0b_c_14 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v158 V0 : (Proc.devRef .tc main_while0b_v158 : DevRef τ sig).ty.Contents (Elt F)) = Cert.ReferenceIdeal.Step.b3 j s := by
  unfold res_main_while0b_v158 Cert.ReferenceIdeal.Step.b3
  rw [← al_1 h, ← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call2_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x64x128 (V0 (Proc.devRef .tc main_v56_0)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call2_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v159 V0 : (Proc.devRef .tc main_while0b_v159 : DevRef τ sig).ty.Contents (Elt F)) = Cert.ReferenceIdeal.Step.b8 j s := by
  unfold res_main_while0b_v159 Cert.ReferenceIdeal.Step.b8
  rw [← al_7 h]
  try rfl
set_option maxRecDepth 8192 in
theorem al_9 (h : Holds V0 s j) : (constantI S_ 32 0#32 : (Proc.devRef .tc main_while0b_call3_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call3_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call3_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1 : (Proc.devRef .tc main_while0b_call3_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (shapeCast S8x1x1 (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1) shapeCasts_S1x8x1x1_S8x1x1 : (Proc.devRef .tc main_while0b_v160 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call4_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x64x128 (V0 (Proc.devRef .tc main_v56_2)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call4_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (shapeCast S8x64x128 (Host.dynamicSlice S1x8x64x128 (V0 (Proc.devRef .tc main_v56_2)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128 : (Proc.devRef .tc main_while0b_v161 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call5_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x64x128 (V0 (Proc.devRef .tc main_v56_3)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call5_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (shapeCast S8x64x128 (Host.dynamicSlice S1x8x64x128 (V0 (Proc.devRef .tc main_v56_3)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128 : (Proc.devRef .tc main_while0b_v162 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call6_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call6_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call6_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : (Proc.devRef .tc main_while0b_call6_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (shapeCast S8x64x128 (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128 : (Proc.devRef .tc main_while0b_v163 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constantI S_ 32 0#32 : (Proc.devRef .tc main_while0b_call7_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call7_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call7_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x64x64 (V0 (Proc.devRef .tc main_v56_5)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x64_S1x8x64x64 : (Proc.devRef .tc main_while0b_call7_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (shapeCast S8x64x64 (Host.dynamicSlice S1x8x64x64 (V0 (Proc.devRef .tc main_v56_5)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x64_S1x8x64x64) shapeCasts_S1x8x64x64_S8x64x64 : (Proc.devRef .tc main_while0b_v164 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (Host.dotGeneral dot_S8x128x128_S8x64x128_S8x128x64_1_2_2_1_0_0 none (V0 (Proc.devRef .tc main_v56_7)) (shapeCast S8x64x128 (Host.dynamicSlice S1x8x64x128 (V0 (Proc.devRef .tc main_v56_2)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128) : (Proc.devRef .tc main_while0b_v165 : DevRef τ sig).ty.Contents (Elt F)) = Cert.ReferenceIdeal.Step.b34 j s := by
  unfold Cert.ReferenceIdeal.Step.b34
  rw [← al_18 h, h.f_7]
  try rfl
set_option maxRecDepth 8192 in
theorem al_35 (h : Holds V0 s j) : (transpose S8x64x128 [0, 2, 1] (Host.dotGeneral dot_S8x128x128_S8x64x128_S8x128x64_1_2_2_1_0_0 none (V0 (Proc.devRef .tc main_v56_7)) (shapeCast S8x64x128 (Host.dynamicSlice S1x8x64x128 (V0 (Proc.devRef .tc main_v56_2)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x64_S8x64x128_0_2_1 : (Proc.devRef .tc main_while0b_v166 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S8x128x128 ![0, 1, 2] bcast_S8x1x1_S8x128x128_0_1_2 (shapeCast S8x1x1 (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1) shapeCasts_S1x8x1x1_S8x1x1) : (Proc.devRef .tc main_while0b_v167 : DevRef τ sig).ty.Contents (Elt F)) = Cert.ReferenceIdeal.Step.b36 j s := by
  unfold Cert.ReferenceIdeal.Step.b36
  rw [← al_13 h]
  try rfl
set_option maxRecDepth 8192 in
theorem al_37 (h : Holds V0 s j) : (mulf (V0 (Proc.devRef .tc main_v56_7)) (broadcastInDim S8x128x128 ![0, 1, 2] bcast_S8x1x1_S8x128x128_0_1_2 (shapeCast S8x1x1 (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1) shapeCasts_S1x8x1x1_S8x1x1)) : (Proc.devRef .tc main_while0b_v168 : DevRef τ sig).ty.Contents (Elt F)) = Cert.ReferenceIdeal.Step.b37 j s := by
  unfold Cert.ReferenceIdeal.Step.b37
  rw [← al_36 h, h.f_7]
  try rfl
set_option maxRecDepth 8192 in
theorem al_38 (h : Holds V0 s j) : (Host.dotGeneral dot_S8x64x128_S8x64x64_S8x128x64_1_1_2_2_0_0 none (res_main_while0b_v159 V0) (shapeCast S8x64x64 (Host.dynamicSlice S1x8x64x64 (V0 (Proc.devRef .tc main_v56_5)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x64_S1x8x64x64) shapeCasts_S1x8x64x64_S8x64x64) : (Proc.devRef .tc main_while0b_v169 : DevRef τ sig).ty.Contents (Elt F)) = Cert.ReferenceIdeal.Step.b38 j s := by
  unfold Cert.ReferenceIdeal.Step.b38
  rw [← al_8 h, ← al_33 h]
  try rfl
set_option maxRecDepth 8192 in
theorem al_39 (h : Holds V0 s j) : (transpose S8x64x128 [0, 2, 1] (Host.dotGeneral dot_S8x64x128_S8x64x64_S8x128x64_1_1_2_2_0_0 none (res_main_while0b_v159 V0) (shapeCast S8x64x64 (Host.dynamicSlice S1x8x64x64 (V0 (Proc.devRef .tc main_v56_5)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x64_S1x8x64x64) shapeCasts_S1x8x64x64_S8x64x64)) transposes_S8x128x64_S8x64x128_0_2_1 : (Proc.devRef .tc main_while0b_v170 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (res_main_while0b_v171 V0 : (Proc.devRef .tc main_while0b_v171 : DevRef τ sig).ty.Contents (Elt F)) = Cert.ReferenceIdeal.Step.b40 j s := by
  unfold res_main_while0b_v171 Cert.ReferenceIdeal.Step.b40
  rw [← al_35 h, ← al_39 h]
  try rfl
set_option maxRecDepth 8192 in
theorem al_41 (h : Holds V0 s j) : (Host.dotGeneral dot_S8x64x128_S8x64x128_S8x128x128_1_1_2_2_0_0 none (res_main_while0b_v159 V0) (shapeCast S8x64x128 (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128) : (Proc.devRef .tc main_while0b_v172 : DevRef τ sig).ty.Contents (Elt F)) = Cert.ReferenceIdeal.Step.b41 j s := by
  unfold Cert.ReferenceIdeal.Step.b41
  rw [← al_8 h, ← al_28 h]
  try rfl
set_option maxRecDepth 8192 in
theorem al_42 (h : Holds V0 s j) : (transpose S8x128x128 [0, 2, 1] (Host.dotGeneral dot_S8x64x128_S8x64x128_S8x128x128_1_1_2_2_0_0 none (res_main_while0b_v159 V0) (shapeCast S8x64x128 (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1 : (Proc.devRef .tc main_while0b_v173 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (addf (mulf (V0 (Proc.devRef .tc main_v56_7)) (broadcastInDim S8x128x128 ![0, 1, 2] bcast_S8x1x1_S8x128x128_0_1_2 (shapeCast S8x1x1 (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1) shapeCasts_S1x8x1x1_S8x1x1))) (transpose S8x128x128 [0, 2, 1] (Host.dotGeneral dot_S8x64x128_S8x64x128_S8x128x128_1_1_2_2_0_0 none (res_main_while0b_v159 V0) (shapeCast S8x64x128 (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1) : (Proc.devRef .tc main_while0b_v174 : DevRef τ sig).ty.Contents (Elt F)) = Cert.ReferenceIdeal.Step.b43 j s := by
  unfold Cert.ReferenceIdeal.Step.b43
  rw [← al_37 h, ← al_42 h]
  try rfl
set_option maxRecDepth 8192 in
theorem al_44 (h : Holds V0 s j) : (Host.negf (res_main_while0b_v171 V0) : (Proc.devRef .tc main_while0b_v175 : DevRef τ sig).ty.Contents (Elt F)) = Cert.ReferenceIdeal.Step.b44 j s := by
  unfold Cert.ReferenceIdeal.Step.b44
  rw [← al_40 h]
  try rfl
set_option maxRecDepth 8192 in
theorem al_45 (h : Holds V0 s j) : (Host.dotGeneral dot_S8x64x128_S8x64x128_S8x128x128_1_1_2_2_0_0 none (Host.negf (res_main_while0b_v171 V0)) (shapeCast S8x64x128 (Host.dynamicSlice S1x8x64x128 (V0 (Proc.devRef .tc main_v56_3)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128) : (Proc.devRef .tc main_while0b_v176 : DevRef τ sig).ty.Contents (Elt F)) = Cert.ReferenceIdeal.Step.b45 j s := by
  unfold Cert.ReferenceIdeal.Step.b45
  rw [← al_44 h, ← al_23 h]
  try rfl
set_option maxRecDepth 8192 in
theorem al_46 (h : Holds V0 s j) : (transpose S8x128x128 [0, 2, 1] (Host.dotGeneral dot_S8x64x128_S8x64x128_S8x128x128_1_1_2_2_0_0 none (Host.negf (res_main_while0b_v171 V0)) (shapeCast S8x64x128 (Host.dynamicSlice S1x8x64x128 (V0 (Proc.devRef .tc main_v56_3)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1 : (Proc.devRef .tc main_while0b_v177 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (addf (addf (mulf (V0 (Proc.devRef .tc main_v56_7)) (broadcastInDim S8x128x128 ![0, 1, 2] bcast_S8x1x1_S8x128x128_0_1_2 (shapeCast S8x1x1 (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1) shapeCasts_S1x8x1x1_S8x1x1))) (transpose S8x128x128 [0, 2, 1] (Host.dotGeneral dot_S8x64x128_S8x64x128_S8x128x128_1_1_2_2_0_0 none (res_main_while0b_v159 V0) (shapeCast S8x64x128 (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1)) (transpose S8x128x128 [0, 2, 1] (Host.dotGeneral dot_S8x64x128_S8x64x128_S8x128x128_1_1_2_2_0_0 none (Host.negf (res_main_while0b_v171 V0)) (shapeCast S8x64x128 (Host.dynamicSlice S1x8x64x128 (V0 (Proc.devRef .tc main_v56_3)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1) : (Proc.devRef .tc main_while0b_v178 : DevRef τ sig).ty.Contents (Elt F)) = Cert.ReferenceIdeal.Step.b47 j s := by
  unfold Cert.ReferenceIdeal.Step.b47
  rw [← al_43 h, ← al_46 h]
  try rfl
set_option maxRecDepth 8192 in
theorem al_48 (h : Holds V0 s j) : (broadcastInDim S1x8x64x128 ![1, 2, 3] bcast_S8x64x128_S1x8x64x128_1_2_3 (res_main_while0b_v171 V0) : (Proc.devRef .tc main_while0b_call8_v0 : DevRef τ sig).ty.Contents (Elt F)) = Cert.ReferenceIdeal.Step.b48 j s := by
  unfold Cert.ReferenceIdeal.Step.b48
  rw [← al_40 h]
  try rfl
set_option maxRecDepth 8192 in
theorem al_49 (h : Holds V0 s j) : (constantI S_ 32 0#32 : (Proc.devRef .tc main_while0b_call8_c : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call8_c_0 : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call8_c_1 : DevRef τ sig).ty.Contents (Elt F)) = Cert.ReferenceIdeal.Step.b51 j s := by
  unfold Cert.ReferenceIdeal.Step.b51
  rfl
set_option maxRecDepth 8192 in
theorem al_52 (h : Holds V0 s j) : (Host.dynamicUpdateSlice (V0 (Proc.devRef .tc main_v56_8)) (broadcastInDim S1x8x64x128 ![1, 2, 3] bcast_S8x64x128_S1x8x64x128_1_2_3 (res_main_while0b_v171 V0)) (fun k => (((![res_main_while0b_v158 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : (Proc.devRef .tc main_while0b_v179 : DevRef τ sig).ty.Contents (Elt F)) = Cert.ReferenceIdeal.Step.b52 j s := by
  unfold Cert.ReferenceIdeal.Step.b52
  rw [← al_48 h, ← al_3 h, ← al_49 h, ← al_50 h, ← al_51 h, h.f_8]
  try rfl

/-! One trip's step of the carried values is `step`, field by field; a counter steps to the next number. -/

theorem step_7 (h : Holds V0 s j) : step_main_v56_7 V0 = (step j s).main_v56_7 := by
  unfold step_main_v56_7 Cert.ReferenceIdeal.Step.step
  show id (addf (addf (mulf (V0 (Proc.devRef .tc main_v56_7)) (broadcastInDim S8x128x128 ![0, 1, 2] bcast_S8x1x1_S8x128x128_0_1_2 (shapeCast S8x1x1 (Host.dynamicSlice S1x8x1x1 (V0 (Proc.devRef .tc main_v56_1)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x1x1_S1x8x1x1) shapeCasts_S1x8x1x1_S8x1x1))) (transpose S8x128x128 [0, 2, 1] (Host.dotGeneral dot_S8x64x128_S8x64x128_S8x128x128_1_1_2_2_0_0 none (res_main_while0b_v159 V0) (shapeCast S8x64x128 (Host.dynamicSlice S1x8x64x128 (V0 (Proc.devRef .tc main_v56_4)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1)) (transpose S8x128x128 [0, 2, 1] (Host.dotGeneral dot_S8x64x128_S8x64x128_S8x128x128_1_1_2_2_0_0 none (Host.negf (res_main_while0b_v171 V0)) (shapeCast S8x64x128 (Host.dynamicSlice S1x8x64x128 (V0 (Proc.devRef .tc main_v56_3)) (fun k => (((![res_main_while0b_v158 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128)) transposes_S8x128x128_S8x128x128_0_2_1)) = _
  exact al_47 h
theorem step_8 (h : Holds V0 s j) : step_main_v56_8 V0 = (step j s).main_v56_8 := by
  unfold step_main_v56_8 Cert.ReferenceIdeal.Step.step
  show id (Host.dynamicUpdateSlice (V0 (Proc.devRef .tc main_v56_8)) (broadcastInDim S1x8x64x128 ![1, 2, 3] bcast_S8x64x128_S1x8x64x128_1_2_3 (res_main_while0b_v171 V0)) (fun k => (((![res_main_while0b_v158 V0, constantI S_ 32 0#32, constantI S_ 32 0#32, constantI S_ 32 0#32] : Fin 4 → (⟨S_, .i32⟩ : BufTy).Contents (Elt F))) k (Shape.Idx.first h_S_)).toInt) updateFits_S128x8x64x128_S1x8x64x128) = _
  exact al_52 h
theorem step_6 (h : Holds V0 s j) : step_main_v56_6 V0 = constantI S_ 32 (BitVec.ofNat 32 (j + 1)) := by
  unfold step_main_v56_6
  rw [h.n_6]
  funext i
  show BitVec.ofNat 32 j + 1#32 = BitVec.ofNat 32 (j + 1)
  simp only [BitVec.ofNat_add]

set_option maxRecDepth 8192 in
theorem out_main_v156_holds (h : Holds V0 s j) {x_main_arg1 : (⟨S8192x1024, .f32⟩ : BufTy).Contents (Elt F)} (h_main_arg1 : V0 (Proc.devRef .tc main_arg1) = x_main_arg1) {x_main_arg2 : (⟨S8192x1024, .f32⟩ : BufTy).Contents (Elt F)} (h_main_arg2 : V0 (Proc.devRef .tc main_arg2) = x_main_arg2) {x_main_arg3 : (⟨S8192x128, .f32⟩ : BufTy).Contents (Elt F)} (h_main_arg3 : V0 (Proc.devRef .tc main_arg3) = x_main_arg3) {x_main_arg4 : (⟨S128x8x128x128, .f32⟩ : BufTy).Contents (Elt F)} (h_main_arg4 : V0 (Proc.devRef .tc main_arg4) = x_main_arg4) {x_main_arg5 : (⟨S128x8x64x64, .bf16⟩ : BufTy).Contents (Elt F)} (h_main_arg5 : V0 (Proc.devRef .tc main_arg5) = x_main_arg5) {x_main_arg6 : (⟨S8192x1024, .f32⟩ : BufTy).Contents (Elt F)} (h_main_arg6 : V0 (Proc.devRef .tc main_arg6) = x_main_arg6) : out_main_v156 V0 = Cert.ReferenceIdeal.Step.R_main_v156 s x_main_arg1 x_main_arg2 x_main_arg3 x_main_arg4 x_main_arg5 x_main_arg6 := by
  unfold out_main_v156 Cert.ReferenceIdeal.Step.R_main_v156
  rw [h_main_arg1, h_main_arg2, h_main_arg3, h_main_arg4, h_main_arg5, h_main_arg6]
  try rfl

set_option maxRecDepth 8192 in
theorem out_main_v70_holds (h : Holds V0 s j) {x_main_arg3 : (⟨S8192x128, .f32⟩ : BufTy).Contents (Elt F)} (h_main_arg3 : V0 (Proc.devRef .tc main_arg3) = x_main_arg3) {x_main_arg5 : (⟨S128x8x64x64, .bf16⟩ : BufTy).Contents (Elt F)} (h_main_arg5 : V0 (Proc.devRef .tc main_arg5) = x_main_arg5) : out_main_v70 V0 = Cert.ReferenceIdeal.Step.R_main_v70 s x_main_arg3 x_main_arg5 := by
  unfold out_main_v70 Cert.ReferenceIdeal.Step.R_main_v70
  rw [h.f_8, h_main_arg3, h_main_arg5]
  try rfl

/-- One trip keeps the valuation holding: `step` of the state, the same set-up values, the next number. -/
theorem holds_step (h : Holds V0 s j) : Holds (STEP V0) (step j s) (j + 1) where
  f_7 := (STEP_main_v56_7 V0).trans (step_7 h)
  f_8 := (STEP_main_v56_8 V0).trans (step_8 h)
  n_6 := (STEP_main_v56_6 V0).trans (step_6 h)
  f_0 := (STEP_main_v56_0 V0).trans h.f_0
  f_1 := (STEP_main_v56_1 V0).trans h.f_1
  f_2 := (STEP_main_v56_2 V0).trans h.f_2
  f_3 := (STEP_main_v56_3 V0).trans h.f_3
  f_4 := (STEP_main_v56_4 V0).trans h.f_4
  f_5 := (STEP_main_v56_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results, `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v156) = Cert.ReferenceIdeal.Step.R_main_v156 (it c 128) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v70) = Cert.ReferenceIdeal.Step.R_main_v70 (it c 128) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 128
    ⟨(h c).1.trans (out_main_v156_holds hk (iter_main_arg1 m c 128) (iter_main_arg2 m c 128) (iter_main_arg3 m c 128) (iter_main_arg4 m c 128) (iter_main_arg5 m c 128) (iter_main_arg6 m c 128)), (h c).2.1.trans (out_main_v70_holds hk (iter_main_arg3 m c 128) (iter_main_arg5 m c 128)), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.Steps

end
-- ==== Proof.DqPure.lean ====
module
public import proofs.«01_k».proof.Proof.Gen.KernelIdeal.Skeleton
public import Idealize.ShloMosaic.Lib.Pointwise
/-! # The gradient of the queries, one chunk of one head at a time

What the loop's body stores for a head, as a formula of the chunk's keys `K`, values `V`, output gradient `D`, gates
`g` (the cumulative log decay) and `b`, entering state `S` and inverse `P`, all over the extended reals. -/
@[expose] public section
set_option maxRecDepth 16384
noncomputable section
open Idealize.ShloMosaic Idealize.ShloMosaic.TcCoe
namespace Cert.Dq

/-- A chunk of one head. -/
abbrev Chunk := Fin 64 → Fin 128 → EReal

/-- The inverse's product with the values. -/
def uu (P : Fin 64 → Fin 64 → EReal) (V : Chunk) (b : Fin 64 → EReal) : Chunk := fun r c => ∑ j, P r j * (V j c * b j)
/-- The inverse's product with the decayed keys. -/
def ww (P : Fin 64 → Fin 64 → EReal) (K : Chunk) (b g : Fin 64 → EReal) : Chunk := fun r c => ∑ j, P r j * (K j c * b j * Ideal.exp (g j))
/-- The values the delta rule writes. -/
def vnew (K V : Chunk) (g b : Fin 64 → EReal) (S : Fin 128 → Fin 128 → EReal) (P : Fin 64 → Fin 64 → EReal) : Chunk :=
  fun r c => uu P V b r c - ∑ e, ww P K b g r e * S e c
/-- The gradient of the chunk's queries. -/
def dq (K V D : Chunk) (g b : Fin 64 → EReal) (S : Fin 128 → Fin 128 → EReal) (P : Fin 64 → Fin 64 → EReal) : Chunk := fun r c =>
  (∑ e, D r e * S c e) * Ideal.exp (g r)
    + ∑ j, (if j ≤ r then ∑ e, D r e * vnew K V g b S P j e else 0) * (if j ≤ r then Ideal.exp (g r - g j) else 0) * K j c

end Cert.Dq

namespace Cert.KernelIdeal.Dq
open Cert.KernelIdeal Cert.KernelIdeal.Gen Cert.Dq

/-- The causal mask, by the signed comparison of two row numbers. -/
theorem sel (r j : Fin 64) (x y : EReal) :
    Scalar.select (IntOp.cmpi .sge (BitVec.ofNat 32 r.val) (BitVec.ofNat 32 j.val)) x y = if j ≤ r then x else y := by
  have h : IntOp.cmpi .sge (BitVec.ofNat 32 r.val) (BitVec.ofNat 32 j.val) = if j ≤ r then 1#1 else 0#1 := by
    revert r j; decide +kernel
  rw [h]; split_ifs <;> rfl

/-- The two spellings of the causal part. -/
theorem close (K V D : Chunk) (g b : Fin 64 → EReal) (S : Fin 128 → Fin 128 → EReal) (P : Fin 64 → Fin 64 → EReal) (r : Fin 64) (c : Fin 128) :
    (∑ e, D r e * S c e) * Ideal.exp (g r) + ∑ j, (if j ≤ r then (if j ≤ r then (∑ e, D r e * (∑ i, P j i * (V i e * b i)
      - ∑ a, (∑ i, P j i * (K i a * b i * Ideal.exp (g i))) * S a e)) * Ideal.exp (if j ≤ r then g r - g j else 0) * K j c else 0) else 0)
      = dq K V D g b S P r c := by
  refine congrArg _ (Finset.sum_congr rfl fun j _ => ?_)
  by_cases h : j ≤ r
  · simp only [if_pos h, vnew, uu, ww]
  · simp only [if_neg h, zero_mul]

/-- The gradient of head 0's queries, as the loop's body forms it from what it loads. -/
def pay0 (k v d : Vec Ideal S64x128 .f32) (g : Vec Ideal S64x128 .f32) (s : Vec Ideal S1x1x128x128 .f32) (p : Vec Ideal S1x1x64x64 .bf16) : FVec Ideal S64x128 .f32 :=
  (k0_pay628 (k0_pay100 k) (k0_pay450 (k0_pay67 (broadcastTo S64x128 (shapeCast S64x1 (extractStridedSlice S64x1 ![0, 8] g (by decide +kernel)) (by decide +kernel)) (by decide +kernel))) (k0_pay409 (k0_pay239 (shapeCast S128x128 s (by decide +kernel))) (k0_pay349 d))) (k0_pay509 k0_pay36 (k0_pay43 (broadcastTo S64x128 (shapeCast S64x1 (extractStridedSlice S64x1 ![0, 8] g (by decide +kernel)) (by decide +kernel)) (by decide +kernel))) (k0_pay384 (k0_pay263 (k0_pay125 (k0_pay123 (k0_pay4 p)) (k0_pay124 (broadcastTo S64x128 (shapeCast S64x1 (extractStridedSlice S64x1 ![0, 0] g (by decide +kernel)) (by decide +kernel)) (by decide +kernel)) v)) (k0_pay221 (shapeCast S128x128 s (by decide +kernel)) (k0_pay149 (k0_pay4 p) (k0_pay59 (broadcastTo S64x128 (shapeCast S64x1 (extractStridedSlice S64x1 ![0, 0] g (by decide +kernel)) (by decide +kernel)) (by decide +kernel)) k) (k0_pay67 (broadcastTo S64x128 (shapeCast S64x1 (extractStridedSlice S64x1 ![0, 8] g (by decide +kernel)) (by decide +kernel)) (by decide +kernel)))))) (k0_pay350 d))))

set_option maxHeartbeats 4000000 in
theorem pay0_at (k v d : Vec Ideal S64x128 .f32) (g : Vec Ideal S64x128 .f32) (s : Vec Ideal S1x1x128x128 .f32) (p : Vec Ideal S1x1x64x64 .bf16) (r : Fin 64) (c : Fin 128) :
    pay0 k v d g s p (ix2 r c) = dq (fun j c => k (ix2 j c)) (fun j c => v (ix2 j c)) (fun j c => d (ix2 j c))
      (fun j => g (ix2 j 8)) (fun j => g (ix2 j 0)) (fun a b => s (ix4 0 0 a b)) (fun a b => p (ix4 0 0 a b)) r c := by
  pointwise [pay0, k0_pay4, k0_pay36, k0_pay42, k0_pay43, k0_pay59, k0_pay67, k0_pay100, k0_pay123, k0_pay124, k0_pay125, k0_pay147, k0_pay148, k0_pay149, k0_pay219, k0_pay220, k0_pay221, k0_pay239, k0_pay254, k0_pay263, k0_pay349, k0_pay350, k0_pay384, k0_pay409, k0_pay450, k0_pay507, k0_pay509, k0_pay628]
  simp only [sel]
  exact close (fun j c => k (ix2 j c)) (fun j c => v (ix2 j c)) (fun j c => d (ix2 j c)) (fun j => g (ix2 j 8)) (fun j => g (ix2 j 0)) (fun a b => s (ix4 0 0 a b)) (fun a b => p (ix4 0 0 a b)) r c

/-- The gradient of head 1's queries, as the loop's body forms it from what it loads. -/
def pay1 (k v d : Vec Ideal S64x128 .f32) (g : Vec Ideal S64x128 .f32) (s : Vec Ideal S1x1x128x128 .f32) (p : Vec Ideal S1x1x64x64 .bf16) : FVec Ideal S64x128 .f32 :=
  (k0_pay626 (k0_pay103 k) (k0_pay448 (k0_pay68 (broadcastTo S64x128 (shapeCast S64x1 (extractStridedSlice S64x1 ![0, 9] g (by decide +kernel)) (by decide +kernel)) (by decide +kernel))) (k0_pay407 (k0_pay241 (shapeCast S128x128 s (by decide +kernel))) (k0_pay347 d))) (k0_pay506 k0_pay36 (k0_pay45 (broadcastTo S64x128 (shapeCast S64x1 (extractStridedSlice S64x1 ![0, 9] g (by decide +kernel)) (by decide +kernel)) (by decide +kernel))) (k0_pay382 (k0_pay265 (k0_pay128 (k0_pay5 p) (broadcastTo S64x128 (shapeCast S64x1 (extractStridedSlice S64x1 ![0, 1] g (by decide +kernel)) (by decide +kernel)) (by decide +kernel)) v) (k0_pay224 (shapeCast S128x128 s (by decide +kernel)) (k0_pay152 (k0_pay5 p) (k0_pay60 (broadcastTo S64x128 (shapeCast S64x1 (extractStridedSlice S64x1 ![0, 1] g (by decide +kernel)) (by decide +kernel)) (by decide +kernel)) k) (k0_pay68 (broadcastTo S64x128 (shapeCast S64x1 (extractStridedSlice S64x1 ![0, 9] g (by decide +kernel)) (by decide +kernel)) (by decide +kernel)))))) (k0_pay348 d))))

set_option maxHeartbeats 4000000 in
theorem pay1_at (k v d : Vec Ideal S64x128 .f32) (g : Vec Ideal S64x128 .f32) (s : Vec Ideal S1x1x128x128 .f32) (p : Vec Ideal S1x1x64x64 .bf16) (r : Fin 64) (c : Fin 128) :
    pay1 k v d g s p (ix2 r c) = dq (fun j c => k (ix2 j c)) (fun j c => v (ix2 j c)) (fun j c => d (ix2 j c))
      (fun j => g (ix2 j 9)) (fun j => g (ix2 j 1)) (fun a b => s (ix4 0 0 a b)) (fun a b => p (ix4 0 0 a b)) r c := by
  pointwise [pay1, k0_pay5, k0_pay36, k0_pay44, k0_pay45, k0_pay60, k0_pay68, k0_pay103, k0_pay126, k0_pay127, k0_pay128, k0_pay150, k0_pay151, k0_pay152, k0_pay222, k0_pay223, k0_pay224, k0_pay241, k0_pay255, k0_pay265, k0_pay347, k0_pay348, k0_pay382, k0_pay407, k0_pay448, k0_pay504, k0_pay506, k0_pay626]
  simp only [sel]
  exact close (fun j c => k (ix2 j c)) (fun j c => v (ix2 j c)) (fun j c => d (ix2 j c)) (fun j => g (ix2 j 9)) (fun j => g (ix2 j 1)) (fun a b => s (ix4 0 0 a b)) (fun a b => p (ix4 0 0 a b)) r c

/-- The gradient of head 2's queries, as the loop's body forms it from what it loads. -/
def pay2 (k v d : Vec Ideal S64x128 .f32) (g : Vec Ideal S64x128 .f32) (s : Vec Ideal S1x1x128x128 .f32) (p : Vec Ideal S1x1x64x64 .bf16) : FVec Ideal S64x128 .f32 :=
  (k0_pay624 (k0_pay106 k) (k0_pay446 (k0_pay69 (broadcastTo S64x128 (shapeCast S64x1 (extractStridedSlice S64x1 ![0, 10] g (by decide +kernel)) (by decide +kernel)) (by decide +kernel))) (k0_pay405 (k0_pay243 (shapeCast S128x128 s (by decide +kernel))) (k0_pay345 d) (constant S64x128 .f32 0x00000000#32))) (k0_pay503 k0_pay36 (k0_pay47 (broadcastTo S64x128 (shapeCast S64x1 (extractStridedSlice S64x1 ![0, 10] g (by decide +kernel)) (by decide +kernel)) (by decide +kernel))) (k0_pay380 (k0_pay267 (k0_pay131 (k0_pay6 p) (broadcastTo S64x128 (shapeCast S64x1 (extractStridedSlice S64x1 ![0, 2] g (by decide +kernel)) (by decide +kernel)) (by decide +kernel)) v) (k0_pay227 (shapeCast S128x128 s (by decide +kernel)) (k0_pay155 (k0_pay6 p) (k0_pay61 (broadcastTo S64x128 (shapeCast S64x1 (extractStridedSlice S64x1 ![0, 2] g (by decide +kernel)) (by decide +kernel)) (by decide +kernel)) k) (k0_pay69 (broadcastTo S64x128 (shapeCast S64x1 (extractStridedSlice S64x1 ![0, 10] g (by decide +kernel)) (by decide +kernel)) (by decide +kernel)))))) (k0_pay346 d))))

set_option maxHeartbeats 4000000 in
theorem pay2_at (k v d : Vec Ideal S64x128 .f32) (g : Vec Ideal S64x128 .f32) (s : Vec Ideal S1x1x128x128 .f32) (p : Vec Ideal S1x1x64x64 .bf16) (r : Fin 64) (c : Fin 128) :
    pay2 k v d g s p (ix2 r c) = dq (fun j c => k (ix2 j c)) (fun j c => v (ix2 j c)) (fun j c => d (ix2 j c))
      (fun j => g (ix2 j 10)) (fun j => g (ix2 j 2)) (fun a b => s (ix4 0 0 a b)) (fun a b => p (ix4 0 0 a b)) r c := by
  pointwise [pay2, k0_pay6, k0_pay36, k0_pay46, k0_pay47, k0_pay61, k0_pay69, k0_pay106, k0_pay129, k0_pay130, k0_pay131, k0_pay153, k0_pay154, k0_pay155, k0_pay225, k0_pay226, k0_pay227, k0_pay243, k0_pay256, k0_pay267, k0_pay345, k0_pay346, k0_pay380, k0_pay405, k0_pay446, k0_pay501, k0_pay503, k0_pay624]
  simp only [sel]
  exact close (fun j c => k (ix2 j c)) (fun j c => v (ix2 j c)) (fun j c => d (ix2 j c)) (fun j => g (ix2 j 10)) (fun j => g (ix2 j 2)) (fun a b => s (ix4 0 0 a b)) (fun a b => p (ix4 0 0 a b)) r c

/-- The gradient of head 3's queries, as the loop's body forms it from what it loads. -/
def pay3 (k v d : Vec Ideal S64x128 .f32) (g : Vec Ideal S64x128 .f32) (s : Vec Ideal S1x1x128x128 .f32) (p : Vec Ideal S1x1x64x64 .bf16) : FVec Ideal S64x128 .f32 :=
  (k0_pay622 (k0_pay109 k) (k0_pay444 (k0_pay70 (broadcastTo S64x128 (shapeCast S64x1 (extractStridedSlice S64x1 ![0, 11] g (by decide +kernel)) (by decide +kernel)) (by decide +kernel))) (k0_pay402 (k0_pay245 (shapeCast S128x128 s (by decide +kernel))) (k0_pay343 d))) (k0_pay500 k0_pay36 (k0_pay50 k0_pay36 (k0_pay48 (broadcastTo S64x128 (shapeCast S64x1 (extractStridedSlice S64x1 ![0, 11] g (by decide +kernel)) (by decide +kernel)) (by decide +kernel))) k0_pay49) (k0_pay378 (k0_pay269 (k0_pay134 (k0_pay7 p) (broadcastTo S64x128 (shapeCast S64x1 (extractStridedSlice S64x1 ![0, 3] g (by decide +kernel)) (by decide +kernel)) (by decide +kernel)) v) (k0_pay228 (k0_pay158 (k0_pay7 p) (k0_pay62 (broadcastTo S64x128 (shapeCast S64x1 (extractStridedSlice S64x1 ![0, 3] g (by decide +kernel)) (by decide +kernel)) (by decide +kernel)) k) (k0_pay70 (broadcastTo S64x128 (shapeCast S64x1 (extractStridedSlice S64x1 ![0, 11] g (by decide +kernel)) (by decide +kernel)) (by decide +kernel))))) (k0_pay229 (shapeCast S128x128 s (by decide +kernel))) (constant S64x128 .f32 0x00000000#32)) (k0_pay344 d))))

set_option maxHeartbeats 4000000 in
theorem pay3_at (k v d : Vec Ideal S64x128 .f32) (g : Vec Ideal S64x128 .f32) (s : Vec Ideal S1x1x128x128 .f32) (p : Vec Ideal S1x1x64x64 .bf16) (r : Fin 64) (c : Fin 128) :
    pay3 k v d g s p (ix2 r c) = dq (fun j c => k (ix2 j c)) (fun j c => v (ix2 j c)) (fun j c => d (ix2 j c))
      (fun j => g (ix2 j 11)) (fun j => g (ix2 j 3)) (fun a b => s (ix4 0 0 a b)) (fun a b => p (ix4 0 0 a b)) r c := by
  pointwise [pay3, k0_pay7, k0_pay36, k0_pay48, k0_pay49, k0_pay50, k0_pay62, k0_pay70, k0_pay109, k0_pay132, k0_pay133, k0_pay134, k0_pay156, k0_pay157, k0_pay158, k0_pay228, k0_pay229, k0_pay245, k0_pay257, k0_pay269, k0_pay343, k0_pay344, k0_pay378, k0_pay402, k0_pay444, k0_pay498, k0_pay500, k0_pay622]
  simp only [sel]
  exact close (fun j c => k (ix2 j c)) (fun j c => v (ix2 j c)) (fun j c => d (ix2 j c)) (fun j => g (ix2 j 11)) (fun j => g (ix2 j 3)) (fun a b => s (ix4 0 0 a b)) (fun a b => p (ix4 0 0 a b)) r c

/-- The gradient of head 4's queries, as the loop's body forms it from what it loads. -/
def pay4 (k v d : Vec Ideal S64x128 .f32) (g : Vec Ideal S64x128 .f32) (s : Vec Ideal S1x1x128x128 .f32) (p : Vec Ideal S1x1x64x64 .bf16) : FVec Ideal S64x128 .f32 :=
  (k0_pay620 (k0_pay112 k) (k0_pay442 (k0_pay71 (broadcastTo S64x128 (shapeCast S64x1 (extractStridedSlice S64x1 ![0, 12] g (by decide +kernel)) (by decide +kernel)) (by decide +kernel))) (k0_pay400 (k0_pay247 (shapeCast S128x128 s (by decide +kernel))) (k0_pay341 d))) (k0_pay497 k0_pay36 (k0_pay52 (broadcastTo S64x128 (shapeCast S64x1 (extractStridedSlice S64x1 ![0, 12] g (by decide +kernel)) (by decide +kernel)) (by decide +kernel)) k0_pay36 (k0_pay38 (broadcastTo S64x128 (shapeCast S64x1 (extractStridedSlice S64x1 ![0, 12] g (by decide +kernel)) (by decide +kernel)) (by decide +kernel)))) (k0_pay376 (k0_pay374 (k0_pay271 (shapeCast S128x128 s (by decide +kernel)) (k0_pay137 (k0_pay8 p) (broadcastTo S64x128 (shapeCast S64x1 (extractStridedSlice S64x1 ![0, 4] g (by decide +kernel)) (by decide +kernel)) (by decide +kernel)) v) (k0_pay161 (k0_pay159 (k0_pay8 p)) (k0_pay160 (k0_pay63 (broadcastTo S64x128 (shapeCast S64x1 (extractStridedSlice S64x1 ![0, 4] g (by decide +kernel)) (by decide +kernel)) (by decide +kernel)) k) (k0_pay71 (broadcastTo S64x128 (shapeCast S64x1 (extractStridedSlice S64x1 ![0, 12] g (by decide +kernel)) (by decide +kernel)) (by decide +kernel)))))) (k0_pay342 d)))))

set_option maxHeartbeats 4000000 in
theorem pay4_at (k v d : Vec Ideal S64x128 .f32) (g : Vec Ideal S64x128 .f32) (s : Vec Ideal S1x1x128x128 .f32) (p : Vec Ideal S1x1x64x64 .bf16) (r : Fin 64) (c : Fin 128) :
    pay4 k v d g s p (ix2 r c) = dq (fun j c => k (ix2 j c)) (fun j c => v (ix2 j c)) (fun j c => d (ix2 j c))
      (fun j => g (ix2 j 12)) (fun j => g (ix2 j 4)) (fun a b => s (ix4 0 0 a b)) (fun a b => p (ix4 0 0 a b)) r c := by
  pointwise [pay4, k0_pay8, k0_pay36, k0_pay38, k0_pay51, k0_pay52, k0_pay63, k0_pay71, k0_pay112, k0_pay135, k0_pay136, k0_pay137, k0_pay159, k0_pay160, k0_pay161, k0_pay230, k0_pay231, k0_pay247, k0_pay258, k0_pay271, k0_pay341, k0_pay342, k0_pay374, k0_pay376, k0_pay400, k0_pay442, k0_pay495, k0_pay497, k0_pay620]
  simp only [sel]
  exact close (fun j c => k (ix2 j c)) (fun j c => v (ix2 j c)) (fun j c => d (ix2 j c)) (fun j => g (ix2 j 12)) (fun j => g (ix2 j 4)) (fun a b => s (ix4 0 0 a b)) (fun a b => p (ix4 0 0 a b)) r c

/-- The gradient of head 5's queries, as the loop's body forms it from what it loads. -/
def pay5 (k v d : Vec Ideal S64x128 .f32) (g : Vec Ideal S64x128 .f32) (s : Vec Ideal S1x1x128x128 .f32) (p : Vec Ideal S1x1x64x64 .bf16) : FVec Ideal S64x128 .f32 :=
  (k0_pay618 (k0_pay115 k) (k0_pay440 (k0_pay72 (broadcastTo S64x128 (shapeCast S64x1 (extractStridedSlice S64x1 ![0, 13] g (by decide +kernel)) (by decide +kernel)) (by decide +kernel))) (k0_pay398 (k0_pay249 (shapeCast S128x128 s (by decide +kernel))) (k0_pay339 d))) (k0_pay494 k0_pay36 (k0_pay54 (broadcastTo S64x128 (shapeCast S64x1 (extractStridedSlice S64x1 ![0, 13] g (by decide +kernel)) (by decide +kernel)) (by decide +kernel)) k0_pay36 (k0_pay39 (broadcastTo S64x128 (shapeCast S64x1 (extractStridedSlice S64x1 ![0, 13] g (by decide +kernel)) (by decide +kernel)) (by decide +kernel)))) (k0_pay373 (k0_pay273 (shapeCast S128x128 s (by decide +kernel)) (k0_pay140 (k0_pay9 p) (broadcastTo S64x128 (shapeCast S64x1 (extractStridedSlice S64x1 ![0, 5] g (by decide +kernel)) (by decide +kernel)) (by decide +kernel)) v) (k0_pay164 (k0_pay9 p) (k0_pay64 (broadcastTo S64x128 (shapeCast S64x1 (extractStridedSlice S64x1 ![0, 5] g (by decide +kernel)) (by decide +kernel)) (by decide +kernel)) k) (k0_pay72 (broadcastTo S64x128 (shapeCast S64x1 (extractStridedSlice S64x1 ![0, 13] g (by decide +kernel)) (by decide +kernel)) (by decide +kernel))))) (k0_pay340 d))))

set_option maxHeartbeats 4000000 in
theorem pay5_at (k v d : Vec Ideal S64x128 .f32) (g : Vec Ideal S64x128 .f32) (s : Vec Ideal S1x1x128x128 .f32) (p : Vec Ideal S1x1x64x64 .bf16) (r : Fin 64) (c : Fin 128) :
    pay5 k v d g s p (ix2 r c) = dq (fun j c => k (ix2 j c)) (fun j c => v (ix2 j c)) (fun j c => d (ix2 j c))
      (fun j => g (ix2 j 13)) (fun j => g (ix2 j 5)) (fun a b => s (ix4 0 0 a b)) (fun a b => p (ix4 0 0 a b)) r c := by
  pointwise [pay5, k0_pay9, k0_pay36, k0_pay39, k0_pay53, k0_pay54, k0_pay64, k0_pay72, k0_pay115, k0_pay138, k0_pay139, k0_pay140, k0_pay162, k0_pay163, k0_pay164, k0_pay232, k0_pay233, k0_pay249, k0_pay259, k0_pay273, k0_pay339, k0_pay340, k0_pay373, k0_pay398, k0_pay440, k0_pay492, k0_pay494, k0_pay618]
  simp only [sel]
  exact close (fun j c => k (ix2 j c)) (fun j c => v (ix2 j c)) (fun j c => d (ix2 j c)) (fun j => g (ix2 j 13)) (fun j => g (ix2 j 5)) (fun a b => s (ix4 0 0 a b)) (fun a b => p (ix4 0 0 a b)) r c

/-- The gradient of head 6's queries, as the loop's body forms it from what it loads. -/
def pay6 (k v d : Vec Ideal S64x128 .f32) (g : Vec Ideal S64x128 .f32) (s : Vec Ideal S1x1x128x128 .f32) (p : Vec Ideal S1x1x64x64 .bf16) : FVec Ideal S64x128 .f32 :=
  (k0_pay616 (k0_pay118 k) (k0_pay438 (k0_pay73 (broadcastTo S64x128 (shapeCast S64x1 (extractStridedSlice S64x1 ![0, 14] g (by decide +kernel)) (by decide +kernel)) (by decide +kernel))) (k0_pay396 (k0_pay251 (shapeCast S128x128 s (by decide +kernel))) (k0_pay337 d))) (k0_pay491 k0_pay36 (k0_pay56 (broadcastTo S64x128 (shapeCast S64x1 (extractStridedSlice S64x1 ![0, 14] g (by decide +kernel)) (by decide +kernel)) (by decide +kernel)) k0_pay36 (k0_pay40 (broadcastTo S64x128 (shapeCast S64x1 (extractStridedSlice S64x1 ![0, 14] g (by decide +kernel)) (by decide +kernel)) (by decide +kernel)))) (k0_pay371 (k0_pay275 (shapeCast S128x128 s (by decide +kernel)) (k0_pay143 (k0_pay10 p) (broadcastTo S64x128 (shapeCast S64x1 (extractStridedSlice S64x1 ![0, 6] g (by decide +kernel)) (by decide +kernel)) (by decide +kernel)) v) (k0_pay167 (k0_pay10 p) (k0_pay65 (broadcastTo S64x128 (shapeCast S64x1 (extractStridedSlice S64x1 ![0, 6] g (by decide +kernel)) (by decide +kernel)) (by decide +kernel)) k) (k0_pay73 (broadcastTo S64x128 (shapeCast S64x1 (extractStridedSlice S64x1 ![0, 14] g (by decide +kernel)) (by decide +kernel)) (by decide +kernel))))) (k0_pay338 d))))

set_option maxHeartbeats 4000000 in
theorem pay6_at (k v d : Vec Ideal S64x128 .f32) (g : Vec Ideal S64x128 .f32) (s : Vec Ideal S1x1x128x128 .f32) (p : Vec Ideal S1x1x64x64 .bf16) (r : Fin 64) (c : Fin 128) :
    pay6 k v d g s p (ix2 r c) = dq (fun j c => k (ix2 j c)) (fun j c => v (ix2 j c)) (fun j c => d (ix2 j c))
      (fun j => g (ix2 j 14)) (fun j => g (ix2 j 6)) (fun a b => s (ix4 0 0 a b)) (fun a b => p (ix4 0 0 a b)) r c := by
  pointwise [pay6, k0_pay10, k0_pay36, k0_pay40, k0_pay55, k0_pay56, k0_pay65, k0_pay73, k0_pay118, k0_pay141, k0_pay142, k0_pay143, k0_pay165, k0_pay166, k0_pay167, k0_pay234, k0_pay235, k0_pay251, k0_pay260, k0_pay275, k0_pay337, k0_pay338, k0_pay371, k0_pay396, k0_pay438, k0_pay489, k0_pay491, k0_pay616]
  simp only [sel]
  exact close (fun j c => k (ix2 j c)) (fun j c => v (ix2 j c)) (fun j c => d (ix2 j c)) (fun j => g (ix2 j 14)) (fun j => g (ix2 j 6)) (fun a b => s (ix4 0 0 a b)) (fun a b => p (ix4 0 0 a b)) r c

/-- The gradient of head 7's queries, as the loop's body forms it from what it loads. -/
def pay7 (k v d : Vec Ideal S64x128 .f32) (g : Vec Ideal S64x128 .f32) (s : Vec Ideal S1x1x128x128 .f32) (p : Vec Ideal S1x1x64x64 .bf16) : FVec Ideal S64x128 .f32 :=
  (k0_pay614 (k0_pay121 k) (k0_pay436 (k0_pay74 (broadcastTo S64x128 (shapeCast S64x1 (extractStridedSlice S64x1 ![0, 15] g (by decide +kernel)) (by decide +kernel)) (by decide +kernel))) (k0_pay394 (k0_pay253 (k0_pay35 s)) (k0_pay335 d))) (k0_pay488 k0_pay36 (k0_pay58 (broadcastTo S64x128 (shapeCast S64x1 (extractStridedSlice S64x1 ![0, 15] g (by decide +kernel)) (by decide +kernel)) (by decide +kernel)) k0_pay36 (k0_pay41 (broadcastTo S64x128 (shapeCast S64x1 (extractStridedSlice S64x1 ![0, 15] g (by decide +kernel)) (by decide +kernel)) (by decide +kernel)))) (k0_pay369 (k0_pay277 (k0_pay35 s) (k0_pay146 (k0_pay11 p) (broadcastTo S64x128 (shapeCast S64x1 (extractStridedSlice S64x1 ![0, 7] g (by decide +kernel)) (by decide +kernel)) (by decide +kernel)) v) (k0_pay170 (k0_pay11 p) (k0_pay66 (broadcastTo S64x128 (shapeCast S64x1 (extractStridedSlice S64x1 ![0, 7] g (by decide +kernel)) (by decide +kernel)) (by decide +kernel)) k) (k0_pay74 (broadcastTo S64x128 (shapeCast S64x1 (extractStridedSlice S64x1 ![0, 15] g (by decide +kernel)) (by decide +kernel)) (by decide +kernel))))) (k0_pay336 d))))

set_option maxHeartbeats 4000000 in
theorem pay7_at (k v d : Vec Ideal S64x128 .f32) (g : Vec Ideal S64x128 .f32) (s : Vec Ideal S1x1x128x128 .f32) (p : Vec Ideal S1x1x64x64 .bf16) (r : Fin 64) (c : Fin 128) :
    pay7 k v d g s p (ix2 r c) = dq (fun j c => k (ix2 j c)) (fun j c => v (ix2 j c)) (fun j c => d (ix2 j c))
      (fun j => g (ix2 j 15)) (fun j => g (ix2 j 7)) (fun a b => s (ix4 0 0 a b)) (fun a b => p (ix4 0 0 a b)) r c := by
  pointwise [pay7, k0_pay11, k0_pay35, k0_pay36, k0_pay41, k0_pay57, k0_pay58, k0_pay66, k0_pay74, k0_pay121, k0_pay144, k0_pay145, k0_pay146, k0_pay168, k0_pay169, k0_pay170, k0_pay236, k0_pay237, k0_pay253, k0_pay261, k0_pay277, k0_pay335, k0_pay336, k0_pay369, k0_pay394, k0_pay436, k0_pay486, k0_pay488, k0_pay614]
  simp only [sel]
  exact close (fun j c => k (ix2 j c)) (fun j c => v (ix2 j c)) (fun j c => d (ix2 j c)) (fun j => g (ix2 j 15)) (fun j => g (ix2 j 7)) (fun a b => s (ix4 0 0 a b)) (fun a b => p (ix4 0 0 a b)) r c

end Cert.KernelIdeal.Dq
-- ==== Proof.DqLoop.lean ====
module
public import proofs.«01_k».proof.Proof.Gen.KernelIdeal.Loops
public import proofs.«01_k».proof.Proof.DqPure
public import Idealize.ShloMosaic.Lib.Pipeline.ValueKit
/-! # The gradient of the queries, one tile at a time

What the loop over a tile's chunks leaves in the first output's staging buffer, as a function of the staged inputs. -/
@[expose] public section
set_option maxRecDepth 16384
noncomputable section
open Idealize.ShloMosaic Idealize.ShloMosaic.TcCoe
namespace Cert.KernelIdeal.Dq
open Cert.KernelIdeal Cert.KernelIdeal.Gen Cert.Dq

/-- Row `j` of chunk `q` of a tile. -/
def tok (q : Fin 4) (j : Fin 64) : Fin 256 := ⟨q.val * 64 + j.val, by omega⟩
/-- Lane `c` of head `h`. -/
def lan (h : Fin 8) (c : Fin 128) : Fin 1024 := ⟨h.val * 128 + c.val, by omega⟩
/-- The column of head `h`'s decay among the gates. -/
def gcol (h : Fin 8) : Fin 128 := ⟨8 + h.val, by omega⟩
/-- The column of head `h`'s step size among the gates. -/
def bcol (h : Fin 8) : Fin 128 := ⟨h.val, by omega⟩

/-- The gradient in chunk `q` of head `h`. -/
def tileAt (x1 x2 : Vec Ideal S256x1024 .f32) (x3 : Vec Ideal S256x128 .f32) (x4 : Vec Ideal S4x8x128x128 .f32) (x5 : Vec Ideal S4x8x64x64 .bf16)
    (x6 : Vec Ideal S256x1024 .f32) (q : Fin 4) (h : Fin 8) : Chunk :=
  dq (fun j c => x1 (ix2 (tok q j) (lan h c))) (fun j c => x2 (ix2 (tok q j) (lan h c))) (fun j c => x6 (ix2 (tok q j) (lan h c)))
    (fun j => x3 (ix2 (tok q j) (gcol h))) (fun j => x3 (ix2 (tok q j) (bcol h)))
    (fun a b => x4 (ix4 q h a b)) (fun a b => x5 (ix4 q h a b))

/-- The gradient of a tile. -/
def tile (x1 x2 : Vec Ideal S256x1024 .f32) (x3 : Vec Ideal S256x128 .f32) (x4 : Vec Ideal S4x8x128x128 .f32) (x5 : Vec Ideal S4x8x64x64 .bf16)
    (x6 : Vec Ideal S256x1024 .f32) : Vec Ideal S256x1024 .f32 := fun y =>
  tileAt x1 x2 x3 x4 x5 x6 ⟨(y 0).val / 64, by have : (y 0).val < 256 := (y 0).isLt; omega⟩ ⟨(y 1).val / 128, by have : (y 1).val < 1024 := (y 1).isLt; omega⟩
    ⟨(y 0).val % 64, Nat.mod_lt _ (by decide)⟩ ⟨(y 1).val % 128, Nat.mod_lt _ (by decide)⟩

/-- The chunk that trip `t` of the loop takes: the last first. -/
def chunkAt (t : Fin k0_t1_loop.trips) : Fin 4 := ⟨3 - t.val, by omega⟩

theorem ld2 {sig' : RefSig} {κ : Kind} {sp : Space} {n m : ℕ} (v : View sig' κ sp ⟨2, ![n, m]⟩ .f32) (f : v.ty.Contents (Elt Ideal)) (off : Fin 2 → ℕ) (inb)
    (o0 o1 : ℕ) (h : off = ![o0, o1]) (j : Fin 64) (c : Fin 128) (J : Fin n) (C : Fin m) (hJ : J.val = o0 + j.val) (hC : C.val = o1 + c.val) :
    v.readAt (Elt Ideal) (Rect.unit (s := ⟨2, ![n, m]⟩) off S64x128.size inb).toLoadRect f (ix2 j c : S64x128.Idx) = v.read (Elt Ideal) f (ix2 J C) := by
  subst h
  refine congrArg (v.read (Elt Ideal) f) (funext fun a => Fin.ext ?_)
  revert a
  refine Fin.forall_fin_two.mpr ⟨?_, ?_⟩
  · show o0 + 1 * j.val = J.val; omega
  · show o1 + 1 * c.val = C.val; omega

theorem ld4 {sig' : RefSig} {κ : Kind} {sp : Space} {e : EltTy} {n0 n1 n m : ℕ} (v : View sig' κ sp ⟨4, ![n0, n1, n, m]⟩ e) (f : v.ty.Contents (Elt Ideal)) (off : Fin 4 → ℕ) (inb)
    (q : Fin n0) (h : Fin n1) (ho : off = ![q.val, h.val, 0, 0]) (a : Fin n) (b : Fin m) :
    v.readAt (Elt Ideal) (Rect.unit (s := ⟨4, ![n0, n1, n, m]⟩) off ![1, 1, n, m] inb).toLoadRect f (ix4 0 0 a b : (⟨4, ![1, 1, n, m]⟩ : Shape).Idx) = v.read (Elt Ideal) f (ix4 q h a b) := by
  subst ho
  refine congrArg (v.read (Elt Ideal) f) (funext fun i => Fin.ext ?_)
  fin_cases i
  · show q.val + 1 * 0 = q.val; omega
  · show h.val + 1 * 0 = h.val; omega
  · show 0 + 1 * a.val = a.val; omega
  · show 0 + 1 * b.val = b.val; omega

theorem k0_inb9 : ∀ t : Fin k0_t1_loop.trips, ∀ a, k0_off9 t a + S64x128.size a ≤ S256x128.size a := by decide +kernel
theorem off_gate : ∀ t : Fin k0_t1_loop.trips, k0_off9 t = ![(3 - t.val) * 64, 0] := by decide +kernel

theorem off_rows0 : ∀ t : Fin k0_t1_loop.trips, k0_off10 t = ![(3 - t.val) * 64, 0] := by decide +kernel
theorem k0_inb10 : ∀ t : Fin k0_t1_loop.trips, ∀ a, k0_off10 t a + S64x128.size a ≤ S256x1024.size a := by decide +kernel
theorem k0_inb1 : ∀ t : Fin k0_t1_loop.trips, ∀ a, k0_off1 t a + S1x1x64x64.size a ≤ S4x8x64x64.size a := by decide +kernel
theorem k0_inb18 : ∀ t : Fin k0_t1_loop.trips, ∀ a, k0_off18 t a + S1x1x128x128.size a ≤ S4x8x128x128.size a := by decide +kernel
theorem off_inv0 : ∀ t : Fin k0_t1_loop.trips, k0_off1 t = ![3 - t.val, 0, 0, 0] := by decide +kernel
theorem off_state0 : ∀ t : Fin k0_t1_loop.trips, k0_off18 t = ![3 - t.val, 0, 0, 0] := by decide +kernel

/-- The store of head 0. -/
theorem piece0 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off10 t) S64x128.size
      (trip_k0_t1.sl.r_581 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows0 t] at hx
  have h0 : (y 0).val = (3 - t.val) * 64 + r.val := hx 0
  have h1 : (y 1).val = 0 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 0 := Fin.ext (by show (y 1).val / 128 = 0; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay0_at (View.readAt (Elt Ideal) arg2.view (Rect.unit (s := S256x1024) (k0_off10 t) S64x128.size (k0_inb10 t)).toLoadRect X_arg2) (View.readAt (Elt Ideal) arg3.view (Rect.unit (s := S256x1024) (k0_off10 t) S64x128.size (k0_inb10 t)).toLoadRect X_arg3)
    (View.readAt (Elt Ideal) arg7.view (Rect.unit (s := S256x1024) (k0_off10 t) S64x128.size (k0_inb10 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off18 t) S1x1x128x128.size (k0_inb18 t)).toLoadRect X_arg5) (View.readAt (Elt Ideal) arg6.view (Rect.unit (s := S4x8x64x64) (k0_off1 t) S1x1x64x64.size (k0_inb1 t)).toLoadRect X_arg6) r c
  have a1 : ∀ j c, View.readAt (Elt Ideal) arg2.view (Rect.unit (s := S256x1024) (k0_off10 t) S64x128.size (k0_inb10 t)).toLoadRect X_arg2 (ix2 j c : S64x128.Idx) = arg2.view.read (Elt Ideal) X_arg2 (ix2 (tok (chunkAt t) j) (lan 0 c)) :=
    fun j c => ld2 _ _ _ _ _ _ (off_rows0 t) j c _ _ rfl rfl
  have a2 : ∀ j c, View.readAt (Elt Ideal) arg3.view (Rect.unit (s := S256x1024) (k0_off10 t) S64x128.size (k0_inb10 t)).toLoadRect X_arg3 (ix2 j c : S64x128.Idx) = arg3.view.read (Elt Ideal) X_arg3 (ix2 (tok (chunkAt t) j) (lan 0 c)) :=
    fun j c => ld2 _ _ _ _ _ _ (off_rows0 t) j c _ _ rfl rfl
  have a6 : ∀ j c, View.readAt (Elt Ideal) arg7.view (Rect.unit (s := S256x1024) (k0_off10 t) S64x128.size (k0_inb10 t)).toLoadRect X_arg7 (ix2 j c : S64x128.Idx) = arg7.view.read (Elt Ideal) X_arg7 (ix2 (tok (chunkAt t) j) (lan 0 c)) :=
    fun j c => ld2 _ _ _ _ _ _ (off_rows0 t) j c _ _ rfl rfl
  have ag : ∀ j, View.readAt (Elt Ideal) arg4.view (Rect.unit (s := S256x128) (k0_off9 t) S64x128.size (k0_inb9 t)).toLoadRect X_arg4 (ix2 j 8 : S64x128.Idx) = arg4.view.read (Elt Ideal) X_arg4 (ix2 (tok (chunkAt t) j) (gcol 0)) :=
    fun j => ld2 _ _ _ _ _ _ (off_gate t) j 8 _ _ rfl rfl
  have ab : ∀ j, View.readAt (Elt Ideal) arg4.view (Rect.unit (s := S256x128) (k0_off9 t) S64x128.size (k0_inb9 t)).toLoadRect X_arg4 (ix2 j 0 : S64x128.Idx) = arg4.view.read (Elt Ideal) X_arg4 (ix2 (tok (chunkAt t) j) (bcol 0)) :=
    fun j => ld2 _ _ _ _ _ _ (off_gate t) j 0 _ _ rfl rfl
  have a4 : ∀ a b, View.readAt (Elt Ideal) arg5.view (Rect.unit (s := S4x8x128x128) (k0_off18 t) S1x1x128x128.size (k0_inb18 t)).toLoadRect X_arg5 (ix4 0 0 a b : S1x1x128x128.Idx) = arg5.view.read (Elt Ideal) X_arg5 (ix4 (chunkAt t) 0 a b) :=
    fun a b => ld4 _ _ _ _ _ _ (off_state0 t) a b
  have a5 : ∀ a b, View.readAt (Elt Ideal) arg6.view (Rect.unit (s := S4x8x64x64) (k0_off1 t) S1x1x64x64.size (k0_inb1 t)).toLoadRect X_arg6 (ix4 0 0 a b : S1x1x64x64.Idx) = arg6.view.read (Elt Ideal) X_arg6 (ix4 (chunkAt t) 0 a b) :=
    fun a b => ld4 _ _ _ _ _ _ (off_inv0 t) a b
  simp only [a1, a2, a6, ag, ab, a4, a5] at key
  exact key

theorem off_rows1 : ∀ t : Fin k0_t1_loop.trips, k0_off11 t = ![(3 - t.val) * 64, 128] := by decide +kernel
theorem k0_inb11 : ∀ t : Fin k0_t1_loop.trips, ∀ a, k0_off11 t a + S64x128.size a ≤ S256x1024.size a := by decide +kernel
theorem k0_inb2 : ∀ t : Fin k0_t1_loop.trips, ∀ a, k0_off2 t a + S1x1x64x64.size a ≤ S4x8x64x64.size a := by decide +kernel
theorem k0_inb19 : ∀ t : Fin k0_t1_loop.trips, ∀ a, k0_off19 t a + S1x1x128x128.size a ≤ S4x8x128x128.size a := by decide +kernel
theorem off_inv1 : ∀ t : Fin k0_t1_loop.trips, k0_off2 t = ![3 - t.val, 1, 0, 0] := by decide +kernel
theorem off_state1 : ∀ t : Fin k0_t1_loop.trips, k0_off19 t = ![3 - t.val, 1, 0, 0] := by decide +kernel

/-- The store of head 1. -/
theorem piece1 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off11 t) S64x128.size
      (trip_k0_t1.sl.r_579 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows1 t] at hx
  have h0 : (y 0).val = (3 - t.val) * 64 + r.val := hx 0
  have h1 : (y 1).val = 128 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 1 := Fin.ext (by show (y 1).val / 128 = 1; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay1_at (View.readAt (Elt Ideal) arg2.view (Rect.unit (s := S256x1024) (k0_off11 t) S64x128.size (k0_inb11 t)).toLoadRect X_arg2) (View.readAt (Elt Ideal) arg3.view (Rect.unit (s := S256x1024) (k0_off11 t) S64x128.size (k0_inb11 t)).toLoadRect X_arg3)
    (View.readAt (Elt Ideal) arg7.view (Rect.unit (s := S256x1024) (k0_off11 t) S64x128.size (k0_inb11 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off19 t) S1x1x128x128.size (k0_inb19 t)).toLoadRect X_arg5) (View.readAt (Elt Ideal) arg6.view (Rect.unit (s := S4x8x64x64) (k0_off2 t) S1x1x64x64.size (k0_inb2 t)).toLoadRect X_arg6) r c
  have a1 : ∀ j c, View.readAt (Elt Ideal) arg2.view (Rect.unit (s := S256x1024) (k0_off11 t) S64x128.size (k0_inb11 t)).toLoadRect X_arg2 (ix2 j c : S64x128.Idx) = arg2.view.read (Elt Ideal) X_arg2 (ix2 (tok (chunkAt t) j) (lan 1 c)) :=
    fun j c => ld2 _ _ _ _ _ _ (off_rows1 t) j c _ _ rfl rfl
  have a2 : ∀ j c, View.readAt (Elt Ideal) arg3.view (Rect.unit (s := S256x1024) (k0_off11 t) S64x128.size (k0_inb11 t)).toLoadRect X_arg3 (ix2 j c : S64x128.Idx) = arg3.view.read (Elt Ideal) X_arg3 (ix2 (tok (chunkAt t) j) (lan 1 c)) :=
    fun j c => ld2 _ _ _ _ _ _ (off_rows1 t) j c _ _ rfl rfl
  have a6 : ∀ j c, View.readAt (Elt Ideal) arg7.view (Rect.unit (s := S256x1024) (k0_off11 t) S64x128.size (k0_inb11 t)).toLoadRect X_arg7 (ix2 j c : S64x128.Idx) = arg7.view.read (Elt Ideal) X_arg7 (ix2 (tok (chunkAt t) j) (lan 1 c)) :=
    fun j c => ld2 _ _ _ _ _ _ (off_rows1 t) j c _ _ rfl rfl
  have ag : ∀ j, View.readAt (Elt Ideal) arg4.view (Rect.unit (s := S256x128) (k0_off9 t) S64x128.size (k0_inb9 t)).toLoadRect X_arg4 (ix2 j 9 : S64x128.Idx) = arg4.view.read (Elt Ideal) X_arg4 (ix2 (tok (chunkAt t) j) (gcol 1)) :=
    fun j => ld2 _ _ _ _ _ _ (off_gate t) j 9 _ _ rfl rfl
  have ab : ∀ j, View.readAt (Elt Ideal) arg4.view (Rect.unit (s := S256x128) (k0_off9 t) S64x128.size (k0_inb9 t)).toLoadRect X_arg4 (ix2 j 1 : S64x128.Idx) = arg4.view.read (Elt Ideal) X_arg4 (ix2 (tok (chunkAt t) j) (bcol 1)) :=
    fun j => ld2 _ _ _ _ _ _ (off_gate t) j 1 _ _ rfl rfl
  have a4 : ∀ a b, View.readAt (Elt Ideal) arg5.view (Rect.unit (s := S4x8x128x128) (k0_off19 t) S1x1x128x128.size (k0_inb19 t)).toLoadRect X_arg5 (ix4 0 0 a b : S1x1x128x128.Idx) = arg5.view.read (Elt Ideal) X_arg5 (ix4 (chunkAt t) 1 a b) :=
    fun a b => ld4 _ _ _ _ _ _ (off_state1 t) a b
  have a5 : ∀ a b, View.readAt (Elt Ideal) arg6.view (Rect.unit (s := S4x8x64x64) (k0_off2 t) S1x1x64x64.size (k0_inb2 t)).toLoadRect X_arg6 (ix4 0 0 a b : S1x1x64x64.Idx) = arg6.view.read (Elt Ideal) X_arg6 (ix4 (chunkAt t) 1 a b) :=
    fun a b => ld4 _ _ _ _ _ _ (off_inv1 t) a b
  simp only [a1, a2, a6, ag, ab, a4, a5] at key
  exact key

theorem off_rows2 : ∀ t : Fin k0_t1_loop.trips, k0_off12 t = ![(3 - t.val) * 64, 256] := by decide +kernel
theorem k0_inb12 : ∀ t : Fin k0_t1_loop.trips, ∀ a, k0_off12 t a + S64x128.size a ≤ S256x1024.size a := by decide +kernel
theorem k0_inb3 : ∀ t : Fin k0_t1_loop.trips, ∀ a, k0_off3 t a + S1x1x64x64.size a ≤ S4x8x64x64.size a := by decide +kernel
theorem k0_inb20 : ∀ t : Fin k0_t1_loop.trips, ∀ a, k0_off20 t a + S1x1x128x128.size a ≤ S4x8x128x128.size a := by decide +kernel
theorem off_inv2 : ∀ t : Fin k0_t1_loop.trips, k0_off3 t = ![3 - t.val, 2, 0, 0] := by decide +kernel
theorem off_state2 : ∀ t : Fin k0_t1_loop.trips, k0_off20 t = ![3 - t.val, 2, 0, 0] := by decide +kernel

/-- The store of head 2. -/
theorem piece2 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off12 t) S64x128.size
      (trip_k0_t1.sl.r_577 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows2 t] at hx
  have h0 : (y 0).val = (3 - t.val) * 64 + r.val := hx 0
  have h1 : (y 1).val = 256 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 2 := Fin.ext (by show (y 1).val / 128 = 2; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay2_at (View.readAt (Elt Ideal) arg2.view (Rect.unit (s := S256x1024) (k0_off12 t) S64x128.size (k0_inb12 t)).toLoadRect X_arg2) (View.readAt (Elt Ideal) arg3.view (Rect.unit (s := S256x1024) (k0_off12 t) S64x128.size (k0_inb12 t)).toLoadRect X_arg3)
    (View.readAt (Elt Ideal) arg7.view (Rect.unit (s := S256x1024) (k0_off12 t) S64x128.size (k0_inb12 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off20 t) S1x1x128x128.size (k0_inb20 t)).toLoadRect X_arg5) (View.readAt (Elt Ideal) arg6.view (Rect.unit (s := S4x8x64x64) (k0_off3 t) S1x1x64x64.size (k0_inb3 t)).toLoadRect X_arg6) r c
  have a1 : ∀ j c, View.readAt (Elt Ideal) arg2.view (Rect.unit (s := S256x1024) (k0_off12 t) S64x128.size (k0_inb12 t)).toLoadRect X_arg2 (ix2 j c : S64x128.Idx) = arg2.view.read (Elt Ideal) X_arg2 (ix2 (tok (chunkAt t) j) (lan 2 c)) :=
    fun j c => ld2 _ _ _ _ _ _ (off_rows2 t) j c _ _ rfl rfl
  have a2 : ∀ j c, View.readAt (Elt Ideal) arg3.view (Rect.unit (s := S256x1024) (k0_off12 t) S64x128.size (k0_inb12 t)).toLoadRect X_arg3 (ix2 j c : S64x128.Idx) = arg3.view.read (Elt Ideal) X_arg3 (ix2 (tok (chunkAt t) j) (lan 2 c)) :=
    fun j c => ld2 _ _ _ _ _ _ (off_rows2 t) j c _ _ rfl rfl
  have a6 : ∀ j c, View.readAt (Elt Ideal) arg7.view (Rect.unit (s := S256x1024) (k0_off12 t) S64x128.size (k0_inb12 t)).toLoadRect X_arg7 (ix2 j c : S64x128.Idx) = arg7.view.read (Elt Ideal) X_arg7 (ix2 (tok (chunkAt t) j) (lan 2 c)) :=
    fun j c => ld2 _ _ _ _ _ _ (off_rows2 t) j c _ _ rfl rfl
  have ag : ∀ j, View.readAt (Elt Ideal) arg4.view (Rect.unit (s := S256x128) (k0_off9 t) S64x128.size (k0_inb9 t)).toLoadRect X_arg4 (ix2 j 10 : S64x128.Idx) = arg4.view.read (Elt Ideal) X_arg4 (ix2 (tok (chunkAt t) j) (gcol 2)) :=
    fun j => ld2 _ _ _ _ _ _ (off_gate t) j 10 _ _ rfl rfl
  have ab : ∀ j, View.readAt (Elt Ideal) arg4.view (Rect.unit (s := S256x128) (k0_off9 t) S64x128.size (k0_inb9 t)).toLoadRect X_arg4 (ix2 j 2 : S64x128.Idx) = arg4.view.read (Elt Ideal) X_arg4 (ix2 (tok (chunkAt t) j) (bcol 2)) :=
    fun j => ld2 _ _ _ _ _ _ (off_gate t) j 2 _ _ rfl rfl
  have a4 : ∀ a b, View.readAt (Elt Ideal) arg5.view (Rect.unit (s := S4x8x128x128) (k0_off20 t) S1x1x128x128.size (k0_inb20 t)).toLoadRect X_arg5 (ix4 0 0 a b : S1x1x128x128.Idx) = arg5.view.read (Elt Ideal) X_arg5 (ix4 (chunkAt t) 2 a b) :=
    fun a b => ld4 _ _ _ _ _ _ (off_state2 t) a b
  have a5 : ∀ a b, View.readAt (Elt Ideal) arg6.view (Rect.unit (s := S4x8x64x64) (k0_off3 t) S1x1x64x64.size (k0_inb3 t)).toLoadRect X_arg6 (ix4 0 0 a b : S1x1x64x64.Idx) = arg6.view.read (Elt Ideal) X_arg6 (ix4 (chunkAt t) 2 a b) :=
    fun a b => ld4 _ _ _ _ _ _ (off_inv2 t) a b
  simp only [a1, a2, a6, ag, ab, a4, a5] at key
  exact key

theorem off_rows3 : ∀ t : Fin k0_t1_loop.trips, k0_off13 t = ![(3 - t.val) * 64, 384] := by decide +kernel
theorem k0_inb13 : ∀ t : Fin k0_t1_loop.trips, ∀ a, k0_off13 t a + S64x128.size a ≤ S256x1024.size a := by decide +kernel
theorem k0_inb4 : ∀ t : Fin k0_t1_loop.trips, ∀ a, k0_off4 t a + S1x1x64x64.size a ≤ S4x8x64x64.size a := by decide +kernel
theorem k0_inb21 : ∀ t : Fin k0_t1_loop.trips, ∀ a, k0_off21 t a + S1x1x128x128.size a ≤ S4x8x128x128.size a := by decide +kernel
theorem off_inv3 : ∀ t : Fin k0_t1_loop.trips, k0_off4 t = ![3 - t.val, 3, 0, 0] := by decide +kernel
theorem off_state3 : ∀ t : Fin k0_t1_loop.trips, k0_off21 t = ![3 - t.val, 3, 0, 0] := by decide +kernel

/-- The store of head 3. -/
theorem piece3 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off13 t) S64x128.size
      (trip_k0_t1.sl.r_575 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows3 t] at hx
  have h0 : (y 0).val = (3 - t.val) * 64 + r.val := hx 0
  have h1 : (y 1).val = 384 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 3 := Fin.ext (by show (y 1).val / 128 = 3; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay3_at (View.readAt (Elt Ideal) arg2.view (Rect.unit (s := S256x1024) (k0_off13 t) S64x128.size (k0_inb13 t)).toLoadRect X_arg2) (View.readAt (Elt Ideal) arg3.view (Rect.unit (s := S256x1024) (k0_off13 t) S64x128.size (k0_inb13 t)).toLoadRect X_arg3)
    (View.readAt (Elt Ideal) arg7.view (Rect.unit (s := S256x1024) (k0_off13 t) S64x128.size (k0_inb13 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off21 t) S1x1x128x128.size (k0_inb21 t)).toLoadRect X_arg5) (View.readAt (Elt Ideal) arg6.view (Rect.unit (s := S4x8x64x64) (k0_off4 t) S1x1x64x64.size (k0_inb4 t)).toLoadRect X_arg6) r c
  have a1 : ∀ j c, View.readAt (Elt Ideal) arg2.view (Rect.unit (s := S256x1024) (k0_off13 t) S64x128.size (k0_inb13 t)).toLoadRect X_arg2 (ix2 j c : S64x128.Idx) = arg2.view.read (Elt Ideal) X_arg2 (ix2 (tok (chunkAt t) j) (lan 3 c)) :=
    fun j c => ld2 _ _ _ _ _ _ (off_rows3 t) j c _ _ rfl rfl
  have a2 : ∀ j c, View.readAt (Elt Ideal) arg3.view (Rect.unit (s := S256x1024) (k0_off13 t) S64x128.size (k0_inb13 t)).toLoadRect X_arg3 (ix2 j c : S64x128.Idx) = arg3.view.read (Elt Ideal) X_arg3 (ix2 (tok (chunkAt t) j) (lan 3 c)) :=
    fun j c => ld2 _ _ _ _ _ _ (off_rows3 t) j c _ _ rfl rfl
  have a6 : ∀ j c, View.readAt (Elt Ideal) arg7.view (Rect.unit (s := S256x1024) (k0_off13 t) S64x128.size (k0_inb13 t)).toLoadRect X_arg7 (ix2 j c : S64x128.Idx) = arg7.view.read (Elt Ideal) X_arg7 (ix2 (tok (chunkAt t) j) (lan 3 c)) :=
    fun j c => ld2 _ _ _ _ _ _ (off_rows3 t) j c _ _ rfl rfl
  have ag : ∀ j, View.readAt (Elt Ideal) arg4.view (Rect.unit (s := S256x128) (k0_off9 t) S64x128.size (k0_inb9 t)).toLoadRect X_arg4 (ix2 j 11 : S64x128.Idx) = arg4.view.read (Elt Ideal) X_arg4 (ix2 (tok (chunkAt t) j) (gcol 3)) :=
    fun j => ld2 _ _ _ _ _ _ (off_gate t) j 11 _ _ rfl rfl
  have ab : ∀ j, View.readAt (Elt Ideal) arg4.view (Rect.unit (s := S256x128) (k0_off9 t) S64x128.size (k0_inb9 t)).toLoadRect X_arg4 (ix2 j 3 : S64x128.Idx) = arg4.view.read (Elt Ideal) X_arg4 (ix2 (tok (chunkAt t) j) (bcol 3)) :=
    fun j => ld2 _ _ _ _ _ _ (off_gate t) j 3 _ _ rfl rfl
  have a4 : ∀ a b, View.readAt (Elt Ideal) arg5.view (Rect.unit (s := S4x8x128x128) (k0_off21 t) S1x1x128x128.size (k0_inb21 t)).toLoadRect X_arg5 (ix4 0 0 a b : S1x1x128x128.Idx) = arg5.view.read (Elt Ideal) X_arg5 (ix4 (chunkAt t) 3 a b) :=
    fun a b => ld4 _ _ _ _ _ _ (off_state3 t) a b
  have a5 : ∀ a b, View.readAt (Elt Ideal) arg6.view (Rect.unit (s := S4x8x64x64) (k0_off4 t) S1x1x64x64.size (k0_inb4 t)).toLoadRect X_arg6 (ix4 0 0 a b : S1x1x64x64.Idx) = arg6.view.read (Elt Ideal) X_arg6 (ix4 (chunkAt t) 3 a b) :=
    fun a b => ld4 _ _ _ _ _ _ (off_inv3 t) a b
  simp only [a1, a2, a6, ag, ab, a4, a5] at key
  exact key

theorem off_rows4 : ∀ t : Fin k0_t1_loop.trips, k0_off14 t = ![(3 - t.val) * 64, 512] := by decide +kernel
theorem k0_inb14 : ∀ t : Fin k0_t1_loop.trips, ∀ a, k0_off14 t a + S64x128.size a ≤ S256x1024.size a := by decide +kernel
theorem k0_inb5 : ∀ t : Fin k0_t1_loop.trips, ∀ a, k0_off5 t a + S1x1x64x64.size a ≤ S4x8x64x64.size a := by decide +kernel
theorem k0_inb22 : ∀ t : Fin k0_t1_loop.trips, ∀ a, k0_off22 t a + S1x1x128x128.size a ≤ S4x8x128x128.size a := by decide +kernel
theorem off_inv4 : ∀ t : Fin k0_t1_loop.trips, k0_off5 t = ![3 - t.val, 4, 0, 0] := by decide +kernel
theorem off_state4 : ∀ t : Fin k0_t1_loop.trips, k0_off22 t = ![3 - t.val, 4, 0, 0] := by decide +kernel

/-- The store of head 4. -/
theorem piece4 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off14 t) S64x128.size
      (trip_k0_t1.sl.r_573 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows4 t] at hx
  have h0 : (y 0).val = (3 - t.val) * 64 + r.val := hx 0
  have h1 : (y 1).val = 512 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 4 := Fin.ext (by show (y 1).val / 128 = 4; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay4_at (View.readAt (Elt Ideal) arg2.view (Rect.unit (s := S256x1024) (k0_off14 t) S64x128.size (k0_inb14 t)).toLoadRect X_arg2) (View.readAt (Elt Ideal) arg3.view (Rect.unit (s := S256x1024) (k0_off14 t) S64x128.size (k0_inb14 t)).toLoadRect X_arg3)
    (View.readAt (Elt Ideal) arg7.view (Rect.unit (s := S256x1024) (k0_off14 t) S64x128.size (k0_inb14 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off22 t) S1x1x128x128.size (k0_inb22 t)).toLoadRect X_arg5) (View.readAt (Elt Ideal) arg6.view (Rect.unit (s := S4x8x64x64) (k0_off5 t) S1x1x64x64.size (k0_inb5 t)).toLoadRect X_arg6) r c
  have a1 : ∀ j c, View.readAt (Elt Ideal) arg2.view (Rect.unit (s := S256x1024) (k0_off14 t) S64x128.size (k0_inb14 t)).toLoadRect X_arg2 (ix2 j c : S64x128.Idx) = arg2.view.read (Elt Ideal) X_arg2 (ix2 (tok (chunkAt t) j) (lan 4 c)) :=
    fun j c => ld2 _ _ _ _ _ _ (off_rows4 t) j c _ _ rfl rfl
  have a2 : ∀ j c, View.readAt (Elt Ideal) arg3.view (Rect.unit (s := S256x1024) (k0_off14 t) S64x128.size (k0_inb14 t)).toLoadRect X_arg3 (ix2 j c : S64x128.Idx) = arg3.view.read (Elt Ideal) X_arg3 (ix2 (tok (chunkAt t) j) (lan 4 c)) :=
    fun j c => ld2 _ _ _ _ _ _ (off_rows4 t) j c _ _ rfl rfl
  have a6 : ∀ j c, View.readAt (Elt Ideal) arg7.view (Rect.unit (s := S256x1024) (k0_off14 t) S64x128.size (k0_inb14 t)).toLoadRect X_arg7 (ix2 j c : S64x128.Idx) = arg7.view.read (Elt Ideal) X_arg7 (ix2 (tok (chunkAt t) j) (lan 4 c)) :=
    fun j c => ld2 _ _ _ _ _ _ (off_rows4 t) j c _ _ rfl rfl
  have ag : ∀ j, View.readAt (Elt Ideal) arg4.view (Rect.unit (s := S256x128) (k0_off9 t) S64x128.size (k0_inb9 t)).toLoadRect X_arg4 (ix2 j 12 : S64x128.Idx) = arg4.view.read (Elt Ideal) X_arg4 (ix2 (tok (chunkAt t) j) (gcol 4)) :=
    fun j => ld2 _ _ _ _ _ _ (off_gate t) j 12 _ _ rfl rfl
  have ab : ∀ j, View.readAt (Elt Ideal) arg4.view (Rect.unit (s := S256x128) (k0_off9 t) S64x128.size (k0_inb9 t)).toLoadRect X_arg4 (ix2 j 4 : S64x128.Idx) = arg4.view.read (Elt Ideal) X_arg4 (ix2 (tok (chunkAt t) j) (bcol 4)) :=
    fun j => ld2 _ _ _ _ _ _ (off_gate t) j 4 _ _ rfl rfl
  have a4 : ∀ a b, View.readAt (Elt Ideal) arg5.view (Rect.unit (s := S4x8x128x128) (k0_off22 t) S1x1x128x128.size (k0_inb22 t)).toLoadRect X_arg5 (ix4 0 0 a b : S1x1x128x128.Idx) = arg5.view.read (Elt Ideal) X_arg5 (ix4 (chunkAt t) 4 a b) :=
    fun a b => ld4 _ _ _ _ _ _ (off_state4 t) a b
  have a5 : ∀ a b, View.readAt (Elt Ideal) arg6.view (Rect.unit (s := S4x8x64x64) (k0_off5 t) S1x1x64x64.size (k0_inb5 t)).toLoadRect X_arg6 (ix4 0 0 a b : S1x1x64x64.Idx) = arg6.view.read (Elt Ideal) X_arg6 (ix4 (chunkAt t) 4 a b) :=
    fun a b => ld4 _ _ _ _ _ _ (off_inv4 t) a b
  simp only [a1, a2, a6, ag, ab, a4, a5] at key
  exact key

theorem off_rows5 : ∀ t : Fin k0_t1_loop.trips, k0_off15 t = ![(3 - t.val) * 64, 640] := by decide +kernel
theorem k0_inb15 : ∀ t : Fin k0_t1_loop.trips, ∀ a, k0_off15 t a + S64x128.size a ≤ S256x1024.size a := by decide +kernel
theorem k0_inb6 : ∀ t : Fin k0_t1_loop.trips, ∀ a, k0_off6 t a + S1x1x64x64.size a ≤ S4x8x64x64.size a := by decide +kernel
theorem k0_inb23 : ∀ t : Fin k0_t1_loop.trips, ∀ a, k0_off23 t a + S1x1x128x128.size a ≤ S4x8x128x128.size a := by decide +kernel
theorem off_inv5 : ∀ t : Fin k0_t1_loop.trips, k0_off6 t = ![3 - t.val, 5, 0, 0] := by decide +kernel
theorem off_state5 : ∀ t : Fin k0_t1_loop.trips, k0_off23 t = ![3 - t.val, 5, 0, 0] := by decide +kernel

/-- The store of head 5. -/
theorem piece5 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off15 t) S64x128.size
      (trip_k0_t1.sl.r_571 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows5 t] at hx
  have h0 : (y 0).val = (3 - t.val) * 64 + r.val := hx 0
  have h1 : (y 1).val = 640 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 5 := Fin.ext (by show (y 1).val / 128 = 5; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay5_at (View.readAt (Elt Ideal) arg2.view (Rect.unit (s := S256x1024) (k0_off15 t) S64x128.size (k0_inb15 t)).toLoadRect X_arg2) (View.readAt (Elt Ideal) arg3.view (Rect.unit (s := S256x1024) (k0_off15 t) S64x128.size (k0_inb15 t)).toLoadRect X_arg3)
    (View.readAt (Elt Ideal) arg7.view (Rect.unit (s := S256x1024) (k0_off15 t) S64x128.size (k0_inb15 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off23 t) S1x1x128x128.size (k0_inb23 t)).toLoadRect X_arg5) (View.readAt (Elt Ideal) arg6.view (Rect.unit (s := S4x8x64x64) (k0_off6 t) S1x1x64x64.size (k0_inb6 t)).toLoadRect X_arg6) r c
  have a1 : ∀ j c, View.readAt (Elt Ideal) arg2.view (Rect.unit (s := S256x1024) (k0_off15 t) S64x128.size (k0_inb15 t)).toLoadRect X_arg2 (ix2 j c : S64x128.Idx) = arg2.view.read (Elt Ideal) X_arg2 (ix2 (tok (chunkAt t) j) (lan 5 c)) :=
    fun j c => ld2 _ _ _ _ _ _ (off_rows5 t) j c _ _ rfl rfl
  have a2 : ∀ j c, View.readAt (Elt Ideal) arg3.view (Rect.unit (s := S256x1024) (k0_off15 t) S64x128.size (k0_inb15 t)).toLoadRect X_arg3 (ix2 j c : S64x128.Idx) = arg3.view.read (Elt Ideal) X_arg3 (ix2 (tok (chunkAt t) j) (lan 5 c)) :=
    fun j c => ld2 _ _ _ _ _ _ (off_rows5 t) j c _ _ rfl rfl
  have a6 : ∀ j c, View.readAt (Elt Ideal) arg7.view (Rect.unit (s := S256x1024) (k0_off15 t) S64x128.size (k0_inb15 t)).toLoadRect X_arg7 (ix2 j c : S64x128.Idx) = arg7.view.read (Elt Ideal) X_arg7 (ix2 (tok (chunkAt t) j) (lan 5 c)) :=
    fun j c => ld2 _ _ _ _ _ _ (off_rows5 t) j c _ _ rfl rfl
  have ag : ∀ j, View.readAt (Elt Ideal) arg4.view (Rect.unit (s := S256x128) (k0_off9 t) S64x128.size (k0_inb9 t)).toLoadRect X_arg4 (ix2 j 13 : S64x128.Idx) = arg4.view.read (Elt Ideal) X_arg4 (ix2 (tok (chunkAt t) j) (gcol 5)) :=
    fun j => ld2 _ _ _ _ _ _ (off_gate t) j 13 _ _ rfl rfl
  have ab : ∀ j, View.readAt (Elt Ideal) arg4.view (Rect.unit (s := S256x128) (k0_off9 t) S64x128.size (k0_inb9 t)).toLoadRect X_arg4 (ix2 j 5 : S64x128.Idx) = arg4.view.read (Elt Ideal) X_arg4 (ix2 (tok (chunkAt t) j) (bcol 5)) :=
    fun j => ld2 _ _ _ _ _ _ (off_gate t) j 5 _ _ rfl rfl
  have a4 : ∀ a b, View.readAt (Elt Ideal) arg5.view (Rect.unit (s := S4x8x128x128) (k0_off23 t) S1x1x128x128.size (k0_inb23 t)).toLoadRect X_arg5 (ix4 0 0 a b : S1x1x128x128.Idx) = arg5.view.read (Elt Ideal) X_arg5 (ix4 (chunkAt t) 5 a b) :=
    fun a b => ld4 _ _ _ _ _ _ (off_state5 t) a b
  have a5 : ∀ a b, View.readAt (Elt Ideal) arg6.view (Rect.unit (s := S4x8x64x64) (k0_off6 t) S1x1x64x64.size (k0_inb6 t)).toLoadRect X_arg6 (ix4 0 0 a b : S1x1x64x64.Idx) = arg6.view.read (Elt Ideal) X_arg6 (ix4 (chunkAt t) 5 a b) :=
    fun a b => ld4 _ _ _ _ _ _ (off_inv5 t) a b
  simp only [a1, a2, a6, ag, ab, a4, a5] at key
  exact key

theorem off_rows6 : ∀ t : Fin k0_t1_loop.trips, k0_off16 t = ![(3 - t.val) * 64, 768] := by decide +kernel
theorem k0_inb16 : ∀ t : Fin k0_t1_loop.trips, ∀ a, k0_off16 t a + S64x128.size a ≤ S256x1024.size a := by decide +kernel
theorem k0_inb7 : ∀ t : Fin k0_t1_loop.trips, ∀ a, k0_off7 t a + S1x1x64x64.size a ≤ S4x8x64x64.size a := by decide +kernel
theorem k0_inb24 : ∀ t : Fin k0_t1_loop.trips, ∀ a, k0_off24 t a + S1x1x128x128.size a ≤ S4x8x128x128.size a := by decide +kernel
theorem off_inv6 : ∀ t : Fin k0_t1_loop.trips, k0_off7 t = ![3 - t.val, 6, 0, 0] := by decide +kernel
theorem off_state6 : ∀ t : Fin k0_t1_loop.trips, k0_off24 t = ![3 - t.val, 6, 0, 0] := by decide +kernel

/-- The store of head 6. -/
theorem piece6 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off16 t) S64x128.size
      (trip_k0_t1.sl.r_569 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows6 t] at hx
  have h0 : (y 0).val = (3 - t.val) * 64 + r.val := hx 0
  have h1 : (y 1).val = 768 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 6 := Fin.ext (by show (y 1).val / 128 = 6; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay6_at (View.readAt (Elt Ideal) arg2.view (Rect.unit (s := S256x1024) (k0_off16 t) S64x128.size (k0_inb16 t)).toLoadRect X_arg2) (View.readAt (Elt Ideal) arg3.view (Rect.unit (s := S256x1024) (k0_off16 t) S64x128.size (k0_inb16 t)).toLoadRect X_arg3)
    (View.readAt (Elt Ideal) arg7.view (Rect.unit (s := S256x1024) (k0_off16 t) S64x128.size (k0_inb16 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off24 t) S1x1x128x128.size (k0_inb24 t)).toLoadRect X_arg5) (View.readAt (Elt Ideal) arg6.view (Rect.unit (s := S4x8x64x64) (k0_off7 t) S1x1x64x64.size (k0_inb7 t)).toLoadRect X_arg6) r c
  have a1 : ∀ j c, View.readAt (Elt Ideal) arg2.view (Rect.unit (s := S256x1024) (k0_off16 t) S64x128.size (k0_inb16 t)).toLoadRect X_arg2 (ix2 j c : S64x128.Idx) = arg2.view.read (Elt Ideal) X_arg2 (ix2 (tok (chunkAt t) j) (lan 6 c)) :=
    fun j c => ld2 _ _ _ _ _ _ (off_rows6 t) j c _ _ rfl rfl
  have a2 : ∀ j c, View.readAt (Elt Ideal) arg3.view (Rect.unit (s := S256x1024) (k0_off16 t) S64x128.size (k0_inb16 t)).toLoadRect X_arg3 (ix2 j c : S64x128.Idx) = arg3.view.read (Elt Ideal) X_arg3 (ix2 (tok (chunkAt t) j) (lan 6 c)) :=
    fun j c => ld2 _ _ _ _ _ _ (off_rows6 t) j c _ _ rfl rfl
  have a6 : ∀ j c, View.readAt (Elt Ideal) arg7.view (Rect.unit (s := S256x1024) (k0_off16 t) S64x128.size (k0_inb16 t)).toLoadRect X_arg7 (ix2 j c : S64x128.Idx) = arg7.view.read (Elt Ideal) X_arg7 (ix2 (tok (chunkAt t) j) (lan 6 c)) :=
    fun j c => ld2 _ _ _ _ _ _ (off_rows6 t) j c _ _ rfl rfl
  have ag : ∀ j, View.readAt (Elt Ideal) arg4.view (Rect.unit (s := S256x128) (k0_off9 t) S64x128.size (k0_inb9 t)).toLoadRect X_arg4 (ix2 j 14 : S64x128.Idx) = arg4.view.read (Elt Ideal) X_arg4 (ix2 (tok (chunkAt t) j) (gcol 6)) :=
    fun j => ld2 _ _ _ _ _ _ (off_gate t) j 14 _ _ rfl rfl
  have ab : ∀ j, View.readAt (Elt Ideal) arg4.view (Rect.unit (s := S256x128) (k0_off9 t) S64x128.size (k0_inb9 t)).toLoadRect X_arg4 (ix2 j 6 : S64x128.Idx) = arg4.view.read (Elt Ideal) X_arg4 (ix2 (tok (chunkAt t) j) (bcol 6)) :=
    fun j => ld2 _ _ _ _ _ _ (off_gate t) j 6 _ _ rfl rfl
  have a4 : ∀ a b, View.readAt (Elt Ideal) arg5.view (Rect.unit (s := S4x8x128x128) (k0_off24 t) S1x1x128x128.size (k0_inb24 t)).toLoadRect X_arg5 (ix4 0 0 a b : S1x1x128x128.Idx) = arg5.view.read (Elt Ideal) X_arg5 (ix4 (chunkAt t) 6 a b) :=
    fun a b => ld4 _ _ _ _ _ _ (off_state6 t) a b
  have a5 : ∀ a b, View.readAt (Elt Ideal) arg6.view (Rect.unit (s := S4x8x64x64) (k0_off7 t) S1x1x64x64.size (k0_inb7 t)).toLoadRect X_arg6 (ix4 0 0 a b : S1x1x64x64.Idx) = arg6.view.read (Elt Ideal) X_arg6 (ix4 (chunkAt t) 6 a b) :=
    fun a b => ld4 _ _ _ _ _ _ (off_inv6 t) a b
  simp only [a1, a2, a6, ag, ab, a4, a5] at key
  exact key

theorem off_rows7 : ∀ t : Fin k0_t1_loop.trips, k0_off17 t = ![(3 - t.val) * 64, 896] := by decide +kernel
theorem k0_inb17 : ∀ t : Fin k0_t1_loop.trips, ∀ a, k0_off17 t a + S64x128.size a ≤ S256x1024.size a := by decide +kernel
theorem k0_inb8 : ∀ t : Fin k0_t1_loop.trips, ∀ a, k0_off8 t a + S1x1x64x64.size a ≤ S4x8x64x64.size a := by decide +kernel
theorem k0_inb25 : ∀ t : Fin k0_t1_loop.trips, ∀ a, k0_off25 t a + S1x1x128x128.size a ≤ S4x8x128x128.size a := by decide +kernel
theorem off_inv7 : ∀ t : Fin k0_t1_loop.trips, k0_off8 t = ![3 - t.val, 7, 0, 0] := by decide +kernel
theorem off_state7 : ∀ t : Fin k0_t1_loop.trips, k0_off25 t = ![3 - t.val, 7, 0, 0] := by decide +kernel

/-- The store of head 7. -/
theorem piece7 (arg2 : Memref sig .tc .vmem S256x1024 .f32) (arg3 : Memref sig .tc .vmem S256x1024 .f32) (arg4 : Memref sig .tc .vmem S256x128 .f32) (arg5 : Memref sig .tc .vmem S4x8x128x128 .f32) (arg6 : Memref sig .tc .vmem S4x8x64x64 .bf16) (arg7 : Memref sig .tc .vmem S256x1024 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (y : S256x1024.Idx) :
    View.TileAt (Val := Elt Ideal) (S := S256x1024) (e := .f32) y (k0_off17 t) S64x128.size
      (trip_k0_t1.sl.r_567 (F := Ideal) arg2 arg3 arg4 arg5 arg6 arg7 X_arg2 X_arg3 X_arg4 X_arg5 X_arg6 X_arg7 t)
      (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  intro x hx
  obtain ⟨r, c, rfl⟩ : ∃ (r : Fin 64) (c : Fin 128), x = ix2 r c := ⟨_, _, eq_ix2 x⟩
  have ht : t.val < 4 := t.isLt
  rw [off_rows7 t] at hx
  have h0 : (y 0).val = (3 - t.val) * 64 + r.val := hx 0
  have h1 : (y 1).val = 896 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 7 := Fin.ext (by show (y 1).val / 128 = 7; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  rw [tile, e0, e1, e2, e3, tileAt]
  have key := pay7_at (View.readAt (Elt Ideal) arg2.view (Rect.unit (s := S256x1024) (k0_off17 t) S64x128.size (k0_inb17 t)).toLoadRect X_arg2) (View.readAt (Elt Ideal) arg3.view (Rect.unit (s := S256x1024) (k0_off17 t) S64x128.size (k0_inb17 t)).toLoadRect X_arg3)
    (View.readAt (Elt Ideal) arg7.view (Rect.unit (s := S256x1024) (k0_off17 t) S64x128.size (k0_inb17 t)).toLoadRect X_arg7) (View.readAt (Elt Ideal) arg4.view (Rect.unit (s := S256x128) (k0_off9 t) S64x128.size (k0_inb9 t)).toLoadRect X_arg4)
    (View.readAt (Elt Ideal) arg5.view (Rect.unit (s := S4x8x128x128) (k0_off25 t) S1x1x128x128.size (k0_inb25 t)).toLoadRect X_arg5) (View.readAt (Elt Ideal) arg6.view (Rect.unit (s := S4x8x64x64) (k0_off8 t) S1x1x64x64.size (k0_inb8 t)).toLoadRect X_arg6) r c
  have a1 : ∀ j c, View.readAt (Elt Ideal) arg2.view (Rect.unit (s := S256x1024) (k0_off17 t) S64x128.size (k0_inb17 t)).toLoadRect X_arg2 (ix2 j c : S64x128.Idx) = arg2.view.read (Elt Ideal) X_arg2 (ix2 (tok (chunkAt t) j) (lan 7 c)) :=
    fun j c => ld2 _ _ _ _ _ _ (off_rows7 t) j c _ _ rfl rfl
  have a2 : ∀ j c, View.readAt (Elt Ideal) arg3.view (Rect.unit (s := S256x1024) (k0_off17 t) S64x128.size (k0_inb17 t)).toLoadRect X_arg3 (ix2 j c : S64x128.Idx) = arg3.view.read (Elt Ideal) X_arg3 (ix2 (tok (chunkAt t) j) (lan 7 c)) :=
    fun j c => ld2 _ _ _ _ _ _ (off_rows7 t) j c _ _ rfl rfl
  have a6 : ∀ j c, View.readAt (Elt Ideal) arg7.view (Rect.unit (s := S256x1024) (k0_off17 t) S64x128.size (k0_inb17 t)).toLoadRect X_arg7 (ix2 j c : S64x128.Idx) = arg7.view.read (Elt Ideal) X_arg7 (ix2 (tok (chunkAt t) j) (lan 7 c)) :=
    fun j c => ld2 _ _ _ _ _ _ (off_rows7 t) j c _ _ rfl rfl
  have ag : ∀ j, View.readAt (Elt Ideal) arg4.view (Rect.unit (s := S256x128) (k0_off9 t) S64x128.size (k0_inb9 t)).toLoadRect X_arg4 (ix2 j 15 : S64x128.Idx) = arg4.view.read (Elt Ideal) X_arg4 (ix2 (tok (chunkAt t) j) (gcol 7)) :=
    fun j => ld2 _ _ _ _ _ _ (off_gate t) j 15 _ _ rfl rfl
  have ab : ∀ j, View.readAt (Elt Ideal) arg4.view (Rect.unit (s := S256x128) (k0_off9 t) S64x128.size (k0_inb9 t)).toLoadRect X_arg4 (ix2 j 7 : S64x128.Idx) = arg4.view.read (Elt Ideal) X_arg4 (ix2 (tok (chunkAt t) j) (bcol 7)) :=
    fun j => ld2 _ _ _ _ _ _ (off_gate t) j 7 _ _ rfl rfl
  have a4 : ∀ a b, View.readAt (Elt Ideal) arg5.view (Rect.unit (s := S4x8x128x128) (k0_off25 t) S1x1x128x128.size (k0_inb25 t)).toLoadRect X_arg5 (ix4 0 0 a b : S1x1x128x128.Idx) = arg5.view.read (Elt Ideal) X_arg5 (ix4 (chunkAt t) 7 a b) :=
    fun a b => ld4 _ _ _ _ _ _ (off_state7 t) a b
  have a5 : ∀ a b, View.readAt (Elt Ideal) arg6.view (Rect.unit (s := S4x8x64x64) (k0_off8 t) S1x1x64x64.size (k0_inb8 t)).toLoadRect X_arg6 (ix4 0 0 a b : S1x1x64x64.Idx) = arg6.view.read (Elt Ideal) X_arg6 (ix4 (chunkAt t) 7 a b) :=
    fun a b => ld4 _ _ _ _ _ _ (off_inv7 t) a b
  simp only [a1, a2, a6, ag, ab, a4, a5] at key
  exact key

theorem here {y : S256x1024.Idx} (off size : Fin S256x1024.rank → ℕ) (inb : ∀ a, off a + size a ≤ S256x1024.size a) (w : (Rect.unit off size inb).shape.Idx → Elt Ideal .f32)
    (L : List (View.Piece (Elt Ideal) S256x1024 .f32)) (h : ∀ a, off a ≤ (y a).val ∧ (y a).val < off a + size a) :
    ∃ q ∈ (⟨Rect.unit off size inb, w⟩ : View.Piece (Elt Ideal) S256x1024 .f32) :: L, y ∈ q.1.set := ⟨⟨Rect.unit off size inb, w⟩, List.mem_cons_self, (Rect.mem_set_unit (inb := inb)).mpr h⟩
theorem there {y : S256x1024.Idx} (p : View.Piece (Elt Ideal) S256x1024 .f32) {L : List (View.Piece (Elt Ideal) S256x1024 .f32)} (h : ∃ q ∈ L, y ∈ q.1.set) :
    ∃ q ∈ p :: L, y ∈ q.1.set := h.imp fun _ h => ⟨List.mem_cons_of_mem _ h.1, h.2⟩

/-- Every store of a trip writes the tile's gradient. -/
theorem trip_all (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (y : S256x1024.Idx) :
    View.AllAt ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).1 f8 f9 f10 f11 f12) y (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  unfold trip_k0_t1
  dsimp only
  refine View.allAt_cons_unit _ _ _ _ _ (piece7 arg2 arg3 arg4 arg5 arg6 arg7 X_arg2 X_arg3 X_arg4 X_arg5 X_arg6 X_arg7 t y) ?_
  refine View.allAt_cons_unit _ _ _ _ _ (piece6 arg2 arg3 arg4 arg5 arg6 arg7 X_arg2 X_arg3 X_arg4 X_arg5 X_arg6 X_arg7 t y) ?_
  refine View.allAt_cons_unit _ _ _ _ _ (piece5 arg2 arg3 arg4 arg5 arg6 arg7 X_arg2 X_arg3 X_arg4 X_arg5 X_arg6 X_arg7 t y) ?_
  refine View.allAt_cons_unit _ _ _ _ _ (piece4 arg2 arg3 arg4 arg5 arg6 arg7 X_arg2 X_arg3 X_arg4 X_arg5 X_arg6 X_arg7 t y) ?_
  refine View.allAt_cons_unit _ _ _ _ _ (piece3 arg2 arg3 arg4 arg5 arg6 arg7 X_arg2 X_arg3 X_arg4 X_arg5 X_arg6 X_arg7 t y) ?_
  refine View.allAt_cons_unit _ _ _ _ _ (piece2 arg2 arg3 arg4 arg5 arg6 arg7 X_arg2 X_arg3 X_arg4 X_arg5 X_arg6 X_arg7 t y) ?_
  refine View.allAt_cons_unit _ _ _ _ _ (piece1 arg2 arg3 arg4 arg5 arg6 arg7 X_arg2 X_arg3 X_arg4 X_arg5 X_arg6 X_arg7 t y) ?_
  refine View.allAt_cons_unit _ _ _ _ _ (piece0 arg2 arg3 arg4 arg5 arg6 arg7 X_arg2 X_arg3 X_arg4 X_arg5 X_arg6 X_arg7 t y) ?_
  exact View.allAt_nil _ _

/-- A trip's stores cover its chunk. -/
theorem trip_cover (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (y : S256x1024.Idx)
    (hy : (y 0).val / 64 = 3 - t.val) : ∃ p ∈ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).1 f8 f9 f10 f11 f12), y ∈ p.1.set := by
  have h0 : (3 - t.val) * 64 ≤ (y 0).val ∧ (y 0).val < (3 - t.val) * 64 + 64 := by omega
  have h1 : (y 1).val < 1024 := (y 1).isLt
  unfold trip_k0_t1
  dsimp only
  by_cases g7 : 896 ≤ (y 1).val
  · refine here _ _ _ _ _ ?_; rw [off_rows7 t]; exact Fin.forall_fin_two.mpr ⟨h0, by show 896 ≤ (y 1).val ∧ (y 1).val < 896 + 128; omega⟩
  by_cases g6 : 768 ≤ (y 1).val
  · refine there _ (here _ _ _ _ _ ?_); rw [off_rows6 t]; exact Fin.forall_fin_two.mpr ⟨h0, by show 768 ≤ (y 1).val ∧ (y 1).val < 768 + 128; omega⟩
  by_cases g5 : 640 ≤ (y 1).val
  · refine there _ (there _ (here _ _ _ _ _ ?_)); rw [off_rows5 t]; exact Fin.forall_fin_two.mpr ⟨h0, by show 640 ≤ (y 1).val ∧ (y 1).val < 640 + 128; omega⟩
  by_cases g4 : 512 ≤ (y 1).val
  · refine there _ (there _ (there _ (here _ _ _ _ _ ?_))); rw [off_rows4 t]; exact Fin.forall_fin_two.mpr ⟨h0, by show 512 ≤ (y 1).val ∧ (y 1).val < 512 + 128; omega⟩
  by_cases g3 : 384 ≤ (y 1).val
  · refine there _ (there _ (there _ (there _ (here _ _ _ _ _ ?_)))); rw [off_rows3 t]; exact Fin.forall_fin_two.mpr ⟨h0, by show 384 ≤ (y 1).val ∧ (y 1).val < 384 + 128; omega⟩
  by_cases g2 : 256 ≤ (y 1).val
  · refine there _ (there _ (there _ (there _ (there _ (here _ _ _ _ _ ?_))))); rw [off_rows2 t]; exact Fin.forall_fin_two.mpr ⟨h0, by show 256 ≤ (y 1).val ∧ (y 1).val < 256 + 128; omega⟩
  by_cases g1 : 128 ≤ (y 1).val
  · refine there _ (there _ (there _ (there _ (there _ (there _ (here _ _ _ _ _ ?_)))))); rw [off_rows1 t]; exact Fin.forall_fin_two.mpr ⟨h0, by show 128 ≤ (y 1).val ∧ (y 1).val < 128 + 128; omega⟩
  refine there _ (there _ (there _ (there _ (there _ (there _ (there _ (here _ _ _ _ _ ?_))))))); rw [off_rows0 t]; exact Fin.forall_fin_two.mpr ⟨h0, by show 0 ≤ (y 1).val ∧ (y 1).val < 0 + 128; omega⟩

theorem trips4 : k0_t1_loop.trips = 4 := by decide +kernel

theorem pb_all (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (y : S256x1024.Idx) (n : ℕ) (hn : n ≤ k0_t1_loop.trips) :
    View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 n).1 y (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) y) := by
  induction n with
  | zero => exact View.allAt_nil _ _
  | succ n ih =>
    show View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 ((⟨n, hn⟩ : Fin k0_t1_loop.trips).val + 1)).1 y _
    rw [pb_k0_t1_succ]
    intro p hp
    rcases List.mem_append.mp hp with hp | hp
    · exact trip_all 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 ⟨n, hn⟩ _ _ _ _ _ y p hp
    · exact ih (by omega) p hp

theorem pb_cover (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (y : S256x1024.Idx) (n : ℕ) (hn : n ≤ k0_t1_loop.trips)
    (hy : 4 - n ≤ (y 0).val / 64) : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 n).1, y ∈ p.1.set := by
  have h0 : (y 0).val < 256 := (y 0).isLt
  induction n with
  | zero => omega
  | succ n ih =>
    show ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 ((⟨n, hn⟩ : Fin k0_t1_loop.trips).val + 1)).1, y ∈ p.1.set
    rw [pb_k0_t1_succ]
    have hn' : n < 4 := lt_of_lt_of_eq hn trips4
    by_cases h : (y 0).val / 64 = 3 - n
    · obtain ⟨p, hp, hm⟩ := trip_cover 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 ⟨n, hn⟩ _ _ _ _ _ y h
      exact ⟨p, List.mem_append.mpr (Or.inl hp), hm⟩
    · obtain ⟨p, hp, hm⟩ := ih (by omega) (by omega)
      exact ⟨p, List.mem_append.mpr (Or.inr hp), hm⟩

/-- What the loop leaves in the first output's buffer. -/
theorem read_loop (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (f : BufTy.Contents (Elt Ideal) arg8.view.ty) :
    arg8.view.read (Elt Ideal) (arg8.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 k0_t1_loop.trips).1) = (tile (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7)) := by
  funext y
  have h0 : (y 0).val < 256 := (y 0).isLt
  have hc := pb_cover 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 y _ le_rfl (by rw [trips4]; omega)
  rw [View.read_writes_apply_eq_canon _ _ y _ hc]
  exact View.canon_eq_of_allAt _ y _ hc (pb_all 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 y _ le_rfl)

end Cert.KernelIdeal.Dq
-- ==== Proof.DvPure.lean ====
module
public import proofs.«01_k».proof.Proof.DqPure
/-! # The gradients of the values and of the carried state, one chunk of one head at a time

What the loop's body stores for a head, as formulas of the chunk's queries `Q`, keys `K`, output gradient `D`, gates
`g` (the cumulative log decay) and `b`, inverse `P`, and of the gradient `S` of the state behind the chunk. -/
@[expose] public section
set_option maxRecDepth 16384
noncomputable section
open Idealize.ShloMosaic Idealize.ShloMosaic.TcCoe
namespace Cert.Dv
open Cert.Dq

/-- A matrix the size of one head's state. -/
abbrev Sq := Fin 128 → Fin 128 → EReal

/-- The decayed causal scores. -/
def intra (Q K : Chunk) (g : Fin 64 → EReal) (i j : Fin 64) : EReal :=
  if j ≤ i then (∑ e, Q i e * K j e) * Ideal.exp (g i - g j) else 0
/-- The gradient of the values the delta rule writes. -/
def dvn (Q K D : Chunk) (g : Fin 64 → EReal) (S : Sq) : Chunk := fun j c =>
  (∑ a, S a c * (K j a * Ideal.exp (g 63 - g j))) + ∑ i, D i c * intra Q K g i j
/-- The gradient of the chunk's values. -/
def dv (Q K D : Chunk) (g b : Fin 64 → EReal) (S : Sq) (P : Fin 64 → Fin 64 → EReal) : Chunk := fun j c =>
  (∑ i, dvn Q K D g S i c * P i j) * b j
/-- The gradient of the state before the chunk. -/
def ds (Q K D : Chunk) (g b : Fin 64 → EReal) (S : Sq) (P : Fin 64 → Fin 64 → EReal) : Sq := fun a c =>
  S a c * Ideal.exp (g 63) + (∑ j, D j c * (Q j a * Ideal.exp (g j))) + ∑ j, (0 - dvn Q K D g S j c) * ww P K b g j a

end Cert.Dv

namespace Cert.KernelIdeal.Dv
open Cert.KernelIdeal Cert.KernelIdeal.Gen Cert.Dq Cert.KernelIdeal.Dq Cert.Dv

/-- The two spellings of the causal part. -/
theorem close (y z w v : EReal) (x i : Fin 64) :
    (if x ≤ i then (if x ≤ i then y * (z * Ideal.exp (if x ≤ i then w - v else 0)) else 0) else 0)
      = y * (if x ≤ i then z * Ideal.exp (w - v) else 0) := by
  by_cases h : x ≤ i
  · simp only [if_pos h]
  · simp only [if_neg h, mul_zero]

/-- The gradient of head 0's values, as the loop's body forms it from what it loads. -/
def payV0 (q k d g : Vec Ideal S64x128 .f32) (s : Vec Ideal S1x128x128 .f32) (p : Vec Ideal S1x1x64x64 .bf16) : FVec Ideal S64x128 .f32 :=
  (k0_pay577 (broadcastTo S64x128 (shapeCast S64x1 (extractStridedSlice S64x1 ![0, 0] g (by decide +kernel)) (by decide +kernel)) (by decide +kernel)) (k0_pay123 (k0_pay4 p)) (k0_pay383 (k0_pay262 (k0_pay171 k0_pay36 (k0_pay43 (broadcastTo S64x128 (shapeCast S64x1 (extractStridedSlice S64x1 ![0, 8] g (by decide +kernel)) (by decide +kernel)) (by decide +kernel))) (k0_pay101 q k))) (k0_pay350 d) (k0_pay366 (k0_pay278 (k0_pay188 k (k0_pay187 (broadcastTo S64x128 (shapeCast S64x1 (extractStridedSlice S64x1 ![0, 8] g (by decide +kernel)) (by decide +kernel)) (by decide +kernel))))) (k0_pay332 (k0_pay294 s)))))

set_option maxHeartbeats 4000000 in
theorem payV0_at (q k d g : Vec Ideal S64x128 .f32) (s : Vec Ideal S1x128x128 .f32) (p : Vec Ideal S1x1x64x64 .bf16) (r : Fin 64) (c : Fin 128) :
    payV0 q k d g s p (ix2 r c) = dv (fun j c => q (ix2 j c)) (fun j c => k (ix2 j c)) (fun j c => d (ix2 j c))
      (fun j => g (ix2 j 8)) (fun j => g (ix2 j 0)) (fun a b => s (ix3 0 a b)) (fun a b => p (ix4 0 0 a b)) r c := by
  pointwise [payV0, k0_pay4, k0_pay36, k0_pay42, k0_pay43, k0_pay99, k0_pay100, k0_pay101, k0_pay123, k0_pay171, k0_pay179, k0_pay187, k0_pay188, k0_pay262, k0_pay278, k0_pay294, k0_pay332, k0_pay350, k0_pay366, k0_pay383, k0_pay575, k0_pay577]
  simp only [sel, close]
  rfl

/-- The gradient of the state before the chunk of head 0. -/
def payS0 (q k d g : Vec Ideal S64x128 .f32) (s : Vec Ideal S1x128x128 .f32) (p : Vec Ideal S1x1x64x64 .bf16) : FVec Ideal S1x128x128 .f32 :=
  (k0_pay703 (k0_pay425 (k0_pay219 (k0_pay149 (k0_pay4 p) (k0_pay59 (broadcastTo S64x128 (shapeCast S64x1 (extractStridedSlice S64x1 ![0, 0] g (by decide +kernel)) (by decide +kernel)) (by decide +kernel)) k) (k0_pay67 (broadcastTo S64x128 (shapeCast S64x1 (extractStridedSlice S64x1 ![0, 8] g (by decide +kernel)) (by decide +kernel)) (by decide +kernel))))) (k0_pay392 (k0_pay383 (k0_pay262 (k0_pay171 k0_pay36 (k0_pay43 (broadcastTo S64x128 (shapeCast S64x1 (extractStridedSlice S64x1 ![0, 8] g (by decide +kernel)) (by decide +kernel)) (by decide +kernel))) (k0_pay101 q k))) (k0_pay350 d) (k0_pay366 (k0_pay278 (k0_pay188 k (k0_pay187 (broadcastTo S64x128 (shapeCast S64x1 (extractStridedSlice S64x1 ![0, 8] g (by decide +kernel)) (by decide +kernel)) (by decide +kernel))))) (k0_pay332 (k0_pay294 s))))) (k0_pay408 (k0_pay238 (k0_pay203 q (k0_pay67 (broadcastTo S64x128 (shapeCast S64x1 (extractStridedSlice S64x1 ![0, 8] g (by decide +kernel)) (by decide +kernel)) (by decide +kernel))))) (k0_pay334 (k0_pay211 (k0_pay179 (broadcastTo S64x128 (shapeCast S64x1 (extractStridedSlice S64x1 ![0, 8] g (by decide +kernel)) (by decide +kernel)) (by decide +kernel)))) (k0_pay294 s)) (k0_pay349 d))))

set_option maxHeartbeats 4000000 in
theorem payS0_at (q k d g : Vec Ideal S64x128 .f32) (s : Vec Ideal S1x128x128 .f32) (p : Vec Ideal S1x1x64x64 .bf16) (o : Fin 1) (r c : Fin 128) :
    payS0 q k d g s p (ix3 o r c) = ds (fun j c => q (ix2 j c)) (fun j c => k (ix2 j c)) (fun j c => d (ix2 j c))
      (fun j => g (ix2 j 8)) (fun j => g (ix2 j 0)) (fun a b => s (ix3 0 a b)) (fun a b => p (ix4 0 0 a b)) r c := by
  pointwise [payS0, k0_pay4, k0_pay36, k0_pay42, k0_pay43, k0_pay59, k0_pay67, k0_pay99, k0_pay100, k0_pay101, k0_pay147, k0_pay148, k0_pay149, k0_pay171, k0_pay179, k0_pay187, k0_pay188, k0_pay203, k0_pay211, k0_pay219, k0_pay238, k0_pay262, k0_pay278, k0_pay294, k0_pay331, k0_pay332, k0_pay334, k0_pay349, k0_pay350, k0_pay366, k0_pay383, k0_pay392, k0_pay408, k0_pay425, k0_pay703]
  simp only [sel, close]
  rfl

/-- The gradient of head 1's values, as the loop's body forms it from what it loads. -/
def payV1 (q k d g : Vec Ideal S64x128 .f32) (s : Vec Ideal S1x128x128 .f32) (p : Vec Ideal S1x1x64x64 .bf16) : FVec Ideal S64x128 .f32 :=
  (k0_pay574 (broadcastTo S64x128 (shapeCast S64x1 (extractStridedSlice S64x1 ![0, 1] g (by decide +kernel)) (by decide +kernel)) (by decide +kernel)) (k0_pay126 (k0_pay5 p)) (k0_pay381 (k0_pay264 (k0_pay172 k0_pay36 (k0_pay45 (broadcastTo S64x128 (shapeCast S64x1 (extractStridedSlice S64x1 ![0, 9] g (by decide +kernel)) (by decide +kernel)) (by decide +kernel))) (k0_pay104 q k))) (k0_pay348 d) (k0_pay364 (k0_pay280 (k0_pay190 (broadcastTo S64x128 (shapeCast S64x1 (extractStridedSlice S64x1 ![0, 9] g (by decide +kernel)) (by decide +kernel)) (by decide +kernel)) k (k0_pay180 (broadcastTo S64x128 (shapeCast S64x1 (extractStridedSlice S64x1 ![0, 9] g (by decide +kernel)) (by decide +kernel)) (by decide +kernel))))) (k0_pay328 (k0_pay295 s)))))

set_option maxHeartbeats 4000000 in
theorem payV1_at (q k d g : Vec Ideal S64x128 .f32) (s : Vec Ideal S1x128x128 .f32) (p : Vec Ideal S1x1x64x64 .bf16) (r : Fin 64) (c : Fin 128) :
    payV1 q k d g s p (ix2 r c) = dv (fun j c => q (ix2 j c)) (fun j c => k (ix2 j c)) (fun j c => d (ix2 j c))
      (fun j => g (ix2 j 9)) (fun j => g (ix2 j 1)) (fun a b => s (ix3 0 a b)) (fun a b => p (ix4 0 0 a b)) r c := by
  pointwise [payV1, k0_pay5, k0_pay36, k0_pay44, k0_pay45, k0_pay102, k0_pay103, k0_pay104, k0_pay126, k0_pay172, k0_pay180, k0_pay189, k0_pay190, k0_pay264, k0_pay280, k0_pay295, k0_pay328, k0_pay348, k0_pay364, k0_pay381, k0_pay572, k0_pay574]
  simp only [sel, close]
  rfl

/-- The gradient of the state before the chunk of head 1. -/
def payS1 (q k d g : Vec Ideal S64x128 .f32) (s : Vec Ideal S1x128x128 .f32) (p : Vec Ideal S1x1x64x64 .bf16) : FVec Ideal S1x128x128 .f32 :=
  (k0_pay705 (k0_pay423 (k0_pay222 (k0_pay152 (k0_pay5 p) (k0_pay60 (broadcastTo S64x128 (shapeCast S64x1 (extractStridedSlice S64x1 ![0, 1] g (by decide +kernel)) (by decide +kernel)) (by decide +kernel)) k) (k0_pay68 (broadcastTo S64x128 (shapeCast S64x1 (extractStridedSlice S64x1 ![0, 9] g (by decide +kernel)) (by decide +kernel)) (by decide +kernel))))) (k0_pay391 (k0_pay381 (k0_pay264 (k0_pay172 k0_pay36 (k0_pay45 (broadcastTo S64x128 (shapeCast S64x1 (extractStridedSlice S64x1 ![0, 9] g (by decide +kernel)) (by decide +kernel)) (by decide +kernel))) (k0_pay104 q k))) (k0_pay348 d) (k0_pay364 (k0_pay280 (k0_pay190 (broadcastTo S64x128 (shapeCast S64x1 (extractStridedSlice S64x1 ![0, 9] g (by decide +kernel)) (by decide +kernel)) (by decide +kernel)) k (k0_pay180 (broadcastTo S64x128 (shapeCast S64x1 (extractStridedSlice S64x1 ![0, 9] g (by decide +kernel)) (by decide +kernel)) (by decide +kernel))))) (k0_pay328 (k0_pay295 s)))) (FloatOps.ofBits FTy.f32 0#32)) (k0_pay406 (k0_pay240 (k0_pay204 q (k0_pay68 (broadcastTo S64x128 (shapeCast S64x1 (extractStridedSlice S64x1 ![0, 9] g (by decide +kernel)) (by decide +kernel)) (by decide +kernel))))) (k0_pay330 (k0_pay212 (k0_pay180 (broadcastTo S64x128 (shapeCast S64x1 (extractStridedSlice S64x1 ![0, 9] g (by decide +kernel)) (by decide +kernel)) (by decide +kernel)))) (k0_pay295 s)) (k0_pay347 d))))

set_option maxHeartbeats 4000000 in
theorem payS1_at (q k d g : Vec Ideal S64x128 .f32) (s : Vec Ideal S1x128x128 .f32) (p : Vec Ideal S1x1x64x64 .bf16) (o : Fin 1) (r c : Fin 128) :
    payS1 q k d g s p (ix3 o r c) = ds (fun j c => q (ix2 j c)) (fun j c => k (ix2 j c)) (fun j c => d (ix2 j c))
      (fun j => g (ix2 j 9)) (fun j => g (ix2 j 1)) (fun a b => s (ix3 0 a b)) (fun a b => p (ix4 0 0 a b)) r c := by
  pointwise [payS1, k0_pay5, k0_pay36, k0_pay44, k0_pay45, k0_pay60, k0_pay68, k0_pay102, k0_pay103, k0_pay104, k0_pay150, k0_pay151, k0_pay152, k0_pay172, k0_pay180, k0_pay189, k0_pay190, k0_pay204, k0_pay212, k0_pay222, k0_pay240, k0_pay264, k0_pay280, k0_pay295, k0_pay327, k0_pay328, k0_pay330, k0_pay347, k0_pay348, k0_pay364, k0_pay381, k0_pay391, k0_pay406, k0_pay423, k0_pay705]
  simp only [sel, close]
  rfl

/-- The gradient of head 2's values, as the loop's body forms it from what it loads. -/
def payV2 (q k d g : Vec Ideal S64x128 .f32) (s : Vec Ideal S1x128x128 .f32) (p : Vec Ideal S1x1x64x64 .bf16) : FVec Ideal S64x128 .f32 :=
  (k0_pay571 (broadcastTo S64x128 (shapeCast S64x1 (extractStridedSlice S64x1 ![0, 2] g (by decide +kernel)) (by decide +kernel)) (by decide +kernel)) (k0_pay129 (k0_pay6 p)) (k0_pay379 (k0_pay266 (k0_pay173 k0_pay36 (k0_pay47 (broadcastTo S64x128 (shapeCast S64x1 (extractStridedSlice S64x1 ![0, 10] g (by decide +kernel)) (by decide +kernel)) (by decide +kernel))) (k0_pay107 q k))) (k0_pay346 d) (k0_pay362 (k0_pay282 (k0_pay192 (broadcastTo S64x128 (shapeCast S64x1 (extractStridedSlice S64x1 ![0, 10] g (by decide +kernel)) (by decide +kernel)) (by decide +kernel)) k (k0_pay181 (broadcastTo S64x128 (shapeCast S64x1 (extractStridedSlice S64x1 ![0, 10] g (by decide +kernel)) (by decide +kernel)) (by decide +kernel))))) (k0_pay324 (k0_pay296 s)))))

set_option maxHeartbeats 4000000 in
theorem payV2_at (q k d g : Vec Ideal S64x128 .f32) (s : Vec Ideal S1x128x128 .f32) (p : Vec Ideal S1x1x64x64 .bf16) (r : Fin 64) (c : Fin 128) :
    payV2 q k d g s p (ix2 r c) = dv (fun j c => q (ix2 j c)) (fun j c => k (ix2 j c)) (fun j c => d (ix2 j c))
      (fun j => g (ix2 j 10)) (fun j => g (ix2 j 2)) (fun a b => s (ix3 0 a b)) (fun a b => p (ix4 0 0 a b)) r c := by
  pointwise [payV2, k0_pay6, k0_pay36, k0_pay46, k0_pay47, k0_pay105, k0_pay106, k0_pay107, k0_pay129, k0_pay173, k0_pay181, k0_pay191, k0_pay192, k0_pay266, k0_pay282, k0_pay296, k0_pay324, k0_pay346, k0_pay362, k0_pay379, k0_pay568, k0_pay571]
  simp only [sel, close]
  rfl

/-- The gradient of the state before the chunk of head 2. -/
def payS2 (q k d g : Vec Ideal S64x128 .f32) (s : Vec Ideal S1x128x128 .f32) (p : Vec Ideal S1x1x64x64 .bf16) : FVec Ideal S1x128x128 .f32 :=
  (k0_pay707 (k0_pay421 (k0_pay225 (k0_pay155 (k0_pay6 p) (k0_pay61 (broadcastTo S64x128 (shapeCast S64x1 (extractStridedSlice S64x1 ![0, 2] g (by decide +kernel)) (by decide +kernel)) (by decide +kernel)) k) (k0_pay69 (broadcastTo S64x128 (shapeCast S64x1 (extractStridedSlice S64x1 ![0, 10] g (by decide +kernel)) (by decide +kernel)) (by decide +kernel))))) (k0_pay390 (k0_pay266 (k0_pay173 k0_pay36 (k0_pay47 (broadcastTo S64x128 (shapeCast S64x1 (extractStridedSlice S64x1 ![0, 10] g (by decide +kernel)) (by decide +kernel)) (by decide +kernel))) (k0_pay107 q k))) (k0_pay346 d) (k0_pay362 (k0_pay282 (k0_pay192 (broadcastTo S64x128 (shapeCast S64x1 (extractStridedSlice S64x1 ![0, 10] g (by decide +kernel)) (by decide +kernel)) (by decide +kernel)) k (k0_pay181 (broadcastTo S64x128 (shapeCast S64x1 (extractStridedSlice S64x1 ![0, 10] g (by decide +kernel)) (by decide +kernel)) (by decide +kernel))))) (k0_pay324 (k0_pay296 s)))) (k0_pay404 (k0_pay326 (k0_pay213 (k0_pay181 (broadcastTo S64x128 (shapeCast S64x1 (extractStridedSlice S64x1 ![0, 10] g (by decide +kernel)) (by decide +kernel)) (by decide +kernel)))) (k0_pay296 s)) (k0_pay403 (k0_pay242 (k0_pay205 q (k0_pay69 (broadcastTo S64x128 (shapeCast S64x1 (extractStridedSlice S64x1 ![0, 10] g (by decide +kernel)) (by decide +kernel)) (by decide +kernel))))) (k0_pay345 d)))))

set_option maxHeartbeats 4000000 in
theorem payS2_at (q k d g : Vec Ideal S64x128 .f32) (s : Vec Ideal S1x128x128 .f32) (p : Vec Ideal S1x1x64x64 .bf16) (o : Fin 1) (r c : Fin 128) :
    payS2 q k d g s p (ix3 o r c) = ds (fun j c => q (ix2 j c)) (fun j c => k (ix2 j c)) (fun j c => d (ix2 j c))
      (fun j => g (ix2 j 10)) (fun j => g (ix2 j 2)) (fun a b => s (ix3 0 a b)) (fun a b => p (ix4 0 0 a b)) r c := by
  pointwise [payS2, k0_pay6, k0_pay36, k0_pay46, k0_pay47, k0_pay61, k0_pay69, k0_pay105, k0_pay106, k0_pay107, k0_pay153, k0_pay154, k0_pay155, k0_pay173, k0_pay181, k0_pay191, k0_pay192, k0_pay205, k0_pay213, k0_pay225, k0_pay242, k0_pay266, k0_pay282, k0_pay296, k0_pay323, k0_pay324, k0_pay326, k0_pay345, k0_pay346, k0_pay362, k0_pay379, k0_pay390, k0_pay403, k0_pay404, k0_pay421, k0_pay707]
  simp only [sel, close]
  rfl

/-- The gradient of head 3's values, as the loop's body forms it from what it loads. -/
def payV3 (q k d g : Vec Ideal S64x128 .f32) (s : Vec Ideal S1x128x128 .f32) (p : Vec Ideal S1x1x64x64 .bf16) : FVec Ideal S64x128 .f32 :=
  (k0_pay567 (broadcastTo S64x128 (shapeCast S64x1 (extractStridedSlice S64x1 ![0, 3] g (by decide +kernel)) (by decide +kernel)) (by decide +kernel)) (k0_pay132 (k0_pay7 p)) (k0_pay377 (k0_pay268 (k0_pay174 k0_pay36 (k0_pay50 k0_pay36 (k0_pay48 (broadcastTo S64x128 (shapeCast S64x1 (extractStridedSlice S64x1 ![0, 11] g (by decide +kernel)) (by decide +kernel)) (by decide +kernel))) k0_pay49) (k0_pay110 q k))) (k0_pay344 d) (k0_pay359 (k0_pay284 (k0_pay194 (broadcastTo S64x128 (shapeCast S64x1 (extractStridedSlice S64x1 ![0, 11] g (by decide +kernel)) (by decide +kernel)) (by decide +kernel)) k (k0_pay182 (broadcastTo S64x128 (shapeCast S64x1 (extractStridedSlice S64x1 ![0, 11] g (by decide +kernel)) (by decide +kernel)) (by decide +kernel))))) (k0_pay320 (k0_pay297 s)))))

set_option maxHeartbeats 4000000 in
theorem payV3_at (q k d g : Vec Ideal S64x128 .f32) (s : Vec Ideal S1x128x128 .f32) (p : Vec Ideal S1x1x64x64 .bf16) (r : Fin 64) (c : Fin 128) :
    payV3 q k d g s p (ix2 r c) = dv (fun j c => q (ix2 j c)) (fun j c => k (ix2 j c)) (fun j c => d (ix2 j c))
      (fun j => g (ix2 j 11)) (fun j => g (ix2 j 3)) (fun a b => s (ix3 0 a b)) (fun a b => p (ix4 0 0 a b)) r c := by
  pointwise [payV3, k0_pay7, k0_pay36, k0_pay48, k0_pay49, k0_pay50, k0_pay108, k0_pay109, k0_pay110, k0_pay132, k0_pay174, k0_pay182, k0_pay193, k0_pay194, k0_pay268, k0_pay284, k0_pay297, k0_pay320, k0_pay344, k0_pay359, k0_pay377, k0_pay564, k0_pay567]
  simp only [sel, close]
  rfl

/-- The gradient of the state before the chunk of head 3. -/
def payS3 (q k d g : Vec Ideal S64x128 .f32) (s : Vec Ideal S1x128x128 .f32) (p : Vec Ideal S1x1x64x64 .bf16) : FVec Ideal S1x128x128 .f32 :=
  (k0_pay709 (k0_pay419 (k0_pay228 (k0_pay158 (k0_pay7 p) (k0_pay62 (broadcastTo S64x128 (shapeCast S64x1 (extractStridedSlice S64x1 ![0, 3] g (by decide +kernel)) (by decide +kernel)) (by decide +kernel)) k) (k0_pay70 (broadcastTo S64x128 (shapeCast S64x1 (extractStridedSlice S64x1 ![0, 11] g (by decide +kernel)) (by decide +kernel)) (by decide +kernel))))) (k0_pay389 (k0_pay268 (k0_pay174 k0_pay36 (k0_pay50 k0_pay36 (k0_pay48 (broadcastTo S64x128 (shapeCast S64x1 (extractStridedSlice S64x1 ![0, 11] g (by decide +kernel)) (by decide +kernel)) (by decide +kernel))) k0_pay49) (k0_pay110 q k))) (k0_pay344 d) (k0_pay359 (k0_pay284 (k0_pay194 (broadcastTo S64x128 (shapeCast S64x1 (extractStridedSlice S64x1 ![0, 11] g (by decide +kernel)) (by decide +kernel)) (by decide +kernel)) k (k0_pay182 (broadcastTo S64x128 (shapeCast S64x1 (extractStridedSlice S64x1 ![0, 11] g (by decide +kernel)) (by decide +kernel)) (by decide +kernel))))) (k0_pay320 (k0_pay297 s)))) (k0_pay401 (k0_pay244 (k0_pay206 q (k0_pay70 (broadcastTo S64x128 (shapeCast S64x1 (extractStridedSlice S64x1 ![0, 11] g (by decide +kernel)) (by decide +kernel)) (by decide +kernel))))) (k0_pay322 (k0_pay214 (k0_pay182 (broadcastTo S64x128 (shapeCast S64x1 (extractStridedSlice S64x1 ![0, 11] g (by decide +kernel)) (by decide +kernel)) (by decide +kernel)))) (k0_pay297 s)) (k0_pay343 d))))

set_option maxHeartbeats 4000000 in
theorem payS3_at (q k d g : Vec Ideal S64x128 .f32) (s : Vec Ideal S1x128x128 .f32) (p : Vec Ideal S1x1x64x64 .bf16) (o : Fin 1) (r c : Fin 128) :
    payS3 q k d g s p (ix3 o r c) = ds (fun j c => q (ix2 j c)) (fun j c => k (ix2 j c)) (fun j c => d (ix2 j c))
      (fun j => g (ix2 j 11)) (fun j => g (ix2 j 3)) (fun a b => s (ix3 0 a b)) (fun a b => p (ix4 0 0 a b)) r c := by
  pointwise [payS3, k0_pay7, k0_pay36, k0_pay48, k0_pay49, k0_pay50, k0_pay62, k0_pay70, k0_pay108, k0_pay109, k0_pay110, k0_pay156, k0_pay157, k0_pay158, k0_pay174, k0_pay182, k0_pay193, k0_pay194, k0_pay206, k0_pay214, k0_pay228, k0_pay244, k0_pay268, k0_pay284, k0_pay297, k0_pay319, k0_pay320, k0_pay322, k0_pay343, k0_pay344, k0_pay359, k0_pay377, k0_pay389, k0_pay401, k0_pay419, k0_pay709]
  simp only [sel, close]
  rfl

/-- The gradient of head 4's values, as the loop's body forms it from what it loads. -/
def payV4 (q k d g : Vec Ideal S64x128 .f32) (s : Vec Ideal S1x128x128 .f32) (p : Vec Ideal S1x1x64x64 .bf16) : FVec Ideal S64x128 .f32 :=
  (k0_pay563 (broadcastTo S64x128 (shapeCast S64x1 (extractStridedSlice S64x1 ![0, 4] g (by decide +kernel)) (by decide +kernel)) (by decide +kernel)) (k0_pay558 (k0_pay135 (k0_pay8 p)) (k0_pay375 (k0_pay270 (k0_pay175 k0_pay36 (k0_pay52 (broadcastTo S64x128 (shapeCast S64x1 (extractStridedSlice S64x1 ![0, 12] g (by decide +kernel)) (by decide +kernel)) (by decide +kernel)) k0_pay36 (k0_pay38 (broadcastTo S64x128 (shapeCast S64x1 (extractStridedSlice S64x1 ![0, 12] g (by decide +kernel)) (by decide +kernel)) (by decide +kernel)))) (k0_pay113 q k))) (k0_pay342 d) (k0_pay357 (k0_pay286 (k0_pay196 (broadcastTo S64x128 (shapeCast S64x1 (extractStridedSlice S64x1 ![0, 12] g (by decide +kernel)) (by decide +kernel)) (by decide +kernel)) k (k0_pay183 (broadcastTo S64x128 (shapeCast S64x1 (extractStridedSlice S64x1 ![0, 12] g (by decide +kernel)) (by decide +kernel)) (by decide +kernel))))) (k0_pay316 (k0_pay298 s))))))

set_option maxHeartbeats 4000000 in
theorem payV4_at (q k d g : Vec Ideal S64x128 .f32) (s : Vec Ideal S1x128x128 .f32) (p : Vec Ideal S1x1x64x64 .bf16) (r : Fin 64) (c : Fin 128) :
    payV4 q k d g s p (ix2 r c) = dv (fun j c => q (ix2 j c)) (fun j c => k (ix2 j c)) (fun j c => d (ix2 j c))
      (fun j => g (ix2 j 12)) (fun j => g (ix2 j 4)) (fun a b => s (ix3 0 a b)) (fun a b => p (ix4 0 0 a b)) r c := by
  pointwise [payV4, k0_pay8, k0_pay36, k0_pay38, k0_pay51, k0_pay52, k0_pay111, k0_pay112, k0_pay113, k0_pay135, k0_pay175, k0_pay183, k0_pay195, k0_pay196, k0_pay270, k0_pay286, k0_pay298, k0_pay316, k0_pay342, k0_pay357, k0_pay375, k0_pay558, k0_pay560, k0_pay563]
  simp only [sel, close]
  rfl

/-- The gradient of the state before the chunk of head 4. -/
def payS4 (q k d g : Vec Ideal S64x128 .f32) (s : Vec Ideal S1x128x128 .f32) (p : Vec Ideal S1x1x64x64 .bf16) : FVec Ideal S1x128x128 .f32 :=
  (k0_pay711 (k0_pay417 (k0_pay399 (k0_pay246 (k0_pay207 q (k0_pay71 (broadcastTo S64x128 (shapeCast S64x1 (extractStridedSlice S64x1 ![0, 12] g (by decide +kernel)) (by decide +kernel)) (by decide +kernel))))) (k0_pay318 (k0_pay215 (k0_pay183 (broadcastTo S64x128 (shapeCast S64x1 (extractStridedSlice S64x1 ![0, 12] g (by decide +kernel)) (by decide +kernel)) (by decide +kernel)))) (k0_pay298 s)) (k0_pay341 d)) (k0_pay416 (k0_pay230 (k0_pay161 (k0_pay159 (k0_pay8 p)) (k0_pay160 (k0_pay63 (broadcastTo S64x128 (shapeCast S64x1 (extractStridedSlice S64x1 ![0, 4] g (by decide +kernel)) (by decide +kernel)) (by decide +kernel)) k) (k0_pay71 (broadcastTo S64x128 (shapeCast S64x1 (extractStridedSlice S64x1 ![0, 12] g (by decide +kernel)) (by decide +kernel)) (by decide +kernel)))))) (k0_pay388 (k0_pay375 (k0_pay270 (k0_pay175 k0_pay36 (k0_pay52 (broadcastTo S64x128 (shapeCast S64x1 (extractStridedSlice S64x1 ![0, 12] g (by decide +kernel)) (by decide +kernel)) (by decide +kernel)) k0_pay36 (k0_pay38 (broadcastTo S64x128 (shapeCast S64x1 (extractStridedSlice S64x1 ![0, 12] g (by decide +kernel)) (by decide +kernel)) (by decide +kernel)))) (k0_pay113 q k))) (k0_pay342 d) (k0_pay357 (k0_pay286 (k0_pay196 (broadcastTo S64x128 (shapeCast S64x1 (extractStridedSlice S64x1 ![0, 12] g (by decide +kernel)) (by decide +kernel)) (by decide +kernel)) k (k0_pay183 (broadcastTo S64x128 (shapeCast S64x1 (extractStridedSlice S64x1 ![0, 12] g (by decide +kernel)) (by decide +kernel)) (by decide +kernel))))) (k0_pay316 (k0_pay298 s))))))))

set_option maxHeartbeats 4000000 in
theorem payS4_at (q k d g : Vec Ideal S64x128 .f32) (s : Vec Ideal S1x128x128 .f32) (p : Vec Ideal S1x1x64x64 .bf16) (o : Fin 1) (r c : Fin 128) :
    payS4 q k d g s p (ix3 o r c) = ds (fun j c => q (ix2 j c)) (fun j c => k (ix2 j c)) (fun j c => d (ix2 j c))
      (fun j => g (ix2 j 12)) (fun j => g (ix2 j 4)) (fun a b => s (ix3 0 a b)) (fun a b => p (ix4 0 0 a b)) r c := by
  pointwise [payS4, k0_pay8, k0_pay36, k0_pay38, k0_pay51, k0_pay52, k0_pay63, k0_pay71, k0_pay111, k0_pay112, k0_pay113, k0_pay159, k0_pay160, k0_pay161, k0_pay175, k0_pay183, k0_pay195, k0_pay196, k0_pay207, k0_pay215, k0_pay230, k0_pay246, k0_pay270, k0_pay286, k0_pay298, k0_pay315, k0_pay316, k0_pay318, k0_pay341, k0_pay342, k0_pay357, k0_pay375, k0_pay388, k0_pay399, k0_pay416, k0_pay417, k0_pay711]
  simp only [sel, close]
  rfl

/-- The gradient of head 5's values, as the loop's body forms it from what it loads. -/
def payV5 (q k d g : Vec Ideal S64x128 .f32) (s : Vec Ideal S1x128x128 .f32) (p : Vec Ideal S1x1x64x64 .bf16) : FVec Ideal S64x128 .f32 :=
  (k0_pay557 (broadcastTo S64x128 (shapeCast S64x1 (extractStridedSlice S64x1 ![0, 5] g (by decide +kernel)) (by decide +kernel)) (by decide +kernel)) (k0_pay138 (k0_pay9 p)) (k0_pay372 (k0_pay272 (k0_pay176 k0_pay36 (k0_pay54 (broadcastTo S64x128 (shapeCast S64x1 (extractStridedSlice S64x1 ![0, 13] g (by decide +kernel)) (by decide +kernel)) (by decide +kernel)) k0_pay36 (k0_pay39 (broadcastTo S64x128 (shapeCast S64x1 (extractStridedSlice S64x1 ![0, 13] g (by decide +kernel)) (by decide +kernel)) (by decide +kernel)))) (k0_pay116 q k))) (k0_pay340 d) (k0_pay355 (k0_pay288 (k0_pay198 (broadcastTo S64x128 (shapeCast S64x1 (extractStridedSlice S64x1 ![0, 13] g (by decide +kernel)) (by decide +kernel)) (by decide +kernel)) k (k0_pay184 (broadcastTo S64x128 (shapeCast S64x1 (extractStridedSlice S64x1 ![0, 13] g (by decide +kernel)) (by decide +kernel)) (by decide +kernel))))) (k0_pay311 s))))

set_option maxHeartbeats 4000000 in
theorem payV5_at (q k d g : Vec Ideal S64x128 .f32) (s : Vec Ideal S1x128x128 .f32) (p : Vec Ideal S1x1x64x64 .bf16) (r : Fin 64) (c : Fin 128) :
    payV5 q k d g s p (ix2 r c) = dv (fun j c => q (ix2 j c)) (fun j c => k (ix2 j c)) (fun j c => d (ix2 j c))
      (fun j => g (ix2 j 13)) (fun j => g (ix2 j 5)) (fun a b => s (ix3 0 a b)) (fun a b => p (ix4 0 0 a b)) r c := by
  pointwise [payV5, k0_pay9, k0_pay36, k0_pay39, k0_pay53, k0_pay54, k0_pay114, k0_pay115, k0_pay116, k0_pay138, k0_pay176, k0_pay184, k0_pay197, k0_pay198, k0_pay272, k0_pay288, k0_pay299, k0_pay311, k0_pay340, k0_pay355, k0_pay372, k0_pay554, k0_pay557]
  simp only [sel, close]
  rfl

/-- The gradient of the state before the chunk of head 5. -/
def payS5 (q k d g : Vec Ideal S64x128 .f32) (s : Vec Ideal S1x128x128 .f32) (p : Vec Ideal S1x1x64x64 .bf16) : FVec Ideal S1x128x128 .f32 :=
  (k0_pay714 (k0_pay414 (k0_pay232 (k0_pay164 (k0_pay9 p) (k0_pay64 (broadcastTo S64x128 (shapeCast S64x1 (extractStridedSlice S64x1 ![0, 5] g (by decide +kernel)) (by decide +kernel)) (by decide +kernel)) k) (k0_pay72 (broadcastTo S64x128 (shapeCast S64x1 (extractStridedSlice S64x1 ![0, 13] g (by decide +kernel)) (by decide +kernel)) (by decide +kernel))))) (k0_pay387 (k0_pay372 (k0_pay272 (k0_pay176 k0_pay36 (k0_pay54 (broadcastTo S64x128 (shapeCast S64x1 (extractStridedSlice S64x1 ![0, 13] g (by decide +kernel)) (by decide +kernel)) (by decide +kernel)) k0_pay36 (k0_pay39 (broadcastTo S64x128 (shapeCast S64x1 (extractStridedSlice S64x1 ![0, 13] g (by decide +kernel)) (by decide +kernel)) (by decide +kernel)))) (k0_pay116 q k))) (k0_pay340 d) (k0_pay355 (k0_pay288 (k0_pay198 (broadcastTo S64x128 (shapeCast S64x1 (extractStridedSlice S64x1 ![0, 13] g (by decide +kernel)) (by decide +kernel)) (by decide +kernel)) k (k0_pay184 (broadcastTo S64x128 (shapeCast S64x1 (extractStridedSlice S64x1 ![0, 13] g (by decide +kernel)) (by decide +kernel)) (by decide +kernel))))) (k0_pay311 s)))) (k0_pay397 (k0_pay248 (k0_pay208 q (k0_pay72 (broadcastTo S64x128 (shapeCast S64x1 (extractStridedSlice S64x1 ![0, 13] g (by decide +kernel)) (by decide +kernel)) (by decide +kernel))))) (k0_pay314 (k0_pay216 (k0_pay184 (broadcastTo S64x128 (shapeCast S64x1 (extractStridedSlice S64x1 ![0, 13] g (by decide +kernel)) (by decide +kernel)) (by decide +kernel)))) (k0_pay310 s)) (k0_pay339 d))))

set_option maxHeartbeats 4000000 in
theorem payS5_at (q k d g : Vec Ideal S64x128 .f32) (s : Vec Ideal S1x128x128 .f32) (p : Vec Ideal S1x1x64x64 .bf16) (o : Fin 1) (r c : Fin 128) :
    payS5 q k d g s p (ix3 o r c) = ds (fun j c => q (ix2 j c)) (fun j c => k (ix2 j c)) (fun j c => d (ix2 j c))
      (fun j => g (ix2 j 13)) (fun j => g (ix2 j 5)) (fun a b => s (ix3 0 a b)) (fun a b => p (ix4 0 0 a b)) r c := by
  pointwise [payS5, k0_pay9, k0_pay36, k0_pay39, k0_pay53, k0_pay54, k0_pay64, k0_pay72, k0_pay114, k0_pay115, k0_pay116, k0_pay162, k0_pay163, k0_pay164, k0_pay176, k0_pay184, k0_pay197, k0_pay198, k0_pay208, k0_pay216, k0_pay232, k0_pay248, k0_pay272, k0_pay288, k0_pay299, k0_pay310, k0_pay311, k0_pay314, k0_pay339, k0_pay340, k0_pay355, k0_pay372, k0_pay387, k0_pay397, k0_pay414, k0_pay714]
  simp only [sel, close]
  rfl

/-- The gradient of head 6's values, as the loop's body forms it from what it loads. -/
def payV6 (q k d g : Vec Ideal S64x128 .f32) (s : Vec Ideal S1x128x128 .f32) (p : Vec Ideal S1x1x64x64 .bf16) : FVec Ideal S64x128 .f32 :=
  (k0_pay553 (broadcastTo S64x128 (shapeCast S64x1 (extractStridedSlice S64x1 ![0, 6] g (by decide +kernel)) (by decide +kernel)) (by decide +kernel)) (k0_pay141 (k0_pay10 p)) (k0_pay370 (k0_pay274 (k0_pay177 k0_pay36 (k0_pay56 (broadcastTo S64x128 (shapeCast S64x1 (extractStridedSlice S64x1 ![0, 14] g (by decide +kernel)) (by decide +kernel)) (by decide +kernel)) k0_pay36 (k0_pay40 (broadcastTo S64x128 (shapeCast S64x1 (extractStridedSlice S64x1 ![0, 14] g (by decide +kernel)) (by decide +kernel)) (by decide +kernel)))) (k0_pay119 q k))) (k0_pay338 d) (k0_pay353 (k0_pay290 (k0_pay200 (broadcastTo S64x128 (shapeCast S64x1 (extractStridedSlice S64x1 ![0, 14] g (by decide +kernel)) (by decide +kernel)) (by decide +kernel)) k (k0_pay185 (broadcastTo S64x128 (shapeCast S64x1 (extractStridedSlice S64x1 ![0, 14] g (by decide +kernel)) (by decide +kernel)) (by decide +kernel))))) (k0_pay307 s))))

set_option maxHeartbeats 4000000 in
theorem payV6_at (q k d g : Vec Ideal S64x128 .f32) (s : Vec Ideal S1x128x128 .f32) (p : Vec Ideal S1x1x64x64 .bf16) (r : Fin 64) (c : Fin 128) :
    payV6 q k d g s p (ix2 r c) = dv (fun j c => q (ix2 j c)) (fun j c => k (ix2 j c)) (fun j c => d (ix2 j c))
      (fun j => g (ix2 j 14)) (fun j => g (ix2 j 6)) (fun a b => s (ix3 0 a b)) (fun a b => p (ix4 0 0 a b)) r c := by
  pointwise [payV6, k0_pay10, k0_pay36, k0_pay40, k0_pay55, k0_pay56, k0_pay117, k0_pay118, k0_pay119, k0_pay141, k0_pay177, k0_pay185, k0_pay199, k0_pay200, k0_pay274, k0_pay290, k0_pay300, k0_pay307, k0_pay338, k0_pay353, k0_pay370, k0_pay550, k0_pay553]
  simp only [sel, close]
  rfl

/-- The gradient of the state before the chunk of head 6. -/
def payS6 (q k d g : Vec Ideal S64x128 .f32) (s : Vec Ideal S1x128x128 .f32) (p : Vec Ideal S1x1x64x64 .bf16) : FVec Ideal S1x128x128 .f32 :=
  (k0_pay717 (k0_pay412 (k0_pay234 (k0_pay167 (k0_pay10 p) (k0_pay65 (broadcastTo S64x128 (shapeCast S64x1 (extractStridedSlice S64x1 ![0, 6] g (by decide +kernel)) (by decide +kernel)) (by decide +kernel)) k) (k0_pay73 (broadcastTo S64x128 (shapeCast S64x1 (extractStridedSlice S64x1 ![0, 14] g (by decide +kernel)) (by decide +kernel)) (by decide +kernel))))) (k0_pay386 (k0_pay370 (k0_pay274 (k0_pay177 k0_pay36 (k0_pay56 (broadcastTo S64x128 (shapeCast S64x1 (extractStridedSlice S64x1 ![0, 14] g (by decide +kernel)) (by decide +kernel)) (by decide +kernel)) k0_pay36 (k0_pay40 (broadcastTo S64x128 (shapeCast S64x1 (extractStridedSlice S64x1 ![0, 14] g (by decide +kernel)) (by decide +kernel)) (by decide +kernel)))) (k0_pay119 q k))) (k0_pay338 d) (k0_pay353 (k0_pay290 (k0_pay200 (broadcastTo S64x128 (shapeCast S64x1 (extractStridedSlice S64x1 ![0, 14] g (by decide +kernel)) (by decide +kernel)) (by decide +kernel)) k (k0_pay185 (broadcastTo S64x128 (shapeCast S64x1 (extractStridedSlice S64x1 ![0, 14] g (by decide +kernel)) (by decide +kernel)) (by decide +kernel))))) (k0_pay307 s)))) (k0_pay395 (k0_pay250 (k0_pay209 q (k0_pay73 (broadcastTo S64x128 (shapeCast S64x1 (extractStridedSlice S64x1 ![0, 14] g (by decide +kernel)) (by decide +kernel)) (by decide +kernel))))) (k0_pay309 (k0_pay217 (k0_pay185 (broadcastTo S64x128 (shapeCast S64x1 (extractStridedSlice S64x1 ![0, 14] g (by decide +kernel)) (by decide +kernel)) (by decide +kernel)))) s) (k0_pay337 d))))

set_option maxHeartbeats 4000000 in
theorem payS6_at (q k d g : Vec Ideal S64x128 .f32) (s : Vec Ideal S1x128x128 .f32) (p : Vec Ideal S1x1x64x64 .bf16) (o : Fin 1) (r c : Fin 128) :
    payS6 q k d g s p (ix3 o r c) = ds (fun j c => q (ix2 j c)) (fun j c => k (ix2 j c)) (fun j c => d (ix2 j c))
      (fun j => g (ix2 j 14)) (fun j => g (ix2 j 6)) (fun a b => s (ix3 0 a b)) (fun a b => p (ix4 0 0 a b)) r c := by
  pointwise [payS6, k0_pay10, k0_pay36, k0_pay40, k0_pay55, k0_pay56, k0_pay65, k0_pay73, k0_pay117, k0_pay118, k0_pay119, k0_pay165, k0_pay166, k0_pay167, k0_pay177, k0_pay185, k0_pay199, k0_pay200, k0_pay209, k0_pay217, k0_pay234, k0_pay250, k0_pay274, k0_pay290, k0_pay300, k0_pay306, k0_pay307, k0_pay309, k0_pay337, k0_pay338, k0_pay353, k0_pay370, k0_pay386, k0_pay395, k0_pay412, k0_pay717]
  simp only [sel, close]
  rfl

/-- The gradient of head 7's values, as the loop's body forms it from what it loads. -/
def payV7 (q k d g : Vec Ideal S64x128 .f32) (s : Vec Ideal S1x128x128 .f32) (p : Vec Ideal S1x1x64x64 .bf16) : FVec Ideal S64x128 .f32 :=
  (k0_pay549 (broadcastTo S64x128 (shapeCast S64x1 (extractStridedSlice S64x1 ![0, 7] g (by decide +kernel)) (by decide +kernel)) (by decide +kernel)) (k0_pay144 (k0_pay11 p)) (k0_pay368 (k0_pay276 (k0_pay178 k0_pay36 (k0_pay58 (broadcastTo S64x128 (shapeCast S64x1 (extractStridedSlice S64x1 ![0, 15] g (by decide +kernel)) (by decide +kernel)) (by decide +kernel)) k0_pay36 (k0_pay41 (broadcastTo S64x128 (shapeCast S64x1 (extractStridedSlice S64x1 ![0, 15] g (by decide +kernel)) (by decide +kernel)) (by decide +kernel)))) (k0_pay122 q k))) (k0_pay336 d) (k0_pay351 (k0_pay292 (k0_pay202 (broadcastTo S64x128 (shapeCast S64x1 (extractStridedSlice S64x1 ![0, 15] g (by decide +kernel)) (by decide +kernel)) (by decide +kernel)) k (k0_pay186 (broadcastTo S64x128 (shapeCast S64x1 (extractStridedSlice S64x1 ![0, 15] g (by decide +kernel)) (by decide +kernel)) (by decide +kernel))))) (k0_pay303 s))))

set_option maxHeartbeats 4000000 in
theorem payV7_at (q k d g : Vec Ideal S64x128 .f32) (s : Vec Ideal S1x128x128 .f32) (p : Vec Ideal S1x1x64x64 .bf16) (r : Fin 64) (c : Fin 128) :
    payV7 q k d g s p (ix2 r c) = dv (fun j c => q (ix2 j c)) (fun j c => k (ix2 j c)) (fun j c => d (ix2 j c))
      (fun j => g (ix2 j 15)) (fun j => g (ix2 j 7)) (fun a b => s (ix3 0 a b)) (fun a b => p (ix4 0 0 a b)) r c := by
  pointwise [payV7, k0_pay11, k0_pay36, k0_pay41, k0_pay57, k0_pay58, k0_pay120, k0_pay121, k0_pay122, k0_pay144, k0_pay178, k0_pay186, k0_pay201, k0_pay202, k0_pay276, k0_pay292, k0_pay301, k0_pay303, k0_pay336, k0_pay351, k0_pay368, k0_pay546, k0_pay549]
  simp only [sel, close]
  rfl

/-- The gradient of the state before the chunk of head 7. -/
def payS7 (q k d g : Vec Ideal S64x128 .f32) (s : Vec Ideal S1x128x128 .f32) (p : Vec Ideal S1x1x64x64 .bf16) : FVec Ideal S1x128x128 .f32 :=
  (k0_pay3 (k0_pay410 (k0_pay236 (k0_pay170 (k0_pay11 p) (k0_pay66 (broadcastTo S64x128 (shapeCast S64x1 (extractStridedSlice S64x1 ![0, 7] g (by decide +kernel)) (by decide +kernel)) (by decide +kernel)) k) (k0_pay74 (broadcastTo S64x128 (shapeCast S64x1 (extractStridedSlice S64x1 ![0, 15] g (by decide +kernel)) (by decide +kernel)) (by decide +kernel))))) (k0_pay385 (k0_pay368 (k0_pay276 (k0_pay178 k0_pay36 (k0_pay58 (broadcastTo S64x128 (shapeCast S64x1 (extractStridedSlice S64x1 ![0, 15] g (by decide +kernel)) (by decide +kernel)) (by decide +kernel)) k0_pay36 (k0_pay41 (broadcastTo S64x128 (shapeCast S64x1 (extractStridedSlice S64x1 ![0, 15] g (by decide +kernel)) (by decide +kernel)) (by decide +kernel)))) (k0_pay122 q k))) (k0_pay336 d) (k0_pay351 (k0_pay292 (k0_pay202 (broadcastTo S64x128 (shapeCast S64x1 (extractStridedSlice S64x1 ![0, 15] g (by decide +kernel)) (by decide +kernel)) (by decide +kernel)) k (k0_pay186 (broadcastTo S64x128 (shapeCast S64x1 (extractStridedSlice S64x1 ![0, 15] g (by decide +kernel)) (by decide +kernel)) (by decide +kernel))))) (k0_pay303 s)))) (k0_pay393 (k0_pay252 (k0_pay210 q (k0_pay74 (broadcastTo S64x128 (shapeCast S64x1 (extractStridedSlice S64x1 ![0, 15] g (by decide +kernel)) (by decide +kernel)) (by decide +kernel))))) (k0_pay305 (k0_pay218 (k0_pay186 (broadcastTo S64x128 (shapeCast S64x1 (extractStridedSlice S64x1 ![0, 15] g (by decide +kernel)) (by decide +kernel)) (by decide +kernel)))) s) (k0_pay335 d))))

set_option maxHeartbeats 4000000 in
theorem payS7_at (q k d g : Vec Ideal S64x128 .f32) (s : Vec Ideal S1x128x128 .f32) (p : Vec Ideal S1x1x64x64 .bf16) (o : Fin 1) (r c : Fin 128) :
    payS7 q k d g s p (ix3 o r c) = ds (fun j c => q (ix2 j c)) (fun j c => k (ix2 j c)) (fun j c => d (ix2 j c))
      (fun j => g (ix2 j 15)) (fun j => g (ix2 j 7)) (fun a b => s (ix3 0 a b)) (fun a b => p (ix4 0 0 a b)) r c := by
  pointwise [payS7, k0_pay3, k0_pay11, k0_pay36, k0_pay41, k0_pay57, k0_pay58, k0_pay66, k0_pay74, k0_pay120, k0_pay121, k0_pay122, k0_pay168, k0_pay169, k0_pay170, k0_pay178, k0_pay186, k0_pay201, k0_pay202, k0_pay210, k0_pay218, k0_pay236, k0_pay252, k0_pay276, k0_pay292, k0_pay301, k0_pay302, k0_pay303, k0_pay305, k0_pay335, k0_pay336, k0_pay351, k0_pay368, k0_pay385, k0_pay393, k0_pay410]
  simp only [sel, close]
  rfl

end Cert.KernelIdeal.Dv
-- ==== Proof.DvLoop.lean ====
module
public import proofs.«01_k».proof.Proof.DqLoop
public import proofs.«01_k».proof.Proof.DvPure
/-! # The gradients of the values and of the carried state, one tile at a time

The loop over a tile's four chunks reads and replaces the carried gradient of the state: here is what it leaves in the
third output's staging buffer and in the carried buffer, as functions of the staged inputs and of what is carried in. -/
@[expose] public section
set_option maxRecDepth 16384
noncomputable section
open Idealize.ShloMosaic Idealize.ShloMosaic.TcCoe
namespace Cert.KernelIdeal.Dv
open Cert.KernelIdeal Cert.KernelIdeal.Gen Cert.Dq Cert.KernelIdeal.Dq Cert.Dv

/-- The gradients of the eight heads' states. -/
abbrev Car := Vec Ideal S8x128x128 .f32

/-- The gradient of the values in chunk `q` of head `h`, with `E` behind the chunk. -/
def dvAt (x0 x1 : Vec Ideal S256x1024 .f32) (x3 : Vec Ideal S256x128 .f32) (x5 : Vec Ideal S4x8x64x64 .bf16) (x6 : Vec Ideal S256x1024 .f32) (E : Car) (q : Fin 4) (h : Fin 8) : Chunk :=
  dv (fun j c => x0 (ix2 (tok q j) (lan h c))) (fun j c => x1 (ix2 (tok q j) (lan h c))) (fun j c => x6 (ix2 (tok q j) (lan h c)))
    (fun j => x3 (ix2 (tok q j) (gcol h))) (fun j => x3 (ix2 (tok q j) (bcol h))) (fun a b => E (ix3 h a b)) (fun a b => x5 (ix4 q h a b))
/-- The gradient of head `h`'s state before chunk `q`. -/
def dsAt (x0 x1 : Vec Ideal S256x1024 .f32) (x3 : Vec Ideal S256x128 .f32) (x5 : Vec Ideal S4x8x64x64 .bf16) (x6 : Vec Ideal S256x1024 .f32) (q : Fin 4) (E : Car) (h : Fin 8) : Sq :=
  ds (fun j c => x0 (ix2 (tok q j) (lan h c))) (fun j c => x1 (ix2 (tok q j) (lan h c))) (fun j c => x6 (ix2 (tok q j) (lan h c)))
    (fun j => x3 (ix2 (tok q j) (gcol h))) (fun j => x3 (ix2 (tok q j) (bcol h))) (fun a b => E (ix3 h a b)) (fun a b => x5 (ix4 q h a b))
/-- The gradients of the states before chunk `q`. -/
def stepS (x0 x1 : Vec Ideal S256x1024 .f32) (x3 : Vec Ideal S256x128 .f32) (x5 : Vec Ideal S4x8x64x64 .bf16) (x6 : Vec Ideal S256x1024 .f32) (q : Fin 4) (E : Car) : Car := fun y => dsAt x0 x1 x3 x5 x6 q E ⟨(y 0).val, (y 0).isLt⟩ ⟨(y 1).val, (y 1).isLt⟩ ⟨(y 2).val, (y 2).isLt⟩
/-- The carried gradients after `n` chunks of the tile, the last chunk first. -/
def afterS (x0 x1 : Vec Ideal S256x1024 .f32) (x3 : Vec Ideal S256x128 .f32) (x5 : Vec Ideal S4x8x64x64 .bf16) (x6 : Vec Ideal S256x1024 .f32) (E : Car) : ℕ → Car
  | 0 => E
  | n + 1 => stepS x0 x1 x3 x5 x6 ⟨3 - n, by omega⟩ (afterS x0 x1 x3 x5 x6 E n)
/-- The gradient of a tile's values. -/
def tileV (x0 x1 : Vec Ideal S256x1024 .f32) (x3 : Vec Ideal S256x128 .f32) (x5 : Vec Ideal S4x8x64x64 .bf16) (x6 : Vec Ideal S256x1024 .f32) (E : Car) : Vec Ideal S256x1024 .f32 := fun y =>
  dvAt x0 x1 x3 x5 x6 (afterS x0 x1 x3 x5 x6 E (3 - (y 0).val / 64)) ⟨(y 0).val / 64, by have : (y 0).val < 256 := (y 0).isLt; omega⟩ ⟨(y 1).val / 128, by have : (y 1).val < 1024 := (y 1).isLt; omega⟩
    ⟨(y 0).val % 64, Nat.mod_lt _ (by decide)⟩ ⟨(y 1).val % 128, Nat.mod_lt _ (by decide)⟩

theorem ld3 {sig' : RefSig} {κ : Kind} {sp : Space} (v : View sig' κ sp S8x128x128 .f32) (f : v.ty.Contents (Elt Ideal)) (off : Fin 3 → ℕ) (inb)
    (h : Fin 8) (ho : off = ![h.val, 0, 0]) (a b : Fin 128) :
    v.readAt (Elt Ideal) (Rect.unit (s := S8x128x128) off S1x128x128.size inb).toLoadRect f (ix3 0 a b : S1x128x128.Idx) = v.read (Elt Ideal) f (ix3 h a b) := by
  subst ho
  refine congrArg (v.read (Elt Ideal) f) (funext fun i => Fin.ext ?_)
  fin_cases i
  · show h.val + 1 * 0 = h.val; omega
  · show 0 + 1 * a.val = a.val; omega
  · show 0 + 1 * b.val = b.val; omega

theorem hereS {y : S8x128x128.Idx} (off size : Fin S8x128x128.rank → ℕ) (inb : ∀ a, off a + size a ≤ S8x128x128.size a) (w : (Rect.unit off size inb).shape.Idx → Elt Ideal .f32)
    (L : List (View.Piece (Elt Ideal) S8x128x128 .f32)) (h : ∀ a, off a ≤ (y a).val ∧ (y a).val < off a + size a) :
    ∃ q ∈ (⟨Rect.unit off size inb, w⟩ : View.Piece (Elt Ideal) S8x128x128 .f32) :: L, y ∈ q.1.set := ⟨⟨Rect.unit off size inb, w⟩, List.mem_cons_self, (Rect.mem_set_unit (inb := inb)).mpr h⟩
theorem thereS {y : S8x128x128.Idx} (p : View.Piece (Elt Ideal) S8x128x128 .f32) {L : List (View.Piece (Elt Ideal) S8x128x128 .f32)} (h : ∃ q ∈ L, y ∈ q.1.set) :
    ∃ q ∈ p :: L, y ∈ q.1.set := h.imp fun _ h => ⟨List.mem_cons_of_mem _ h.1, h.2⟩

/-- Head 0's store into the third output. -/
theorem pieceV0 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off10 t) S64x128.size
      (trip_k0_t1.sl.r_538 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows0 t] at hx
  have h0 : (y 0).val = (3 - t.val) * 64 + r.val := hx 0
  have h1 : (y 1).val = 0 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 0 := Fin.ext (by show (y 1).val / 128 = 0; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV0_at (View.readAt (Elt Ideal) arg1.view (Rect.unit (s := S256x1024) (k0_off10 t) S64x128.size (k0_inb10 t)).toLoadRect X_arg1) (View.readAt (Elt Ideal) arg2.view (Rect.unit (s := S256x1024) (k0_off10 t) S64x128.size (k0_inb10 t)).toLoadRect X_arg2) (View.readAt (Elt Ideal) arg7.view (Rect.unit (s := S256x1024) (k0_off10 t) S64x128.size (k0_inb10 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![0, 0, 0] S1x128x128.size inb_S8x128x128_S1x128x128_0_0_0).toLoadRect f12) (View.readAt (Elt Ideal) arg6.view (Rect.unit (s := S4x8x64x64) (k0_off1 t) S1x1x64x64.size (k0_inb1 t)).toLoadRect X_arg6) r c
  have a1 : ∀ j c, (View.readAt (Elt Ideal) arg1.view (Rect.unit (s := S256x1024) (k0_off10 t) S64x128.size (k0_inb10 t)).toLoadRect X_arg1) (ix2 j c : S64x128.Idx) = arg1.view.read (Elt Ideal) X_arg1 (ix2 (tok (chunkAt t) j) (lan 0 c)) :=
    fun j c => ld2 _ _ _ _ _ _ (off_rows0 t) j c _ _ rfl rfl
  have a2 : ∀ j c, (View.readAt (Elt Ideal) arg2.view (Rect.unit (s := S256x1024) (k0_off10 t) S64x128.size (k0_inb10 t)).toLoadRect X_arg2) (ix2 j c : S64x128.Idx) = arg2.view.read (Elt Ideal) X_arg2 (ix2 (tok (chunkAt t) j) (lan 0 c)) :=
    fun j c => ld2 _ _ _ _ _ _ (off_rows0 t) j c _ _ rfl rfl
  have a7 : ∀ j c, (View.readAt (Elt Ideal) arg7.view (Rect.unit (s := S256x1024) (k0_off10 t) S64x128.size (k0_inb10 t)).toLoadRect X_arg7) (ix2 j c : S64x128.Idx) = arg7.view.read (Elt Ideal) X_arg7 (ix2 (tok (chunkAt t) j) (lan 0 c)) :=
    fun j c => ld2 _ _ _ _ _ _ (off_rows0 t) j c _ _ rfl rfl
  have ag : ∀ j, (View.readAt (Elt Ideal) arg4.view (Rect.unit (s := S256x128) (k0_off9 t) S64x128.size (k0_inb9 t)).toLoadRect X_arg4) (ix2 j 8 : S64x128.Idx) = arg4.view.read (Elt Ideal) X_arg4 (ix2 (tok (chunkAt t) j) (gcol 0)) :=
    fun j => ld2 _ _ _ _ _ _ (off_gate t) j 8 _ _ rfl rfl
  have ab : ∀ j, (View.readAt (Elt Ideal) arg4.view (Rect.unit (s := S256x128) (k0_off9 t) S64x128.size (k0_inb9 t)).toLoadRect X_arg4) (ix2 j 0 : S64x128.Idx) = arg4.view.read (Elt Ideal) X_arg4 (ix2 (tok (chunkAt t) j) (bcol 0)) :=
    fun j => ld2 _ _ _ _ _ _ (off_gate t) j 0 _ _ rfl rfl
  have a6 : ∀ a b, (View.readAt (Elt Ideal) arg6.view (Rect.unit (s := S4x8x64x64) (k0_off1 t) S1x1x64x64.size (k0_inb1 t)).toLoadRect X_arg6) (ix4 0 0 a b : S1x1x64x64.Idx) = arg6.view.read (Elt Ideal) X_arg6 (ix4 (chunkAt t) 0 a b) :=
    fun a b => ld4 _ _ _ _ _ _ (off_inv0 t) a b
  have a12 : ∀ a b, (View.readAt (Elt Ideal) arg12.view (Rect.unit (s := S8x128x128) ![0, 0, 0] S1x128x128.size inb_S8x128x128_S1x128x128_0_0_0).toLoadRect f12) (ix3 0 a b : S1x128x128.Idx) = arg12.view.read (Elt Ideal) f12 (ix3 0 a b) :=
    fun a b => ld3 _ _ _ _ 0 rfl a b
  simp only [a1, a2, a6, a7, ag, ab, a12] at key
  exact key

/-- Head 0's store into the carried buffer. -/
theorem pieceS0 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![0, 0, 0] S1x128x128.size
      (k0_pay703 (trip_k0_t1.sl.r_416 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 0 + o.val := hx 0
  have h1 : (y 1).val = 0 + r.val := hx 1
  have h2 : (y 2).val = 0 + c.val := hx 2
  have e0 : (⟨(y 0).val, (y 0).isLt⟩ : Fin 8) = 0 := Fin.ext (by show (y 0).val = 0; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS0_at (View.readAt (Elt Ideal) arg1.view (Rect.unit (s := S256x1024) (k0_off10 t) S64x128.size (k0_inb10 t)).toLoadRect X_arg1) (View.readAt (Elt Ideal) arg2.view (Rect.unit (s := S256x1024) (k0_off10 t) S64x128.size (k0_inb10 t)).toLoadRect X_arg2) (View.readAt (Elt Ideal) arg7.view (Rect.unit (s := S256x1024) (k0_off10 t) S64x128.size (k0_inb10 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![0, 0, 0] S1x128x128.size inb_S8x128x128_S1x128x128_0_0_0).toLoadRect f12) (View.readAt (Elt Ideal) arg6.view (Rect.unit (s := S4x8x64x64) (k0_off1 t) S1x1x64x64.size (k0_inb1 t)).toLoadRect X_arg6) o r c
  have a1 : ∀ j c, (View.readAt (Elt Ideal) arg1.view (Rect.unit (s := S256x1024) (k0_off10 t) S64x128.size (k0_inb10 t)).toLoadRect X_arg1) (ix2 j c : S64x128.Idx) = arg1.view.read (Elt Ideal) X_arg1 (ix2 (tok (chunkAt t) j) (lan 0 c)) :=
    fun j c => ld2 _ _ _ _ _ _ (off_rows0 t) j c _ _ rfl rfl
  have a2 : ∀ j c, (View.readAt (Elt Ideal) arg2.view (Rect.unit (s := S256x1024) (k0_off10 t) S64x128.size (k0_inb10 t)).toLoadRect X_arg2) (ix2 j c : S64x128.Idx) = arg2.view.read (Elt Ideal) X_arg2 (ix2 (tok (chunkAt t) j) (lan 0 c)) :=
    fun j c => ld2 _ _ _ _ _ _ (off_rows0 t) j c _ _ rfl rfl
  have a7 : ∀ j c, (View.readAt (Elt Ideal) arg7.view (Rect.unit (s := S256x1024) (k0_off10 t) S64x128.size (k0_inb10 t)).toLoadRect X_arg7) (ix2 j c : S64x128.Idx) = arg7.view.read (Elt Ideal) X_arg7 (ix2 (tok (chunkAt t) j) (lan 0 c)) :=
    fun j c => ld2 _ _ _ _ _ _ (off_rows0 t) j c _ _ rfl rfl
  have ag : ∀ j, (View.readAt (Elt Ideal) arg4.view (Rect.unit (s := S256x128) (k0_off9 t) S64x128.size (k0_inb9 t)).toLoadRect X_arg4) (ix2 j 8 : S64x128.Idx) = arg4.view.read (Elt Ideal) X_arg4 (ix2 (tok (chunkAt t) j) (gcol 0)) :=
    fun j => ld2 _ _ _ _ _ _ (off_gate t) j 8 _ _ rfl rfl
  have ab : ∀ j, (View.readAt (Elt Ideal) arg4.view (Rect.unit (s := S256x128) (k0_off9 t) S64x128.size (k0_inb9 t)).toLoadRect X_arg4) (ix2 j 0 : S64x128.Idx) = arg4.view.read (Elt Ideal) X_arg4 (ix2 (tok (chunkAt t) j) (bcol 0)) :=
    fun j => ld2 _ _ _ _ _ _ (off_gate t) j 0 _ _ rfl rfl
  have a6 : ∀ a b, (View.readAt (Elt Ideal) arg6.view (Rect.unit (s := S4x8x64x64) (k0_off1 t) S1x1x64x64.size (k0_inb1 t)).toLoadRect X_arg6) (ix4 0 0 a b : S1x1x64x64.Idx) = arg6.view.read (Elt Ideal) X_arg6 (ix4 (chunkAt t) 0 a b) :=
    fun a b => ld4 _ _ _ _ _ _ (off_inv0 t) a b
  have a12 : ∀ a b, (View.readAt (Elt Ideal) arg12.view (Rect.unit (s := S8x128x128) ![0, 0, 0] S1x128x128.size inb_S8x128x128_S1x128x128_0_0_0).toLoadRect f12) (ix3 0 a b : S1x128x128.Idx) = arg12.view.read (Elt Ideal) f12 (ix3 0 a b) :=
    fun a b => ld3 _ _ _ _ 0 rfl a b
  simp only [a1, a2, a6, a7, ag, ab, a12] at key
  exact key

/-- Head 1's store into the third output. -/
theorem pieceV1 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off11 t) S64x128.size
      (trip_k0_t1.sl.r_536 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows1 t] at hx
  have h0 : (y 0).val = (3 - t.val) * 64 + r.val := hx 0
  have h1 : (y 1).val = 128 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 1 := Fin.ext (by show (y 1).val / 128 = 1; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV1_at (View.readAt (Elt Ideal) arg1.view (Rect.unit (s := S256x1024) (k0_off11 t) S64x128.size (k0_inb11 t)).toLoadRect X_arg1) (View.readAt (Elt Ideal) arg2.view (Rect.unit (s := S256x1024) (k0_off11 t) S64x128.size (k0_inb11 t)).toLoadRect X_arg2) (View.readAt (Elt Ideal) arg7.view (Rect.unit (s := S256x1024) (k0_off11 t) S64x128.size (k0_inb11 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![1, 0, 0] S1x128x128.size inb_S8x128x128_S1x128x128_1_0_0).toLoadRect f12) (View.readAt (Elt Ideal) arg6.view (Rect.unit (s := S4x8x64x64) (k0_off2 t) S1x1x64x64.size (k0_inb2 t)).toLoadRect X_arg6) r c
  have a1 : ∀ j c, (View.readAt (Elt Ideal) arg1.view (Rect.unit (s := S256x1024) (k0_off11 t) S64x128.size (k0_inb11 t)).toLoadRect X_arg1) (ix2 j c : S64x128.Idx) = arg1.view.read (Elt Ideal) X_arg1 (ix2 (tok (chunkAt t) j) (lan 1 c)) :=
    fun j c => ld2 _ _ _ _ _ _ (off_rows1 t) j c _ _ rfl rfl
  have a2 : ∀ j c, (View.readAt (Elt Ideal) arg2.view (Rect.unit (s := S256x1024) (k0_off11 t) S64x128.size (k0_inb11 t)).toLoadRect X_arg2) (ix2 j c : S64x128.Idx) = arg2.view.read (Elt Ideal) X_arg2 (ix2 (tok (chunkAt t) j) (lan 1 c)) :=
    fun j c => ld2 _ _ _ _ _ _ (off_rows1 t) j c _ _ rfl rfl
  have a7 : ∀ j c, (View.readAt (Elt Ideal) arg7.view (Rect.unit (s := S256x1024) (k0_off11 t) S64x128.size (k0_inb11 t)).toLoadRect X_arg7) (ix2 j c : S64x128.Idx) = arg7.view.read (Elt Ideal) X_arg7 (ix2 (tok (chunkAt t) j) (lan 1 c)) :=
    fun j c => ld2 _ _ _ _ _ _ (off_rows1 t) j c _ _ rfl rfl
  have ag : ∀ j, (View.readAt (Elt Ideal) arg4.view (Rect.unit (s := S256x128) (k0_off9 t) S64x128.size (k0_inb9 t)).toLoadRect X_arg4) (ix2 j 9 : S64x128.Idx) = arg4.view.read (Elt Ideal) X_arg4 (ix2 (tok (chunkAt t) j) (gcol 1)) :=
    fun j => ld2 _ _ _ _ _ _ (off_gate t) j 9 _ _ rfl rfl
  have ab : ∀ j, (View.readAt (Elt Ideal) arg4.view (Rect.unit (s := S256x128) (k0_off9 t) S64x128.size (k0_inb9 t)).toLoadRect X_arg4) (ix2 j 1 : S64x128.Idx) = arg4.view.read (Elt Ideal) X_arg4 (ix2 (tok (chunkAt t) j) (bcol 1)) :=
    fun j => ld2 _ _ _ _ _ _ (off_gate t) j 1 _ _ rfl rfl
  have a6 : ∀ a b, (View.readAt (Elt Ideal) arg6.view (Rect.unit (s := S4x8x64x64) (k0_off2 t) S1x1x64x64.size (k0_inb2 t)).toLoadRect X_arg6) (ix4 0 0 a b : S1x1x64x64.Idx) = arg6.view.read (Elt Ideal) X_arg6 (ix4 (chunkAt t) 1 a b) :=
    fun a b => ld4 _ _ _ _ _ _ (off_inv1 t) a b
  have a12 : ∀ a b, (View.readAt (Elt Ideal) arg12.view (Rect.unit (s := S8x128x128) ![1, 0, 0] S1x128x128.size inb_S8x128x128_S1x128x128_1_0_0).toLoadRect f12) (ix3 0 a b : S1x128x128.Idx) = arg12.view.read (Elt Ideal) f12 (ix3 1 a b) :=
    fun a b => ld3 _ _ _ _ 1 rfl a b
  simp only [a1, a2, a6, a7, ag, ab, a12] at key
  exact key

/-- Head 1's store into the carried buffer. -/
theorem pieceS1 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![1, 0, 0] S1x128x128.size
      (k0_pay705 (trip_k0_t1.sl.r_414 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 1 + o.val := hx 0
  have h1 : (y 1).val = 0 + r.val := hx 1
  have h2 : (y 2).val = 0 + c.val := hx 2
  have e0 : (⟨(y 0).val, (y 0).isLt⟩ : Fin 8) = 1 := Fin.ext (by show (y 0).val = 1; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS1_at (View.readAt (Elt Ideal) arg1.view (Rect.unit (s := S256x1024) (k0_off11 t) S64x128.size (k0_inb11 t)).toLoadRect X_arg1) (View.readAt (Elt Ideal) arg2.view (Rect.unit (s := S256x1024) (k0_off11 t) S64x128.size (k0_inb11 t)).toLoadRect X_arg2) (View.readAt (Elt Ideal) arg7.view (Rect.unit (s := S256x1024) (k0_off11 t) S64x128.size (k0_inb11 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![1, 0, 0] S1x128x128.size inb_S8x128x128_S1x128x128_1_0_0).toLoadRect f12) (View.readAt (Elt Ideal) arg6.view (Rect.unit (s := S4x8x64x64) (k0_off2 t) S1x1x64x64.size (k0_inb2 t)).toLoadRect X_arg6) o r c
  have a1 : ∀ j c, (View.readAt (Elt Ideal) arg1.view (Rect.unit (s := S256x1024) (k0_off11 t) S64x128.size (k0_inb11 t)).toLoadRect X_arg1) (ix2 j c : S64x128.Idx) = arg1.view.read (Elt Ideal) X_arg1 (ix2 (tok (chunkAt t) j) (lan 1 c)) :=
    fun j c => ld2 _ _ _ _ _ _ (off_rows1 t) j c _ _ rfl rfl
  have a2 : ∀ j c, (View.readAt (Elt Ideal) arg2.view (Rect.unit (s := S256x1024) (k0_off11 t) S64x128.size (k0_inb11 t)).toLoadRect X_arg2) (ix2 j c : S64x128.Idx) = arg2.view.read (Elt Ideal) X_arg2 (ix2 (tok (chunkAt t) j) (lan 1 c)) :=
    fun j c => ld2 _ _ _ _ _ _ (off_rows1 t) j c _ _ rfl rfl
  have a7 : ∀ j c, (View.readAt (Elt Ideal) arg7.view (Rect.unit (s := S256x1024) (k0_off11 t) S64x128.size (k0_inb11 t)).toLoadRect X_arg7) (ix2 j c : S64x128.Idx) = arg7.view.read (Elt Ideal) X_arg7 (ix2 (tok (chunkAt t) j) (lan 1 c)) :=
    fun j c => ld2 _ _ _ _ _ _ (off_rows1 t) j c _ _ rfl rfl
  have ag : ∀ j, (View.readAt (Elt Ideal) arg4.view (Rect.unit (s := S256x128) (k0_off9 t) S64x128.size (k0_inb9 t)).toLoadRect X_arg4) (ix2 j 9 : S64x128.Idx) = arg4.view.read (Elt Ideal) X_arg4 (ix2 (tok (chunkAt t) j) (gcol 1)) :=
    fun j => ld2 _ _ _ _ _ _ (off_gate t) j 9 _ _ rfl rfl
  have ab : ∀ j, (View.readAt (Elt Ideal) arg4.view (Rect.unit (s := S256x128) (k0_off9 t) S64x128.size (k0_inb9 t)).toLoadRect X_arg4) (ix2 j 1 : S64x128.Idx) = arg4.view.read (Elt Ideal) X_arg4 (ix2 (tok (chunkAt t) j) (bcol 1)) :=
    fun j => ld2 _ _ _ _ _ _ (off_gate t) j 1 _ _ rfl rfl
  have a6 : ∀ a b, (View.readAt (Elt Ideal) arg6.view (Rect.unit (s := S4x8x64x64) (k0_off2 t) S1x1x64x64.size (k0_inb2 t)).toLoadRect X_arg6) (ix4 0 0 a b : S1x1x64x64.Idx) = arg6.view.read (Elt Ideal) X_arg6 (ix4 (chunkAt t) 1 a b) :=
    fun a b => ld4 _ _ _ _ _ _ (off_inv1 t) a b
  have a12 : ∀ a b, (View.readAt (Elt Ideal) arg12.view (Rect.unit (s := S8x128x128) ![1, 0, 0] S1x128x128.size inb_S8x128x128_S1x128x128_1_0_0).toLoadRect f12) (ix3 0 a b : S1x128x128.Idx) = arg12.view.read (Elt Ideal) f12 (ix3 1 a b) :=
    fun a b => ld3 _ _ _ _ 1 rfl a b
  simp only [a1, a2, a6, a7, ag, ab, a12] at key
  exact key

/-- Head 2's store into the third output. -/
theorem pieceV2 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off12 t) S64x128.size
      (trip_k0_t1.sl.r_534 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows2 t] at hx
  have h0 : (y 0).val = (3 - t.val) * 64 + r.val := hx 0
  have h1 : (y 1).val = 256 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 2 := Fin.ext (by show (y 1).val / 128 = 2; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV2_at (View.readAt (Elt Ideal) arg1.view (Rect.unit (s := S256x1024) (k0_off12 t) S64x128.size (k0_inb12 t)).toLoadRect X_arg1) (View.readAt (Elt Ideal) arg2.view (Rect.unit (s := S256x1024) (k0_off12 t) S64x128.size (k0_inb12 t)).toLoadRect X_arg2) (View.readAt (Elt Ideal) arg7.view (Rect.unit (s := S256x1024) (k0_off12 t) S64x128.size (k0_inb12 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![2, 0, 0] S1x128x128.size inb_S8x128x128_S1x128x128_2_0_0).toLoadRect f12) (View.readAt (Elt Ideal) arg6.view (Rect.unit (s := S4x8x64x64) (k0_off3 t) S1x1x64x64.size (k0_inb3 t)).toLoadRect X_arg6) r c
  have a1 : ∀ j c, (View.readAt (Elt Ideal) arg1.view (Rect.unit (s := S256x1024) (k0_off12 t) S64x128.size (k0_inb12 t)).toLoadRect X_arg1) (ix2 j c : S64x128.Idx) = arg1.view.read (Elt Ideal) X_arg1 (ix2 (tok (chunkAt t) j) (lan 2 c)) :=
    fun j c => ld2 _ _ _ _ _ _ (off_rows2 t) j c _ _ rfl rfl
  have a2 : ∀ j c, (View.readAt (Elt Ideal) arg2.view (Rect.unit (s := S256x1024) (k0_off12 t) S64x128.size (k0_inb12 t)).toLoadRect X_arg2) (ix2 j c : S64x128.Idx) = arg2.view.read (Elt Ideal) X_arg2 (ix2 (tok (chunkAt t) j) (lan 2 c)) :=
    fun j c => ld2 _ _ _ _ _ _ (off_rows2 t) j c _ _ rfl rfl
  have a7 : ∀ j c, (View.readAt (Elt Ideal) arg7.view (Rect.unit (s := S256x1024) (k0_off12 t) S64x128.size (k0_inb12 t)).toLoadRect X_arg7) (ix2 j c : S64x128.Idx) = arg7.view.read (Elt Ideal) X_arg7 (ix2 (tok (chunkAt t) j) (lan 2 c)) :=
    fun j c => ld2 _ _ _ _ _ _ (off_rows2 t) j c _ _ rfl rfl
  have ag : ∀ j, (View.readAt (Elt Ideal) arg4.view (Rect.unit (s := S256x128) (k0_off9 t) S64x128.size (k0_inb9 t)).toLoadRect X_arg4) (ix2 j 10 : S64x128.Idx) = arg4.view.read (Elt Ideal) X_arg4 (ix2 (tok (chunkAt t) j) (gcol 2)) :=
    fun j => ld2 _ _ _ _ _ _ (off_gate t) j 10 _ _ rfl rfl
  have ab : ∀ j, (View.readAt (Elt Ideal) arg4.view (Rect.unit (s := S256x128) (k0_off9 t) S64x128.size (k0_inb9 t)).toLoadRect X_arg4) (ix2 j 2 : S64x128.Idx) = arg4.view.read (Elt Ideal) X_arg4 (ix2 (tok (chunkAt t) j) (bcol 2)) :=
    fun j => ld2 _ _ _ _ _ _ (off_gate t) j 2 _ _ rfl rfl
  have a6 : ∀ a b, (View.readAt (Elt Ideal) arg6.view (Rect.unit (s := S4x8x64x64) (k0_off3 t) S1x1x64x64.size (k0_inb3 t)).toLoadRect X_arg6) (ix4 0 0 a b : S1x1x64x64.Idx) = arg6.view.read (Elt Ideal) X_arg6 (ix4 (chunkAt t) 2 a b) :=
    fun a b => ld4 _ _ _ _ _ _ (off_inv2 t) a b
  have a12 : ∀ a b, (View.readAt (Elt Ideal) arg12.view (Rect.unit (s := S8x128x128) ![2, 0, 0] S1x128x128.size inb_S8x128x128_S1x128x128_2_0_0).toLoadRect f12) (ix3 0 a b : S1x128x128.Idx) = arg12.view.read (Elt Ideal) f12 (ix3 2 a b) :=
    fun a b => ld3 _ _ _ _ 2 rfl a b
  simp only [a1, a2, a6, a7, ag, ab, a12] at key
  exact key

/-- Head 2's store into the carried buffer. -/
theorem pieceS2 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![2, 0, 0] S1x128x128.size
      (k0_pay707 (trip_k0_t1.sl.r_412 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 2 + o.val := hx 0
  have h1 : (y 1).val = 0 + r.val := hx 1
  have h2 : (y 2).val = 0 + c.val := hx 2
  have e0 : (⟨(y 0).val, (y 0).isLt⟩ : Fin 8) = 2 := Fin.ext (by show (y 0).val = 2; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS2_at (View.readAt (Elt Ideal) arg1.view (Rect.unit (s := S256x1024) (k0_off12 t) S64x128.size (k0_inb12 t)).toLoadRect X_arg1) (View.readAt (Elt Ideal) arg2.view (Rect.unit (s := S256x1024) (k0_off12 t) S64x128.size (k0_inb12 t)).toLoadRect X_arg2) (View.readAt (Elt Ideal) arg7.view (Rect.unit (s := S256x1024) (k0_off12 t) S64x128.size (k0_inb12 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![2, 0, 0] S1x128x128.size inb_S8x128x128_S1x128x128_2_0_0).toLoadRect f12) (View.readAt (Elt Ideal) arg6.view (Rect.unit (s := S4x8x64x64) (k0_off3 t) S1x1x64x64.size (k0_inb3 t)).toLoadRect X_arg6) o r c
  have a1 : ∀ j c, (View.readAt (Elt Ideal) arg1.view (Rect.unit (s := S256x1024) (k0_off12 t) S64x128.size (k0_inb12 t)).toLoadRect X_arg1) (ix2 j c : S64x128.Idx) = arg1.view.read (Elt Ideal) X_arg1 (ix2 (tok (chunkAt t) j) (lan 2 c)) :=
    fun j c => ld2 _ _ _ _ _ _ (off_rows2 t) j c _ _ rfl rfl
  have a2 : ∀ j c, (View.readAt (Elt Ideal) arg2.view (Rect.unit (s := S256x1024) (k0_off12 t) S64x128.size (k0_inb12 t)).toLoadRect X_arg2) (ix2 j c : S64x128.Idx) = arg2.view.read (Elt Ideal) X_arg2 (ix2 (tok (chunkAt t) j) (lan 2 c)) :=
    fun j c => ld2 _ _ _ _ _ _ (off_rows2 t) j c _ _ rfl rfl
  have a7 : ∀ j c, (View.readAt (Elt Ideal) arg7.view (Rect.unit (s := S256x1024) (k0_off12 t) S64x128.size (k0_inb12 t)).toLoadRect X_arg7) (ix2 j c : S64x128.Idx) = arg7.view.read (Elt Ideal) X_arg7 (ix2 (tok (chunkAt t) j) (lan 2 c)) :=
    fun j c => ld2 _ _ _ _ _ _ (off_rows2 t) j c _ _ rfl rfl
  have ag : ∀ j, (View.readAt (Elt Ideal) arg4.view (Rect.unit (s := S256x128) (k0_off9 t) S64x128.size (k0_inb9 t)).toLoadRect X_arg4) (ix2 j 10 : S64x128.Idx) = arg4.view.read (Elt Ideal) X_arg4 (ix2 (tok (chunkAt t) j) (gcol 2)) :=
    fun j => ld2 _ _ _ _ _ _ (off_gate t) j 10 _ _ rfl rfl
  have ab : ∀ j, (View.readAt (Elt Ideal) arg4.view (Rect.unit (s := S256x128) (k0_off9 t) S64x128.size (k0_inb9 t)).toLoadRect X_arg4) (ix2 j 2 : S64x128.Idx) = arg4.view.read (Elt Ideal) X_arg4 (ix2 (tok (chunkAt t) j) (bcol 2)) :=
    fun j => ld2 _ _ _ _ _ _ (off_gate t) j 2 _ _ rfl rfl
  have a6 : ∀ a b, (View.readAt (Elt Ideal) arg6.view (Rect.unit (s := S4x8x64x64) (k0_off3 t) S1x1x64x64.size (k0_inb3 t)).toLoadRect X_arg6) (ix4 0 0 a b : S1x1x64x64.Idx) = arg6.view.read (Elt Ideal) X_arg6 (ix4 (chunkAt t) 2 a b) :=
    fun a b => ld4 _ _ _ _ _ _ (off_inv2 t) a b
  have a12 : ∀ a b, (View.readAt (Elt Ideal) arg12.view (Rect.unit (s := S8x128x128) ![2, 0, 0] S1x128x128.size inb_S8x128x128_S1x128x128_2_0_0).toLoadRect f12) (ix3 0 a b : S1x128x128.Idx) = arg12.view.read (Elt Ideal) f12 (ix3 2 a b) :=
    fun a b => ld3 _ _ _ _ 2 rfl a b
  simp only [a1, a2, a6, a7, ag, ab, a12] at key
  exact key

/-- Head 3's store into the third output. -/
theorem pieceV3 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off13 t) S64x128.size
      (trip_k0_t1.sl.r_531 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows3 t] at hx
  have h0 : (y 0).val = (3 - t.val) * 64 + r.val := hx 0
  have h1 : (y 1).val = 384 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 3 := Fin.ext (by show (y 1).val / 128 = 3; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV3_at (View.readAt (Elt Ideal) arg1.view (Rect.unit (s := S256x1024) (k0_off13 t) S64x128.size (k0_inb13 t)).toLoadRect X_arg1) (View.readAt (Elt Ideal) arg2.view (Rect.unit (s := S256x1024) (k0_off13 t) S64x128.size (k0_inb13 t)).toLoadRect X_arg2) (View.readAt (Elt Ideal) arg7.view (Rect.unit (s := S256x1024) (k0_off13 t) S64x128.size (k0_inb13 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![3, 0, 0] S1x128x128.size inb_S8x128x128_S1x128x128_3_0_0).toLoadRect f12) (View.readAt (Elt Ideal) arg6.view (Rect.unit (s := S4x8x64x64) (k0_off4 t) S1x1x64x64.size (k0_inb4 t)).toLoadRect X_arg6) r c
  have a1 : ∀ j c, (View.readAt (Elt Ideal) arg1.view (Rect.unit (s := S256x1024) (k0_off13 t) S64x128.size (k0_inb13 t)).toLoadRect X_arg1) (ix2 j c : S64x128.Idx) = arg1.view.read (Elt Ideal) X_arg1 (ix2 (tok (chunkAt t) j) (lan 3 c)) :=
    fun j c => ld2 _ _ _ _ _ _ (off_rows3 t) j c _ _ rfl rfl
  have a2 : ∀ j c, (View.readAt (Elt Ideal) arg2.view (Rect.unit (s := S256x1024) (k0_off13 t) S64x128.size (k0_inb13 t)).toLoadRect X_arg2) (ix2 j c : S64x128.Idx) = arg2.view.read (Elt Ideal) X_arg2 (ix2 (tok (chunkAt t) j) (lan 3 c)) :=
    fun j c => ld2 _ _ _ _ _ _ (off_rows3 t) j c _ _ rfl rfl
  have a7 : ∀ j c, (View.readAt (Elt Ideal) arg7.view (Rect.unit (s := S256x1024) (k0_off13 t) S64x128.size (k0_inb13 t)).toLoadRect X_arg7) (ix2 j c : S64x128.Idx) = arg7.view.read (Elt Ideal) X_arg7 (ix2 (tok (chunkAt t) j) (lan 3 c)) :=
    fun j c => ld2 _ _ _ _ _ _ (off_rows3 t) j c _ _ rfl rfl
  have ag : ∀ j, (View.readAt (Elt Ideal) arg4.view (Rect.unit (s := S256x128) (k0_off9 t) S64x128.size (k0_inb9 t)).toLoadRect X_arg4) (ix2 j 11 : S64x128.Idx) = arg4.view.read (Elt Ideal) X_arg4 (ix2 (tok (chunkAt t) j) (gcol 3)) :=
    fun j => ld2 _ _ _ _ _ _ (off_gate t) j 11 _ _ rfl rfl
  have ab : ∀ j, (View.readAt (Elt Ideal) arg4.view (Rect.unit (s := S256x128) (k0_off9 t) S64x128.size (k0_inb9 t)).toLoadRect X_arg4) (ix2 j 3 : S64x128.Idx) = arg4.view.read (Elt Ideal) X_arg4 (ix2 (tok (chunkAt t) j) (bcol 3)) :=
    fun j => ld2 _ _ _ _ _ _ (off_gate t) j 3 _ _ rfl rfl
  have a6 : ∀ a b, (View.readAt (Elt Ideal) arg6.view (Rect.unit (s := S4x8x64x64) (k0_off4 t) S1x1x64x64.size (k0_inb4 t)).toLoadRect X_arg6) (ix4 0 0 a b : S1x1x64x64.Idx) = arg6.view.read (Elt Ideal) X_arg6 (ix4 (chunkAt t) 3 a b) :=
    fun a b => ld4 _ _ _ _ _ _ (off_inv3 t) a b
  have a12 : ∀ a b, (View.readAt (Elt Ideal) arg12.view (Rect.unit (s := S8x128x128) ![3, 0, 0] S1x128x128.size inb_S8x128x128_S1x128x128_3_0_0).toLoadRect f12) (ix3 0 a b : S1x128x128.Idx) = arg12.view.read (Elt Ideal) f12 (ix3 3 a b) :=
    fun a b => ld3 _ _ _ _ 3 rfl a b
  simp only [a1, a2, a6, a7, ag, ab, a12] at key
  exact key

/-- Head 3's store into the carried buffer. -/
theorem pieceS3 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![3, 0, 0] S1x128x128.size
      (k0_pay709 (trip_k0_t1.sl.r_410 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 3 + o.val := hx 0
  have h1 : (y 1).val = 0 + r.val := hx 1
  have h2 : (y 2).val = 0 + c.val := hx 2
  have e0 : (⟨(y 0).val, (y 0).isLt⟩ : Fin 8) = 3 := Fin.ext (by show (y 0).val = 3; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS3_at (View.readAt (Elt Ideal) arg1.view (Rect.unit (s := S256x1024) (k0_off13 t) S64x128.size (k0_inb13 t)).toLoadRect X_arg1) (View.readAt (Elt Ideal) arg2.view (Rect.unit (s := S256x1024) (k0_off13 t) S64x128.size (k0_inb13 t)).toLoadRect X_arg2) (View.readAt (Elt Ideal) arg7.view (Rect.unit (s := S256x1024) (k0_off13 t) S64x128.size (k0_inb13 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![3, 0, 0] S1x128x128.size inb_S8x128x128_S1x128x128_3_0_0).toLoadRect f12) (View.readAt (Elt Ideal) arg6.view (Rect.unit (s := S4x8x64x64) (k0_off4 t) S1x1x64x64.size (k0_inb4 t)).toLoadRect X_arg6) o r c
  have a1 : ∀ j c, (View.readAt (Elt Ideal) arg1.view (Rect.unit (s := S256x1024) (k0_off13 t) S64x128.size (k0_inb13 t)).toLoadRect X_arg1) (ix2 j c : S64x128.Idx) = arg1.view.read (Elt Ideal) X_arg1 (ix2 (tok (chunkAt t) j) (lan 3 c)) :=
    fun j c => ld2 _ _ _ _ _ _ (off_rows3 t) j c _ _ rfl rfl
  have a2 : ∀ j c, (View.readAt (Elt Ideal) arg2.view (Rect.unit (s := S256x1024) (k0_off13 t) S64x128.size (k0_inb13 t)).toLoadRect X_arg2) (ix2 j c : S64x128.Idx) = arg2.view.read (Elt Ideal) X_arg2 (ix2 (tok (chunkAt t) j) (lan 3 c)) :=
    fun j c => ld2 _ _ _ _ _ _ (off_rows3 t) j c _ _ rfl rfl
  have a7 : ∀ j c, (View.readAt (Elt Ideal) arg7.view (Rect.unit (s := S256x1024) (k0_off13 t) S64x128.size (k0_inb13 t)).toLoadRect X_arg7) (ix2 j c : S64x128.Idx) = arg7.view.read (Elt Ideal) X_arg7 (ix2 (tok (chunkAt t) j) (lan 3 c)) :=
    fun j c => ld2 _ _ _ _ _ _ (off_rows3 t) j c _ _ rfl rfl
  have ag : ∀ j, (View.readAt (Elt Ideal) arg4.view (Rect.unit (s := S256x128) (k0_off9 t) S64x128.size (k0_inb9 t)).toLoadRect X_arg4) (ix2 j 11 : S64x128.Idx) = arg4.view.read (Elt Ideal) X_arg4 (ix2 (tok (chunkAt t) j) (gcol 3)) :=
    fun j => ld2 _ _ _ _ _ _ (off_gate t) j 11 _ _ rfl rfl
  have ab : ∀ j, (View.readAt (Elt Ideal) arg4.view (Rect.unit (s := S256x128) (k0_off9 t) S64x128.size (k0_inb9 t)).toLoadRect X_arg4) (ix2 j 3 : S64x128.Idx) = arg4.view.read (Elt Ideal) X_arg4 (ix2 (tok (chunkAt t) j) (bcol 3)) :=
    fun j => ld2 _ _ _ _ _ _ (off_gate t) j 3 _ _ rfl rfl
  have a6 : ∀ a b, (View.readAt (Elt Ideal) arg6.view (Rect.unit (s := S4x8x64x64) (k0_off4 t) S1x1x64x64.size (k0_inb4 t)).toLoadRect X_arg6) (ix4 0 0 a b : S1x1x64x64.Idx) = arg6.view.read (Elt Ideal) X_arg6 (ix4 (chunkAt t) 3 a b) :=
    fun a b => ld4 _ _ _ _ _ _ (off_inv3 t) a b
  have a12 : ∀ a b, (View.readAt (Elt Ideal) arg12.view (Rect.unit (s := S8x128x128) ![3, 0, 0] S1x128x128.size inb_S8x128x128_S1x128x128_3_0_0).toLoadRect f12) (ix3 0 a b : S1x128x128.Idx) = arg12.view.read (Elt Ideal) f12 (ix3 3 a b) :=
    fun a b => ld3 _ _ _ _ 3 rfl a b
  simp only [a1, a2, a6, a7, ag, ab, a12] at key
  exact key

/-- Head 4's store into the third output. -/
theorem pieceV4 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off14 t) S64x128.size
      (trip_k0_t1.sl.r_528 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows4 t] at hx
  have h0 : (y 0).val = (3 - t.val) * 64 + r.val := hx 0
  have h1 : (y 1).val = 512 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 4 := Fin.ext (by show (y 1).val / 128 = 4; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV4_at (View.readAt (Elt Ideal) arg1.view (Rect.unit (s := S256x1024) (k0_off14 t) S64x128.size (k0_inb14 t)).toLoadRect X_arg1) (View.readAt (Elt Ideal) arg2.view (Rect.unit (s := S256x1024) (k0_off14 t) S64x128.size (k0_inb14 t)).toLoadRect X_arg2) (View.readAt (Elt Ideal) arg7.view (Rect.unit (s := S256x1024) (k0_off14 t) S64x128.size (k0_inb14 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![4, 0, 0] S1x128x128.size inb_S8x128x128_S1x128x128_4_0_0).toLoadRect f12) (View.readAt (Elt Ideal) arg6.view (Rect.unit (s := S4x8x64x64) (k0_off5 t) S1x1x64x64.size (k0_inb5 t)).toLoadRect X_arg6) r c
  have a1 : ∀ j c, (View.readAt (Elt Ideal) arg1.view (Rect.unit (s := S256x1024) (k0_off14 t) S64x128.size (k0_inb14 t)).toLoadRect X_arg1) (ix2 j c : S64x128.Idx) = arg1.view.read (Elt Ideal) X_arg1 (ix2 (tok (chunkAt t) j) (lan 4 c)) :=
    fun j c => ld2 _ _ _ _ _ _ (off_rows4 t) j c _ _ rfl rfl
  have a2 : ∀ j c, (View.readAt (Elt Ideal) arg2.view (Rect.unit (s := S256x1024) (k0_off14 t) S64x128.size (k0_inb14 t)).toLoadRect X_arg2) (ix2 j c : S64x128.Idx) = arg2.view.read (Elt Ideal) X_arg2 (ix2 (tok (chunkAt t) j) (lan 4 c)) :=
    fun j c => ld2 _ _ _ _ _ _ (off_rows4 t) j c _ _ rfl rfl
  have a7 : ∀ j c, (View.readAt (Elt Ideal) arg7.view (Rect.unit (s := S256x1024) (k0_off14 t) S64x128.size (k0_inb14 t)).toLoadRect X_arg7) (ix2 j c : S64x128.Idx) = arg7.view.read (Elt Ideal) X_arg7 (ix2 (tok (chunkAt t) j) (lan 4 c)) :=
    fun j c => ld2 _ _ _ _ _ _ (off_rows4 t) j c _ _ rfl rfl
  have ag : ∀ j, (View.readAt (Elt Ideal) arg4.view (Rect.unit (s := S256x128) (k0_off9 t) S64x128.size (k0_inb9 t)).toLoadRect X_arg4) (ix2 j 12 : S64x128.Idx) = arg4.view.read (Elt Ideal) X_arg4 (ix2 (tok (chunkAt t) j) (gcol 4)) :=
    fun j => ld2 _ _ _ _ _ _ (off_gate t) j 12 _ _ rfl rfl
  have ab : ∀ j, (View.readAt (Elt Ideal) arg4.view (Rect.unit (s := S256x128) (k0_off9 t) S64x128.size (k0_inb9 t)).toLoadRect X_arg4) (ix2 j 4 : S64x128.Idx) = arg4.view.read (Elt Ideal) X_arg4 (ix2 (tok (chunkAt t) j) (bcol 4)) :=
    fun j => ld2 _ _ _ _ _ _ (off_gate t) j 4 _ _ rfl rfl
  have a6 : ∀ a b, (View.readAt (Elt Ideal) arg6.view (Rect.unit (s := S4x8x64x64) (k0_off5 t) S1x1x64x64.size (k0_inb5 t)).toLoadRect X_arg6) (ix4 0 0 a b : S1x1x64x64.Idx) = arg6.view.read (Elt Ideal) X_arg6 (ix4 (chunkAt t) 4 a b) :=
    fun a b => ld4 _ _ _ _ _ _ (off_inv4 t) a b
  have a12 : ∀ a b, (View.readAt (Elt Ideal) arg12.view (Rect.unit (s := S8x128x128) ![4, 0, 0] S1x128x128.size inb_S8x128x128_S1x128x128_4_0_0).toLoadRect f12) (ix3 0 a b : S1x128x128.Idx) = arg12.view.read (Elt Ideal) f12 (ix3 4 a b) :=
    fun a b => ld3 _ _ _ _ 4 rfl a b
  simp only [a1, a2, a6, a7, ag, ab, a12] at key
  exact key

/-- Head 4's store into the carried buffer. -/
theorem pieceS4 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![4, 0, 0] S1x128x128.size
      (k0_pay711 (trip_k0_t1.sl.r_408 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 4 + o.val := hx 0
  have h1 : (y 1).val = 0 + r.val := hx 1
  have h2 : (y 2).val = 0 + c.val := hx 2
  have e0 : (⟨(y 0).val, (y 0).isLt⟩ : Fin 8) = 4 := Fin.ext (by show (y 0).val = 4; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS4_at (View.readAt (Elt Ideal) arg1.view (Rect.unit (s := S256x1024) (k0_off14 t) S64x128.size (k0_inb14 t)).toLoadRect X_arg1) (View.readAt (Elt Ideal) arg2.view (Rect.unit (s := S256x1024) (k0_off14 t) S64x128.size (k0_inb14 t)).toLoadRect X_arg2) (View.readAt (Elt Ideal) arg7.view (Rect.unit (s := S256x1024) (k0_off14 t) S64x128.size (k0_inb14 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![4, 0, 0] S1x128x128.size inb_S8x128x128_S1x128x128_4_0_0).toLoadRect f12) (View.readAt (Elt Ideal) arg6.view (Rect.unit (s := S4x8x64x64) (k0_off5 t) S1x1x64x64.size (k0_inb5 t)).toLoadRect X_arg6) o r c
  have a1 : ∀ j c, (View.readAt (Elt Ideal) arg1.view (Rect.unit (s := S256x1024) (k0_off14 t) S64x128.size (k0_inb14 t)).toLoadRect X_arg1) (ix2 j c : S64x128.Idx) = arg1.view.read (Elt Ideal) X_arg1 (ix2 (tok (chunkAt t) j) (lan 4 c)) :=
    fun j c => ld2 _ _ _ _ _ _ (off_rows4 t) j c _ _ rfl rfl
  have a2 : ∀ j c, (View.readAt (Elt Ideal) arg2.view (Rect.unit (s := S256x1024) (k0_off14 t) S64x128.size (k0_inb14 t)).toLoadRect X_arg2) (ix2 j c : S64x128.Idx) = arg2.view.read (Elt Ideal) X_arg2 (ix2 (tok (chunkAt t) j) (lan 4 c)) :=
    fun j c => ld2 _ _ _ _ _ _ (off_rows4 t) j c _ _ rfl rfl
  have a7 : ∀ j c, (View.readAt (Elt Ideal) arg7.view (Rect.unit (s := S256x1024) (k0_off14 t) S64x128.size (k0_inb14 t)).toLoadRect X_arg7) (ix2 j c : S64x128.Idx) = arg7.view.read (Elt Ideal) X_arg7 (ix2 (tok (chunkAt t) j) (lan 4 c)) :=
    fun j c => ld2 _ _ _ _ _ _ (off_rows4 t) j c _ _ rfl rfl
  have ag : ∀ j, (View.readAt (Elt Ideal) arg4.view (Rect.unit (s := S256x128) (k0_off9 t) S64x128.size (k0_inb9 t)).toLoadRect X_arg4) (ix2 j 12 : S64x128.Idx) = arg4.view.read (Elt Ideal) X_arg4 (ix2 (tok (chunkAt t) j) (gcol 4)) :=
    fun j => ld2 _ _ _ _ _ _ (off_gate t) j 12 _ _ rfl rfl
  have ab : ∀ j, (View.readAt (Elt Ideal) arg4.view (Rect.unit (s := S256x128) (k0_off9 t) S64x128.size (k0_inb9 t)).toLoadRect X_arg4) (ix2 j 4 : S64x128.Idx) = arg4.view.read (Elt Ideal) X_arg4 (ix2 (tok (chunkAt t) j) (bcol 4)) :=
    fun j => ld2 _ _ _ _ _ _ (off_gate t) j 4 _ _ rfl rfl
  have a6 : ∀ a b, (View.readAt (Elt Ideal) arg6.view (Rect.unit (s := S4x8x64x64) (k0_off5 t) S1x1x64x64.size (k0_inb5 t)).toLoadRect X_arg6) (ix4 0 0 a b : S1x1x64x64.Idx) = arg6.view.read (Elt Ideal) X_arg6 (ix4 (chunkAt t) 4 a b) :=
    fun a b => ld4 _ _ _ _ _ _ (off_inv4 t) a b
  have a12 : ∀ a b, (View.readAt (Elt Ideal) arg12.view (Rect.unit (s := S8x128x128) ![4, 0, 0] S1x128x128.size inb_S8x128x128_S1x128x128_4_0_0).toLoadRect f12) (ix3 0 a b : S1x128x128.Idx) = arg12.view.read (Elt Ideal) f12 (ix3 4 a b) :=
    fun a b => ld3 _ _ _ _ 4 rfl a b
  simp only [a1, a2, a6, a7, ag, ab, a12] at key
  exact key

/-- Head 5's store into the third output. -/
theorem pieceV5 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off15 t) S64x128.size
      (trip_k0_t1.sl.r_523 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows5 t] at hx
  have h0 : (y 0).val = (3 - t.val) * 64 + r.val := hx 0
  have h1 : (y 1).val = 640 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 5 := Fin.ext (by show (y 1).val / 128 = 5; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV5_at (View.readAt (Elt Ideal) arg1.view (Rect.unit (s := S256x1024) (k0_off15 t) S64x128.size (k0_inb15 t)).toLoadRect X_arg1) (View.readAt (Elt Ideal) arg2.view (Rect.unit (s := S256x1024) (k0_off15 t) S64x128.size (k0_inb15 t)).toLoadRect X_arg2) (View.readAt (Elt Ideal) arg7.view (Rect.unit (s := S256x1024) (k0_off15 t) S64x128.size (k0_inb15 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![5, 0, 0] S1x128x128.size inb_S8x128x128_S1x128x128_5_0_0).toLoadRect f12) (View.readAt (Elt Ideal) arg6.view (Rect.unit (s := S4x8x64x64) (k0_off6 t) S1x1x64x64.size (k0_inb6 t)).toLoadRect X_arg6) r c
  have a1 : ∀ j c, (View.readAt (Elt Ideal) arg1.view (Rect.unit (s := S256x1024) (k0_off15 t) S64x128.size (k0_inb15 t)).toLoadRect X_arg1) (ix2 j c : S64x128.Idx) = arg1.view.read (Elt Ideal) X_arg1 (ix2 (tok (chunkAt t) j) (lan 5 c)) :=
    fun j c => ld2 _ _ _ _ _ _ (off_rows5 t) j c _ _ rfl rfl
  have a2 : ∀ j c, (View.readAt (Elt Ideal) arg2.view (Rect.unit (s := S256x1024) (k0_off15 t) S64x128.size (k0_inb15 t)).toLoadRect X_arg2) (ix2 j c : S64x128.Idx) = arg2.view.read (Elt Ideal) X_arg2 (ix2 (tok (chunkAt t) j) (lan 5 c)) :=
    fun j c => ld2 _ _ _ _ _ _ (off_rows5 t) j c _ _ rfl rfl
  have a7 : ∀ j c, (View.readAt (Elt Ideal) arg7.view (Rect.unit (s := S256x1024) (k0_off15 t) S64x128.size (k0_inb15 t)).toLoadRect X_arg7) (ix2 j c : S64x128.Idx) = arg7.view.read (Elt Ideal) X_arg7 (ix2 (tok (chunkAt t) j) (lan 5 c)) :=
    fun j c => ld2 _ _ _ _ _ _ (off_rows5 t) j c _ _ rfl rfl
  have ag : ∀ j, (View.readAt (Elt Ideal) arg4.view (Rect.unit (s := S256x128) (k0_off9 t) S64x128.size (k0_inb9 t)).toLoadRect X_arg4) (ix2 j 13 : S64x128.Idx) = arg4.view.read (Elt Ideal) X_arg4 (ix2 (tok (chunkAt t) j) (gcol 5)) :=
    fun j => ld2 _ _ _ _ _ _ (off_gate t) j 13 _ _ rfl rfl
  have ab : ∀ j, (View.readAt (Elt Ideal) arg4.view (Rect.unit (s := S256x128) (k0_off9 t) S64x128.size (k0_inb9 t)).toLoadRect X_arg4) (ix2 j 5 : S64x128.Idx) = arg4.view.read (Elt Ideal) X_arg4 (ix2 (tok (chunkAt t) j) (bcol 5)) :=
    fun j => ld2 _ _ _ _ _ _ (off_gate t) j 5 _ _ rfl rfl
  have a6 : ∀ a b, (View.readAt (Elt Ideal) arg6.view (Rect.unit (s := S4x8x64x64) (k0_off6 t) S1x1x64x64.size (k0_inb6 t)).toLoadRect X_arg6) (ix4 0 0 a b : S1x1x64x64.Idx) = arg6.view.read (Elt Ideal) X_arg6 (ix4 (chunkAt t) 5 a b) :=
    fun a b => ld4 _ _ _ _ _ _ (off_inv5 t) a b
  have a12 : ∀ a b, (View.readAt (Elt Ideal) arg12.view (Rect.unit (s := S8x128x128) ![5, 0, 0] S1x128x128.size inb_S8x128x128_S1x128x128_5_0_0).toLoadRect f12) (ix3 0 a b : S1x128x128.Idx) = arg12.view.read (Elt Ideal) f12 (ix3 5 a b) :=
    fun a b => ld3 _ _ _ _ 5 rfl a b
  simp only [a1, a2, a6, a7, ag, ab, a12] at key
  exact key

/-- Head 5's store into the carried buffer. -/
theorem pieceS5 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![5, 0, 0] S1x128x128.size
      (k0_pay714 (trip_k0_t1.sl.r_405 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 5 + o.val := hx 0
  have h1 : (y 1).val = 0 + r.val := hx 1
  have h2 : (y 2).val = 0 + c.val := hx 2
  have e0 : (⟨(y 0).val, (y 0).isLt⟩ : Fin 8) = 5 := Fin.ext (by show (y 0).val = 5; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS5_at (View.readAt (Elt Ideal) arg1.view (Rect.unit (s := S256x1024) (k0_off15 t) S64x128.size (k0_inb15 t)).toLoadRect X_arg1) (View.readAt (Elt Ideal) arg2.view (Rect.unit (s := S256x1024) (k0_off15 t) S64x128.size (k0_inb15 t)).toLoadRect X_arg2) (View.readAt (Elt Ideal) arg7.view (Rect.unit (s := S256x1024) (k0_off15 t) S64x128.size (k0_inb15 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![5, 0, 0] S1x128x128.size inb_S8x128x128_S1x128x128_5_0_0).toLoadRect f12) (View.readAt (Elt Ideal) arg6.view (Rect.unit (s := S4x8x64x64) (k0_off6 t) S1x1x64x64.size (k0_inb6 t)).toLoadRect X_arg6) o r c
  have a1 : ∀ j c, (View.readAt (Elt Ideal) arg1.view (Rect.unit (s := S256x1024) (k0_off15 t) S64x128.size (k0_inb15 t)).toLoadRect X_arg1) (ix2 j c : S64x128.Idx) = arg1.view.read (Elt Ideal) X_arg1 (ix2 (tok (chunkAt t) j) (lan 5 c)) :=
    fun j c => ld2 _ _ _ _ _ _ (off_rows5 t) j c _ _ rfl rfl
  have a2 : ∀ j c, (View.readAt (Elt Ideal) arg2.view (Rect.unit (s := S256x1024) (k0_off15 t) S64x128.size (k0_inb15 t)).toLoadRect X_arg2) (ix2 j c : S64x128.Idx) = arg2.view.read (Elt Ideal) X_arg2 (ix2 (tok (chunkAt t) j) (lan 5 c)) :=
    fun j c => ld2 _ _ _ _ _ _ (off_rows5 t) j c _ _ rfl rfl
  have a7 : ∀ j c, (View.readAt (Elt Ideal) arg7.view (Rect.unit (s := S256x1024) (k0_off15 t) S64x128.size (k0_inb15 t)).toLoadRect X_arg7) (ix2 j c : S64x128.Idx) = arg7.view.read (Elt Ideal) X_arg7 (ix2 (tok (chunkAt t) j) (lan 5 c)) :=
    fun j c => ld2 _ _ _ _ _ _ (off_rows5 t) j c _ _ rfl rfl
  have ag : ∀ j, (View.readAt (Elt Ideal) arg4.view (Rect.unit (s := S256x128) (k0_off9 t) S64x128.size (k0_inb9 t)).toLoadRect X_arg4) (ix2 j 13 : S64x128.Idx) = arg4.view.read (Elt Ideal) X_arg4 (ix2 (tok (chunkAt t) j) (gcol 5)) :=
    fun j => ld2 _ _ _ _ _ _ (off_gate t) j 13 _ _ rfl rfl
  have ab : ∀ j, (View.readAt (Elt Ideal) arg4.view (Rect.unit (s := S256x128) (k0_off9 t) S64x128.size (k0_inb9 t)).toLoadRect X_arg4) (ix2 j 5 : S64x128.Idx) = arg4.view.read (Elt Ideal) X_arg4 (ix2 (tok (chunkAt t) j) (bcol 5)) :=
    fun j => ld2 _ _ _ _ _ _ (off_gate t) j 5 _ _ rfl rfl
  have a6 : ∀ a b, (View.readAt (Elt Ideal) arg6.view (Rect.unit (s := S4x8x64x64) (k0_off6 t) S1x1x64x64.size (k0_inb6 t)).toLoadRect X_arg6) (ix4 0 0 a b : S1x1x64x64.Idx) = arg6.view.read (Elt Ideal) X_arg6 (ix4 (chunkAt t) 5 a b) :=
    fun a b => ld4 _ _ _ _ _ _ (off_inv5 t) a b
  have a12 : ∀ a b, (View.readAt (Elt Ideal) arg12.view (Rect.unit (s := S8x128x128) ![5, 0, 0] S1x128x128.size inb_S8x128x128_S1x128x128_5_0_0).toLoadRect f12) (ix3 0 a b : S1x128x128.Idx) = arg12.view.read (Elt Ideal) f12 (ix3 5 a b) :=
    fun a b => ld3 _ _ _ _ 5 rfl a b
  simp only [a1, a2, a6, a7, ag, ab, a12] at key
  exact key

/-- Head 6's store into the third output. -/
theorem pieceV6 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off16 t) S64x128.size
      (trip_k0_t1.sl.r_520 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows6 t] at hx
  have h0 : (y 0).val = (3 - t.val) * 64 + r.val := hx 0
  have h1 : (y 1).val = 768 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 6 := Fin.ext (by show (y 1).val / 128 = 6; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV6_at (View.readAt (Elt Ideal) arg1.view (Rect.unit (s := S256x1024) (k0_off16 t) S64x128.size (k0_inb16 t)).toLoadRect X_arg1) (View.readAt (Elt Ideal) arg2.view (Rect.unit (s := S256x1024) (k0_off16 t) S64x128.size (k0_inb16 t)).toLoadRect X_arg2) (View.readAt (Elt Ideal) arg7.view (Rect.unit (s := S256x1024) (k0_off16 t) S64x128.size (k0_inb16 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![6, 0, 0] S1x128x128.size inb_S8x128x128_S1x128x128_6_0_0).toLoadRect f12) (View.readAt (Elt Ideal) arg6.view (Rect.unit (s := S4x8x64x64) (k0_off7 t) S1x1x64x64.size (k0_inb7 t)).toLoadRect X_arg6) r c
  have a1 : ∀ j c, (View.readAt (Elt Ideal) arg1.view (Rect.unit (s := S256x1024) (k0_off16 t) S64x128.size (k0_inb16 t)).toLoadRect X_arg1) (ix2 j c : S64x128.Idx) = arg1.view.read (Elt Ideal) X_arg1 (ix2 (tok (chunkAt t) j) (lan 6 c)) :=
    fun j c => ld2 _ _ _ _ _ _ (off_rows6 t) j c _ _ rfl rfl
  have a2 : ∀ j c, (View.readAt (Elt Ideal) arg2.view (Rect.unit (s := S256x1024) (k0_off16 t) S64x128.size (k0_inb16 t)).toLoadRect X_arg2) (ix2 j c : S64x128.Idx) = arg2.view.read (Elt Ideal) X_arg2 (ix2 (tok (chunkAt t) j) (lan 6 c)) :=
    fun j c => ld2 _ _ _ _ _ _ (off_rows6 t) j c _ _ rfl rfl
  have a7 : ∀ j c, (View.readAt (Elt Ideal) arg7.view (Rect.unit (s := S256x1024) (k0_off16 t) S64x128.size (k0_inb16 t)).toLoadRect X_arg7) (ix2 j c : S64x128.Idx) = arg7.view.read (Elt Ideal) X_arg7 (ix2 (tok (chunkAt t) j) (lan 6 c)) :=
    fun j c => ld2 _ _ _ _ _ _ (off_rows6 t) j c _ _ rfl rfl
  have ag : ∀ j, (View.readAt (Elt Ideal) arg4.view (Rect.unit (s := S256x128) (k0_off9 t) S64x128.size (k0_inb9 t)).toLoadRect X_arg4) (ix2 j 14 : S64x128.Idx) = arg4.view.read (Elt Ideal) X_arg4 (ix2 (tok (chunkAt t) j) (gcol 6)) :=
    fun j => ld2 _ _ _ _ _ _ (off_gate t) j 14 _ _ rfl rfl
  have ab : ∀ j, (View.readAt (Elt Ideal) arg4.view (Rect.unit (s := S256x128) (k0_off9 t) S64x128.size (k0_inb9 t)).toLoadRect X_arg4) (ix2 j 6 : S64x128.Idx) = arg4.view.read (Elt Ideal) X_arg4 (ix2 (tok (chunkAt t) j) (bcol 6)) :=
    fun j => ld2 _ _ _ _ _ _ (off_gate t) j 6 _ _ rfl rfl
  have a6 : ∀ a b, (View.readAt (Elt Ideal) arg6.view (Rect.unit (s := S4x8x64x64) (k0_off7 t) S1x1x64x64.size (k0_inb7 t)).toLoadRect X_arg6) (ix4 0 0 a b : S1x1x64x64.Idx) = arg6.view.read (Elt Ideal) X_arg6 (ix4 (chunkAt t) 6 a b) :=
    fun a b => ld4 _ _ _ _ _ _ (off_inv6 t) a b
  have a12 : ∀ a b, (View.readAt (Elt Ideal) arg12.view (Rect.unit (s := S8x128x128) ![6, 0, 0] S1x128x128.size inb_S8x128x128_S1x128x128_6_0_0).toLoadRect f12) (ix3 0 a b : S1x128x128.Idx) = arg12.view.read (Elt Ideal) f12 (ix3 6 a b) :=
    fun a b => ld3 _ _ _ _ 6 rfl a b
  simp only [a1, a2, a6, a7, ag, ab, a12] at key
  exact key

/-- Head 6's store into the carried buffer. -/
theorem pieceS6 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![6, 0, 0] S1x128x128.size
      (k0_pay717 (trip_k0_t1.sl.r_403 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 6 + o.val := hx 0
  have h1 : (y 1).val = 0 + r.val := hx 1
  have h2 : (y 2).val = 0 + c.val := hx 2
  have e0 : (⟨(y 0).val, (y 0).isLt⟩ : Fin 8) = 6 := Fin.ext (by show (y 0).val = 6; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS6_at (View.readAt (Elt Ideal) arg1.view (Rect.unit (s := S256x1024) (k0_off16 t) S64x128.size (k0_inb16 t)).toLoadRect X_arg1) (View.readAt (Elt Ideal) arg2.view (Rect.unit (s := S256x1024) (k0_off16 t) S64x128.size (k0_inb16 t)).toLoadRect X_arg2) (View.readAt (Elt Ideal) arg7.view (Rect.unit (s := S256x1024) (k0_off16 t) S64x128.size (k0_inb16 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![6, 0, 0] S1x128x128.size inb_S8x128x128_S1x128x128_6_0_0).toLoadRect f12) (View.readAt (Elt Ideal) arg6.view (Rect.unit (s := S4x8x64x64) (k0_off7 t) S1x1x64x64.size (k0_inb7 t)).toLoadRect X_arg6) o r c
  have a1 : ∀ j c, (View.readAt (Elt Ideal) arg1.view (Rect.unit (s := S256x1024) (k0_off16 t) S64x128.size (k0_inb16 t)).toLoadRect X_arg1) (ix2 j c : S64x128.Idx) = arg1.view.read (Elt Ideal) X_arg1 (ix2 (tok (chunkAt t) j) (lan 6 c)) :=
    fun j c => ld2 _ _ _ _ _ _ (off_rows6 t) j c _ _ rfl rfl
  have a2 : ∀ j c, (View.readAt (Elt Ideal) arg2.view (Rect.unit (s := S256x1024) (k0_off16 t) S64x128.size (k0_inb16 t)).toLoadRect X_arg2) (ix2 j c : S64x128.Idx) = arg2.view.read (Elt Ideal) X_arg2 (ix2 (tok (chunkAt t) j) (lan 6 c)) :=
    fun j c => ld2 _ _ _ _ _ _ (off_rows6 t) j c _ _ rfl rfl
  have a7 : ∀ j c, (View.readAt (Elt Ideal) arg7.view (Rect.unit (s := S256x1024) (k0_off16 t) S64x128.size (k0_inb16 t)).toLoadRect X_arg7) (ix2 j c : S64x128.Idx) = arg7.view.read (Elt Ideal) X_arg7 (ix2 (tok (chunkAt t) j) (lan 6 c)) :=
    fun j c => ld2 _ _ _ _ _ _ (off_rows6 t) j c _ _ rfl rfl
  have ag : ∀ j, (View.readAt (Elt Ideal) arg4.view (Rect.unit (s := S256x128) (k0_off9 t) S64x128.size (k0_inb9 t)).toLoadRect X_arg4) (ix2 j 14 : S64x128.Idx) = arg4.view.read (Elt Ideal) X_arg4 (ix2 (tok (chunkAt t) j) (gcol 6)) :=
    fun j => ld2 _ _ _ _ _ _ (off_gate t) j 14 _ _ rfl rfl
  have ab : ∀ j, (View.readAt (Elt Ideal) arg4.view (Rect.unit (s := S256x128) (k0_off9 t) S64x128.size (k0_inb9 t)).toLoadRect X_arg4) (ix2 j 6 : S64x128.Idx) = arg4.view.read (Elt Ideal) X_arg4 (ix2 (tok (chunkAt t) j) (bcol 6)) :=
    fun j => ld2 _ _ _ _ _ _ (off_gate t) j 6 _ _ rfl rfl
  have a6 : ∀ a b, (View.readAt (Elt Ideal) arg6.view (Rect.unit (s := S4x8x64x64) (k0_off7 t) S1x1x64x64.size (k0_inb7 t)).toLoadRect X_arg6) (ix4 0 0 a b : S1x1x64x64.Idx) = arg6.view.read (Elt Ideal) X_arg6 (ix4 (chunkAt t) 6 a b) :=
    fun a b => ld4 _ _ _ _ _ _ (off_inv6 t) a b
  have a12 : ∀ a b, (View.readAt (Elt Ideal) arg12.view (Rect.unit (s := S8x128x128) ![6, 0, 0] S1x128x128.size inb_S8x128x128_S1x128x128_6_0_0).toLoadRect f12) (ix3 0 a b : S1x128x128.Idx) = arg12.view.read (Elt Ideal) f12 (ix3 6 a b) :=
    fun a b => ld3 _ _ _ _ 6 rfl a b
  simp only [a1, a2, a6, a7, ag, ab, a12] at key
  exact key

/-- Head 7's store into the third output. -/
theorem pieceV7 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.TileAt (Val := Elt Ideal) (S := S256x1024) (e := .f32) y (k0_off17 t) S64x128.size
      (trip_k0_t1.sl.r_517 (F := Ideal) arg1 arg2 arg4 arg6 arg7 arg12 X_arg1 X_arg2 X_arg4 X_arg6 X_arg7 t f12) (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  intro x hx
  obtain ⟨r, c, rfl⟩ : ∃ (r : Fin 64) (c : Fin 128), x = ix2 r c := ⟨_, _, eq_ix2 x⟩
  have ht : t.val < 4 := t.isLt
  rw [off_rows7 t] at hx
  have h0 : (y 0).val = (3 - t.val) * 64 + r.val := hx 0
  have h1 : (y 1).val = 896 + c.val := hx 1
  have e0 : (⟨(y 0).val / 64, by have : (y 0).val < 256 := (y 0).isLt; omega⟩ : Fin 4) = chunkAt t := Fin.ext (by simp only [chunkAt]; omega)
  have e1 : (⟨(y 1).val / 128, by have : (y 1).val < 1024 := (y 1).isLt; omega⟩ : Fin 8) = 7 := Fin.ext (by show (y 1).val / 128 = 7; omega)
  have e2 : (⟨(y 0).val % 64, Nat.mod_lt _ (by decide)⟩ : Fin 64) = r := Fin.ext (by simp only []; omega)
  have e3 : (⟨(y 1).val % 128, Nat.mod_lt _ (by decide)⟩ : Fin 128) = c := Fin.ext (by simp only []; omega)
  have e4 : 3 - (y 0).val / 64 = t.val := by omega
  rw [tileV, e0, e1, e2, e3, e4, ← hE, dvAt]
  have key := payV7_at (View.readAt (Elt Ideal) arg1.view (Rect.unit (s := S256x1024) (k0_off17 t) S64x128.size (k0_inb17 t)).toLoadRect X_arg1) (View.readAt (Elt Ideal) arg2.view (Rect.unit (s := S256x1024) (k0_off17 t) S64x128.size (k0_inb17 t)).toLoadRect X_arg2) (View.readAt (Elt Ideal) arg7.view (Rect.unit (s := S256x1024) (k0_off17 t) S64x128.size (k0_inb17 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![7, 0, 0] S1x128x128.size inb_S8x128x128_S1x128x128_7_0_0).toLoadRect f12) (View.readAt (Elt Ideal) arg6.view (Rect.unit (s := S4x8x64x64) (k0_off8 t) S1x1x64x64.size (k0_inb8 t)).toLoadRect X_arg6) r c
  have a1 : ∀ j c, (View.readAt (Elt Ideal) arg1.view (Rect.unit (s := S256x1024) (k0_off17 t) S64x128.size (k0_inb17 t)).toLoadRect X_arg1) (ix2 j c : S64x128.Idx) = arg1.view.read (Elt Ideal) X_arg1 (ix2 (tok (chunkAt t) j) (lan 7 c)) :=
    fun j c => ld2 _ _ _ _ _ _ (off_rows7 t) j c _ _ rfl rfl
  have a2 : ∀ j c, (View.readAt (Elt Ideal) arg2.view (Rect.unit (s := S256x1024) (k0_off17 t) S64x128.size (k0_inb17 t)).toLoadRect X_arg2) (ix2 j c : S64x128.Idx) = arg2.view.read (Elt Ideal) X_arg2 (ix2 (tok (chunkAt t) j) (lan 7 c)) :=
    fun j c => ld2 _ _ _ _ _ _ (off_rows7 t) j c _ _ rfl rfl
  have a7 : ∀ j c, (View.readAt (Elt Ideal) arg7.view (Rect.unit (s := S256x1024) (k0_off17 t) S64x128.size (k0_inb17 t)).toLoadRect X_arg7) (ix2 j c : S64x128.Idx) = arg7.view.read (Elt Ideal) X_arg7 (ix2 (tok (chunkAt t) j) (lan 7 c)) :=
    fun j c => ld2 _ _ _ _ _ _ (off_rows7 t) j c _ _ rfl rfl
  have ag : ∀ j, (View.readAt (Elt Ideal) arg4.view (Rect.unit (s := S256x128) (k0_off9 t) S64x128.size (k0_inb9 t)).toLoadRect X_arg4) (ix2 j 15 : S64x128.Idx) = arg4.view.read (Elt Ideal) X_arg4 (ix2 (tok (chunkAt t) j) (gcol 7)) :=
    fun j => ld2 _ _ _ _ _ _ (off_gate t) j 15 _ _ rfl rfl
  have ab : ∀ j, (View.readAt (Elt Ideal) arg4.view (Rect.unit (s := S256x128) (k0_off9 t) S64x128.size (k0_inb9 t)).toLoadRect X_arg4) (ix2 j 7 : S64x128.Idx) = arg4.view.read (Elt Ideal) X_arg4 (ix2 (tok (chunkAt t) j) (bcol 7)) :=
    fun j => ld2 _ _ _ _ _ _ (off_gate t) j 7 _ _ rfl rfl
  have a6 : ∀ a b, (View.readAt (Elt Ideal) arg6.view (Rect.unit (s := S4x8x64x64) (k0_off8 t) S1x1x64x64.size (k0_inb8 t)).toLoadRect X_arg6) (ix4 0 0 a b : S1x1x64x64.Idx) = arg6.view.read (Elt Ideal) X_arg6 (ix4 (chunkAt t) 7 a b) :=
    fun a b => ld4 _ _ _ _ _ _ (off_inv7 t) a b
  have a12 : ∀ a b, (View.readAt (Elt Ideal) arg12.view (Rect.unit (s := S8x128x128) ![7, 0, 0] S1x128x128.size inb_S8x128x128_S1x128x128_7_0_0).toLoadRect f12) (ix3 0 a b : S1x128x128.Idx) = arg12.view.read (Elt Ideal) f12 (ix3 7 a b) :=
    fun a b => ld3 _ _ _ _ 7 rfl a b
  simp only [a1, a2, a6, a7, ag, ab, a12] at key
  exact key

/-- Head 7's store into the carried buffer. -/
theorem pieceS7 (arg1 : Memref sig .tc .vmem S256x1024 .f32) (arg2 : Memref sig .tc .vmem S256x1024 .f32) (arg4 : Memref sig .tc .vmem S256x128 .f32) (arg6 : Memref sig .tc .vmem S4x8x64x64 .bf16) (arg7 : Memref sig .tc .vmem S256x1024 .f32) (arg12 : Memref sig .tc .vmem S8x128x128 .f32) (X_arg1 : BufTy.Contents (Elt Ideal) arg1.view.ty) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (f12 : BufTy.Contents (Elt Ideal) arg12.view.ty) (t : Fin k0_t1_loop.trips) (y : S8x128x128.Idx) :
    View.TileAt (Val := Elt Ideal) (S := S8x128x128) (e := .f32) y ![7, 0, 0] S1x128x128.size
      (k0_pay3 (trip_k0_t1.sl.r_401 (F := Ideal) arg1 arg2 arg4 arg6 arg7 arg12 X_arg1 X_arg2 X_arg4 X_arg6 X_arg7 t f12)) (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  intro x hx
  obtain ⟨o, r, c, rfl⟩ : ∃ (o : Fin 1) (r c : Fin 128), x = ix3 o r c := ⟨_, _, _, eq_ix3 x⟩
  have h0 : (y 0).val = 7 + o.val := hx 0
  have h1 : (y 1).val = 0 + r.val := hx 1
  have h2 : (y 2).val = 0 + c.val := hx 2
  have e0 : (⟨(y 0).val, (y 0).isLt⟩ : Fin 8) = 7 := Fin.ext (by show (y 0).val = 7; omega)
  have e1 : (⟨(y 1).val, (y 1).isLt⟩ : Fin 128) = r := Fin.ext (by show (y 1).val = _; omega)
  have e2 : (⟨(y 2).val, (y 2).isLt⟩ : Fin 128) = c := Fin.ext (by show (y 2).val = _; omega)
  rw [stepS, e0, e1, e2, dsAt]
  have key := payS7_at (View.readAt (Elt Ideal) arg1.view (Rect.unit (s := S256x1024) (k0_off17 t) S64x128.size (k0_inb17 t)).toLoadRect X_arg1) (View.readAt (Elt Ideal) arg2.view (Rect.unit (s := S256x1024) (k0_off17 t) S64x128.size (k0_inb17 t)).toLoadRect X_arg2) (View.readAt (Elt Ideal) arg7.view (Rect.unit (s := S256x1024) (k0_off17 t) S64x128.size (k0_inb17 t)).toLoadRect X_arg7)
    (View.readAt (Elt Ideal) arg4.view (Rect.unit (s := S256x128) (k0_off9 t) S64x128.size (k0_inb9 t)).toLoadRect X_arg4) (View.readAt (Elt Ideal) arg12.view (Rect.unit (s := S8x128x128) ![7, 0, 0] S1x128x128.size inb_S8x128x128_S1x128x128_7_0_0).toLoadRect f12) (View.readAt (Elt Ideal) arg6.view (Rect.unit (s := S4x8x64x64) (k0_off8 t) S1x1x64x64.size (k0_inb8 t)).toLoadRect X_arg6) o r c
  have a1 : ∀ j c, (View.readAt (Elt Ideal) arg1.view (Rect.unit (s := S256x1024) (k0_off17 t) S64x128.size (k0_inb17 t)).toLoadRect X_arg1) (ix2 j c : S64x128.Idx) = arg1.view.read (Elt Ideal) X_arg1 (ix2 (tok (chunkAt t) j) (lan 7 c)) :=
    fun j c => ld2 _ _ _ _ _ _ (off_rows7 t) j c _ _ rfl rfl
  have a2 : ∀ j c, (View.readAt (Elt Ideal) arg2.view (Rect.unit (s := S256x1024) (k0_off17 t) S64x128.size (k0_inb17 t)).toLoadRect X_arg2) (ix2 j c : S64x128.Idx) = arg2.view.read (Elt Ideal) X_arg2 (ix2 (tok (chunkAt t) j) (lan 7 c)) :=
    fun j c => ld2 _ _ _ _ _ _ (off_rows7 t) j c _ _ rfl rfl
  have a7 : ∀ j c, (View.readAt (Elt Ideal) arg7.view (Rect.unit (s := S256x1024) (k0_off17 t) S64x128.size (k0_inb17 t)).toLoadRect X_arg7) (ix2 j c : S64x128.Idx) = arg7.view.read (Elt Ideal) X_arg7 (ix2 (tok (chunkAt t) j) (lan 7 c)) :=
    fun j c => ld2 _ _ _ _ _ _ (off_rows7 t) j c _ _ rfl rfl
  have ag : ∀ j, (View.readAt (Elt Ideal) arg4.view (Rect.unit (s := S256x128) (k0_off9 t) S64x128.size (k0_inb9 t)).toLoadRect X_arg4) (ix2 j 15 : S64x128.Idx) = arg4.view.read (Elt Ideal) X_arg4 (ix2 (tok (chunkAt t) j) (gcol 7)) :=
    fun j => ld2 _ _ _ _ _ _ (off_gate t) j 15 _ _ rfl rfl
  have ab : ∀ j, (View.readAt (Elt Ideal) arg4.view (Rect.unit (s := S256x128) (k0_off9 t) S64x128.size (k0_inb9 t)).toLoadRect X_arg4) (ix2 j 7 : S64x128.Idx) = arg4.view.read (Elt Ideal) X_arg4 (ix2 (tok (chunkAt t) j) (bcol 7)) :=
    fun j => ld2 _ _ _ _ _ _ (off_gate t) j 7 _ _ rfl rfl
  have a6 : ∀ a b, (View.readAt (Elt Ideal) arg6.view (Rect.unit (s := S4x8x64x64) (k0_off8 t) S1x1x64x64.size (k0_inb8 t)).toLoadRect X_arg6) (ix4 0 0 a b : S1x1x64x64.Idx) = arg6.view.read (Elt Ideal) X_arg6 (ix4 (chunkAt t) 7 a b) :=
    fun a b => ld4 _ _ _ _ _ _ (off_inv7 t) a b
  have a12 : ∀ a b, (View.readAt (Elt Ideal) arg12.view (Rect.unit (s := S8x128x128) ![7, 0, 0] S1x128x128.size inb_S8x128x128_S1x128x128_7_0_0).toLoadRect f12) (ix3 0 a b : S1x128x128.Idx) = arg12.view.read (Elt Ideal) f12 (ix3 7 a b) :=
    fun a b => ld3 _ _ _ _ 7 rfl a b
  simp only [a1, a2, a6, a7, ag, ab, a12] at key
  exact key

/-- Every store of a trip into the third output writes the tile's gradient. -/
theorem trip_allV (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (E : Car) (hE : arg12.view.read (Elt Ideal) f12 = afterS (arg1.view.read (Elt Ideal) X_arg1) (arg2.view.read (Elt Ideal) X_arg2) (arg4.view.read (Elt Ideal) X_arg4) (arg6.view.read (Elt Ideal) X_arg6) (arg7.view.read (Elt Ideal) X_arg7) E t.val) (y : S256x1024.Idx) :
    View.AllAt ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).2.2.1 f8 f9 f10 f11 f12) y (tileV (arg1.view.read (Elt Ideal) X_arg1) (arg2.view.read (Elt Ideal) X_arg2) (arg4.view.read (Elt Ideal) X_arg4) (arg6.view.read (Elt Ideal) X_arg6) (arg7.view.read (Elt Ideal) X_arg7) E y) := by
  unfold trip_k0_t1
  dsimp only
  refine View.allAt_cons_unit _ _ _ _ _ (pieceV7 arg1 arg2 arg4 arg6 arg7 arg12 X_arg1 X_arg2 X_arg4 X_arg6 X_arg7 f12 t E hE y) ?_
  refine View.allAt_cons_unit _ _ _ _ _ (pieceV6 arg1 arg2 arg4 arg6 arg7 arg12 X_arg1 X_arg2 X_arg4 X_arg6 X_arg7 f12 t E hE y) ?_
  refine View.allAt_cons_unit _ _ _ _ _ (pieceV5 arg1 arg2 arg4 arg6 arg7 arg12 X_arg1 X_arg2 X_arg4 X_arg6 X_arg7 f12 t E hE y) ?_
  refine View.allAt_cons_unit _ _ _ _ _ (pieceV4 arg1 arg2 arg4 arg6 arg7 arg12 X_arg1 X_arg2 X_arg4 X_arg6 X_arg7 f12 t E hE y) ?_
  refine View.allAt_cons_unit _ _ _ _ _ (pieceV3 arg1 arg2 arg4 arg6 arg7 arg12 X_arg1 X_arg2 X_arg4 X_arg6 X_arg7 f12 t E hE y) ?_
  refine View.allAt_cons_unit _ _ _ _ _ (pieceV2 arg1 arg2 arg4 arg6 arg7 arg12 X_arg1 X_arg2 X_arg4 X_arg6 X_arg7 f12 t E hE y) ?_
  refine View.allAt_cons_unit _ _ _ _ _ (pieceV1 arg1 arg2 arg4 arg6 arg7 arg12 X_arg1 X_arg2 X_arg4 X_arg6 X_arg7 f12 t E hE y) ?_
  refine View.allAt_cons_unit _ _ _ _ _ (pieceV0 arg1 arg2 arg4 arg6 arg7 arg12 X_arg1 X_arg2 X_arg4 X_arg6 X_arg7 f12 t E hE y) ?_
  exact View.allAt_nil _ _

/-- Every store of a trip into the carried buffer writes the next gradient of the states. -/
theorem trip_allS (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (y : S8x128x128.Idx) :
    View.AllAt ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).2.2.2.2.1 f8 f9 f10 f11 f12) y (stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) y) := by
  unfold trip_k0_t1
  dsimp only
  refine View.allAt_cons_unit _ _ _ _ _ (pieceS7 arg1 arg2 arg4 arg6 arg7 arg12 X_arg1 X_arg2 X_arg4 X_arg6 X_arg7 f12 t y) ?_
  refine View.allAt_cons_unit _ _ _ _ _ (pieceS6 arg1 arg2 arg4 arg6 arg7 arg12 X_arg1 X_arg2 X_arg4 X_arg6 X_arg7 f12 t y) ?_
  refine View.allAt_cons_unit _ _ _ _ _ (pieceS5 arg1 arg2 arg4 arg6 arg7 arg12 X_arg1 X_arg2 X_arg4 X_arg6 X_arg7 f12 t y) ?_
  refine View.allAt_cons_unit _ _ _ _ _ (pieceS4 arg1 arg2 arg4 arg6 arg7 arg12 X_arg1 X_arg2 X_arg4 X_arg6 X_arg7 f12 t y) ?_
  refine View.allAt_cons_unit _ _ _ _ _ (pieceS3 arg1 arg2 arg4 arg6 arg7 arg12 X_arg1 X_arg2 X_arg4 X_arg6 X_arg7 f12 t y) ?_
  refine View.allAt_cons_unit _ _ _ _ _ (pieceS2 arg1 arg2 arg4 arg6 arg7 arg12 X_arg1 X_arg2 X_arg4 X_arg6 X_arg7 f12 t y) ?_
  refine View.allAt_cons_unit _ _ _ _ _ (pieceS1 arg1 arg2 arg4 arg6 arg7 arg12 X_arg1 X_arg2 X_arg4 X_arg6 X_arg7 f12 t y) ?_
  refine View.allAt_cons_unit _ _ _ _ _ (pieceS0 arg1 arg2 arg4 arg6 arg7 arg12 X_arg1 X_arg2 X_arg4 X_arg6 X_arg7 f12 t y) ?_
  exact View.allAt_nil _ _

/-- A trip's stores into the third output cover its chunk. -/
theorem trip_coverV (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (y : S256x1024.Idx)
    (hy : (y 0).val / 64 = 3 - t.val) : ∃ p ∈ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).2.2.1 f8 f9 f10 f11 f12), y ∈ p.1.set := by
  have h0 : (3 - t.val) * 64 ≤ (y 0).val ∧ (y 0).val < (3 - t.val) * 64 + 64 := by omega
  have h1 : (y 1).val < 1024 := (y 1).isLt
  unfold trip_k0_t1
  dsimp only
  by_cases g7 : 896 ≤ (y 1).val
  · refine here _ _ _ _ _ ?_; rw [off_rows7 t]; exact Fin.forall_fin_two.mpr ⟨h0, by show 896 ≤ (y 1).val ∧ (y 1).val < 896 + 128; omega⟩
  by_cases g6 : 768 ≤ (y 1).val
  · refine there _ (here _ _ _ _ _ ?_); rw [off_rows6 t]; exact Fin.forall_fin_two.mpr ⟨h0, by show 768 ≤ (y 1).val ∧ (y 1).val < 768 + 128; omega⟩
  by_cases g5 : 640 ≤ (y 1).val
  · refine there _ (there _ (here _ _ _ _ _ ?_)); rw [off_rows5 t]; exact Fin.forall_fin_two.mpr ⟨h0, by show 640 ≤ (y 1).val ∧ (y 1).val < 640 + 128; omega⟩
  by_cases g4 : 512 ≤ (y 1).val
  · refine there _ (there _ (there _ (here _ _ _ _ _ ?_))); rw [off_rows4 t]; exact Fin.forall_fin_two.mpr ⟨h0, by show 512 ≤ (y 1).val ∧ (y 1).val < 512 + 128; omega⟩
  by_cases g3 : 384 ≤ (y 1).val
  · refine there _ (there _ (there _ (there _ (here _ _ _ _ _ ?_)))); rw [off_rows3 t]; exact Fin.forall_fin_two.mpr ⟨h0, by show 384 ≤ (y 1).val ∧ (y 1).val < 384 + 128; omega⟩
  by_cases g2 : 256 ≤ (y 1).val
  · refine there _ (there _ (there _ (there _ (there _ (here _ _ _ _ _ ?_))))); rw [off_rows2 t]; exact Fin.forall_fin_two.mpr ⟨h0, by show 256 ≤ (y 1).val ∧ (y 1).val < 256 + 128; omega⟩
  by_cases g1 : 128 ≤ (y 1).val
  · refine there _ (there _ (there _ (there _ (there _ (there _ (here _ _ _ _ _ ?_)))))); rw [off_rows1 t]; exact Fin.forall_fin_two.mpr ⟨h0, by show 128 ≤ (y 1).val ∧ (y 1).val < 128 + 128; omega⟩
  refine there _ (there _ (there _ (there _ (there _ (there _ (there _ (here _ _ _ _ _ ?_))))))); rw [off_rows0 t]; exact Fin.forall_fin_two.mpr ⟨h0, by show 0 ≤ (y 1).val ∧ (y 1).val < 0 + 128; omega⟩

theorem rows {y : S8x128x128.Idx} (h : ℕ) (a : h ≤ (y 0).val) (b : (y 0).val < h + 1) (h1 : (y 1).val < 128) (h2 : (y 2).val < 128) :
    ∀ i, (![h, 0, 0] : Fin 3 → ℕ) i ≤ (y i).val ∧ (y i).val < (![h, 0, 0] : Fin 3 → ℕ) i + S1x128x128.size i := by
  intro i
  fin_cases i
  · exact ⟨a, b⟩
  · exact ⟨Nat.zero_le _, by show (y 1).val < 0 + 128; omega⟩
  · exact ⟨Nat.zero_le _, by show (y 2).val < 0 + 128; omega⟩

/-- A trip's stores into the carried buffer cover it. -/
theorem trip_coverS (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (y : S8x128x128.Idx) :
    ∃ p ∈ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).2.2.2.2.1 f8 f9 f10 f11 f12), y ∈ p.1.set := by
  have h0 : (y 0).val < 8 := (y 0).isLt
  have h1 : (y 1).val < 128 := (y 1).isLt
  have h2 : (y 2).val < 128 := (y 2).isLt
  unfold trip_k0_t1
  dsimp only
  by_cases g7 : 7 ≤ (y 0).val
  · refine hereS _ _ _ _ _ ?_; exact rows 7 (by omega) (by omega) h1 h2
  by_cases g6 : 6 ≤ (y 0).val
  · refine thereS _ (hereS _ _ _ _ _ ?_); exact rows 6 (by omega) (by omega) h1 h2
  by_cases g5 : 5 ≤ (y 0).val
  · refine thereS _ (thereS _ (hereS _ _ _ _ _ ?_)); exact rows 5 (by omega) (by omega) h1 h2
  by_cases g4 : 4 ≤ (y 0).val
  · refine thereS _ (thereS _ (thereS _ (hereS _ _ _ _ _ ?_))); exact rows 4 (by omega) (by omega) h1 h2
  by_cases g3 : 3 ≤ (y 0).val
  · refine thereS _ (thereS _ (thereS _ (thereS _ (hereS _ _ _ _ _ ?_)))); exact rows 3 (by omega) (by omega) h1 h2
  by_cases g2 : 2 ≤ (y 0).val
  · refine thereS _ (thereS _ (thereS _ (thereS _ (thereS _ (hereS _ _ _ _ _ ?_))))); exact rows 2 (by omega) (by omega) h1 h2
  by_cases g1 : 1 ≤ (y 0).val
  · refine thereS _ (thereS _ (thereS _ (thereS _ (thereS _ (thereS _ (hereS _ _ _ _ _ ?_)))))); exact rows 1 (by omega) (by omega) h1 h2
  refine thereS _ (thereS _ (thereS _ (thereS _ (thereS _ (thereS _ (thereS _ (hereS _ _ _ _ _ ?_))))))); exact rows 0 (by omega) (by omega) h1 h2

/-- The carried buffer after a trip. -/
theorem read_trip (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (t : Fin k0_t1_loop.trips) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    arg12.view.read (Elt Ideal) (arg12.view.writes (Elt Ideal) f12 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t).2.2.2.2.1 f8 f9 f10 f11 f12)) = stepS (arg1.view.read (Elt Ideal) X_arg1) (arg2.view.read (Elt Ideal) X_arg2) (arg4.view.read (Elt Ideal) X_arg4) (arg6.view.read (Elt Ideal) X_arg6) (arg7.view.read (Elt Ideal) X_arg7) (chunkAt t) (arg12.view.read (Elt Ideal) f12) := by
  funext y
  have hc := trip_coverS 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t f8 f9 f10 f11 f12 y
  rw [View.read_writes_apply_eq_canon _ _ y _ hc]
  exact View.canon_eq_of_allAt _ y _ hc (trip_allS 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 t f8 f9 f10 f11 f12 y)

/-- The carried buffer before trip `n`. -/
theorem read_pbS (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (n : ℕ) (hn : n ≤ k0_t1_loop.trips) :
    arg12.view.read (Elt Ideal) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 n).2.2.2.2) = afterS (arg1.view.read (Elt Ideal) X_arg1) (arg2.view.read (Elt Ideal) X_arg2) (arg4.view.read (Elt Ideal) X_arg4) (arg6.view.read (Elt Ideal) X_arg6) (arg7.view.read (Elt Ideal) X_arg7) (arg12.view.read (Elt Ideal) G_arg12) n := by
  induction n with
  | zero => rfl
  | succ n ih =>
    show arg12.view.read (Elt Ideal) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 ((⟨n, hn⟩ : Fin k0_t1_loop.trips).val + 1)).2.2.2.2) = _
    rw [pb_k0_t1_succ]
    dsimp only
    rw [View.writes_append]
    refine (read_trip 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 ⟨n, hn⟩ _ _ _ _ _).trans ?_
    rw [ih (by omega)]
    rfl

theorem pb_allV (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (y : S256x1024.Idx) (n : ℕ) (hn : n ≤ k0_t1_loop.trips) :
    View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 n).2.2.1 y (tileV (arg1.view.read (Elt Ideal) X_arg1) (arg2.view.read (Elt Ideal) X_arg2) (arg4.view.read (Elt Ideal) X_arg4) (arg6.view.read (Elt Ideal) X_arg6) (arg7.view.read (Elt Ideal) X_arg7) (arg12.view.read (Elt Ideal) G_arg12) y) := by
  induction n with
  | zero => exact View.allAt_nil _ _
  | succ n ih =>
    show View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 ((⟨n, hn⟩ : Fin k0_t1_loop.trips).val + 1)).2.2.1 y _
    rw [pb_k0_t1_succ]
    intro p hp
    rcases List.mem_append.mp hp with hp | hp
    · exact trip_allV 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 ⟨n, hn⟩ _ _ _ _ _ _ (read_pbS 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 n (by omega)) y p hp
    · exact ih (by omega) p hp

theorem pb_coverV (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (y : S256x1024.Idx) (n : ℕ) (hn : n ≤ k0_t1_loop.trips)
    (hy : 4 - n ≤ (y 0).val / 64) : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 n).2.2.1, y ∈ p.1.set := by
  have h0 : (y 0).val < 256 := (y 0).isLt
  induction n with
  | zero => omega
  | succ n ih =>
    show ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 ((⟨n, hn⟩ : Fin k0_t1_loop.trips).val + 1)).2.2.1, y ∈ p.1.set
    rw [pb_k0_t1_succ]
    have hn' : n < 4 := lt_of_lt_of_eq hn trips4
    by_cases h : (y 0).val / 64 = 3 - n
    · obtain ⟨p, hp, hm⟩ := trip_coverV 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 ⟨n, hn⟩ _ _ _ _ _ y h
      exact ⟨p, List.mem_append.mpr (Or.inl hp), hm⟩
    · obtain ⟨p, hp, hm⟩ := ih (by omega) (by omega)
      exact ⟨p, List.mem_append.mpr (Or.inr hp), hm⟩

/-- What the loop leaves in the third output's buffer. -/
theorem read_loopV (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (f : BufTy.Contents (Elt Ideal) arg10.view.ty) :
    arg10.view.read (Elt Ideal) (arg10.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 k0_t1_loop.trips).2.2.1) = tileV (arg1.view.read (Elt Ideal) X_arg1) (arg2.view.read (Elt Ideal) X_arg2) (arg4.view.read (Elt Ideal) X_arg4) (arg6.view.read (Elt Ideal) X_arg6) (arg7.view.read (Elt Ideal) X_arg7) (arg12.view.read (Elt Ideal) G_arg12) := by
  funext y
  have h0 : (y 0).val < 256 := (y 0).isLt
  have hc := pb_coverV 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 y _ le_rfl (by rw [trips4]; omega)
  rw [View.read_writes_apply_eq_canon _ _ y _ hc]
  exact View.canon_eq_of_allAt _ y _ hc (pb_allV 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 y _ le_rfl)

/-- What the loop leaves in the carried buffer. -/
theorem read_loopS (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) :
    arg12.view.read (Elt Ideal) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 k0_t1_loop.trips).2.2.2.2) = afterS (arg1.view.read (Elt Ideal) X_arg1) (arg2.view.read (Elt Ideal) X_arg2) (arg4.view.read (Elt Ideal) X_arg4) (arg6.view.read (Elt Ideal) X_arg6) (arg7.view.read (Elt Ideal) X_arg7) (arg12.view.read (Elt Ideal) G_arg12) 4 :=
  (read_pbS 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 G_arg8 G_arg9 G_arg10 G_arg11 G_arg12 _ le_rfl).trans (by rw [trips4])

/-- The cleared buffer. -/
theorem clear {sig' : RefSig} {κ : Kind} {sp : Space} (v : View sig' κ sp S8x128x128 .f32) (f : v.ty.Contents (Elt Ideal)) (inb) :
    v.read (Elt Ideal) (v.writes (Elt Ideal) f [⟨Rect.unit (s := S8x128x128) ![0, 0, 0] S8x128x128.size inb, k0_pay1 (F := Ideal)⟩]) = fun _ => (0 : EReal) := by
  funext y
  have hc : ∃ p ∈ ([⟨Rect.unit (s := S8x128x128) ![0, 0, 0] S8x128x128.size inb, k0_pay1 (F := Ideal)⟩] : List (View.Piece (Elt Ideal) S8x128x128 .f32)), y ∈ p.1.set := by
    refine hereS _ _ _ _ _ fun i => ?_
    fin_cases i
    · exact ⟨Nat.zero_le _, by have h : (y 0).val < 8 := (y 0).isLt; show (y 0).val < 0 + 8; omega⟩
    · exact ⟨Nat.zero_le _, by have h : (y 1).val < 128 := (y 1).isLt; show (y 1).val < 0 + 128; omega⟩
    · exact ⟨Nat.zero_le _, by have h : (y 2).val < 128 := (y 2).isLt; show (y 2).val < 0 + 128; omega⟩
  rw [View.read_writes_apply_eq_canon _ _ y _ hc]
  refine View.canon_eq_of_allAt _ y _ hc (View.allAt_cons_unit _ _ _ _ _ (fun x hx => ?_) (View.allAt_nil _ _))
  obtain ⟨a, b, c, rfl⟩ : ∃ (a : Fin 8) (b c : Fin 128), x = ix3 a b c := ⟨_, _, _, eq_ix3 x⟩
  pointwise [k0_pay1]

end Cert.KernelIdeal.Dv
-- ==== Proof.ScanRun.lean ====
module

public import proofs.«01_k».proof.Proof.Gen.KernelIdeal.Frame.Runs
public import proofs.«01_k».proof.Proof.DvLoop

/-! The run of one grid point of the backward scan. On whole staging buffers, the inputs and the carried state
gradient at known contents and the outputs at any, the body terminates, leaves the inputs as they were, leaves in the
first output the gradient of the queries of the tile (`Dq.tile`), in the third the gradient of the values
(`Dv.tileV`), in the carried buffer the next state gradient (`Dv.afterS`), and the other outputs at some contents. -/
@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the loop finds in the carried buffer: the first point clears it. -/
def start (i : grid0.Coords) (e : Dv.Car) : Dv.Car := if cond0_0 i then fun _ => 0 else e

set_option maxHeartbeats 4000000 in
/-- One grid point of the backward scan, whether or not it is the first, which clears the carried buffer. -/
theorem run_point (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole)
    (x0 : Vec Ideal S256x1024 .f32) (x1 : Vec Ideal S256x1024 .f32) (x2 : Vec Ideal S256x1024 .f32) (x3 : Vec Ideal S256x128 .f32) (x4 : Vec Ideal S4x8x128x128 .f32) (x5 : Vec Ideal S4x8x64x64 .bf16) (x6 : Vec Ideal S256x1024 .f32) (e : Dv.Car) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare e
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (Dq.tile x1 x2 x3 x4 x5 x6) ∗ (∃ d, owns (c : Thread nD τ) arg9 fullShare d) ∗ owns (c : Thread nD τ) arg10 fullShare (Dv.tileV x0 x1 x3 x5 x6 (start i e)) ∗ (∃ d, owns (c : Thread nD τ) arg11 fullShare d) ∗ owns (c : Thread nD τ) arg12 fullShare (Dv.afterS x0 x1 x3 x5 x6 (start i e) 4)) -∗ K ⟨⟩))
      ⊢ wp frame (wpE (defs₀ (F := Ideal)) Variants.none c none) E (cc0_gdn_scan_bwd i arg1 harg1 arg2 harg2 arg3 harg3 arg4 harg4 arg5 harg5 arg6 harg6 arg7 harg7 arg8 harg8 arg9 harg9 arg10 harg10 arg11 harg11 arg12 harg12) K := by
  by_cases hc0 : cond0_0 i
  · simp only [cc0_gdn_scan_bwd_eq_skeleton]; unfold cc0_gdn_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      refine (Dq.read_loop _ _ _ _ _ _ _ _ _ _ _ _ _ _ _ _ _ _ _ _ _ _ _ _ _ _ _ _ _ _ _ _ _ _ _ _ _ _ _ _ _).trans ?_
      rw [harg2.read_unread, harg3.read_unread, harg4.read_unread, harg5.read_unread, harg6.read_unread, harg7.read_unread]
    isplitl [H8]
    · iexists _, _; isplitr; swap; · iexact H8
      ipureintro; rfl
    isplitl [H9]
    · iexists _; isplitr; swap; · iexact H9
      ipureintro
      refine (Dv.read_loopV _ _ _ _ _ _ _ _ _ _ _ _ _ _ _ _ _ _ _ _ _ _ _ _ _ _ _ _ _ _ _ _ _ _ _ _ _ _ _ _ _).trans ?_
      rw [harg1.read_unread, harg2.read_unread, harg4.read_unread, harg6.read_unread, harg7.read_unread]
      rw [start, if_pos hc0]; exact congrArg _ (Dv.clear arg12.view _ _)
    isplitl [H10]
    · iexists _, _; isplitr; swap; · iexact H10
      ipureintro; rfl
    iexists _; isplitr; swap; · iexact H11
    ipureintro
    rw [View.writes_append]
    refine (Dv.read_loopS _ _ _ _ _ _ _ _ _ _ _ _ _ _ _ _ _ _ _ _ _ _ _ _ _ _ _ _ _ _ _ _ _ _ _ _ _ _ _ _).trans ?_
    rw [harg1.read_unread, harg2.read_unread, harg4.read_unread, harg6.read_unread, harg7.read_unread]
    rw [start, if_pos hc0]; exact congrArg (fun z => Dv.afterS _ _ _ _ _ z 4) (Dv.clear arg12.view _ _)
  · simp only [cc0_gdn_scan_bwd_eq_skeleton]; unfold cc0_gdn_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      refine (Dq.read_loop _ _ _ _ _ _ _ _ _ _ _ _ _ _ _ _ _ _ _ _ _ _ _ _ _ _ _ _ _ _ _ _ _ _ _ _ _ _ _ _ _).trans ?_
      rw [harg2.read_unread, harg3.read_unread, harg4.read_unread, harg5.read_unread, harg6.read_unread, harg7.read_unread]
    isplitl [H8]
    · iexists _, _; isplitr; swap; · iexact H8
      ipureintro; rfl
    isplitl [H9]
    · iexists _; isplitr; swap; · iexact H9
      ipureintro
      refine (Dv.read_loopV _ _ _ _ _ _ _ _ _ _ _ _ _ _ _ _ _ _ _ _ _ _ _ _ _ _ _ _ _ _ _ _ _ _ _ _ _ _ _ _ _).trans ?_
      rw [harg1.read_unread, harg2.read_unread, harg4.read_unread, harg6.read_unread, harg7.read_unread]
      rw [start, if_neg hc0, hf11]
    isplitl [H10]
    · iexists _, _; isplitr; swap; · iexact H10
      ipureintro; rfl
    iexists _; isplitr; swap; · iexact H11
    ipureintro
    refine (Dv.read_loopS _ _ _ _ _ _ _ _ _ _ _ _ _ _ _ _ _ _ _ _ _ _ _ _ _ _ _ _ _ _ _ _ _ _ _ _ _ _ _ _).trans ?_
    rw [harg1.read_unread, harg2.read_unread, harg4.read_unread, harg6.read_unread, harg7.read_unread]
    rw [start, if_neg hc0, hf11]

end Cert.KernelIdeal.Scan

end
-- ==== Proof.ScanFrame.lean ====
module

public import proofs.«01_k».proof.Proof.ScanRun
public import Idealize.ShloMosaic.Lib.Claim

/-! The frame of the backward scan: every run of the program ends, with its argument arrays as they
were and every counter at zero. Of the outputs the first and the third, the gradients of the
queries and of the values, are named tile by tile, with the state gradient carried from point to point; nothing is said
here of what the two others hold. -/
@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The two output windows of whose contents nothing is said. -/
def forgets : Fin 11 → Bool := fun w => w.val == 8 || w.val == 10

/-- The state gradient before point `t`: none before the first, then what each point makes of it. -/
def carried (c : Dev nD) : ℕ → Dv.Car
  | 0 => fun _ => 0
  | t + 1 => if h : t < cfg0.N then Dv.afterS (iblk m c 0 ⟨t, h⟩) (iblk m c 1 ⟨t, h⟩) (iblk m c 3 ⟨t, h⟩) (iblk m c 5 ⟨t, h⟩) (iblk m c 6 ⟨t, h⟩) (carried c t) 4
      else carried c t

theorem carried_succ (c : Dev nD) (t : Fin cfg0.N) : carried m c (t.val + 1)
    = Dv.afterS (iblk m c 0 t) (iblk m c 1 t) (iblk m c 3 t) (iblk m c 5 t) (iblk m c 6 t) (carried m c t.val) 4 := by
  show dite _ _ _ = _
  rw [dif_pos t.isLt]

/-- The data of the pipeline: each input window at its block after every point, the first and third outputs at the
gradients of the queries and of the values of their tile, the others unnamed, the carried buffer at the state gradient
(before the first point at anything), nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dq.tile (iblk m c 1 t) (iblk m c 2 t) (iblk m c 3 t) (iblk m c 4 t) (iblk m c 5 t) (iblk m c 6 t)
    | ⟨8, h⟩ => Pipeline.Dat.unnamed (cfg := cfg0) ⟨8, h⟩ t
    | ⟨9, _⟩ => Dv.tileV (iblk m c 0 t) (iblk m c 1 t) (iblk m c 3 t) (iblk m c 5 t) (iblk m c 6 t) (carried m c t.val)
    | ⟨10, h⟩ => Pipeline.Dat.unnamed (cfg := cfg0) ⟨10, h⟩ t
  Φ t := iprop(iprop((∃ d, owns (c : Thread nD τ) scM0_0 fullShare d ∗ ⌜t.val ≠ 0 → d = carried m c t.val⌝)) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem after_7 (c : Dev nD) (t : Fin cfg0.N) : (dats m 0 c).after 7 t
    = Dq.tile (iblk m c 1 t) (iblk m c 2 t) (iblk m c 3 t) (iblk m c 4 t) (iblk m c 5 t) (iblk m c 6 t) := by dsimp only [dats]

theorem after_9 (c : Dev nD) (t : Fin cfg0.N) : (dats m 0 c).after 9 t
    = Dv.tileV (iblk m c 0 t) (iblk m c 1 t) (iblk m c 3 t) (iblk m c 5 t) (iblk m c 6 t) (carried m c t.val) := by dsimp only [dats]

theorem Phi_eq (c : Dev nD) (t : Fin (cfg0.N + 1)) : (dats m 0 c).Φ t
    = iprop(iprop((∃ d, owns (c : Thread nD τ) scM0_0 fullShare d ∗ ⌜t.val ≠ 0 → d = carried m c t.val⌝)) ∗ (∃ r, prngReg c r)) := rfl

/-- Only the first point clears the carried buffer. -/
theorem first_iff : ∀ t : Fin cfg0.N, cond0_0 (grid0.coords t) ↔ t.val = 0 := (by decide +kernel : ∀ t : Fin grid0.N, _)

theorem start_eq (c : Dev nD) (t : Fin cfg0.N) (d : Dv.Car) (h : t.val ≠ 0 → d = carried m c t.val) :
    start (grid0.coords t) d = carried m c t.val := by
  unfold start
  by_cases h0 : t.val = 0
  · rw [if_pos ((first_iff t).mpr h0), h0]; rfl
  · rw [if_neg (fun hc => h0 ((first_iff t).mp hc))]; exact h h0

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare ((dats m 0 c).before 9 t d))
    ∗ (∃ d, owns (c : Thread nD τ) (ms0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ owns (c : Thread nD τ) (ms0_9 t) fullShare ((dats m 0 c).after 9 t)
    ∗ (∃ d, owns (c : Thread nD τ) (ms0_10 t) fullShare d))

set_option maxHeartbeats 4000000 in
/-- The body at any point, from the run of one point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_9]
  rw [Phi_eq, Phi_eq]
  iintro ⟨⟨⟨%e, HS0, %he⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩, H10⟩
  have hs : start (grid0.coords t) e = carried m c t.val := start_eq m c t e he
  iapply (run_point c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) e Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexact H10
  isplitl [HS0]; · iexact HS0
  iintro ⟨H0, H1, H2, H3, H4, H5, H6, H7, H8, H9, H10, HS0⟩
  isplitl [HS0 Hg]
  · isplitl [HS0]
    · iexists (carried m c (t.val + 1))
      isplitl [HS0]
      · rw [carried_succ, ← hs]; iexact HS0
      · ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · rw [← hs]; iexact H9
  iexact H10

/-- The row of the body table at point `t` is the body. -/
theorem row (t : Fin cfg0.N) :
    defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ forgets := fun t => by
  rw [bigSep_W0, bigSep_W0, row]
  exact triple_restated (sound_body m c t) rfl .rfl fun _ => .rfl

/-- Before the first point the carried buffer may hold anything. -/
theorem enter (c : Dev nD) : Pipeline.ΦA spec0 c ⊢ (dats m 0 c).Φ 0 := by
  rw [PhiA0_eq, Phi_eq]
  iintro ⟨⟨%d, HS0⟩, Hg⟩
  isplitl [HS0]
  · iexists d
    isplitl [HS0]; · iexact HS0
    ipureintro; exact fun h => absurd rfl h
  iexact Hg

/-- After the last it is given back. -/
theorem leave (c : Dev nD) : (dats m 0 c).Φ (Fin.last cfg0.N) ⊢ Pipeline.ΦA spec0 c := by
  rw [PhiA0_eq, Phi_eq]
  iintro ⟨⟨%d, HS0, %he⟩, Hg⟩
  isplitl [HS0]
  · iexists d; iexact HS0
  iexact Hg

set_option backward.isDefEq.respectTransparency.types false in
/-- The launch: every run ends with the inputs as they were and every counter at zero. -/
theorem run_all : θ_run defs (onTc (τ := τ) (main (F := Ideal))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m)
    (hin := enter m) (hout := leave m)

/-- The first output's array after the run, as the data names it. -/
theorem post_7 (r : PUnit × MemSt nD τ sig (Elt Ideal))
    (h : Pipeline.RDat.FramePost (cfgs 0) (fun c => (dats m 0 c).toRForget forgets) (V m) r) (c : Dev nD) :
    r.2.mem (((cfg0.spec 7).arr.view.loc (c.tc : Thread nD τ))) = (dats m 0 c).arrAt 7 cfg0.N :=
  ((dats m 0 c).toRForget_arrAt_iff (fgt := forgets) (w := 7) rfl _ _).mp ((h c).1 7)

/-- The third output's array after the run, as the data names it. -/
theorem post_9 (r : PUnit × MemSt nD τ sig (Elt Ideal))
    (h : Pipeline.RDat.FramePost (cfgs 0) (fun c => (dats m 0 c).toRForget forgets) (V m) r) (c : Dev nD) :
    r.2.mem (((cfg0.spec 9).arr.view.loc (c.tc : Thread nD τ))) = (dats m 0 c).arrAt 9 cfg0.N :=
  ((dats m 0 c).toRForget_arrAt_iff (fgt := forgets) (w := 9) rfl _ _).mp ((h c).1 9)

/-- The frame, over the extended reals. -/
theorem frame : θ_run defs (onTc (τ := τ) (main (F := Ideal))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩) (run_all m ρ)

end Cert.KernelIdeal.Scan

end
-- ==== Proof.DqFull.lean ====
module
public import proofs.«01_k».proof.Proof.DqLoop
/-! # The gradient of the queries, over the whole sequence

128 chunks of 64 tokens, eight heads of 128 lanes, and for each chunk and head the formula of `Dq.dq`. -/
@[expose] public section
noncomputable section
open Idealize.ShloMosaic Idealize.ShloMosaic.TcCoe
namespace Cert.Dq
open Cert.KernelIdeal Cert.KernelIdeal.Dq

/-- Token `a` of chunk `n`. -/
def tk (n : Fin 128) (a : Fin 64) : Fin 8192 := ⟨n.val * 64 + a.val, by omega⟩

/-- The gradient in chunk `n` of head `h`. -/
def full (k v : FVec Ideal S8192x1024 .f32) (g : FVec Ideal S8192x128 .f32) (s : FVec Ideal S128x8x128x128 .f32) (p : FVec Ideal S128x8x64x64 .bf16)
    (d : FVec Ideal S8192x1024 .f32) (n : Fin 128) (h : Fin 8) : Chunk :=
  dq (fun j c => k (ix2 (tk n j) (lan h c))) (fun j c => v (ix2 (tk n j) (lan h c))) (fun j c => d (ix2 (tk n j) (lan h c)))
    (fun j => g (ix2 (tk n j) (gcol h))) (fun j => g (ix2 (tk n j) (bcol h))) (fun a b => s (ix4 n h a b)) (fun a b => p (ix4 n h a b))

/-- The gradient as an array. -/
def whole (k v : FVec Ideal S8192x1024 .f32) (g : FVec Ideal S8192x128 .f32) (s : FVec Ideal S128x8x128x128 .f32) (p : FVec Ideal S128x8x64x64 .bf16)
    (d : FVec Ideal S8192x1024 .f32) : FVec Ideal S8192x1024 .f32 := fun y =>
  full k v g s p d ⟨(y 0).val / 64, by have : (y 0).val < 8192 := (y 0).isLt; omega⟩ ⟨(y 1).val / 128, by have : (y 1).val < 1024 := (y 1).isLt; omega⟩
    ⟨(y 0).val % 64, Nat.mod_lt _ (by decide)⟩ ⟨(y 1).val % 128, Nat.mod_lt _ (by decide)⟩

/-- An index as chunk, token, head and lane. -/
theorem split (y : S8192x1024.Idx) : ∃ (n : Fin 128) (a : Fin 64) (h : Fin 8) (c : Fin 128), y = ix2 (tk n a) (lan h c) := by
  have h0 : (y 0).val < 8192 := (y 0).isLt
  have h1 : (y 1).val < 1024 := (y 1).isLt
  refine ⟨⟨(y 0).val / 64, by omega⟩, ⟨(y 0).val % 64, by omega⟩, ⟨(y 1).val / 128, by omega⟩, ⟨(y 1).val % 128, by omega⟩, ?_⟩
  refine (eq_ix2 y).trans (congrArg₂ ix2 (Fin.ext ?_) (Fin.ext ?_))
  · show (y 0).val = (y 0).val / 64 * 64 + (y 0).val % 64; omega
  · show (y 1).val = (y 1).val / 128 * 128 + (y 1).val % 128; omega

theorem whole_at (k v : FVec Ideal S8192x1024 .f32) (g : FVec Ideal S8192x128 .f32) (s : FVec Ideal S128x8x128x128 .f32) (p : FVec Ideal S128x8x64x64 .bf16)
    (d : FVec Ideal S8192x1024 .f32) (n : Fin 128) (a : Fin 64) (h : Fin 8) (c : Fin 128) :
    whole k v g s p d (ix2 (tk n a) (lan h c)) = full k v g s p d n h a c := by
  have e0 : (⟨(tk n a).val / 64, by have := (tk n a).isLt; omega⟩ : Fin 128) = n := Fin.ext (by show (n.val * 64 + a.val) / 64 = _; omega)
  have e1 : (⟨(tk n a).val % 64, Nat.mod_lt _ (by decide)⟩ : Fin 64) = a := Fin.ext (by show (n.val * 64 + a.val) % 64 = _; omega)
  have e2 : (⟨(lan h c).val / 128, by have := (lan h c).isLt; omega⟩ : Fin 8) = h := Fin.ext (by show (h.val * 128 + c.val) / 128 = _; omega)
  have e3 : (⟨(lan h c).val % 128, Nat.mod_lt _ (by decide)⟩ : Fin 128) = c := Fin.ext (by show (h.val * 128 + c.val) % 128 = _; omega)
  show full k v g s p d ⟨(tk n a).val / 64, _⟩ ⟨(lan h c).val / 128, _⟩ ⟨(tk n a).val % 64, _⟩ ⟨(lan h c).val % 128, _⟩ = _
  rw [e0, e1, e2, e3]

theorem tile_at (x1 x2 : Vec Ideal S256x1024 .f32) (x3 : Vec Ideal S256x128 .f32) (x4 : Vec Ideal S4x8x128x128 .f32) (x5 : Vec Ideal S4x8x64x64 .bf16)
    (x6 : Vec Ideal S256x1024 .f32) (q : Fin 4) (a : Fin 64) (h : Fin 8) (c : Fin 128) :
    tile x1 x2 x3 x4 x5 x6 (ix2 (tok q a) (lan h c)) = tileAt x1 x2 x3 x4 x5 x6 q h a c := by
  have e0 : (⟨(tok q a).val / 64, by have := (tok q a).isLt; omega⟩ : Fin 4) = q := Fin.ext (by show (q.val * 64 + a.val) / 64 = _; omega)
  have e1 : (⟨(tok q a).val % 64, Nat.mod_lt _ (by decide)⟩ : Fin 64) = a := Fin.ext (by show (q.val * 64 + a.val) % 64 = _; omega)
  have e2 : (⟨(lan h c).val / 128, by have := (lan h c).isLt; omega⟩ : Fin 8) = h := Fin.ext (by show (h.val * 128 + c.val) / 128 = _; omega)
  have e3 : (⟨(lan h c).val % 128, Nat.mod_lt _ (by decide)⟩ : Fin 128) = c := Fin.ext (by show (h.val * 128 + c.val) % 128 = _; omega)
  show tileAt x1 x2 x3 x4 x5 x6 ⟨(tok q a).val / 64, _⟩ ⟨(lan h c).val / 128, _⟩ ⟨(tok q a).val % 64, _⟩ ⟨(lan h c).val % 128, _⟩ = _
  rw [e0, e1, e2, e3]

/-- A row and lane of a tile as chunk, token, head and lane. -/
theorem split_tile (y : S256x1024.Idx) : ∃ (q : Fin 4) (a : Fin 64) (h : Fin 8) (c : Fin 128), y = ix2 (tok q a) (lan h c) := by
  have h0 : (y 0).val < 256 := (y 0).isLt
  have h1 : (y 1).val < 1024 := (y 1).isLt
  refine ⟨⟨(y 0).val / 64, by omega⟩, ⟨(y 0).val % 64, by omega⟩, ⟨(y 1).val / 128, by omega⟩, ⟨(y 1).val % 128, by omega⟩, ?_⟩
  refine (eq_ix2 y).trans (congrArg₂ ix2 (Fin.ext ?_) (Fin.ext ?_))
  · show (y 0).val = (y 0).val / 64 * 64 + (y 0).val % 64; omega
  · show (y 1).val = (y 1).val / 128 * 128 + (y 1).val % 128; omega

end Cert.Dq

end
-- ==== Proof.DqKernel.lean ====
module
public import proofs.«01_k».proof.Proof.ScanFrame
public import proofs.«01_k».proof.Proof.DqFull
public import Idealize.ShloMosaic.Lib.Pipeline.ValueKit
public import Idealize.ShloMosaic.Lib.Pipeline.ReadBack
public import Idealize.ShloMosaic.Lib.WritesUnit
/-! # What the backward scan's first output holds -/
@[expose] public section
set_option maxRecDepth 16384
noncomputable section
open Idealize.ShloMosaic Idealize.ShloMosaic.TcCoe Idealize.SL.Sem
open Idealize.ShloMosaic.Pipeline (Dat)
namespace Cert.KernelIdeal.Dq
open Cert.KernelIdeal Cert.KernelIdeal.Gen Cert.KernelIdeal.Scan Cert.Dq
variable (m : (ℓ : Loc nD τ sig) → Buf (Elt Ideal) ℓ)

/-- The argument arrays. -/
abbrev aK (c : Dev nD) : FVec Ideal S8192x1024 .f32 := m ((c : Thread nD τ).loc main_arg1)
abbrev aV (c : Dev nD) : FVec Ideal S8192x1024 .f32 := m ((c : Thread nD τ).loc main_arg2)
abbrev aG (c : Dev nD) : FVec Ideal S8192x128 .f32 := m ((c : Thread nD τ).loc main_arg3)
abbrev aS (c : Dev nD) : FVec Ideal S128x8x128x128 .f32 := m ((c : Thread nD τ).loc main_arg4)
abbrev aP (c : Dev nD) : FVec Ideal S128x8x64x64 .bf16 := m ((c : Thread nD τ).loc main_arg5)
abbrev aD (c : Dev nD) : FVec Ideal S8192x1024 .f32 := m ((c : Thread nD τ).loc main_arg6)

theorem idx_val : ∀ t : Fin cfg0.N, win0_1.index t = ![31 - t.val, 0] ∧ win0_2.index t = ![31 - t.val, 0] ∧ win0_3.index t = ![31 - t.val, 0]
    ∧ win0_4.index t = ![31 - t.val, 0, 0, 0] ∧ win0_5.index t = ![31 - t.val, 0, 0, 0] ∧ win0_6.index t = ![31 - t.val, 0] ∧ win0_7.index t = ![31 - t.val, 0] :=
  (by decide +kernel : ∀ t : Fin grid0.N, _)

/-- Chunk `q` of grid point `t`, in the whole sequence: the tiles are taken from the last to the first. -/
def ch (t : Fin cfg0.N) (q : Fin 4) : Fin 128 := ⟨(31 - t.val) * 4 + q.val, by omega⟩

/-- The staged blocks at point `t`. -/
abbrev b1 (c : Dev nD) (t : Fin cfg0.N) : Vec Ideal S256x1024 .f32 := iblk m c 1 t
abbrev b2 (c : Dev nD) (t : Fin cfg0.N) : Vec Ideal S256x1024 .f32 := iblk m c 2 t
abbrev b3 (c : Dev nD) (t : Fin cfg0.N) : Vec Ideal S256x128 .f32 := iblk m c 3 t
abbrev b4 (c : Dev nD) (t : Fin cfg0.N) : Vec Ideal S4x8x128x128 .f32 := iblk m c 4 t
abbrev b5 (c : Dev nD) (t : Fin cfg0.N) : Vec Ideal S4x8x64x64 .bf16 := iblk m c 5 t
abbrev b6 (c : Dev nD) (t : Fin cfg0.N) : Vec Ideal S256x1024 .f32 := iblk m c 6 t

theorem blk1 (c : Dev nD) (t : Fin cfg0.N) (q : Fin 4) (j : Fin 64) (k : Fin 1024) : b1 m c t (ix2 (tok q j) k) = aK m c (ix2 (tk (ch t q) j) k) := by
  blk_ext [iblk, V, idx_val t, tok, tk, ch]
theorem blk2 (c : Dev nD) (t : Fin cfg0.N) (q : Fin 4) (j : Fin 64) (k : Fin 1024) : b2 m c t (ix2 (tok q j) k) = aV m c (ix2 (tk (ch t q) j) k) := by
  blk_ext [iblk, V, idx_val t, tok, tk, ch]
theorem blk3 (c : Dev nD) (t : Fin cfg0.N) (q : Fin 4) (j : Fin 64) (k : Fin 128) : b3 m c t (ix2 (tok q j) k) = aG m c (ix2 (tk (ch t q) j) k) := by
  blk_ext [iblk, V, idx_val t, tok, tk, ch]
theorem blk4 (c : Dev nD) (t : Fin cfg0.N) (q : Fin 4) (h : Fin 8) (a b : Fin 128) : b4 m c t (ix4 q h a b) = aS m c (ix4 (ch t q) h a b) := by
  blk_ext [iblk, V, idx_val t, ch]
theorem blk5 (c : Dev nD) (t : Fin cfg0.N) (q : Fin 4) (h : Fin 8) (a b : Fin 64) : b5 m c t (ix4 q h a b) = aP m c (ix4 (ch t q) h a b) := by
  blk_ext [iblk, V, idx_val t, ch]
theorem blk6 (c : Dev nD) (t : Fin cfg0.N) (q : Fin 4) (j : Fin 64) (k : Fin 1024) : b6 m c t (ix2 (tok q j) k) = aD m c (ix2 (tk (ch t q) j) k) := by
  blk_ext [iblk, V, idx_val t, tok, tk, ch]

theorem final7 (c : Dev nD) : (dats m 0 c).arrAt 7 cfg0.N = whole (aK m c) (aV m c) (aG m c) (aS m c) (aP m c) (aD m c) := by
  refine (dats m 0 c).arrAt_eq_of_covers 7 _ (by decide +kernel) fun t hf y => ?_
  obtain ⟨q, a, h, e, rfl⟩ := split_tile y
  have ei : ((cfg0.win 7).blk t).view.emb (ix2 (tok q a) (lan h e)) = (ix2 (tk (ch t q) a) (lan h e) : S8192x1024.Idx) := by
    blk_ext [idx_val t, tok, tk, ch]
  rw [ei, whole_at]
  blk_simp
  rw [after_7]
  refine (tile_at (b1 m c t) (b2 m c t) (b3 m c t) (b4 m c t) (b5 m c t) (b6 m c t) q a h e).trans ?_
  simp only [tileAt, full, blk1, blk2, blk3, blk4, blk5, blk6]

end Cert.KernelIdeal.Dq

end
-- ==== Proof.DvFull.lean ====
module
public import proofs.«01_k».proof.Proof.DqFull
public import proofs.«01_k».proof.Proof.DvLoop
/-! # The gradient of the values, over the whole sequence

The state gradient is carried from the last chunk to the first, one step of `Dv.ds` per chunk; the gradient of a
chunk's values is `Dv.dv` of what has been carried to it. -/
@[expose] public section
noncomputable section
open Idealize.ShloMosaic Idealize.ShloMosaic.TcCoe
namespace Cert.Dv
open Cert.KernelIdeal Cert.KernelIdeal.Dq Cert.KernelIdeal.Dv Cert.Dq

variable (q k : FVec Ideal S8192x1024 .f32) (g : FVec Ideal S8192x128 .f32) (p : FVec Ideal S128x8x64x64 .bf16) (d : FVec Ideal S8192x1024 .f32)

/-- The state gradients before chunk `n`, from those behind it. -/
def back (n : Fin 128) (E : Car) : Car := fun y =>
  ds (fun j c => q (ix2 (tk n j) (lan ⟨(y 0).val, (y 0).isLt⟩ c))) (fun j c => k (ix2 (tk n j) (lan ⟨(y 0).val, (y 0).isLt⟩ c)))
    (fun j c => d (ix2 (tk n j) (lan ⟨(y 0).val, (y 0).isLt⟩ c)))
    (fun j => g (ix2 (tk n j) (gcol ⟨(y 0).val, (y 0).isLt⟩))) (fun j => g (ix2 (tk n j) (bcol ⟨(y 0).val, (y 0).isLt⟩)))
    (fun a b => E (ix3 ⟨(y 0).val, (y 0).isLt⟩ a b)) (fun a b => p (ix4 n ⟨(y 0).val, (y 0).isLt⟩ a b)) ⟨(y 1).val, (y 1).isLt⟩ ⟨(y 2).val, (y 2).isLt⟩

theorem back_at (n : Fin 128) (E : Car) (h : Fin 8) (a c : Fin 128) : back q k g p d n E (ix3 h a c)
    = ds (fun j c => q (ix2 (tk n j) (lan h c))) (fun j c => k (ix2 (tk n j) (lan h c))) (fun j c => d (ix2 (tk n j) (lan h c)))
    (fun j => g (ix2 (tk n j) (gcol h))) (fun j => g (ix2 (tk n j) (bcol h))) (fun a b => E (ix3 h a b)) (fun a b => p (ix4 n h a b)) a c := rfl

/-- The state gradients after `K` chunks, from the last: none behind the last. -/
def car : ℕ → Car
  | 0 => fun _ => 0
  | K + 1 => back q k g p d ⟨127 - K, by omega⟩ (car K)

/-- The gradient of the values the delta rule writes in chunk `n` of head `h`. -/
def fullN (n : Fin 128) (h : Fin 8) : Chunk :=
  dvn (fun j c => q (ix2 (tk n j) (lan h c))) (fun j c => k (ix2 (tk n j) (lan h c))) (fun j c => d (ix2 (tk n j) (lan h c)))
    (fun j => g (ix2 (tk n j) (gcol h))) (fun a b => car q k g p d (127 - n.val) (ix3 h a b))

/-- The gradient of the values in chunk `n` of head `h`. -/
def fullV (n : Fin 128) (h : Fin 8) : Chunk :=
  dv (fun j c => q (ix2 (tk n j) (lan h c))) (fun j c => k (ix2 (tk n j) (lan h c))) (fun j c => d (ix2 (tk n j) (lan h c)))
    (fun j => g (ix2 (tk n j) (gcol h))) (fun j => g (ix2 (tk n j) (bcol h))) (fun a b => car q k g p d (127 - n.val) (ix3 h a b)) (fun a b => p (ix4 n h a b))

/-- The gradient as an array. -/
def wholeV : FVec Ideal S8192x1024 .f32 := fun y =>
  fullV q k g p d ⟨(y 0).val / 64, by have : (y 0).val < 8192 := (y 0).isLt; omega⟩ ⟨(y 1).val / 128, by have : (y 1).val < 1024 := (y 1).isLt; omega⟩
    ⟨(y 0).val % 64, Nat.mod_lt _ (by decide)⟩ ⟨(y 1).val % 128, Nat.mod_lt _ (by decide)⟩

theorem wholeV_at (n : Fin 128) (a : Fin 64) (h : Fin 8) (c : Fin 128) :
    wholeV q k g p d (ix2 (tk n a) (lan h c)) = fullV q k g p d n h a c := by
  have e0 : (⟨(tk n a).val / 64, by have := (tk n a).isLt; omega⟩ : Fin 128) = n := Fin.ext (by show (n.val * 64 + a.val) / 64 = _; omega)
  have e1 : (⟨(tk n a).val % 64, Nat.mod_lt _ (by decide)⟩ : Fin 64) = a := Fin.ext (by show (n.val * 64 + a.val) % 64 = _; omega)
  have e2 : (⟨(lan h c).val / 128, by have := (lan h c).isLt; omega⟩ : Fin 8) = h := Fin.ext (by show (h.val * 128 + c.val) / 128 = _; omega)
  have e3 : (⟨(lan h c).val % 128, Nat.mod_lt _ (by decide)⟩ : Fin 128) = c := Fin.ext (by show (h.val * 128 + c.val) % 128 = _; omega)
  show fullV q k g p d ⟨(tk n a).val / 64, _⟩ ⟨(lan h c).val / 128, _⟩ ⟨(tk n a).val % 64, _⟩ ⟨(lan h c).val % 128, _⟩ = _
  rw [e0, e1, e2, e3]

theorem tileV_at (x0 x1 : Vec Ideal S256x1024 .f32) (x3 : Vec Ideal S256x128 .f32) (x5 : Vec Ideal S4x8x64x64 .bf16)
    (x6 : Vec Ideal S256x1024 .f32) (E : Car) (r : Fin 4) (a : Fin 64) (h : Fin 8) (c : Fin 128) :
    tileV x0 x1 x3 x5 x6 E (ix2 (tok r a) (lan h c)) = dvAt x0 x1 x3 x5 x6 (afterS x0 x1 x3 x5 x6 E (3 - r.val)) r h a c := by
  have e0 : (⟨(tok r a).val / 64, by have := (tok r a).isLt; omega⟩ : Fin 4) = r := Fin.ext (by show (r.val * 64 + a.val) / 64 = _; omega)
  have e0' : (tok r a).val / 64 = r.val := by show (r.val * 64 + a.val) / 64 = _; omega
  have e1 : (⟨(tok r a).val % 64, Nat.mod_lt _ (by decide)⟩ : Fin 64) = a := Fin.ext (by show (r.val * 64 + a.val) % 64 = _; omega)
  have e2 : (⟨(lan h c).val / 128, by have := (lan h c).isLt; omega⟩ : Fin 8) = h := Fin.ext (by show (h.val * 128 + c.val) / 128 = _; omega)
  have e3 : (⟨(lan h c).val % 128, Nat.mod_lt _ (by decide)⟩ : Fin 128) = c := Fin.ext (by show (h.val * 128 + c.val) % 128 = _; omega)
  show dvAt x0 x1 x3 x5 x6 (afterS x0 x1 x3 x5 x6 E (3 - (tok r a).val / 64)) ⟨(tok r a).val / 64, _⟩ ⟨(lan h c).val / 128, _⟩ ⟨(tok r a).val % 64, _⟩ ⟨(lan h c).val % 128, _⟩ = _
  rw [e0, e1, e2, e3, e0']

end Cert.Dv

end
-- ==== Proof.DvKernel.lean ====
module
public import proofs.«01_k».proof.Proof.DqKernel
public import proofs.«01_k».proof.Proof.DvFull
/-! # What the backward scan's third output holds -/
@[expose] public section
set_option maxRecDepth 16384
noncomputable section
open Idealize.ShloMosaic Idealize.ShloMosaic.TcCoe Idealize.SL.Sem
open Idealize.ShloMosaic.Pipeline (Dat)
namespace Cert.KernelIdeal.Dv
open Cert.KernelIdeal Cert.KernelIdeal.Gen Cert.KernelIdeal.Scan Cert.KernelIdeal.Dq Cert.Dq Cert.Dv
variable (m : (ℓ : Loc nD τ sig) → Buf (Elt Ideal) ℓ)

/-- The queries. -/
abbrev aQ (c : Dev nD) : FVec Ideal S8192x1024 .f32 := m ((c : Thread nD τ).loc main_arg0)

theorem idx0_val : ∀ t : Fin cfg0.N, win0_0.index t = ![31 - t.val, 0] ∧ win0_9.index t = ![31 - t.val, 0] :=
  (by decide +kernel : ∀ t : Fin grid0.N, _)

/-- Their block at point `t`. -/
abbrev b0 (c : Dev nD) (t : Fin cfg0.N) : Vec Ideal S256x1024 .f32 := iblk m c 0 t

theorem blk0 (c : Dev nD) (t : Fin cfg0.N) (q : Fin 4) (j : Fin 64) (k : Fin 1024) : b0 m c t (ix2 (tok q j) k) = aQ m c (ix2 (tk (ch t q) j) k) := by
  blk_ext [iblk, V, idx0_val t, tok, tk, ch]

/-- One chunk's step of a point is the chunk's step in the whole sequence. -/
theorem stepS_eq (c : Dev nD) (t : Fin cfg0.N) (q : Fin 4) (E : Car) :
    stepS (b0 m c t) (b1 m c t) (b3 m c t) (b5 m c t) (b6 m c t) q E = back (aQ m c) (aK m c) (aG m c) (aP m c) (aD m c) (ch t q) E := by
  funext y
  simp only [stepS, dsAt, back, blk0, blk1, blk3, blk5, blk6]

/-- The state gradients after `n` chunks of point `t`. -/
theorem afterS_eq (c : Dev nD) (t : Fin cfg0.N) (n : ℕ) (hn : n ≤ 4) :
    afterS (b0 m c t) (b1 m c t) (b3 m c t) (b5 m c t) (b6 m c t) (car (aQ m c) (aK m c) (aG m c) (aP m c) (aD m c) (4 * t.val)) n
      = car (aQ m c) (aK m c) (aG m c) (aP m c) (aD m c) (4 * t.val + n) := by
  induction n with
  | zero => rfl
  | succ n ih =>
    show stepS _ _ _ _ _ _ (afterS _ _ _ _ _ _ n) = back _ _ _ _ _ _ (car _ _ _ _ _ (4 * t.val + n))
    rw [ih (by omega), stepS_eq]
    have ht : t.val < 32 := t.isLt
    rw [show ch t ⟨3 - n, by omega⟩ = ⟨127 - (4 * t.val + n), by omega⟩ from Fin.ext (by show (31 - t.val) * 4 + (3 - n) = 127 - (4 * t.val + n); omega)]
    rfl

theorem carried_eq (c : Dev nD) (t : ℕ) (ht : t ≤ 32) : carried m c t = car (aQ m c) (aK m c) (aG m c) (aP m c) (aD m c) (4 * t) := by
  induction t with
  | zero => rfl
  | succ t ih =>
    rw [carried_succ m c ⟨t, by show t < 32; omega⟩]
    show afterS _ _ _ _ _ (carried m c t) 4 = _
    rw [ih (by omega)]
    exact afterS_eq m c ⟨t, by show t < 32; omega⟩ 4 (le_refl _)

theorem final9 (c : Dev nD) : (dats m 0 c).arrAt 9 cfg0.N = wholeV (aQ m c) (aK m c) (aG m c) (aP m c) (aD m c) := by
  refine (dats m 0 c).arrAt_eq_of_covers 9 _ (by decide +kernel) fun t hf y => ?_
  obtain ⟨q, a, h, e, rfl⟩ := split_tile y
  have ei : ((cfg0.win 9).blk t).view.emb (ix2 (tok q a) (lan h e)) = (ix2 (tk (ch t q) a) (lan h e) : S8192x1024.Idx) := by
    blk_ext [idx0_val t, tok, tk, ch]
  have ht : t.val < 32 := t.isLt
  rw [ei, wholeV_at]
  blk_simp
  rw [after_9, carried_eq m c t.val (by omega)]
  refine (tileV_at (b0 m c t) (b1 m c t) (b3 m c t) (b5 m c t) (b6 m c t) _ q a h e).trans ?_
  rw [afterS_eq m c t _ (by omega), show 4 * t.val + (3 - q.val) = 127 - (ch t q).val from by show _ = 127 - ((31 - t.val) * 4 + q.val); omega]
  simp only [dvAt, fullV, blk0, blk1, blk3, blk5, blk6]

end Cert.KernelIdeal.Dv

end
-- ==== Proof.DvRef.lean ====
module
public import proofs.«01_k».proof.Proof.Gen.ReferenceIdeal.Step
public import proofs.«01_k».proof.Proof.DvFull
public import Idealize.ShloMosaic.Lib.Pointwise
/-! # The reference's gradients of the queries and of the values, read at an index

What follows the reference's loop is spelled head by head; the loop itself carries the state gradient from the last
chunk to the first and files the gradient of the written values. -/
@[expose] public section
set_option maxRecDepth 16384
noncomputable section
open Idealize.ShloMosaic Idealize.ShloMosaic.TcCoe
namespace Cert.ReferenceIdeal.Dv
open Cert.ReferenceIdeal Cert.ReferenceIdeal.Gen Cert.ReferenceIdeal.Step Cert.Dq Cert.Dv
open Cert.KernelIdeal.Dq (lan gcol bcol sel)

variable (q k v : FVec Ideal S8192x1024 .f32) (g : FVec Ideal S8192x128 .f32) (s : FVec Ideal S128x8x128x128 .f32)
  (p : FVec Ideal S128x8x64x64 .bf16) (d : FVec Ideal S8192x1024 .f32) (z : FVec Ideal S128x8x64x128 .f32) (n : Fin 128) (h : Fin 8)

/-- A sequence by chunk and head. -/
def heads (x : FVec Ideal S8192x1024 .f32) : FVec Ideal S128x8x64x128 .f32 :=
  transpose S128x8x64x128 [0, 2, 1, 3] (shapeCast _ x shapeCasts_S8192x1024_S128x64x8x128) transposes_S128x64x8x128_S128x8x64x128_0_2_1_3
/-- The factors of the written values. -/
def beta : FVec Ideal S128x8x64 .f32 :=
  transpose S128x8x64 [0, 2, 1] (shapeCast _ (extractStridedSlice S8192x8 ![0, 0] g slices_S8192x128_S8192x8_0_0) shapeCasts_S8192x8_S128x64x8) transposes_S128x64x8_S128x8x64_0_2_1
/-- The cumulative log decays. -/
def gate : FVec Ideal S128x8x64 .f32 :=
  transpose S128x8x64 [0, 2, 1] (shapeCast _ (extractStridedSlice S8192x8 ![0, 8] g slices_S8192x128_S8192x8_0_8) shapeCasts_S8192x8_S128x64x8) transposes_S128x64x8_S128x8x64_0_2_1
/-- A factor per token, along the lanes. -/
def wide (x : FVec Ideal S128x8x64 .f32) : FVec Ideal S128x8x64x128 .f32 :=
  broadcastInDim S128x8x64x128 ![0, 1, 2, 3] bcast_S128x8x64x1_S128x8x64x128_0_1_2_3 (broadcastInDim S128x8x64x1 ![0, 1, 2] bcast_S128x8x64_S128x8x64x1_0_1_2 x)
/-- Whether a token sees another of its chunk. -/
def causal : IVec S128x8x64x64 1 :=
  broadcastInDim S128x8x64x64 ![2, 3] bcast_S64x64_S128x8x64x64_2_3 (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))
/-- The decay from one token to another. -/
def decay : FVec Ideal S128x8x64x64 .f32 :=
  Host.exp (select causal (subf (broadcastInDim S128x8x64x64 ![0, 1, 2, 3] bcast_S128x8x64x1_S128x8x64x64_0_1_2_3 (broadcastInDim S128x8x64x1 ![0, 1, 2] bcast_S128x8x64_S128x8x64x1_0_1_2 (gate g))) (broadcastInDim S128x8x64x64 ![0, 1, 2, 3] bcast_S128x8x1x64_S128x8x64x64_0_1_2_3 (broadcastInDim S128x8x1x64 ![0, 1, 3] bcast_S128x8x64_S128x8x1x64_0_1_3 (gate g)))) (broadcastInDim S128x8x64x64 ![] bcast_S_S128x8x64x64 (id (constant S_ .f32 0xFF800000#32))))
/-- The values the delta rule writes. -/
def written : FVec Ideal S128x8x64x128 .f32 :=
  subf (Host.dotGeneral dot_S128x8x64x64_S128x8x64x128_S128x8x64x128_3_2_2_3_01_01 none (extf .f32 p bitsLt_bf16_f32) (mulf (heads v) (wide (beta g)))) (Host.dotGeneral dot_S128x8x64x128_S128x8x128x128_S128x8x64x128_3_2_2_3_01_01 none (Host.dotGeneral dot_S128x8x64x64_S128x8x64x128_S128x8x64x128_3_2_2_3_01_01 none (extf .f32 p bitsLt_bf16_f32) (mulf (mulf (heads k) (wide (beta g))) (wide (Host.exp (gate g))))) s)
/-- The gradient of the queries. -/
def gradQ : FVec Ideal S128x8x64x128 .f32 :=
  addf (mulf (Host.dotGeneral dot_S128x8x64x128_S128x8x128x128_S128x8x64x128_3_3_2_2_01_01 none (heads d) s) (wide (Host.exp (gate g)))) (Host.dotGeneral dot_S128x8x64x64_S128x8x64x128_S128x8x64x128_3_2_2_3_01_01 none (mulf (select causal (Host.dotGeneral dot_S128x8x64x128_S128x8x64x128_S128x8x64x64_3_3_2_2_01_01 none (heads d) (written k v g s p)) (broadcastInDim S128x8x64x64 ![] bcast_S_S128x8x64x64 (constant S_ .f32 0x00000000#32))) (decay g)) (heads k))
/-- The gradient of the values, from that of the written ones. -/
def gradV : FVec Ideal S128x8x64x128 .f32 :=
  mulf (transpose S128x8x64x128 [0, 1, 3, 2] (Host.dotGeneral dot_S128x8x64x128_S128x8x64x64_S128x8x128x64_2_2_3_3_01_01 none z (extf .f32 p bitsLt_bf16_f32)) transposes_S128x8x128x64_S128x8x64x128_0_1_3_2) (wide (beta g))
/-- Chunks and heads as a sequence. -/
def flat (x : FVec Ideal S128x8x64x128 .f32) : FVec Ideal S8192x1024 .f32 :=
  shapeCast _ (transpose S128x64x8x128 [0, 2, 1, 3] x transposes_S128x8x64x128_S128x64x8x128_0_2_1_3) shapeCasts_S128x64x8x128_S8192x1024

theorem v156_eq (t : State Ideal) : R_main_v156 t k v g s p d = flat (gradQ k v g s p d) := by
  rfl
theorem v70_eq (t : State Ideal) : R_main_v70 t g p = flat (gradV g p t.main_v56_8) := by
  rfl

theorem heads_at (x : FVec Ideal S8192x1024 .f32) (j : Fin 64) (c : Fin 128) : heads x (ix4 n h j c) = x (ix2 (tk n j) (lan h c)) := by
  pointwise [heads]; congr 2 <;> apply Fin.ext <;> simp only [tk, lan]
theorem beta_at (j : Fin 64) : beta g (ix3 n h j) = g (ix2 (tk n j) (bcol h)) := by
  pointwise [beta]
  rfl
theorem gate_at (j : Fin 64) : gate g (ix3 n h j) = g (ix2 (tk n j) (gcol h)) := by
  pointwise [gate]
  rfl
theorem wide_at (x : FVec Ideal S128x8x64 .f32) (j : Fin 64) (c : Fin 128) : wide x (ix4 n h j c) = x (ix3 n h j) := by
  pointwise [wide]

theorem flat_at (x : FVec Ideal S128x8x64x128 .f32) (r : Fin 64) (c : Fin 128) : flat x (ix2 (tk n r) (lan h c)) = x (ix4 n h r c) := by
  pointwise [flat]
  refine congrArg _ ?_
  rw [show (⟨(tk n r).val / 64, by have := (tk n r).isLt; omega⟩ : Fin 128) = n from Fin.ext (by show (n.val * 64 + r.val) / 64 = _; omega),
    show (⟨(tk n r).val % 64, Nat.mod_lt _ (by decide)⟩ : Fin 64) = r from Fin.ext (by show (n.val * 64 + r.val) % 64 = _; omega),
    show (⟨(lan h c).val / 128, by have := (lan h c).isLt; omega⟩ : Fin 8) = h from Fin.ext (by show (h.val * 128 + c.val) / 128 = _; omega),
    show (⟨(lan h c).val % 128, Nat.mod_lt _ (by decide)⟩ : Fin 128) = c from Fin.ext (by show (h.val * 128 + c.val) % 128 = _; omega)]

theorem written_at (j : Fin 64) (c : Fin 128) : written k v g s p (ix4 n h j c)
    = vnew (fun j c => k (ix2 (tk n j) (lan h c))) (fun j c => v (ix2 (tk n j) (lan h c)))
        (fun j => g (ix2 (tk n j) (gcol h))) (fun j => g (ix2 (tk n j) (bcol h))) (fun a b => s (ix4 n h a b)) (fun a b => p (ix4 n h a b)) j c := by
  pointwise [written, heads_at, wide_at, beta_at, gate_at]
  rfl

/-- The word of the least float names minus infinity. -/
theorem ofBits_neg_inf : Ideal.ofBits FTy.f32 0xFF800000#32 = (⊥ : EReal) := by
  simp [Ideal.ofBits, Ideal.ieee]

theorem decay_at (r j : Fin 64) : decay g (ix4 n h r j)
    = if j ≤ r then Ideal.exp (g (ix2 (tk n r) (gcol h)) - g (ix2 (tk n j) (gcol h))) else 0 := by
  pointwise [decay, causal, gate_at]
  rw [sel]
  have hb : id (constant (F := Ideal) S_ FTy.f32 4286578688#32) ix0 = (⊥ : EReal) := ofBits_neg_inf
  rw [hb]
  split_ifs <;> simp

theorem gradQ_at (r : Fin 64) (c : Fin 128) : gradQ k v g s p d (ix4 n h r c) = full k v g s p d n h r c := by
  pointwise [gradQ, causal, heads_at, wide_at, gate_at, written_at, decay_at]
  simp only [sel]
  refine congrArg _ (Finset.sum_congr rfl fun j _ => ?_)
  by_cases hj : j ≤ r
  · simp only [if_pos hj]
  · simp only [if_neg hj, zero_mul]

theorem gradV_at (r : Fin 64) (c : Fin 128) : gradV g p z (ix4 n h r c)
    = (∑ i, z (ix4 n h i c) * p (ix4 n h i r)) * g (ix2 (tk n r) (bcol h)) := by
  pointwise [gradV, wide_at, beta_at]

end Cert.ReferenceIdeal.Dv

end
-- ==== Proof.DvTrip.lean ====
module
public import proofs.«01_k».proof.Proof.DvRef
public import Idealize.ShloMosaic.Lib.WordCmp
/-! # The reference's loop, trip by trip -/
@[expose] public section
set_option maxRecDepth 16384
noncomputable section
open Idealize.ShloMosaic Idealize.ShloMosaic.TcCoe
namespace Cert.ReferenceIdeal.Dv
open Cert.ReferenceIdeal Cert.ReferenceIdeal.Gen Cert.ReferenceIdeal.Step Cert.Dq Cert.Dv
open Cert.KernelIdeal.Dq (lan gcol bcol sel)

/-- One row of an array by chunks. -/
theorem row_at {M N : ℕ} {α : Type} (x : Shape.Idx ⟨4, ![128, 8, M, N]⟩ → α) (st : Fin 4 → Int)
    (hs : Shape.Slices ⟨4, ![128, 8, M, N]⟩ (fun _ => 0) ⟨4, ![1, 8, M, N]⟩) (n : Fin 128)
    (e0 : st 0 = (n.val : Int)) (e1 : st 1 = 0) (e2 : st 2 = 0) (e3 : st 3 = 0) (a : Fin 8) (r : Fin M) (c : Fin N) :
    Host.dynamicSlice ⟨4, ![1, 8, M, N]⟩ x st hs (ix4 0 a r c) = x (ix4 n a r c) := by
  have hk : Shape.Slices ⟨4, ![128, 8, M, N]⟩ ![n.val, 0, 0, 0] ⟨4, ![1, 8, M, N]⟩ := by
    refine ⟨rfl, fun i => ?_⟩
    have hn := n.isLt
    fin_cases i
    · show n.val + 1 ≤ 128; omega
    · show 0 + 8 ≤ 8; omega
    · show 0 + M ≤ M; omega
    · show 0 + N ≤ N; omega
  rw [WordCmp.dynamicSlice_eq_extract _ x st hs ![n.val, 0, 0, 0] hk (by intro i; fin_cases i; exacts [e0, e1, e2, e3])]
  refine congrArg x (funext fun i => Fin.ext ?_)
  fin_cases i
  · show n.val + 0 = n.val; omega
  · show 0 + a.val = a.val; omega
  · show 0 + r.val = r.val; omega
  · show 0 + c.val = c.val; omega

/-- An array by chunks after one row is replaced. -/
theorem put_at {M N : ℕ} {α : Type} (x : Shape.Idx ⟨4, ![128, 8, M, N]⟩ → α) (u : Shape.Idx ⟨4, ![1, 8, M, N]⟩ → α) (st : Fin 4 → Int)
    (hs : Shape.Slices ⟨4, ![128, 8, M, N]⟩ (fun _ => 0) ⟨4, ![1, 8, M, N]⟩) (n : Fin 128)
    (e0 : st 0 = (n.val : Int)) (e1 : st 1 = 0) (e2 : st 2 = 0) (e3 : st 3 = 0) (n' : Fin 128) (a : Fin 8) (r : Fin M) (c : Fin N) :
    Host.dynamicUpdateSlice x u st hs (ix4 n' a r c) = if n' = n then u (ix4 0 a r c) else x (ix4 n' a r c) := by
  have hk : Shape.Slices ⟨4, ![128, 8, M, N]⟩ ![n.val, 0, 0, 0] ⟨4, ![1, 8, M, N]⟩ := by
    refine ⟨rfl, fun i => ?_⟩
    have hn := n.isLt
    fin_cases i
    · show n.val + 1 ≤ 128; omega
    · show 0 + 8 ≤ 8; omega
    · show 0 + M ≤ M; omega
    · show 0 + N ≤ N; omega
  rw [WordCmp.dynamicUpdateSlice_eq_update x u st hs ![n.val, 0, 0, 0] hk (by intro i; fin_cases i; exacts [e0, e1, e2, e3])]
  unfold updateSlice
  by_cases hn : n' = n
  · subst hn
    rw [if_pos rfl, dif_pos (by
      intro i; fin_cases i
      · show n'.val ≤ n'.val ∧ n'.val < n'.val + 1; omega
      · show 0 ≤ a.val ∧ a.val < 0 + 8; have := a.isLt; omega
      · show 0 ≤ r.val ∧ r.val < 0 + M; have := r.isLt; omega
      · show 0 ≤ c.val ∧ c.val < 0 + N; have := c.isLt; omega)]
    refine congrArg u (funext fun i => Fin.ext ?_)
    fin_cases i
    · show n'.val - n'.val = 0; omega
    · show a.val - 0 = a.val; omega
    · show r.val - 0 = r.val; omega
    · show c.val - 0 = c.val; omega
  · rw [if_neg hn, dif_neg]
    intro hh
    have h0 : n.val ≤ n'.val ∧ n'.val < n.val + 1 := hh 0
    exact hn (Fin.ext (by omega))

/-- Trip `j` works on chunk `127 - j`. -/
def cn (j : ℕ) : Fin 128 := ⟨127 - j, by omega⟩

theorem word_at : ∀ j : Fin 128, ((128#32 - BitVec.ofNat 32 j.val) - 1#32).toInt = ((127 - j.val : ℕ) : Int) := by decide +kernel

variable (q k : FVec Ideal S8192x1024 .f32) (g : FVec Ideal S8192x128 .f32)
  (p : FVec Ideal S128x8x64x64 .bf16) (d : FVec Ideal S8192x1024 .f32) (h : Fin 8) (j : ℕ) (hj : j < 128) (s : State Ideal)

include hj in
theorem start_at : (b3 j s (Shape.Idx.first h_S_)).toInt = ((cn j).val : Int) := word_at ⟨j, hj⟩

include hj in
theorem b8_at (r : Fin 64) (c : Fin 128) : b8 j s (ix3 h r c) = s.main_v56_0 (ix4 (cn j) h r c) := by
  pointwise [b8]
  exact row_at s.main_v56_0 _ _ (cn j) (start_at j hj s) rfl rfl rfl h r c
include hj in
theorem b13_at : b13 j s (ix3 h 0 0) = s.main_v56_1 (ix4 (cn j) h 0 0) := by
  pointwise [b13]
  exact row_at s.main_v56_1 _ _ (cn j) (start_at j hj s) rfl rfl rfl h 0 0
include hj in
theorem b18_at (r : Fin 64) (c : Fin 128) : b18 j s (ix3 h r c) = s.main_v56_2 (ix4 (cn j) h r c) := by
  pointwise [b18]
  exact row_at s.main_v56_2 _ _ (cn j) (start_at j hj s) rfl rfl rfl h r c
include hj in
theorem b23_at (r : Fin 64) (c : Fin 128) : b23 j s (ix3 h r c) = s.main_v56_3 (ix4 (cn j) h r c) := by
  pointwise [b23]
  exact row_at s.main_v56_3 _ _ (cn j) (start_at j hj s) rfl rfl rfl h r c
include hj in
theorem b28_at (r : Fin 64) (c : Fin 128) : b28 j s (ix3 h r c) = s.main_v56_4 (ix4 (cn j) h r c) := by
  pointwise [b28]
  exact row_at s.main_v56_4 _ _ (cn j) (start_at j hj s) rfl rfl rfl h r c
include hj in
theorem b33_at (r c : Fin 64) : b33 j s (ix3 h r c) = s.main_v56_5 (ix4 (cn j) h r c) := by
  pointwise [b33]
  exact row_at s.main_v56_5 _ _ (cn j) (start_at j hj s) rfl rfl rfl h r c

/-- What the loop's constants are. -/
structure Fixed : Prop where
  c0 : ∀ (n : Fin 128) (h : Fin 8) (r : Fin 64) (c : Fin 128), s.main_v56_0 (ix4 n h r c) = d (ix2 (tk n r) (lan h c))
  c1 : ∀ (n : Fin 128) (h : Fin 8), s.main_v56_1 (ix4 n h 0 0) = Ideal.exp (g (ix2 (tk n 63) (gcol h)))
  c2 : ∀ (n : Fin 128) (h : Fin 8) (r : Fin 64) (c : Fin 128), s.main_v56_2 (ix4 n h r c)
    = k (ix2 (tk n r) (lan h c)) * Ideal.exp (g (ix2 (tk n 63) (gcol h)) - g (ix2 (tk n r) (gcol h)))
  c3 : ∀ (n : Fin 128) (h : Fin 8) (r : Fin 64) (c : Fin 128), s.main_v56_3 (ix4 n h r c)
    = ww (fun a b => p (ix4 n h a b)) (fun j c => k (ix2 (tk n j) (lan h c))) (fun j => g (ix2 (tk n j) (bcol h))) (fun j => g (ix2 (tk n j) (gcol h))) r c
  c4 : ∀ (n : Fin 128) (h : Fin 8) (r : Fin 64) (c : Fin 128), s.main_v56_4 (ix4 n h r c)
    = q (ix2 (tk n r) (lan h c)) * Ideal.exp (g (ix2 (tk n r) (gcol h)))
  c5 : ∀ (n : Fin 128) (h : Fin 8) (i j : Fin 64), s.main_v56_5 (ix4 n h i j)
    = intra (fun j c => q (ix2 (tk n j) (lan h c))) (fun j c => k (ix2 (tk n j) (lan h c))) (fun j => g (ix2 (tk n j) (gcol h))) i j

variable {q k g p d s}

include hj in
/-- The gradient of the written values, in trip `j`. -/
theorem b40_at (H : Fixed q k g p d s) (r : Fin 64) (c : Fin 128) : b40 j s (ix3 h r c)
    = dvn (fun i c => q (ix2 (tk (cn j) i) (lan h c))) (fun i c => k (ix2 (tk (cn j) i) (lan h c))) (fun i c => d (ix2 (tk (cn j) i) (lan h c)))
      (fun i => g (ix2 (tk (cn j) i) (gcol h))) (fun a b => s.main_v56_7 (ix3 h a b)) r c := by
  pointwise [b40, b39, b38, b35, b34, b8_at h j hj s, b18_at h j hj s, b33_at h j hj s, H.c0, H.c2, H.c5]
  rfl

include hj in
/-- The state gradient after trip `j`. -/
theorem b47_at (H : Fixed q k g p d s) (a c : Fin 128) : b47 j s (ix3 h a c) = back q k g p d (cn j) s.main_v56_7 (ix3 h a c) := by
  rw [back_at]
  pointwise [b47, b46, b45, b44, b43, b42, b41, b37, b36, b8_at h j hj s, b13_at h j hj s, b23_at h j hj s, b28_at h j hj s, b40_at h j hj H, H.c0, H.c1, H.c3, H.c4]
  simp only [ds, sub_eq_add_neg, zero_add]

include hj in
theorem b52_at (n : Fin 128) (r : Fin 64) (c : Fin 128) : b52 j s (ix4 n h r c)
    = if n = cn j then b40 j s (ix3 h r c) else s.main_v56_8 (ix4 n h r c) := by
  refine (put_at s.main_v56_8 (b48 j s) _ _ (cn j) (start_at j hj s) rfl rfl rfl n h r c).trans ?_
  congr 1
  pointwise [b48]

/-- The constants as the loop is given them. -/
theorem fixed_init (q k : FVec Ideal S8192x1024 .f32) (g : FVec Ideal S8192x128 .f32) (p : FVec Ideal S128x8x64x64 .bf16) (d : FVec Ideal S8192x1024 .f32) :
    Fixed q k g p d (init q k g p d) where
  c0 n h r c := heads_at n h d r c
  c1 n h := by
    show A_main_v51 (F := Ideal) q k g p d (ix4 n h 0 0) = _
    have hg : ∀ r : Fin 64, A_main_v11 (F := Ideal) q k g p d (ix3 n h r) = g (ix2 (tk n r) (gcol h)) := gate_at g n h
    pointwise [A_main_v51, A_main_v50, A_main_v42, A_main_v41, hg]
  c2 n h r c := by
    show A_main_v49 (F := Ideal) q k g p d (ix4 n h r c) = _
    have hg : ∀ r : Fin 64, A_main_v11 (F := Ideal) q k g p d (ix3 n h r) = g (ix2 (tk n r) (gcol h)) := gate_at g n h
    have hk : ∀ (r : Fin 64) (c : Fin 128), A_main_v5 (F := Ideal) q k g p d (ix4 n h r c) = k (ix2 (tk n r) (lan h c)) := heads_at n h k
    pointwise [A_main_v49, A_main_v48, A_main_v47, A_main_v46, A_main_v45, A_main_v44, A_main_v43, A_main_v42, A_main_v41, hg, hk]
  c3 n h r c := by
    show A_main_v33 (F := Ideal) q k g p d (ix4 n h r c) = _
    have hg : ∀ r : Fin 64, A_main_v11 (F := Ideal) q k g p d (ix3 n h r) = g (ix2 (tk n r) (gcol h)) := gate_at g n h
    have hb : ∀ r : Fin 64, A_main_v9 (F := Ideal) q k g p d (ix3 n h r) = g (ix2 (tk n r) (bcol h)) := beta_at g n h
    have hk : ∀ (r : Fin 64) (c : Fin 128), A_main_v5 (F := Ideal) q k g p d (ix4 n h r c) = k (ix2 (tk n r) (lan h c)) := heads_at n h k
    pointwise [A_main_v33, A_main_v32, A_main_v31, A_main_v30, A_main_v29, A_main_v28, A_main_v27, A_main_v26, A_main_v25, hg, hb, hk]
    rfl
  c4 n h r c := by
    show A_main_v40 (F := Ideal) q k g p d (ix4 n h r c) = _
    have hg : ∀ r : Fin 64, A_main_v11 (F := Ideal) q k g p d (ix3 n h r) = g (ix2 (tk n r) (gcol h)) := gate_at g n h
    have hq : ∀ (r : Fin 64) (c : Fin 128), A_main_v3 (F := Ideal) q k g p d (ix4 n h r c) = q (ix2 (tk n r) (lan h c)) := heads_at n h q
    pointwise [A_main_v40, A_main_v39, A_main_v38, A_main_v37, hg, hq]
  c5 n h i j := by
    show A_main_v36 (F := Ideal) q k g p d (ix4 n h i j) = _
    have hd : ∀ i j : Fin 64, A_main_v24 (F := Ideal) q k g p d (ix4 n h i j)
      = if j ≤ i then Ideal.exp (g (ix2 (tk n i) (gcol h)) - g (ix2 (tk n j) (gcol h))) else 0 := decay_at g n h
    have hq : ∀ (r : Fin 64) (c : Fin 128), A_main_v3 (F := Ideal) q k g p d (ix4 n h r c) = q (ix2 (tk n r) (lan h c)) := heads_at n h q
    have hk : ∀ (r : Fin 64) (c : Fin 128), A_main_v5 (F := Ideal) q k g p d (ix4 n h r c) = k (ix2 (tk n r) (lan h c)) := heads_at n h k
    pointwise [A_main_v36, A_main_v35, A_main_v34, K_main_call1_v1, K_main_call1_v2, K_main_call1_v0, K_main_cst_0, K_main_v17, K_main_v16, K_main_v15, K_main_v14, K_main_v13, K_main_v12, hd, hq, hk]
    simp only [sel, intra]
    by_cases hij : j ≤ i
    · simp only [if_pos hij]
    · simp only [if_neg hij]
      show Ideal.ofBits FTy.f32 0x00000000#32 = 0
      simp [Ideal.ofBits, Ideal.ieee]

/-- The states of the loop, from its first to its last. -/
def it (q k : FVec Ideal S8192x1024 .f32) (g : FVec Ideal S8192x128 .f32) (p : FVec Ideal S128x8x64x64 .bf16) (d : FVec Ideal S8192x1024 .f32) : ℕ → State Ideal
  | 0 => init q k g p d
  | n + 1 => step n (it q k g p d n)

theorem fixed_it (q k : FVec Ideal S8192x1024 .f32) (g : FVec Ideal S8192x128 .f32) (p : FVec Ideal S128x8x64x64 .bf16) (d : FVec Ideal S8192x1024 .f32) (n : ℕ) :
    Fixed q k g p d (it q k g p d n) := by
  induction n with
  | zero => exact fixed_init q k g p d
  | succ n ih => exact ⟨ih.c0, ih.c1, ih.c2, ih.c3, ih.c4, ih.c5⟩

/-- After `K` trips the loop carries the state gradients behind chunk `127 - K`. -/
theorem carried_it (q k : FVec Ideal S8192x1024 .f32) (g : FVec Ideal S8192x128 .f32) (p : FVec Ideal S128x8x64x64 .bf16) (d : FVec Ideal S8192x1024 .f32) (K : ℕ) (hK : K ≤ 128) :
    (it q k g p d K).main_v56_7 = car q k g p d K := by
  induction K with
  | zero =>
    funext y
    show Ideal.ofBits FTy.f32 0x00000000#32 = 0
    simp [Ideal.ofBits, Ideal.ieee]
  | succ K ih =>
    funext y
    obtain ⟨a, b, c, rfl⟩ : ∃ (a : Fin 8) (b c : Fin 128), y = ix3 a b c := ⟨⟨(y 0).val, (y 0).isLt⟩, ⟨(y 1).val, (y 1).isLt⟩, ⟨(y 2).val, (y 2).isLt⟩, eq_ix3 y⟩
    refine (b47_at a K (by omega) (fixed_it q k g p d K) b c).trans ?_
    rw [ih (by omega)]
    rfl

/-- The rows filed so far. -/
theorem filed_it (q k : FVec Ideal S8192x1024 .f32) (g : FVec Ideal S8192x128 .f32) (p : FVec Ideal S128x8x64x64 .bf16) (d : FVec Ideal S8192x1024 .f32) (K : ℕ) (hK : K ≤ 128)
    (n : Fin 128) (hn : 128 ≤ K + n.val) (h : Fin 8) (r : Fin 64) (c : Fin 128) :
    (it q k g p d K).main_v56_8 (ix4 n h r c) = fullN q k g p d n h r c := by
  induction K with
  | zero => omega
  | succ K ih =>
    refine (b52_at h K (by omega) n r c).trans ?_
    by_cases e : n = cn K
    · rw [if_pos e, b40_at h K (by omega) (fixed_it q k g p d K), carried_it q k g p d K (by omega), ← e]
      have : 127 - n.val = K := by rw [e]; show 127 - (127 - K) = K; omega
      unfold fullN
      rw [this]
    · rw [if_neg e]
      refine ih (by omega) ?_
      have : n.val ≠ 127 - K := fun h => e (Fin.ext h)
      omega

/-- The reference's gradient of the values. -/
theorem v70_at (q k : FVec Ideal S8192x1024 .f32) (g : FVec Ideal S8192x128 .f32) (p : FVec Ideal S128x8x64x64 .bf16) (d : FVec Ideal S8192x1024 .f32) :
    R_main_v70 (it q k g p d 128) g p = wholeV q k g p d := by
  funext y
  obtain ⟨n, a, h, e, rfl⟩ := split y
  rw [wholeV_at, v70_eq, flat_at, gradV_at]
  refine congrArg (· * _) (Finset.sum_congr rfl fun i _ => ?_)
  rw [filed_it q k g p d 128 (le_refl _) n (by omega)]
  rfl

/-- The reference's gradient of the queries. -/
theorem v156_at (k v : FVec Ideal S8192x1024 .f32) (g : FVec Ideal S8192x128 .f32) (s : FVec Ideal S128x8x128x128 .f32) (p : FVec Ideal S128x8x64x64 .bf16)
    (d : FVec Ideal S8192x1024 .f32) (t : State Ideal) : R_main_v156 t k v g s p d = whole k v g s p d := by
  funext y
  obtain ⟨n, a, h, e, rfl⟩ := split y
  rw [whole_at, v156_eq, flat_at, gradQ_at]

end Cert.ReferenceIdeal.Dv

end
-- ==== Proof.DvClaim.lean ====
module
public import proofs.«01_k».proof.Defs
public import proofs.«01_k».proof.Proof.DvSteps
public import proofs.«01_k».proof.Proof.DvKernel
public import proofs.«01_k».proof.Proof.DvTrip
public import Idealize.ShloMosaic.Lib.Claim
/-! # The backward scan's gradients of the queries and of the values are the reference's -/
@[expose] public section
set_option maxRecDepth 16384
noncomputable section
open Idealize.ShloMosaic Idealize.ShloMosaic.TcCoe Idealize.SL.Sem

namespace Cert.ReferenceIdeal.Dv
open Cert.ReferenceIdeal

/-- The states of each device's loop. -/
abbrev its (m : (ℓ : Loc nD τ sig) → Buf (Elt Ideal) ℓ) (c : Dev nD) : ℕ → Cert.ReferenceIdeal.Step.State Ideal :=
  it (m ((c.tc : Thread nD τ).loc main_arg0)) (m ((c.tc : Thread nD τ).loc main_arg1)) (m ((c.tc : Thread nD τ).loc main_arg3))
    (m ((c.tc : Thread nD τ).loc main_arg5)) (m ((c.tc : Thread nD τ).loc main_arg6))

theorem frame_ref : Cert.quiescent_ReferenceIdeal := fun m ρ _ =>
  (θ_run _ _ _).mono (fun r h => And.intro (fun c => (h c).2.2)
    (sem_eq_zero_of_no_sems (by decide) r.2)) (Cert.ReferenceIdeal.Value.run (F := Ideal) m ρ)

end Cert.ReferenceIdeal.Dv

namespace Cert.KernelIdeal.Dv
open Cert.KernelIdeal Cert.KernelIdeal.Gen Cert.KernelIdeal.Scan Cert.KernelIdeal.Dq Cert.Dq Cert.Dv

/-- Every run ends with the first and third outputs at their arrays, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m 0 c).arrAt 7 cfg0.N
      ∧ r.2.mem ((c.tc : Thread nD τ).loc main_v0_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨post_7 m r h.1 c, post_9 m r h.1 c, (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩) (run_all m ρ)

theorem algebraic : Cert.algebraic_KernelIdeal_ReferenceIdeal := by
  intro m g m' g' hpre hag
  refine ⟨fun c => (dats m 0 c).arrAt 7 cfg0.N, fun c => (dats m 0 c).arrAt 9 cfg0.N, run m g,
    (θ_run _ _ _).mono (fun r hr c => ?_) (Cert.ReferenceIdeal.Steps.run_iter m' g' (Cert.ReferenceIdeal.Dv.its m')
      (fun _ => rfl) (fun _ _ => rfl))⟩
  obtain ⟨e0, e1, k⟩ := hr c
  obtain ⟨a0, a1, a2, a3, a4, a5, a6⟩ := hag c
  refine ⟨e0.trans ?_, e1.trans ?_, k⟩
  · rw [Cert.ReferenceIdeal.Dv.v156_at, a1, a2, a3, a4, a5, a6]
    show _ = (dats m 0 c).arrAt 7 cfg0.N
    rw [final7]
  · show Cert.ReferenceIdeal.Step.R_main_v70 (Cert.ReferenceIdeal.Dv.it _ _ _ _ _ 128) _ _ = _
    rw [Cert.ReferenceIdeal.Dv.v70_at, a0, a1, a3, a5, a6]
    show _ = (dats m 0 c).arrAt 9 cfg0.N
    rw [final9]

end Cert.KernelIdeal.Dv

end
-- ==== Proof.ScanRunBits.lean ====
module

public import proofs.«01_k».proof.Proof.Gen.Kernel.Frame.Runs

/-! The run of one grid point of the backward scan. On whole staging buffers, the inputs at known
contents and the outputs and the carried state gradient at any, the body terminates, leaves the inputs as they
were and leaves the outputs and the carried buffer at some contents. -/
@[expose] public section

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid point of the backward scan, whether or not it is the first, which clears the carried buffer. -/
theorem run_point (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x8x128x128 .f32) (harg5 : arg5.IsWhole) (arg6 : Memref sig .tc .vmem S4x8x64x64 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S8x128x128 .f32) (harg12 : arg12.IsWhole)
    (x0 : Vec F S256x1024 .f32) (x1 : Vec F S256x1024 .f32) (x2 : Vec F S256x1024 .f32) (x3 : Vec F S256x128 .f32) (x4 : Vec F S4x8x128x128 .f32) (x5 : Vec F S4x8x64x64 .bf16) (x6 : Vec F S256x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_gdn_scan_bwd i arg1 harg1 arg2 harg2 arg3 harg3 arg4 harg4 arg5 harg5 arg6 harg6 arg7 harg7 arg8 harg8 arg9 harg9 arg10 harg10 arg11 harg11 arg12 harg12) K := by
  by_cases hc0 : cond0_0 i
  · simp only [cc0_gdn_scan_bwd_eq_skeleton]; unfold cc0_gdn_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  · simp only [cc0_gdn_scan_bwd_eq_skeleton]; unfold cc0_gdn_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Scan

end
-- ==== Proof.ScanFrameBits.lean ====
module

public import proofs.«01_k».proof.Proof.ScanRunBits
public import Idealize.ShloMosaic.Lib.Claim

/-! The frame of the backward scan: every run of the program ends, with its argument arrays as they
were and every counter at zero. Nothing is said here of what the outputs hold. -/
@[expose] public section

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four output windows, of whose contents nothing is said. -/
def forgets : Fin 11 → Bool := fun w => w.val == 7 || w.val == 8 || w.val == 9 || w.val == 10

/-- The data of the pipeline: each input window at its block after every point, the outputs unnamed, the carried
buffer at anything between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 4000000 in
/-- The body at any point, from the run of one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Pipeline.ΦA spec0 c from rfl, show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  iapply (run_point c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The row of the body table at point `t` is the body. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound_body m c t) rfl .rfl fun _ => .rfl

set_option backward.isDefEq.respectTransparency.types false in
/-- The launch: every run ends with the inputs as they were and every counter at zero. -/
theorem run_all : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The frame, over any arithmetic of the elements. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩) (run_all m ρ)

end Cert.Kernel.Scan

end
-- ==== Proof.Prod3.lean ====
module
public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Claim
public import Idealize.ShloMosaic.Lib.WritesUnit
public import Idealize.ShloMosaic.Lib.Pipeline.ReadBack
/-! # A projection of the layer's input, 3072 columns -/
@[expose] public section
set_option maxRecDepth 16384
noncomputable section
open Idealize.ShloMosaic Idealize.ShloMosaic.TcCoe Idealize.SL.Sem
open Idealize.ShloMosaic.Pipeline (Dat)
namespace Cert.Kernel3Ideal.Prod
open Cert.Kernel3Ideal Cert.Kernel3Ideal.Gen
variable (m : (ℓ : Loc nD τ sig) → Buf (Elt Ideal) ℓ)

/-- The argument arrays. -/
abbrev aX (c : Dev nD) : FVec Ideal S8192x1024 .f32 := m ((c : Thread nD τ).loc main_arg0)
abbrev aW (c : Dev nD) : FVec Ideal S1024x3072 .f32 := m ((c : Thread nD τ).loc main_arg1)

theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- Row `r` and column `k` of tile `t`, in the whole array. -/
def row_ (t : Fin cfg0.N) (r : Fin 1024) : Fin 8192 := ⟨t.val % 8 * 1024 + r.val, by omega⟩
def col_ (t : Fin cfg0.N) (k : Fin 1024) : Fin 3072 := ⟨t.val / 8 * 1024 + k.val, by have : t.val < 24 := lt_of_lt_of_eq t.isLt N_0; omega⟩

/-- The blocks of the two factors at tile `t`. -/
abbrev b0 (c : Dev nD) (t : Fin cfg0.N) : FVec Ideal S1024x1024 .bf16 := iblk m c 0 t
abbrev b1 (c : Dev nD) (t : Fin cfg0.N) : FVec Ideal S1024x1024 .bf16 := iblk m c 1 t

theorem blk0 (c : Dev nD) (t : Fin cfg0.N) (r q : Fin 1024) : b0 m c t (ix2 r q) = aX m c (ix2 (row_ t r) q) := by
  blk_simp [iblk, idx_val t]; entry_read; pointwise; blk_ext [idx_val t, row_]
theorem blk1 (c : Dev nD) (t : Fin cfg0.N) (r q : Fin 1024) : b1 m c t (ix2 r q) = aW m c (ix2 q (col_ t r)) := by
  blk_simp [iblk, idx_val t]; entry_read; pointwise; blk_ext [idx_val t, col_]

/-- One tile of the product. -/
theorem pay_at (x w : FVec Ideal S1024x1024 .bf16) (r k : Fin 1024) :
    k0_pay1 (F := Ideal) x w (ix2 r k) = ∑ q : Fin 1024, x (ix2 r q) * w (ix2 k q) := by
  pointwise [k0_pay1]

theorem final2 (c : Dev nD) : (dats m 0 c).arrAt 2 cfg0.N
    = fun j : S8192x3072.Idx => ∑ k : Fin 1024, aX m c (ix2 (j 0) k) * aW m c (ix2 k (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) (col_ t k) : S8192x3072.Idx) := by blk_ext [idx_val t, row_, col_]
  rw [ei]
  blk_simp
  rw [after0_2]
  frame_out
  rw [pay_at]
  have key : (∑ q : Fin 1024, b0 m c t (ix2 r q) * b1 m c t (ix2 k q))
      = ∑ q : Fin 1024, aX m c (ix2 (row_ t r) q) * aW m c (ix2 q (col_ t k)) :=
    Finset.sum_congr rfl fun q _ => by rw [blk0 m c t, blk1 m c t]
  exact key

end Cert.Kernel3Ideal.Prod

namespace Cert.Reference3Ideal.Prod
open Cert.Reference3Ideal Cert.Reference3Ideal.Read

theorem ref_at (x : FVec Ideal S8192x1024 .f32) (w : FVec Ideal S1024x3072 .f32) (r : Fin 8192) (k : Fin 3072) :
    val_main_v0 (F := Ideal) x w (ix2 r k) = ∑ q : Fin 1024, x (ix2 r q) * w (ix2 q k) := by
  pointwise [val_main_v0]

theorem frame_ref : Cert.quiescent_Reference3Ideal := fun m ρ _ =>
  (θ_run _ _ _).mono (fun r h => And.intro (fun c => (h c).2)
    (sem_eq_zero_of_no_sems (by decide) r.2)) (Cert.Reference3Ideal.Value.run (F := Ideal) m ρ)

end Cert.Reference3Ideal.Prod

namespace Cert.Kernel3Ideal.Prod
open Cert.Kernel3Ideal Cert.Kernel3Ideal.Gen

theorem algebraic : Cert.algebraic_Kernel3Ideal_Reference3Ideal := by
  intro m g m' g' hpre hag
  refine ⟨fun c => (dats m 0 c).arrAt 2 cfg0.N, Cert.Kernel3Ideal.Value.run_blocks m g,
    (θ_run _ _ _).mono (fun r hr c => ?_) (Cert.Reference3Ideal.Value.run m' g')⟩
  obtain ⟨e0, k⟩ := hr c
  obtain ⟨a0, a1⟩ := hag c
  refine ⟨e0.trans ?_, k⟩
  rw [a0, a1]
  refine (Cert.Reference3Ideal.Read.val_main_v0_eq _ _).trans ?_
  show _ = (dats m 0 c).arrAt 2 cfg0.N
  rw [final2]
  funext j
  obtain ⟨r, k, rfl⟩ : ∃ (r : Fin 8192) (k : Fin 3072), j = ix2 r k := ⟨_, _, eq_ix2 j⟩
  exact Cert.Reference3Ideal.Prod.ref_at _ _ r k

end Cert.Kernel3Ideal.Prod

end
-- ==== Proof.Prod4.lean ====
module
public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.WritesUnit
public import Idealize.ShloMosaic.Lib.Pipeline.ReadBack
/-! # A projection of the layer's input, 2048 columns -/
@[expose] public section
set_option maxRecDepth 16384
noncomputable section
open Idealize.ShloMosaic Idealize.ShloMosaic.TcCoe Idealize.SL.Sem
open Idealize.ShloMosaic.Pipeline (Dat)
namespace Cert.Kernel4Ideal.Prod
open Cert.Kernel4Ideal Cert.Kernel4Ideal.Gen
variable (m : (ℓ : Loc nD τ sig) → Buf (Elt Ideal) ℓ)

/-- The argument arrays. -/
abbrev aX (c : Dev nD) : FVec Ideal S8192x1024 .f32 := m ((c : Thread nD τ).loc main_arg0)
abbrev aW (c : Dev nD) : FVec Ideal S1024x2048 .f32 := m ((c : Thread nD τ).loc main_arg1)

theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- Row `r` and column `k` of tile `t`, in the whole array. -/
def row_ (t : Fin cfg0.N) (r : Fin 1024) : Fin 8192 := ⟨t.val % 8 * 1024 + r.val, by omega⟩
def col_ (t : Fin cfg0.N) (k : Fin 1024) : Fin 2048 := ⟨t.val / 8 * 1024 + k.val, by have : t.val < 16 := lt_of_lt_of_eq t.isLt N_0; omega⟩

/-- The blocks of the two factors at tile `t`. -/
abbrev b0 (c : Dev nD) (t : Fin cfg0.N) : FVec Ideal S1024x1024 .bf16 := iblk m c 0 t
abbrev b1 (c : Dev nD) (t : Fin cfg0.N) : FVec Ideal S1024x1024 .bf16 := iblk m c 1 t

theorem blk0 (c : Dev nD) (t : Fin cfg0.N) (r q : Fin 1024) : b0 m c t (ix2 r q) = aX m c (ix2 (row_ t r) q) := by
  blk_simp [iblk, idx_val t]; entry_read; pointwise; blk_ext [idx_val t, row_]
theorem blk1 (c : Dev nD) (t : Fin cfg0.N) (r q : Fin 1024) : b1 m c t (ix2 r q) = aW m c (ix2 q (col_ t r)) := by
  blk_simp [iblk, idx_val t]; entry_read; pointwise; blk_ext [idx_val t, col_]

/-- One tile of the product. -/
theorem pay_at (x w : FVec Ideal S1024x1024 .bf16) (r k : Fin 1024) :
    k0_pay1 (F := Ideal) x w (ix2 r k) = ∑ q : Fin 1024, x (ix2 r q) * w (ix2 k q) := by
  pointwise [k0_pay1]

theorem final2 (c : Dev nD) : (dats m 0 c).arrAt 2 cfg0.N
    = fun j : S8192x2048.Idx => ∑ k : Fin 1024, aX m c (ix2 (j 0) k) * aW m c (ix2 k (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) (col_ t k) : S8192x2048.Idx) := by blk_ext [idx_val t, row_, col_]
  rw [ei]
  blk_simp
  rw [after0_2]
  frame_out
  rw [pay_at]
  have key : (∑ q : Fin 1024, b0 m c t (ix2 r q) * b1 m c t (ix2 k q))
      = ∑ q : Fin 1024, aX m c (ix2 (row_ t r) q) * aW m c (ix2 q (col_ t k)) :=
    Finset.sum_congr rfl fun q _ => by rw [blk0 m c t, blk1 m c t]
  exact key

end Cert.Kernel4Ideal.Prod

namespace Cert.Reference4Ideal.Prod
open Cert.Reference4Ideal Cert.Reference4Ideal.Read

theorem ref_at (x : FVec Ideal S8192x1024 .f32) (w : FVec Ideal S1024x2048 .f32) (r : Fin 8192) (k : Fin 2048) :
    val_main_v0 (F := Ideal) x w (ix2 r k) = ∑ q : Fin 1024, x (ix2 r q) * w (ix2 q k) := by
  pointwise [val_main_v0]

theorem frame_ref : Cert.quiescent_Reference4Ideal := fun m ρ _ =>
  (θ_run _ _ _).mono (fun r h => And.intro (fun c => (h c).2)
    (sem_eq_zero_of_no_sems (by decide) r.2)) (Cert.Reference4Ideal.Value.run (F := Ideal) m ρ)

end Cert.Reference4Ideal.Prod

namespace Cert.Kernel4Ideal.Prod
open Cert.Kernel4Ideal Cert.Kernel4Ideal.Gen

theorem algebraic : Cert.algebraic_Kernel4Ideal_Reference4Ideal := by
  intro m g m' g' hpre hag
  refine ⟨fun c => (dats m 0 c).arrAt 2 cfg0.N, Cert.Kernel4Ideal.Value.run_blocks m g,
    (θ_run _ _ _).mono (fun r hr c => ?_) (Cert.Reference4Ideal.Value.run m' g')⟩
  obtain ⟨e0, k⟩ := hr c
  obtain ⟨a0, a1⟩ := hag c
  refine ⟨e0.trans ?_, k⟩
  rw [a0, a1]
  refine (Cert.Reference4Ideal.Read.val_main_v0_eq _ _).trans ?_
  show _ = (dats m 0 c).arrAt 2 cfg0.N
  rw [final2]
  funext j
  obtain ⟨r, k, rfl⟩ : ∃ (r : Fin 8192) (k : Fin 2048), j = ix2 r k := ⟨_, _, eq_ix2 j⟩
  exact Cert.Reference4Ideal.Prod.ref_at _ _ r k

end Cert.Kernel4Ideal.Prod

end
-- ==== Proof.Prod5.lean ====
module
public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim
public import Idealize.ShloMosaic.Lib.WritesUnit
public import Idealize.ShloMosaic.Lib.Pipeline.ReadBack
/-! # A projection of the layer's input, 1024 columns -/
@[expose] public section
set_option maxRecDepth 16384
noncomputable section
open Idealize.ShloMosaic Idealize.ShloMosaic.TcCoe Idealize.SL.Sem
open Idealize.ShloMosaic.Pipeline (Dat)
namespace Cert.Kernel5Ideal.Prod
open Cert.Kernel5Ideal Cert.Kernel5Ideal.Gen
variable (m : (ℓ : Loc nD τ sig) → Buf (Elt Ideal) ℓ)

/-- The argument arrays. -/
abbrev aX (c : Dev nD) : FVec Ideal S8192x1024 .f32 := m ((c : Thread nD τ).loc main_arg0)
abbrev aW (c : Dev nD) : FVec Ideal S1024x1024 .f32 := m ((c : Thread nD τ).loc main_arg1)

theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- Row `r` and column `k` of tile `t`, in the whole array. -/
def row_ (t : Fin cfg0.N) (r : Fin 1024) : Fin 8192 := ⟨t.val % 8 * 1024 + r.val, by omega⟩
def col_ (t : Fin cfg0.N) (k : Fin 1024) : Fin 1024 := ⟨t.val / 8 * 1024 + k.val, by have : t.val < 8 := lt_of_lt_of_eq t.isLt N_0; omega⟩

/-- The blocks of the two factors at tile `t`. -/
abbrev b0 (c : Dev nD) (t : Fin cfg0.N) : FVec Ideal S1024x1024 .bf16 := iblk m c 0 t
abbrev b1 (c : Dev nD) (t : Fin cfg0.N) : FVec Ideal S1024x1024 .bf16 := iblk m c 1 t

theorem blk0 (c : Dev nD) (t : Fin cfg0.N) (r q : Fin 1024) : b0 m c t (ix2 r q) = aX m c (ix2 (row_ t r) q) := by
  blk_simp [iblk, idx_val t]; entry_read; pointwise; blk_ext [idx_val t, row_]
theorem blk1 (c : Dev nD) (t : Fin cfg0.N) (r q : Fin 1024) : b1 m c t (ix2 r q) = aW m c (ix2 q (col_ t r)) := by
  blk_simp [iblk, idx_val t]; entry_read; pointwise; blk_ext [idx_val t, col_]

/-- One tile of the product. -/
theorem pay_at (x w : FVec Ideal S1024x1024 .bf16) (r k : Fin 1024) :
    k0_pay1 (F := Ideal) x w (ix2 r k) = ∑ q : Fin 1024, x (ix2 r q) * w (ix2 k q) := by
  pointwise [k0_pay1]

theorem final2 (c : Dev nD) : (dats m 0 c).arrAt 2 cfg0.N
    = fun j : S8192x1024.Idx => ∑ k : Fin 1024, aX m c (ix2 (j 0) k) * aW m c (ix2 k (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) (col_ t k) : S8192x1024.Idx) := by blk_ext [idx_val t, row_, col_]
  rw [ei]
  blk_simp
  rw [after0_2]
  frame_out
  rw [pay_at]
  have key : (∑ q : Fin 1024, b0 m c t (ix2 r q) * b1 m c t (ix2 k q))
      = ∑ q : Fin 1024, aX m c (ix2 (row_ t r) q) * aW m c (ix2 q (col_ t k)) :=
    Finset.sum_congr rfl fun q _ => by rw [blk0 m c t, blk1 m c t]
  exact key

end Cert.Kernel5Ideal.Prod

namespace Cert.Reference5Ideal.Prod
open Cert.Reference5Ideal Cert.Reference5Ideal.Read

theorem ref_at (x : FVec Ideal S8192x1024 .f32) (w : FVec Ideal S1024x1024 .f32) (r : Fin 8192) (k : Fin 1024) :
    val_main_v0 (F := Ideal) x w (ix2 r k) = ∑ q : Fin 1024, x (ix2 r q) * w (ix2 q k) := by
  pointwise [val_main_v0]

theorem frame_ref : Cert.quiescent_Reference5Ideal := fun m ρ _ =>
  (θ_run _ _ _).mono (fun r h => And.intro (fun c => (h c).2)
    (sem_eq_zero_of_no_sems (by decide) r.2)) (Cert.Reference5Ideal.Value.run (F := Ideal) m ρ)

end Cert.Reference5Ideal.Prod

namespace Cert.Kernel5Ideal.Prod
open Cert.Kernel5Ideal Cert.Kernel5Ideal.Gen

theorem algebraic : Cert.algebraic_Kernel5Ideal_Reference5Ideal := by
  intro m g m' g' hpre hag
  refine ⟨fun c => (dats m 0 c).arrAt 2 cfg0.N, Cert.Kernel5Ideal.Value.run_blocks m g,
    (θ_run _ _ _).mono (fun r hr c => ?_) (Cert.Reference5Ideal.Value.run m' g')⟩
  obtain ⟨e0, k⟩ := hr c
  obtain ⟨a0, a1⟩ := hag c
  refine ⟨e0.trans ?_, k⟩
  rw [a0, a1]
  refine (Cert.Reference5Ideal.Read.val_main_v0_eq _ _).trans ?_
  show _ = (dats m 0 c).arrAt 2 cfg0.N
  rw [final2]
  funext j
  obtain ⟨r, k, rfl⟩ : ∃ (r : Fin 8192) (k : Fin 1024), j = ix2 r k := ⟨_, _, eq_ix2 j⟩
  exact Cert.Reference5Ideal.Prod.ref_at _ _ r k

end Cert.Kernel5Ideal.Prod

end
-- ==== Proof.Prod6.lean ====
module
public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim
public import Idealize.ShloMosaic.Lib.WritesUnit
public import Idealize.ShloMosaic.Lib.Pipeline.ReadBack
/-! # The gradient behind an output product -/
@[expose] public section
set_option maxRecDepth 16384
noncomputable section
open Idealize.ShloMosaic Idealize.ShloMosaic.TcCoe Idealize.SL.Sem
open Idealize.ShloMosaic.Pipeline (Dat)
namespace Cert.Kernel6Ideal.Prod
open Cert.Kernel6Ideal Cert.Kernel6Ideal.Gen
variable (m : (ℓ : Loc nD τ sig) → Buf (Elt Ideal) ℓ)

/-- The argument arrays. -/
abbrev aX (c : Dev nD) : FVec Ideal S8192x1024 .bf16 := m ((c : Thread nD τ).loc main_arg0)
abbrev aW (c : Dev nD) : FVec Ideal S1024x1024 .f32 := m ((c : Thread nD τ).loc main_arg1)

theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- Row `r` and column `k` of tile `t`, in the whole array. -/
def row_ (t : Fin cfg0.N) (r : Fin 1024) : Fin 8192 := ⟨t.val % 8 * 1024 + r.val, by omega⟩
def col_ (t : Fin cfg0.N) (k : Fin 1024) : Fin 1024 := ⟨t.val / 8 * 1024 + k.val, by have : t.val < 8 := lt_of_lt_of_eq t.isLt N_0; omega⟩

/-- The blocks of the two factors at tile `t`. -/
abbrev b0 (c : Dev nD) (t : Fin cfg0.N) : FVec Ideal S1024x1024 .bf16 := iblk m c 0 t
abbrev b1 (c : Dev nD) (t : Fin cfg0.N) : FVec Ideal S1024x1024 .bf16 := iblk m c 1 t

theorem blk0 (c : Dev nD) (t : Fin cfg0.N) (r q : Fin 1024) : b0 m c t (ix2 r q) = aX m c (ix2 (row_ t r) q) := by
  blk_ext [iblk, V, idx_val t, row_]
theorem blk1 (c : Dev nD) (t : Fin cfg0.N) (r q : Fin 1024) : b1 m c t (ix2 r q) = aW m c (ix2 (col_ t r) q) := by
  blk_simp [iblk, idx_val t]; entry_read; pointwise; blk_ext [idx_val t, col_]

/-- One tile of the product. -/
theorem pay_at (x w : FVec Ideal S1024x1024 .bf16) (r k : Fin 1024) :
    k0_pay1 (F := Ideal) x w (ix2 r k) = ∑ q : Fin 1024, x (ix2 r q) * w (ix2 k q) := by
  pointwise [k0_pay1]

theorem final2 (c : Dev nD) : (dats m 0 c).arrAt 2 cfg0.N
    = fun j : S8192x1024.Idx => ∑ k : Fin 1024, aX m c (ix2 (j 0) k) * aW m c (ix2 (j 1) k) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) (col_ t k) : S8192x1024.Idx) := by blk_ext [idx_val t, row_, col_]
  rw [ei]
  blk_simp
  rw [after0_2]
  frame_out
  rw [pay_at]
  have key : (∑ q : Fin 1024, b0 m c t (ix2 r q) * b1 m c t (ix2 k q))
      = ∑ q : Fin 1024, aX m c (ix2 (row_ t r) q) * aW m c (ix2 (col_ t k) q) :=
    Finset.sum_congr rfl fun q _ => by rw [blk0 m c t, blk1 m c t]
  exact key

end Cert.Kernel6Ideal.Prod

namespace Cert.Reference6Ideal.Prod
open Cert.Reference6Ideal Cert.Reference6Ideal.Read

theorem ref_at (x : FVec Ideal S8192x1024 .bf16) (w : FVec Ideal S1024x1024 .f32) (r : Fin 8192) (k : Fin 1024) :
    val_main_v3 (F := Ideal) x w (ix2 r k) = ∑ q : Fin 1024, x (ix2 r q) * w (ix2 k q) := by
  pointwise [val_main_v0, val_main_v1, val_main_v2, val_main_v3]

theorem frame_ref : Cert.quiescent_Reference6Ideal := fun m ρ _ =>
  (θ_run _ _ _).mono (fun r h => And.intro (fun c => (h c).2)
    (sem_eq_zero_of_no_sems (by decide) r.2)) (Cert.Reference6Ideal.Value.run (F := Ideal) m ρ)

end Cert.Reference6Ideal.Prod

namespace Cert.Kernel6Ideal.Prod
open Cert.Kernel6Ideal Cert.Kernel6Ideal.Gen

theorem algebraic : Cert.algebraic_Kernel6Ideal_Reference6Ideal := by
  intro m g m' g' hpre hag
  refine ⟨fun c => (dats m 0 c).arrAt 2 cfg0.N, Cert.Kernel6Ideal.Value.run_blocks m g,
    (θ_run _ _ _).mono (fun r hr c => ?_) (Cert.Reference6Ideal.Value.run m' g')⟩
  obtain ⟨e0, k⟩ := hr c
  obtain ⟨a0, a1⟩ := hag c
  refine ⟨e0.trans ?_, k⟩
  rw [a0, a1]
  refine (Cert.Reference6Ideal.Read.val_main_v3_eq _ _).trans ?_
  show _ = (dats m 0 c).arrAt 2 cfg0.N
  rw [final2]
  funext j
  obtain ⟨r, k, rfl⟩ : ∃ (r : Fin 8192) (k : Fin 1024), j = ix2 r k := ⟨_, _, eq_ix2 j⟩
  exact Cert.Reference6Ideal.Prod.ref_at _ _ r k

end Cert.Kernel6Ideal.Prod

end
-- ==== Proof.Prod7.lean ====
module
public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim
public import Idealize.ShloMosaic.Lib.WritesUnit
public import Idealize.ShloMosaic.Lib.Pipeline.ReadBack
/-! # The gradient of 3072 columns of the input projection -/
@[expose] public section
set_option maxRecDepth 16384
noncomputable section
open Idealize.ShloMosaic Idealize.ShloMosaic.TcCoe Idealize.SL.Sem
open Idealize.ShloMosaic.Pipeline (Dat)
namespace Cert.Kernel7Ideal.Prod
open Cert.Kernel7Ideal Cert.Kernel7Ideal.Gen
variable (m : (ℓ : Loc nD τ sig) → Buf (Elt Ideal) ℓ)

/-- The argument arrays. -/
abbrev aX (c : Dev nD) : FVec Ideal S8192x1024 .f32 := m ((c : Thread nD τ).loc main_arg0)
abbrev aD (c : Dev nD) : FVec Ideal S8192x3072 .bf16 := m ((c : Thread nD τ).loc main_arg1)

theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- Token `q` of tile `t` and row `r` of its block, in the whole arrays. -/
def tok (t : Fin cfg0.N) (q : Fin 2048) : Fin 8192 := ⟨t.val % 4 * 2048 + q.val, by omega⟩
def row_ (t : Fin cfg0.N) (r : Fin 1024) : Fin 3072 := ⟨t.val / 4 * 1024 + r.val, by have : t.val < 12 := lt_of_lt_of_eq t.isLt N_0; omega⟩

/-- The blocks of the two factors at tile `t`. -/
abbrev b0 (c : Dev nD) (t : Fin cfg0.N) : FVec Ideal S2048x1024 .bf16 := iblk m c 0 t
abbrev b1 (c : Dev nD) (t : Fin cfg0.N) : FVec Ideal S2048x1024 .bf16 := iblk m c 1 t

theorem blk0 (c : Dev nD) (t : Fin cfg0.N) (q : Fin 2048) (r : Fin 1024) : b0 m c t (ix2 q r) = aD m c (ix2 (tok t q) (row_ t r)) := by
  blk_ext [iblk, V, idx_val t, tok, row_]
theorem blk1 (c : Dev nD) (t : Fin cfg0.N) (q : Fin 2048) (k : Fin 1024) : b1 m c t (ix2 q k) = aX m c (ix2 (tok t q) k) := by
  blk_simp [iblk, idx_val t]; entry_read; pointwise; blk_ext [idx_val t, tok]

/-- One step of the accumulation. -/
theorem pay_at (acc : FVec Ideal S1024x1024 .f32) (x w : FVec Ideal S2048x1024 .bf16) (r k : Fin 1024) :
    k0_pay2 (F := Ideal) acc x w (ix2 r k) = acc (ix2 r k) + ∑ q : Fin 2048, x (ix2 q r) * w (ix2 q k) := by
  pointwise [k0_pay2]

theorem zero_at (j : S1024x1024.Idx) : k0_pay1 (F := Ideal) j = 0 := by
  pointwise [k0_pay1]

theorem final2 (c : Dev nD) : (dats m 0 c).arrAt 2 cfg0.N
    = fun j : S3072x1024.Idx => ∑ q : Fin 8192, aD m c (ix2 q (j 0)) * aX m c (ix2 q (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) k : S3072x1024.Idx) := by blk_ext [idx_val t, row_]
  rw [ei]
  blk_simp
  rw [after0_2]
  rw [Pipeline.eq_sum_fin_of_reset_step_apply_of_flush (fun n h => outsAt0 m c n h) 4 (fun _ => 0)
    (fun t j => ∑ q : Fin 2048, b0 m c t (ix2 q (j 0)) * b1 m c t (ix2 q (j 1)))
    (fun t h j => by
      obtain ⟨r, k, rfl⟩ : ∃ (r : Fin 1024) (k : Fin 1024), j = ix2 r k := ⟨_, _, eq_ix2 j⟩
      rw [outsAt0_A m c t h]; frame_out; rw [pay_at, zero_at]; rfl)
    (fun t h j => by
      obtain ⟨r, k, rfl⟩ : ∃ (r : Fin 1024) (k : Fin 1024), j = ix2 r k := ⟨_, _, eq_ix2 j⟩
      rw [outsAt0_B m c t h]; frame_out; rw [pay_at]; rfl) t ((flush0_2 t).mp hf) (ix2 r k), zero_add]
  have ht : t.val < 12 := lt_of_lt_of_eq t.isLt N_0
  refine Fin.sum_mul_add_congr (S := 4) (n := 2048) fun s q hl => ?_
  have e1 : ∀ h, tok ⟨4 * (t.val / 4) + s.val, h⟩ q = ⟨s.val * 2048 + q.val, hl⟩ := fun h => by
    apply Fin.ext; show (4 * (t.val / 4) + s.val) % 4 * 2048 + q.val = _; congr 2; omega
  have e2 : ∀ h, row_ ⟨4 * (t.val / 4) + s.val, h⟩ r = row_ t r := fun h => by
    apply Fin.ext; show (4 * (t.val / 4) + s.val) / 4 * 1024 + r.val = t.val / 4 * 1024 + r.val; congr 2; omega
  show b0 m c _ (ix2 q r) * b1 m c _ (ix2 q k) = aD m c (ix2 _ (row_ t r)) * aX m c (ix2 _ k)
  rw [blk0 m c, blk1 m c, e1, e2]

end Cert.Kernel7Ideal.Prod

namespace Cert.Reference7Ideal.Prod
open Cert.Reference7Ideal Cert.Reference7Ideal.Read

theorem ref_at (x : FVec Ideal S8192x1024 .f32) (d : FVec Ideal S8192x3072 .bf16) (r : Fin 3072) (k : Fin 1024) :
    val_main_v5 (F := Ideal) x d (ix2 r k) = ∑ q : Fin 8192, d (ix2 q r) * x (ix2 q k) := by
  pointwise [val_main_v2, val_main_v3, val_main_v4, val_main_v5]

theorem frame_ref : Cert.quiescent_Reference7Ideal := fun m ρ _ =>
  (θ_run _ _ _).mono (fun r h => And.intro (fun c => (h c).2)
    (sem_eq_zero_of_no_sems (by decide) r.2)) (Cert.Reference7Ideal.Value.run (F := Ideal) m ρ)

end Cert.Reference7Ideal.Prod

namespace Cert.Kernel7Ideal.Prod
open Cert.Kernel7Ideal Cert.Kernel7Ideal.Gen

theorem algebraic : Cert.algebraic_Kernel7Ideal_Reference7Ideal := by
  intro m g m' g' hpre hag
  refine ⟨fun c => (dats m 0 c).arrAt 2 cfg0.N, Cert.Kernel7Ideal.Value.run_blocks m g,
    (θ_run _ _ _).mono (fun r hr c => ?_) (Cert.Reference7Ideal.Value.run m' g')⟩
  obtain ⟨e0, k⟩ := hr c
  obtain ⟨a0, a1⟩ := hag c
  refine ⟨e0.trans ?_, k⟩
  rw [a0, a1]
  refine (Cert.Reference7Ideal.Read.val_main_v5_eq _ _).trans ?_
  show _ = (dats m 0 c).arrAt 2 cfg0.N
  rw [final2]
  funext j
  obtain ⟨r, k, rfl⟩ : ∃ (r : Fin 3072) (k : Fin 1024), j = ix2 r k := ⟨_, _, eq_ix2 j⟩
  exact Cert.Reference7Ideal.Prod.ref_at _ _ r k

end Cert.Kernel7Ideal.Prod

end
-- ==== Proof.Prod8.lean ====
module
public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim
public import Idealize.ShloMosaic.Lib.WritesUnit
public import Idealize.ShloMosaic.Lib.Pipeline.ReadBack
/-! # The gradient of 2048 columns of the input projection -/
@[expose] public section
set_option maxRecDepth 16384
noncomputable section
open Idealize.ShloMosaic Idealize.ShloMosaic.TcCoe Idealize.SL.Sem
open Idealize.ShloMosaic.Pipeline (Dat)
namespace Cert.Kernel8Ideal.Prod
open Cert.Kernel8Ideal Cert.Kernel8Ideal.Gen
variable (m : (ℓ : Loc nD τ sig) → Buf (Elt Ideal) ℓ)

/-- The argument arrays. -/
abbrev aX (c : Dev nD) : FVec Ideal S8192x1024 .f32 := m ((c : Thread nD τ).loc main_arg0)
abbrev aD (c : Dev nD) : FVec Ideal S8192x2048 .bf16 := m ((c : Thread nD τ).loc main_arg1)

theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- Token `q` of tile `t` and row `r` of its block, in the whole arrays. -/
def tok (t : Fin cfg0.N) (q : Fin 2048) : Fin 8192 := ⟨t.val % 4 * 2048 + q.val, by omega⟩
def row_ (t : Fin cfg0.N) (r : Fin 1024) : Fin 2048 := ⟨t.val / 4 * 1024 + r.val, by have : t.val < 8 := lt_of_lt_of_eq t.isLt N_0; omega⟩

/-- The blocks of the two factors at tile `t`. -/
abbrev b0 (c : Dev nD) (t : Fin cfg0.N) : FVec Ideal S2048x1024 .bf16 := iblk m c 0 t
abbrev b1 (c : Dev nD) (t : Fin cfg0.N) : FVec Ideal S2048x1024 .bf16 := iblk m c 1 t

theorem blk0 (c : Dev nD) (t : Fin cfg0.N) (q : Fin 2048) (r : Fin 1024) : b0 m c t (ix2 q r) = aD m c (ix2 (tok t q) (row_ t r)) := by
  blk_ext [iblk, V, idx_val t, tok, row_]
theorem blk1 (c : Dev nD) (t : Fin cfg0.N) (q : Fin 2048) (k : Fin 1024) : b1 m c t (ix2 q k) = aX m c (ix2 (tok t q) k) := by
  blk_simp [iblk, idx_val t]; entry_read; pointwise; blk_ext [idx_val t, tok]

/-- One step of the accumulation. -/
theorem pay_at (acc : FVec Ideal S1024x1024 .f32) (x w : FVec Ideal S2048x1024 .bf16) (r k : Fin 1024) :
    k0_pay2 (F := Ideal) acc x w (ix2 r k) = acc (ix2 r k) + ∑ q : Fin 2048, x (ix2 q r) * w (ix2 q k) := by
  pointwise [k0_pay2]

theorem zero_at (j : S1024x1024.Idx) : k0_pay1 (F := Ideal) j = 0 := by
  pointwise [k0_pay1]

theorem final2 (c : Dev nD) : (dats m 0 c).arrAt 2 cfg0.N
    = fun j : S2048x1024.Idx => ∑ q : Fin 8192, aD m c (ix2 q (j 0)) * aX m c (ix2 q (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) k : S2048x1024.Idx) := by blk_ext [idx_val t, row_]
  rw [ei]
  blk_simp
  rw [after0_2]
  rw [Pipeline.eq_sum_fin_of_reset_step_apply_of_flush (fun n h => outsAt0 m c n h) 4 (fun _ => 0)
    (fun t j => ∑ q : Fin 2048, b0 m c t (ix2 q (j 0)) * b1 m c t (ix2 q (j 1)))
    (fun t h j => by
      obtain ⟨r, k, rfl⟩ : ∃ (r : Fin 1024) (k : Fin 1024), j = ix2 r k := ⟨_, _, eq_ix2 j⟩
      rw [outsAt0_A m c t h]; frame_out; rw [pay_at, zero_at]; rfl)
    (fun t h j => by
      obtain ⟨r, k, rfl⟩ : ∃ (r : Fin 1024) (k : Fin 1024), j = ix2 r k := ⟨_, _, eq_ix2 j⟩
      rw [outsAt0_B m c t h]; frame_out; rw [pay_at]; rfl) t ((flush0_2 t).mp hf) (ix2 r k), zero_add]
  have ht : t.val < 8 := lt_of_lt_of_eq t.isLt N_0
  refine Fin.sum_mul_add_congr (S := 4) (n := 2048) fun s q hl => ?_
  have e1 : ∀ h, tok ⟨4 * (t.val / 4) + s.val, h⟩ q = ⟨s.val * 2048 + q.val, hl⟩ := fun h => by
    apply Fin.ext; show (4 * (t.val / 4) + s.val) % 4 * 2048 + q.val = _; congr 2; omega
  have e2 : ∀ h, row_ ⟨4 * (t.val / 4) + s.val, h⟩ r = row_ t r := fun h => by
    apply Fin.ext; show (4 * (t.val / 4) + s.val) / 4 * 1024 + r.val = t.val / 4 * 1024 + r.val; congr 2; omega
  show b0 m c _ (ix2 q r) * b1 m c _ (ix2 q k) = aD m c (ix2 _ (row_ t r)) * aX m c (ix2 _ k)
  rw [blk0 m c, blk1 m c, e1, e2]

end Cert.Kernel8Ideal.Prod

namespace Cert.Reference8Ideal.Prod
open Cert.Reference8Ideal Cert.Reference8Ideal.Read

theorem ref_at (x : FVec Ideal S8192x1024 .f32) (d : FVec Ideal S8192x2048 .bf16) (r : Fin 2048) (k : Fin 1024) :
    val_main_v5 (F := Ideal) x d (ix2 r k) = ∑ q : Fin 8192, d (ix2 q r) * x (ix2 q k) := by
  pointwise [val_main_v2, val_main_v3, val_main_v4, val_main_v5]

theorem frame_ref : Cert.quiescent_Reference8Ideal := fun m ρ _ =>
  (θ_run _ _ _).mono (fun r h => And.intro (fun c => (h c).2)
    (sem_eq_zero_of_no_sems (by decide) r.2)) (Cert.Reference8Ideal.Value.run (F := Ideal) m ρ)

end Cert.Reference8Ideal.Prod

namespace Cert.Kernel8Ideal.Prod
open Cert.Kernel8Ideal Cert.Kernel8Ideal.Gen

theorem algebraic : Cert.algebraic_Kernel8Ideal_Reference8Ideal := by
  intro m g m' g' hpre hag
  refine ⟨fun c => (dats m 0 c).arrAt 2 cfg0.N, Cert.Kernel8Ideal.Value.run_blocks m g,
    (θ_run _ _ _).mono (fun r hr c => ?_) (Cert.Reference8Ideal.Value.run m' g')⟩
  obtain ⟨e0, k⟩ := hr c
  obtain ⟨a0, a1⟩ := hag c
  refine ⟨e0.trans ?_, k⟩
  rw [a0, a1]
  refine (Cert.Reference8Ideal.Read.val_main_v5_eq _ _).trans ?_
  show _ = (dats m 0 c).arrAt 2 cfg0.N
  rw [final2]
  funext j
  obtain ⟨r, k, rfl⟩ : ∃ (r : Fin 2048) (k : Fin 1024), j = ix2 r k := ⟨_, _, eq_ix2 j⟩
  exact Cert.Reference8Ideal.Prod.ref_at _ _ r k

end Cert.Kernel8Ideal.Prod

end
-- ==== Proof.Prod9.lean ====
module
public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Claim
public import Idealize.ShloMosaic.Lib.WritesUnit
public import Idealize.ShloMosaic.Lib.Pipeline.ReadBack
/-! # The gradient of 1024 columns of the input projection -/
@[expose] public section
set_option maxRecDepth 16384
noncomputable section
open Idealize.ShloMosaic Idealize.ShloMosaic.TcCoe Idealize.SL.Sem
open Idealize.ShloMosaic.Pipeline (Dat)
namespace Cert.Kernel9Ideal.Prod
open Cert.Kernel9Ideal Cert.Kernel9Ideal.Gen
variable (m : (ℓ : Loc nD τ sig) → Buf (Elt Ideal) ℓ)

/-- The argument arrays. -/
abbrev aX (c : Dev nD) : FVec Ideal S8192x1024 .f32 := m ((c : Thread nD τ).loc main_arg0)
abbrev aD (c : Dev nD) : FVec Ideal S8192x1024 .bf16 := m ((c : Thread nD τ).loc main_arg1)

theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- Token `q` of tile `t` and row `r` of its block, in the whole arrays. -/
def tok (t : Fin cfg0.N) (q : Fin 2048) : Fin 8192 := ⟨t.val % 4 * 2048 + q.val, by omega⟩
def row_ (t : Fin cfg0.N) (r : Fin 1024) : Fin 1024 := ⟨t.val / 4 * 1024 + r.val, by have : t.val < 4 := lt_of_lt_of_eq t.isLt N_0; omega⟩

/-- The blocks of the two factors at tile `t`. -/
abbrev b0 (c : Dev nD) (t : Fin cfg0.N) : FVec Ideal S2048x1024 .bf16 := iblk m c 0 t
abbrev b1 (c : Dev nD) (t : Fin cfg0.N) : FVec Ideal S2048x1024 .bf16 := iblk m c 1 t

theorem blk0 (c : Dev nD) (t : Fin cfg0.N) (q : Fin 2048) (r : Fin 1024) : b0 m c t (ix2 q r) = aD m c (ix2 (tok t q) (row_ t r)) := by
  blk_ext [iblk, V, idx_val t, tok, row_]
theorem blk1 (c : Dev nD) (t : Fin cfg0.N) (q : Fin 2048) (k : Fin 1024) : b1 m c t (ix2 q k) = aX m c (ix2 (tok t q) k) := by
  blk_simp [iblk, idx_val t]; entry_read; pointwise; blk_ext [idx_val t, tok]

/-- One step of the accumulation. -/
theorem pay_at (acc : FVec Ideal S1024x1024 .f32) (x w : FVec Ideal S2048x1024 .bf16) (r k : Fin 1024) :
    k0_pay2 (F := Ideal) acc x w (ix2 r k) = acc (ix2 r k) + ∑ q : Fin 2048, x (ix2 q r) * w (ix2 q k) := by
  pointwise [k0_pay2]

theorem zero_at (j : S1024x1024.Idx) : k0_pay1 (F := Ideal) j = 0 := by
  pointwise [k0_pay1]

theorem final2 (c : Dev nD) : (dats m 0 c).arrAt 2 cfg0.N
    = fun j : S1024x1024.Idx => ∑ q : Fin 8192, aD m c (ix2 q (j 0)) * aX m c (ix2 q (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) k : S1024x1024.Idx) := by blk_ext [idx_val t, row_]
  rw [ei]
  blk_simp
  rw [after0_2]
  rw [Pipeline.eq_sum_fin_of_reset_step_apply_of_flush (fun n h => outsAt0 m c n h) 4 (fun _ => 0)
    (fun t j => ∑ q : Fin 2048, b0 m c t (ix2 q (j 0)) * b1 m c t (ix2 q (j 1)))
    (fun t h j => by
      obtain ⟨r, k, rfl⟩ : ∃ (r : Fin 1024) (k : Fin 1024), j = ix2 r k := ⟨_, _, eq_ix2 j⟩
      rw [outsAt0_A m c t h]; frame_out; rw [pay_at, zero_at]; rfl)
    (fun t h j => by
      obtain ⟨r, k, rfl⟩ : ∃ (r : Fin 1024) (k : Fin 1024), j = ix2 r k := ⟨_, _, eq_ix2 j⟩
      rw [outsAt0_B m c t h]; frame_out; rw [pay_at]; rfl) t ((flush0_2 t).mp hf) (ix2 r k), zero_add]
  have ht : t.val < 4 := lt_of_lt_of_eq t.isLt N_0
  refine Fin.sum_mul_add_congr (S := 4) (n := 2048) fun s q hl => ?_
  have e1 : ∀ h, tok ⟨4 * (t.val / 4) + s.val, h⟩ q = ⟨s.val * 2048 + q.val, hl⟩ := fun h => by
    apply Fin.ext; show (4 * (t.val / 4) + s.val) % 4 * 2048 + q.val = _; congr 2; omega
  have e2 : ∀ h, row_ ⟨4 * (t.val / 4) + s.val, h⟩ r = row_ t r := fun h => by
    apply Fin.ext; show (4 * (t.val / 4) + s.val) / 4 * 1024 + r.val = t.val / 4 * 1024 + r.val; congr 2; omega
  show b0 m c _ (ix2 q r) * b1 m c _ (ix2 q k) = aD m c (ix2 _ (row_ t r)) * aX m c (ix2 _ k)
  rw [blk0 m c, blk1 m c, e1, e2]

end Cert.Kernel9Ideal.Prod

namespace Cert.Reference9Ideal.Prod
open Cert.Reference9Ideal Cert.Reference9Ideal.Read

theorem ref_at (x : FVec Ideal S8192x1024 .f32) (d : FVec Ideal S8192x1024 .bf16) (r : Fin 1024) (k : Fin 1024) :
    val_main_v5 (F := Ideal) x d (ix2 r k) = ∑ q : Fin 8192, d (ix2 q r) * x (ix2 q k) := by
  pointwise [val_main_v2, val_main_v3, val_main_v4, val_main_v5]

theorem frame_ref : Cert.quiescent_Reference9Ideal := fun m ρ _ =>
  (θ_run _ _ _).mono (fun r h => And.intro (fun c => (h c).2)
    (sem_eq_zero_of_no_sems (by decide) r.2)) (Cert.Reference9Ideal.Value.run (F := Ideal) m ρ)

end Cert.Reference9Ideal.Prod

namespace Cert.Kernel9Ideal.Prod
open Cert.Kernel9Ideal Cert.Kernel9Ideal.Gen

theorem algebraic : Cert.algebraic_Kernel9Ideal_Reference9Ideal := by
  intro m g m' g' hpre hag
  refine ⟨fun c => (dats m 0 c).arrAt 2 cfg0.N, Cert.Kernel9Ideal.Value.run_blocks m g,
    (θ_run _ _ _).mono (fun r hr c => ?_) (Cert.Reference9Ideal.Value.run m' g')⟩
  obtain ⟨e0, k⟩ := hr c
  obtain ⟨a0, a1⟩ := hag c
  refine ⟨e0.trans ?_, k⟩
  rw [a0, a1]
  refine (Cert.Reference9Ideal.Read.val_main_v5_eq _ _).trans ?_
  show _ = (dats m 0 c).arrAt 2 cfg0.N
  rw [final2]
  funext j
  obtain ⟨r, k, rfl⟩ : ∃ (r : Fin 1024) (k : Fin 1024), j = ix2 r k := ⟨_, _, eq_ix2 j⟩
  exact Cert.Reference9Ideal.Prod.ref_at _ _ r k

end Cert.Kernel9Ideal.Prod

end
-- ==== Proof.Prod10.lean ====
module
public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim
public import Idealize.ShloMosaic.Lib.WritesUnit
public import Idealize.ShloMosaic.Lib.Pipeline.ReadBack
/-! # The gradient of a square weight -/
@[expose] public section
set_option maxRecDepth 16384
noncomputable section
open Idealize.ShloMosaic Idealize.ShloMosaic.TcCoe Idealize.SL.Sem
open Idealize.ShloMosaic.Pipeline (Dat)
namespace Cert.Kernel10Ideal.Prod
open Cert.Kernel10Ideal Cert.Kernel10Ideal.Gen
variable (m : (ℓ : Loc nD τ sig) → Buf (Elt Ideal) ℓ)

/-- The argument arrays. -/
abbrev aX (c : Dev nD) : FVec Ideal S8192x1024 .bf16 := m ((c : Thread nD τ).loc main_arg0)
abbrev aD (c : Dev nD) : FVec Ideal S8192x1024 .bf16 := m ((c : Thread nD τ).loc main_arg1)

theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- Token `q` of tile `t` and row `r` of its block, in the whole arrays. -/
def tok (t : Fin cfg0.N) (q : Fin 2048) : Fin 8192 := ⟨t.val % 4 * 2048 + q.val, by omega⟩
def row_ (t : Fin cfg0.N) (r : Fin 1024) : Fin 1024 := ⟨t.val / 4 * 1024 + r.val, by have : t.val < 4 := lt_of_lt_of_eq t.isLt N_0; omega⟩

/-- The blocks of the two factors at tile `t`. -/
abbrev b0 (c : Dev nD) (t : Fin cfg0.N) : FVec Ideal S2048x1024 .bf16 := iblk m c 0 t
abbrev b1 (c : Dev nD) (t : Fin cfg0.N) : FVec Ideal S2048x1024 .bf16 := iblk m c 1 t

theorem blk0 (c : Dev nD) (t : Fin cfg0.N) (q : Fin 2048) (r : Fin 1024) : b0 m c t (ix2 q r) = aX m c (ix2 (tok t q) (row_ t r)) := by
  blk_ext [iblk, V, idx_val t, tok, row_]
theorem blk1 (c : Dev nD) (t : Fin cfg0.N) (q : Fin 2048) (k : Fin 1024) : b1 m c t (ix2 q k) = aD m c (ix2 (tok t q) k) := by
  blk_ext [iblk, V, idx_val t, tok]

/-- One step of the accumulation. -/
theorem pay_at (acc : FVec Ideal S1024x1024 .f32) (x w : FVec Ideal S2048x1024 .bf16) (r k : Fin 1024) :
    k0_pay2 (F := Ideal) acc x w (ix2 r k) = acc (ix2 r k) + ∑ q : Fin 2048, x (ix2 q r) * w (ix2 q k) := by
  pointwise [k0_pay2]

theorem zero_at (j : S1024x1024.Idx) : k0_pay1 (F := Ideal) j = 0 := by
  pointwise [k0_pay1]

theorem final2 (c : Dev nD) : (dats m 0 c).arrAt 2 cfg0.N
    = fun j : S1024x1024.Idx => ∑ q : Fin 8192, aX m c (ix2 q (j 0)) * aD m c (ix2 q (j 1)) := by
  refine (dats m 0 c).arrAt_eq_of_covers 2 _ (by decide +kernel) fun t hf y => ?_
  obtain ⟨r, k, rfl⟩ : ∃ (r : Fin 1024) (k : Fin 1024), y = ix2 r k := ⟨_, _, eq_ix2 y⟩
  have ei : ((cfg0.win 2).blk t).view.emb (ix2 r k) = (ix2 (row_ t r) k : S1024x1024.Idx) := by blk_ext [idx_val t, row_]
  rw [ei]
  blk_simp
  rw [after0_2]
  rw [Pipeline.eq_sum_fin_of_reset_step_apply_of_flush (fun n h => outsAt0 m c n h) 4 (fun _ => 0)
    (fun t j => ∑ q : Fin 2048, b0 m c t (ix2 q (j 0)) * b1 m c t (ix2 q (j 1)))
    (fun t h j => by
      obtain ⟨r, k, rfl⟩ : ∃ (r : Fin 1024) (k : Fin 1024), j = ix2 r k := ⟨_, _, eq_ix2 j⟩
      rw [outsAt0_A m c t h]; frame_out; rw [pay_at, zero_at]; rfl)
    (fun t h j => by
      obtain ⟨r, k, rfl⟩ : ∃ (r : Fin 1024) (k : Fin 1024), j = ix2 r k := ⟨_, _, eq_ix2 j⟩
      rw [outsAt0_B m c t h]; frame_out; rw [pay_at]; rfl) t ((flush0_2 t).mp hf) (ix2 r k), zero_add]
  have ht : t.val < 4 := lt_of_lt_of_eq t.isLt N_0
  refine Fin.sum_mul_add_congr (S := 4) (n := 2048) fun s q hl => ?_
  have e1 : ∀ h, tok ⟨4 * (t.val / 4) + s.val, h⟩ q = ⟨s.val * 2048 + q.val, hl⟩ := fun h => by
    apply Fin.ext; show (4 * (t.val / 4) + s.val) % 4 * 2048 + q.val = _; congr 2; omega
  have e2 : ∀ h, row_ ⟨4 * (t.val / 4) + s.val, h⟩ r = row_ t r := fun h => by
    apply Fin.ext; show (4 * (t.val / 4) + s.val) / 4 * 1024 + r.val = t.val / 4 * 1024 + r.val; congr 2; omega
  show b0 m c _ (ix2 q r) * b1 m c _ (ix2 q k) = aX m c (ix2 _ (row_ t r)) * aD m c (ix2 _ k)
  rw [blk0 m c, blk1 m c, e1, e2]

end Cert.Kernel10Ideal.Prod

namespace Cert.Reference10Ideal.Prod
open Cert.Reference10Ideal Cert.Reference10Ideal.Read

theorem ref_at (x : FVec Ideal S8192x1024 .bf16) (d : FVec Ideal S8192x1024 .bf16) (r : Fin 1024) (k : Fin 1024) :
    val_main_v5 (F := Ideal) x d (ix2 r k) = ∑ q : Fin 8192, x (ix2 q r) * d (ix2 q k) := by
  pointwise [val_main_v1, val_main_v3, val_main_v4, val_main_v5]; exact Finset.sum_congr rfl fun q _ => mul_comm _ _

theorem frame_ref : Cert.quiescent_Reference10Ideal := fun m ρ _ =>
  (θ_run _ _ _).mono (fun r h => And.intro (fun c => (h c).2)
    (sem_eq_zero_of_no_sems (by decide) r.2)) (Cert.Reference10Ideal.Value.run (F := Ideal) m ρ)

end Cert.Reference10Ideal.Prod

namespace Cert.Kernel10Ideal.Prod
open Cert.Kernel10Ideal Cert.Kernel10Ideal.Gen

theorem algebraic : Cert.algebraic_Kernel10Ideal_Reference10Ideal := by
  intro m g m' g' hpre hag
  refine ⟨fun c => (dats m 0 c).arrAt 2 cfg0.N, Cert.Kernel10Ideal.Value.run_blocks m g,
    (θ_run _ _ _).mono (fun r hr c => ?_) (Cert.Reference10Ideal.Value.run m' g')⟩
  obtain ⟨e0, k⟩ := hr c
  obtain ⟨a0, a1⟩ := hag c
  refine ⟨e0.trans ?_, k⟩
  rw [a0, a1]
  refine (Cert.Reference10Ideal.Read.val_main_v5_eq _ _).trans ?_
  show _ = (dats m 0 c).arrAt 2 cfg0.N
  rw [final2]
  funext j
  obtain ⟨r, k, rfl⟩ : ∃ (r : Fin 1024) (k : Fin 1024), j = ix2 r k := ⟨_, _, eq_ix2 j⟩
  exact Cert.Reference10Ideal.Prod.ref_at _ _ r k

end Cert.Kernel10Ideal.Prod

end
-- ==== Proof.Fwd11.lean ====
module
public import proofs.«01_k».proof.Defs
public import proofs.«01_k».proof.Proof.PostPure
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Claim
public import Idealize.ShloMosaic.Lib.WritesUnit
public import Idealize.ShloMosaic.Lib.Pipeline.ReadBack
/-! # The gated RMS norm and the product behind it -/
@[expose] public section
set_option maxRecDepth 16384
noncomputable section
open Idealize.ShloMosaic Idealize.ShloMosaic.TcCoe Idealize.SL.Sem
open Idealize.ShloMosaic.Pipeline (Dat)
namespace Cert.Kernel11Ideal.Fwd
open Cert.Kernel11Ideal Cert.Kernel11Ideal.Gen Cert.Post
open Cert.Kernel2Ideal.Post (row conc8 irms_eq)
variable (m : (ℓ : Loc nD τ sig) → Buf (Elt Ideal) ℓ)

/-- The gated row: normalised head by head, times the gain, times the gate. -/
def gated (o z g : Row) : Row := fun c => nrm o c * g c * (z c * sg (z c))

theorem nrm_at (x : FVec Ideal S512x1024 .f32) (r : Fin 512) (c : Fin 1024) :
    k0_pay7 (F := Ideal) x (k0_pay3 x) (k0_pay4 x) (k0_pay5 x) (k0_pay6 x) (ix2 r c) = nrm (row x r) c := by
  rw [k0_pay7]
  refine conc8 (fun r c => nrm (row x r) c) _ _ _ _ _ _ _ _ _ r c ?_ ?_ ?_ ?_ ?_ ?_ ?_ ?_ <;> intro l
  all_goals
    pointwise [k0_pay3, k0_pay4, k0_pay5, k0_pay6, nrm]
    exact congrArg _ (irms_eq (row x r) _ _ fun k => by simp only []; omega)

theorem og_at (n z : FVec Ideal S512x1024 .f32) (g : FVec Ideal S1x1024 .f32) (r : Fin 512) (c : Fin 1024) :
    k0_pay1 (F := Ideal) n z g (ix2 r c) = row n r c * row g 0 c * (row z r c * sg (row z r c)) := by
  pointwise [k0_pay1, sg]
  simp only [zero_sub]

theorem y_at (n z : FVec Ideal S512x1024 .f32) (g : FVec Ideal S1x1024 .f32) (w : FVec Ideal S1024x1024 .bf16) (r : Fin 512) (c : Fin 1024) :
    k0_pay2 (F := Ideal) n z g w (ix2 r c) = ∑ k, k0_pay1 (F := Ideal) n z g (ix2 r k) * w (ix2 k c) := by
  pointwise [k0_pay2]

/-- The argument arrays. -/
abbrev aO (c : Dev nD) : FVec Ideal S8192x1024 .f32 := m ((c : Thread nD τ).loc main_arg0)
abbrev aZ (c : Dev nD) : FVec Ideal S8192x1024 .f32 := m ((c : Thread nD τ).loc main_arg1)
abbrev aG (c : Dev nD) : FVec Ideal S128 .f32 := m ((c : Thread nD τ).loc main_arg2)
abbrev aW (c : Dev nD) : FVec Ideal S1024x1024 .f32 := m ((c : Thread nD τ).loc main_arg3)

theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Row `r` of tile `t`, as a row of the whole array. -/
def at_ (t : Fin cfg0.N) (r : Fin 512) : Fin 8192 := ⟨t.val * 512 + r.val, by have : t.val < 16 := lt_of_lt_of_eq t.isLt N_0; omega⟩

/-- The blocks of the arguments at tile `t`. -/
abbrev b0 (c : Dev nD) (t : Fin cfg0.N) : FVec Ideal S512x1024 .f32 := iblk m c 0 t
abbrev b1 (c : Dev nD) (t : Fin cfg0.N) : FVec Ideal S512x1024 .f32 := iblk m c 1 t
abbrev b2 (c : Dev nD) (t : Fin cfg0.N) : FVec Ideal S1x1024 .f32 := iblk m c 2 t
abbrev b3 (c : Dev nD) (t : Fin cfg0.N) : FVec Ideal S1024x1024 .bf16 := iblk m c 3 t

/-- The gain, repeated for every head. -/
def gain (g : FVec Ideal S128 .f32) : Row := fun k => g (ix1 ⟨k.val % 128, Nat.mod_lt _ (by decide)⟩)

theorem blk0 (c : Dev nD) (t : Fin cfg0.N) (r : Fin 512) : row (b0 m c t) r = row (aO m c) (at_ t r) := by
  funext k; simp only [row]; blk_ext [iblk, V, idx_val t, at_]
theorem blk1 (c : Dev nD) (t : Fin cfg0.N) (r : Fin 512) : row (b1 m c t) r = row (aZ m c) (at_ t r) := by
  funext k; simp only [row]; blk_ext [iblk, V, idx_val t, at_]
theorem blk2 (c : Dev nD) (t : Fin cfg0.N) : row (b2 m c t) 0 = gain (aG m c) := by
  funext k; simp only [row, gain]; blk_simp [iblk, idx_val t]; entry_read; pointwise; blk_ext [idx_val t]
theorem blk3 (c : Dev nD) (t : Fin cfg0.N) (r k : Fin 1024) : b3 m c t (ix2 r k) = aW m c (ix2 r k) := by
  blk_simp [iblk, idx_val t]; entry_read; pointwise; blk_ext [idx_val t]

/-- The gated row of token `r`. -/
def gatedOf (o z : FVec Ideal S8192x1024 .f32) (g : FVec Ideal S128 .f32) (r : Fin 8192) : Row := gated (row o r) (row z r) (gain g)

theorem tile_og (c : Dev nD) (t : Fin cfg0.N) (r : Fin 512) (k : Fin 1024) :
    k0_pay1 (F := Ideal) (k0_pay7 (b0 m c t) (k0_pay3 (b0 m c t)) (k0_pay4 (b0 m c t)) (k0_pay5 (b0 m c t)) (k0_pay6 (b0 m c t))) (b1 m c t) (b2 m c t) (ix2 r k)
      = gatedOf (aO m c) (aZ m c) (aG m c) (at_ t r) k := by
  rw [og_at, blk1, blk2]
  show k0_pay7 (F := Ideal) _ _ _ _ _ (ix2 r k) * _ * _ = _
  rw [nrm_at, blk0]; rfl

theorem tile_y (c : Dev nD) (t : Fin cfg0.N) (r : Fin 512) (k : Fin 1024) :
    k0_pay2 (F := Ideal) (k0_pay7 (b0 m c t) (k0_pay3 (b0 m c t)) (k0_pay4 (b0 m c t)) (k0_pay5 (b0 m c t)) (k0_pay6 (b0 m c t))) (b1 m c t) (b2 m c t) (b3 m c t) (ix2 r k)
      = ∑ q : Fin 1024, gatedOf (aO m c) (aZ m c) (aG m c) (at_ t r) q * aW m c (ix2 q k) := by
  rw [y_at]
  exact Finset.sum_congr rfl fun q _ => by rw [tile_og, blk3]

set_option maxHeartbeats 1600000 in
theorem final4 (c : Dev nD) : (dats m 0 c).arrAt 4 cfg0.N
    = fun j : S8192x1024.Idx => gatedOf (aO m c) (aZ m c) (aG m c) (j 0) (j 1) := by
  refine (dats m 0 c).arrAt_eq_of_covers 4 _ (by decide +kernel) fun t hf y => ?_
  obtain ⟨r, k, rfl⟩ : ∃ (r : Fin 512) (k : Fin 1024), y = ix2 r k := ⟨_, _, eq_ix2 y⟩
  have ei : ((cfg0.win 4).blk t).view.emb (ix2 r k) = (ix2 (at_ t r) k : S8192x1024.Idx) := by blk_ext [idx_val t, at_]
  have key := tile_og m c t r k
  rw [ei]
  blk_simp
  rw [after0_4]
  refine Eq.trans ?_ key
  frame_out
  rw [k0_pay8]; frame_out

set_option maxHeartbeats 1600000 in
theorem final5 (c : Dev nD) : (dats m 0 c).arrAt 5 cfg0.N
    = fun j : S8192x1024.Idx => ∑ q : Fin 1024, gatedOf (aO m c) (aZ m c) (aG m c) (j 0) q * aW m c (ix2 q (j 1)) := by
  refine (dats m 0 c).arrAt_eq_of_covers 5 _ (by decide +kernel) fun t hf y => ?_
  obtain ⟨r, k, rfl⟩ : ∃ (r : Fin 512) (k : Fin 1024), y = ix2 r k := ⟨_, _, eq_ix2 y⟩
  have ei : ((cfg0.win 5).blk t).view.emb (ix2 r k) = (ix2 (at_ t r) k : S8192x1024.Idx) := by blk_ext [idx_val t, at_]
  have key := tile_y m c t r k
  rw [ei]
  blk_simp
  rw [after0_5]
  refine Eq.trans ?_ key
  frame_out
  rw [k0_pay8]; frame_out

end Cert.Kernel11Ideal.Fwd

namespace Cert.Reference11Ideal.Fwd
open Cert.Reference11Ideal Cert.Reference11Ideal.Read Cert.Post
open Cert.Kernel2Ideal.Post (row col)
open Cert.Kernel11Ideal.Fwd (gatedOf gated gain)
variable (o z : FVec Ideal S8192x1024 .f32) (g : FVec Ideal S128 .f32) (w : FVec Ideal S1024x1024 .f32)

theorem lane_col (h : Fin 8) (l x : Fin 128) : lane (col h l) x = col h x := by
  apply Fin.ext; simp only [lane, col]; omega

/-- A column as head and lane. -/
theorem col_div (c : Fin 1024) : col ⟨(c : ℕ) / 128, by omega⟩ ⟨(c : ℕ) % 128, by omega⟩ = c := by
  apply Fin.ext; simp only [col]; omega

theorem v0_at (r : Fin 8192) (h : Fin 8) (l : Fin 128) : val_main_v0 (F := Ideal) o (ix3 r h l) = row o r (col h l) := by
  pointwise [val_main_v0]; rfl

theorem v8_at (r : Fin 8192) (h : Fin 8) (l : Fin 128) : val_main_v8 (F := Ideal) o (ix3 r h 0) = irms (row o r) (col h l) := by
  pointwise [val_main_v8, val_main_v7, val_main_v6, val_main_v5, val_main_v4, val_main_v3, val_main_v2, val_main_v1, v0_at, val_main_cst_1, val_main_cst, val_main_cst_0]
  simp only [irms, lane_col]; rfl

theorem v13_at (r : Fin 8192) (h : Fin 8) (l : Fin 128) : val_main_v13 (F := Ideal) o g (ix3 r h l) = nrm (row o r) (col h l) * g (ix1 l) := by
  pointwise [val_main_v13, val_main_v12, val_main_v11, val_main_v10, val_main_v9, v8_at _ _ _ l, v0_at]
  rfl

theorem silu_at (r : Fin 8192) (k : Fin 1024) : val_main_v15 (F := Ideal) z (ix2 r k) = row z r k * sg (row z r k) := by
  pointwise [val_main_v15, val_main_call0_v5, val_main_call0_v4, val_main_call0_v3, val_main_call0_v2, val_main_call0_v1, val_main_call0_v0, val_main_call0_cst, val_main_call0_cst_0]
  rfl

theorem v16_at (r : Fin 8192) (c : Fin 1024) : val_main_v16 (F := Ideal) o z g (ix2 r c) = gatedOf o z g r c := by
  pointwise [val_main_v16, val_main_v14, v13_at, silu_at]
  rw [col_div]; rfl

theorem v17_at (r : Fin 8192) (c : Fin 1024) : val_main_v17 (F := Ideal) o z g (ix2 r c) = gatedOf o z g r c := by
  pointwise [val_main_v17, v16_at]

theorem v18_at (r : Fin 8192) (c : Fin 1024) : val_main_v18 (F := Ideal) o z g w (ix2 r c) = ∑ q : Fin 1024, gatedOf o z g r q * w (ix2 q c) := by
  pointwise [val_main_v18, v16_at]

/-- The reference runs, leaves its arguments as they were, and has no semaphore to leave raised. -/
theorem frame_ref : Cert.quiescent_Reference11Ideal := fun m ρ _ =>
  (θ_run _ _ _).mono (fun r h => And.intro (fun c => (h c).2.2)
    (sem_eq_zero_of_no_sems (by decide) r.2)) (Cert.Reference11Ideal.Value.run (F := Ideal) m ρ)

end Cert.Reference11Ideal.Fwd

namespace Cert.Kernel11Ideal.Fwd
open Cert.Kernel11Ideal Cert.Kernel11Ideal.Gen

/-- From memories that agree on the arguments, both programs end with equal results and with the arguments unchanged. -/
theorem algebraic : Cert.algebraic_Kernel11Ideal_Reference11Ideal := by
  intro m g m' g' hpre hag
  refine ⟨fun c => (dats m 0 c).arrAt 4 cfg0.N, fun c => (dats m 0 c).arrAt 5 cfg0.N, Cert.Kernel11Ideal.Value.run_blocks m g,
    (θ_run _ _ _).mono (fun r hr c => ?_) (Cert.Reference11Ideal.Value.run m' g')⟩
  obtain ⟨e0, e1, k⟩ := hr c
  obtain ⟨a0, a1, a2, a3⟩ := hag c
  refine ⟨e0.trans ?_, e1.trans ?_, k⟩
  · rw [a0, a1, a2]
    refine (Cert.Reference11Ideal.Read.val_main_v17_eq _ _ _).trans ?_
    show _ = (dats m 0 c).arrAt 4 cfg0.N
    rw [final4]
    funext j
    obtain ⟨r, k, rfl⟩ : ∃ (r : Fin 8192) (k : Fin 1024), j = ix2 r k := ⟨_, _, eq_ix2 j⟩
    exact Cert.Reference11Ideal.Fwd.v17_at _ _ _ r k
  · rw [a0, a1, a2, a3]
    refine (Cert.Reference11Ideal.Read.val_main_v18_eq _ _ _ _).trans ?_
    show _ = (dats m 0 c).arrAt 5 cfg0.N
    rw [final5]
    funext j
    obtain ⟨r, k, rfl⟩ : ∃ (r : Fin 8192) (k : Fin 1024), j = ix2 r k := ⟨_, _, eq_ix2 j⟩
    exact Cert.Reference11Ideal.Fwd.v18_at _ _ _ _ r k

end Cert.Kernel11Ideal.Fwd

end
-- ==== Proof.MergePure.lean ====
module
public import proofs.«01_k».proof.Proof.Gen.Kernel12Ideal.Skeleton
public import proofs.«01_k».proof.Proof.PostPure
public import Idealize.ShloMosaic.Lib.Pointwise
/-! # The merge, the norm and the loss, one row at a time

What the kernel's payloads hold at row `r` and column `k` of a tile, as formulas of rows, over the extended reals. -/
@[expose] public section
set_option maxRecDepth 16384
noncomputable section
open Idealize.ShloMosaic Idealize.ShloMosaic.TcCoe
namespace Cert.Merge
open Cert.Post (Row sg)
open Cert.Kernel2Ideal.Post (row)

/-- The number 1024, the norm's small addend and the residual's factor, as their float words. -/
def n1024 : EReal := Ideal.ofBits .f32 0x44800000#32
def eps : EReal := Ideal.ofBits .f32 0x3727C5AC#32
def cc : EReal := Ideal.ofBits .f32 0x3F9837F0#32
/-- The factors of the loss and of its gradient that the kernel holds. -/
def kLoss : EReal := Ideal.ofBits .f32 0x3A000000#32
def kGrad : EReal := Ideal.ofBits .f32 0x3A800000#32

/-- The merged branches. -/
def hRow (a b yc yg : Row) : Row := fun k => sg (a k) * yc k + sg (b k) * yg k
/-- The residual stream before its norm. -/
def zRow (x h : Row) (w : Fin 1024 → Row) : Row := fun k => cc * x k + ∑ j, h j * w j k
/-- The row less its mean. -/
def cen (z : Row) : Row := fun k => z k - Ideal.div (∑ j, z j) n1024
/-- The variance with the small addend. -/
def var (z : Row) : EReal := Ideal.div (∑ j, cen z j * cen z j) n1024 + eps
/-- The reciprocal standard deviation. -/
def rs (z : Row) : EReal := Ideal.rsqrt (var z)
/-- The normalised row. -/
def xh (z : Row) : Row := fun k => cen z k * rs z
/-- The norm's output less the target. -/
def err (z g b t : Row) : Row := fun k => xh z k * g k + b k - t k
/-- The loss's gradient at the norm's output. -/
def dy (z g b t : Row) : Row := fun k => err z g b t k * kGrad
/-- The gradient before the norm, of the gradient `d` behind it. -/
def dz (z g d : Row) : Row := fun k => rs z * ((d k * g k - Ideal.div (∑ j, d j * g j) n1024)
  - xh z k * Ideal.div (∑ j, d j * g j * xh z j) n1024)
/-- The product with the output weights, backwards. -/
def dhRow (d : Row) (w : Fin 1024 → Row) : Row := fun k => ∑ j, d j * w k j

section Whole
variable (x yc yg : FVec Ideal ⟨2, ![8192, 1024]⟩ .f32) (p : FVec Ideal ⟨2, ![8192, 2048]⟩ .f32)
  (t : FVec Ideal ⟨2, ![8192, 1024]⟩ .f32) (w : FVec Ideal ⟨2, ![1024, 1024]⟩ .f32) (g b : FVec Ideal ⟨1, ![1024]⟩ .f32) (r : Fin 8192)
/-- The two halves of a token's gates, and a vector's entries. -/
def ga : Row := fun k => p (ix2 r ⟨k.val, by omega⟩)
def gb : Row := fun k => p (ix2 r ⟨1024 + k.val, by omega⟩)
def vec : Row := fun k => g (ix1 k)
/-- Token `r`: the merged branches, the residual stream, the norm's output less the target. -/
def H : Row := hRow (ga p r) (gb p r) (row yc r) (row yg r)
def Z : Row := zRow (row x r) (H yc yg p r) (row w)
def E : Row := err (Z x yc yg p w r) (vec g) (vec b) (row t r)
/-- Token `r`: the gradients behind the norm, before it, and before the output product. -/
def DY : Row := dy (Z x yc yg p w r) (vec g) (vec b) (row t r)
def DZ : Row := dz (Z x yc yg p w r) (vec g) (DY x yc yg p t w g b r)
def DH : Row := dhRow (DZ x yc yg p t w g b r) (row w)
end Whole
end Cert.Merge

namespace Cert.Kernel12Ideal.Merge
open Cert.Kernel12Ideal Cert.Kernel12Ideal.Gen Cert.Merge
open Cert.Post (Row sg)
open Cert.Kernel2Ideal.Post (row)

variable (a b' yc yg x t : FVec Ideal S256x1024 .f32) (w : FVec Ideal S1024x1024 .bf16) (g b : FVec Ideal S1x1024 .f32)
  (v : FVec Ideal S256x1024 .f32) (r : Fin 256) (k : Fin 1024)

theorem sga_at : k0_pay8 (F := Ideal) a (ix2 r k) = sg (row a r k) := by
  pointwise [k0_pay8, sg]; simp only [zero_sub]
theorem sgb_at : k0_pay9 (F := Ideal) a (ix2 r k) = sg (row a r k) := by
  pointwise [k0_pay9, sg]; simp only [zero_sub]
theorem h_at : k0_pay10 (F := Ideal) a b' yc yg (ix2 r k) = hRow (row a r) (row b' r) (row yc r) (row yg r) k := by
  pointwise [k0_pay10, sga_at, sgb_at, hRow]
theorem z_at : k0_pay11 (F := Ideal) a b' yc yg x w (ix2 r k)
    = zRow (row x r) (hRow (row a r) (row b' r) (row yc r) (row yg r)) (row w) k := by
  pointwise [k0_pay11, h_at, zRow, cc]
theorem cen_at : k0_pay12 (F := Ideal) v (ix2 r k) = cen (row v r) k := by
  pointwise [k0_pay12, cen, n1024]
theorem rs_at : k0_pay13 (F := Ideal) v (ix2 r 0) = rs (row v r) := by
  pointwise [k0_pay13, cen_at, rs, var, n1024, eps]
theorem xh_at : k0_pay14 (F := Ideal) v (ix2 r k) = xh (row v r) k := by
  pointwise [k0_pay14, cen_at, rs_at, xh]
theorem err_at : k0_pay15 (F := Ideal) v g b t (ix2 r k) = err (row v r) (row g 0) (row b 0) (row t r) k := by
  pointwise [k0_pay15, xh_at, err]
theorem dy_at : k0_pay17 (F := Ideal) v g b t (ix2 r k) = dy (row v r) (row g 0) (row b 0) (row t r) k := by
  pointwise [k0_pay17, err_at, dy, kGrad]

/-- The gradient before the norm, from its factors. -/
theorem dz_at (s : FVec Ideal S256x1 .f32) (n d : FVec Ideal S256x1024 .f32) :
    k0_pay20 (F := Ideal) s n d g (ix2 r k) = s (ix2 r 0) * ((d (ix2 r k) * g (ix2 0 k) - Ideal.div (∑ j, d (ix2 r j) * g (ix2 0 j)) n1024)
      - n (ix2 r k) * Ideal.div (∑ j, d (ix2 r j) * g (ix2 0 j) * n (ix2 r j)) n1024) := by
  pointwise [k0_pay20, n1024]

theorem dz_tile : k0_pay20 (F := Ideal) (k0_pay13 v) (k0_pay14 v) (k0_pay17 v g b t) g (ix2 r k)
    = dz (row v r) (row g 0) (dy (row v r) (row g 0) (row b 0) (row t r)) k := by
  rw [dz_at]; simp only [rs_at, xh_at, dy_at, dz]

theorem dx_tile : k0_pay21 (F := Ideal) (k0_pay13 v) (k0_pay14 v) (k0_pay17 v g b t) g (ix2 r k)
    = cc * dz (row v r) (row g 0) (dy (row v r) (row g 0) (row b 0) (row t r)) k := by
  pointwise [k0_pay21, cc, dz_tile]

theorem dzb_tile : k0_pay22 (F := Ideal) (k0_pay13 v) (k0_pay14 v) (k0_pay17 v g b t) g (ix2 r k)
    = dz (row v r) (row g 0) (dy (row v r) (row g 0) (row b 0) (row t r)) k := by
  pointwise [k0_pay22, dz_tile]

theorem dh_at (d : FVec Ideal S256x1024 .bf16) : k0_pay1 (F := Ideal) d w (ix2 r k) = dhRow (row d r) (row w) k := by
  pointwise [k0_pay1, dhRow]
theorem dyc_at (s : FVec Ideal S256x1024 .f32) (d : FVec Ideal S256x1024 .bf16) :
    k0_pay2 (F := Ideal) s d w (ix2 r k) = dhRow (row d r) (row w) k * s (ix2 r k) := by
  pointwise [k0_pay2, dh_at]
theorem dyg_at (s : FVec Ideal S256x1024 .f32) (d : FVec Ideal S256x1024 .bf16) :
    k0_pay3 (F := Ideal) s d w (ix2 r k) = dhRow (row d r) (row w) k * s (ix2 r k) := by
  pointwise [k0_pay3, dh_at]
theorem dga_at (s y : FVec Ideal S256x1024 .f32) (d : FVec Ideal S256x1024 .bf16) :
    k0_pay4 (F := Ideal) s y d w (ix2 r k) = dhRow (row d r) (row w) k * y (ix2 r k) * s (ix2 r k) * (1 - s (ix2 r k)) := by
  pointwise [k0_pay4, dh_at]
theorem dgb_at (s y : FVec Ideal S256x1024 .f32) (d : FVec Ideal S256x1024 .bf16) :
    k0_pay5 (F := Ideal) s y d w (ix2 r k) = dhRow (row d r) (row w) k * y (ix2 r k) * s (ix2 r k) * (1 - s (ix2 r k)) := by
  pointwise [k0_pay5, dh_at]

theorem dg_at (n d : FVec Ideal S256x1024 .f32) (q : FVec Ideal S1x1024 .f32) (i : Fin 1) :
    k0_pay18 (F := Ideal) n d q (ix2 i k) = q (ix2 i k) + ∑ r : Fin 256, d (ix2 r k) * n (ix2 r k) := by
  pointwise [k0_pay18]
theorem db_at (d : FVec Ideal S256x1024 .f32) (q : FVec Ideal S1x1024 .f32) (i : Fin 1) :
    k0_pay19 (F := Ideal) d q (ix2 i k) = q (ix2 i k) + ∑ r : Fin 256, d (ix2 r k) := by
  pointwise [k0_pay19]
theorem loss_at (q : FVec Ideal S8x128 .f32) (i : Fin 8) (l : Fin 128) :
    k0_pay16 (F := Ideal) v g b t q (ix2 i l) = q (ix2 i l) + kLoss * ∑ r : Fin 256, ∑ k : Fin 1024,
      err (row v r) (row g 0) (row b 0) (row t r) k * err (row v r) (row g 0) (row b 0) (row t r) k := by
  pointwise [k0_pay16, err_at, kLoss]
end Cert.Kernel12Ideal.Merge
-- ==== Proof.MergeKernel.lean ====
module
public import proofs.«01_k».proof.Proof.Gen.Kernel12Ideal.Value
public import proofs.«01_k».proof.Proof.MergePure
public import Idealize.ShloMosaic.Lib.Pipeline.ValueKit
public import Idealize.ShloMosaic.Lib.Claim
public import Idealize.ShloMosaic.Lib.WritesUnit
public import Idealize.ShloMosaic.Lib.Pipeline.ReadBack
/-! # What the kernel's result arrays hold, but for the two sums over the tiles -/
@[expose] public section
set_option maxRecDepth 16384
noncomputable section
open Idealize.ShloMosaic Idealize.ShloMosaic.TcCoe Idealize.SL.Sem
open Idealize.ShloMosaic.Pipeline (Dat)
namespace Cert.Kernel12Ideal.Merge
open Cert.Kernel12Ideal Cert.Kernel12Ideal.Gen Cert.Merge
open Cert.Post (Row sg)
open Cert.Kernel2Ideal.Post (row)
variable (m : (ℓ : Loc nD τ sig) → Buf (Elt Ideal) ℓ)

/-- The argument arrays. -/
abbrev aX (c : Dev nD) : FVec Ideal S8192x1024 .f32 := m ((c : Thread nD τ).loc main_arg0)
abbrev aC (c : Dev nD) : FVec Ideal S8192x1024 .f32 := m ((c : Thread nD τ).loc main_arg1)
abbrev aY (c : Dev nD) : FVec Ideal S8192x1024 .f32 := m ((c : Thread nD τ).loc main_arg2)
abbrev aP (c : Dev nD) : FVec Ideal S8192x2048 .f32 := m ((c : Thread nD τ).loc main_arg3)
abbrev aT (c : Dev nD) : FVec Ideal S8192x1024 .f32 := m ((c : Thread nD τ).loc main_arg4)
abbrev aW (c : Dev nD) : FVec Ideal S1024x1024 .f32 := m ((c : Thread nD τ).loc main_arg5)
abbrev aG (c : Dev nD) : FVec Ideal S1024 .f32 := m ((c : Thread nD τ).loc main_arg6)
abbrev aB (c : Dev nD) : FVec Ideal S1024 .f32 := m ((c : Thread nD τ).loc main_arg7)

theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] :=
  (by decide +kernel : ∀ t : Fin grid0.N, _)

/-- Row `r` of tile `t`, as a row of the whole array. -/
def at_ (t : Fin cfg0.N) (r : Fin 256) : Fin 8192 := ⟨t.val * 256 + r.val, by have : t.val < 32 := lt_of_lt_of_eq t.isLt N_0; omega⟩

/-- The blocks of the arguments at tile `t`. -/
abbrev bX (c : Dev nD) (t : Fin cfg0.N) : FVec Ideal S256x1024 .f32 := iblk m c 0 t
abbrev bC (c : Dev nD) (t : Fin cfg0.N) : FVec Ideal S256x1024 .f32 := iblk m c 1 t
abbrev bY (c : Dev nD) (t : Fin cfg0.N) : FVec Ideal S256x1024 .f32 := iblk m c 2 t
abbrev b3 (c : Dev nD) (t : Fin cfg0.N) : FVec Ideal S256x1024 .f32 := iblk m c 3 t
abbrev b4 (c : Dev nD) (t : Fin cfg0.N) : FVec Ideal S256x1024 .f32 := iblk m c 4 t
abbrev bT (c : Dev nD) (t : Fin cfg0.N) : FVec Ideal S256x1024 .f32 := iblk m c 5 t
abbrev bW (c : Dev nD) (t : Fin cfg0.N) : FVec Ideal S1024x1024 .bf16 := iblk m c 6 t
abbrev bG (c : Dev nD) (t : Fin cfg0.N) : FVec Ideal S1x1024 .f32 := iblk m c 7 t
abbrev bB (c : Dev nD) (t : Fin cfg0.N) : FVec Ideal S1x1024 .f32 := iblk m c 8 t

section Blocks
variable (c : Dev nD) (t : Fin cfg0.N) (r : Fin 256)
theorem blkX : row (bX m c t) r = row (aX m c) (at_ t r) := by
  funext k; simp only [row]; blk_ext [iblk, V, idx_val t, at_]
theorem blkC : row (bC m c t) r = row (aC m c) (at_ t r) := by
  funext k; simp only [row]; blk_ext [iblk, V, idx_val t, at_]
theorem blkY : row (bY m c t) r = row (aY m c) (at_ t r) := by
  funext k; simp only [row]; blk_ext [iblk, V, idx_val t, at_]
theorem blk3 : row (b3 m c t) r = ga (aP m c) (at_ t r) := by
  funext k; simp only [row, ga]; blk_ext [iblk, V, idx_val t, at_]
theorem blk4 : row (b4 m c t) r = gb (aP m c) (at_ t r) := by
  funext k; simp only [row, gb]; blk_ext [iblk, V, idx_val t, at_]
theorem blkT : row (bT m c t) r = row (aT m c) (at_ t r) := by
  funext k; simp only [row]; blk_ext [iblk, V, idx_val t, at_]
theorem blkW : row (bW m c t) = row (aW m c) := by
  funext r k; simp only [row]; blk_simp [iblk, idx_val t]; entry_read; pointwise; blk_ext [idx_val t]
theorem blkG : row (bG m c t) 0 = vec (aG m c) := by
  funext k; simp only [row, vec]; blk_simp [iblk, idx_val t]; entry_read; pointwise; blk_ext [idx_val t]
theorem blkB : row (bB m c t) 0 = vec (aB m c) := by
  funext k; simp only [row, vec]; blk_simp [iblk, idx_val t]; entry_read; pointwise; blk_ext [idx_val t]

/-- The tile's residual stream before its norm. -/
abbrev zt : FVec Ideal S256x1024 .f32 := k0_pay11 (b3 m c t) (b4 m c t) (bC m c t) (bY m c t) (bX m c t) (bW m c t)
/-- The tile's gradient before the norm. -/
abbrev dzt : FVec Ideal S256x1024 .bf16 :=
  k0_pay22 (k0_pay13 (zt m c t)) (k0_pay14 (zt m c t)) (k0_pay17 (zt m c t) (bG m c t) (bB m c t) (bT m c t)) (bG m c t)

/-- Token `r`'s rows on device `c`. -/
abbrev Hc (r : Fin 8192) : Row := H (aC m c) (aY m c) (aP m c) r
abbrev Zc (r : Fin 8192) : Row := Z (aX m c) (aC m c) (aY m c) (aP m c) (aW m c) r
abbrev Ec (r : Fin 8192) : Row := E (aX m c) (aC m c) (aY m c) (aP m c) (aT m c) (aW m c) (aG m c) (aB m c) r
abbrev DYc (r : Fin 8192) : Row := DY (aX m c) (aC m c) (aY m c) (aP m c) (aT m c) (aW m c) (aG m c) (aB m c) r
abbrev DZc (r : Fin 8192) : Row := DZ (aX m c) (aC m c) (aY m c) (aP m c) (aT m c) (aW m c) (aG m c) (aB m c) r
abbrev DHc (r : Fin 8192) : Row := DH (aX m c) (aC m c) (aY m c) (aP m c) (aT m c) (aW m c) (aG m c) (aB m c) r

theorem zt_row : row (zt m c t) r = Zc m c (at_ t r) := by
  funext k; unfold zt; rw [row, z_at, blkX, blkC, blkY, blk3, blk4, blkW]; rfl
theorem h_tile (k : Fin 1024) : k0_pay10 (F := Ideal) (b3 m c t) (b4 m c t) (bC m c t) (bY m c t) (ix2 r k) = Hc m c (at_ t r) k := by
  rw [h_at, blkC, blkY, blk3, blk4]; rfl
theorem dzt_row : row (dzt m c t) r = DZc m c (at_ t r) := by
  funext k; unfold dzt; rw [row, dzb_tile, zt_row, blkG, blkB, blkT]; rfl
theorem dx_eq (k : Fin 1024) : k0_pay21 (F := Ideal) (k0_pay13 (zt m c t)) (k0_pay14 (zt m c t))
    (k0_pay17 (zt m c t) (bG m c t) (bB m c t) (bT m c t)) (bG m c t) (ix2 r k) = cc * DZc m c (at_ t r) k := by
  rw [dx_tile, zt_row, blkG, blkB, blkT]; rfl
theorem dyc_eq (k : Fin 1024) : k0_pay2 (F := Ideal) (k0_pay8 (b3 m c t)) (dzt m c t) (bW m c t) (ix2 r k)
    = DHc m c (at_ t r) k * sg (ga (aP m c) (at_ t r) k) := by
  rw [dyc_at, dzt_row, blkW, sga_at, blk3]; rfl
theorem dyg_eq (k : Fin 1024) : k0_pay3 (F := Ideal) (k0_pay9 (b4 m c t)) (dzt m c t) (bW m c t) (ix2 r k)
    = DHc m c (at_ t r) k * sg (gb (aP m c) (at_ t r) k) := by
  rw [dyg_at, dzt_row, blkW, sgb_at, blk4]; rfl
theorem dga_eq (k : Fin 1024) : k0_pay4 (F := Ideal) (k0_pay8 (b3 m c t)) (bC m c t) (dzt m c t) (bW m c t) (ix2 r k)
    = DHc m c (at_ t r) k * row (aC m c) (at_ t r) k * sg (ga (aP m c) (at_ t r) k) * (1 - sg (ga (aP m c) (at_ t r) k)) := by
  rw [dga_at, dzt_row, blkW, sga_at, blk3]
  show _ * row (bC m c t) r k * _ * _ = _
  rw [blkC]; rfl
theorem dgb_eq (k : Fin 1024) : k0_pay5 (F := Ideal) (k0_pay9 (b4 m c t)) (bY m c t) (dzt m c t) (bW m c t) (ix2 r k)
    = DHc m c (at_ t r) k * row (aY m c) (at_ t r) k * sg (gb (aP m c) (at_ t r) k) * (1 - sg (gb (aP m c) (at_ t r) k)) := by
  rw [dgb_at, dzt_row, blkW, sgb_at, blk4]
  show _ * row (bY m c t) r k * _ * _ = _
  rw [blkY]; rfl
end Blocks

set_option maxHeartbeats 1600000 in
theorem final14 (c : Dev nD) : (dats m 0 c).arrAt 14 cfg0.N = fun j : S8192x1024.Idx => Hc m c (j 0) (j 1) := by
  refine (dats m 0 c).arrAt_eq_of_covers 14 _ (by decide +kernel) fun t hf y => ?_
  obtain ⟨r, k, rfl⟩ : ∃ (r : Fin 256) (k : Fin 1024), y = ix2 r k := ⟨_, _, eq_ix2 y⟩
  have ei : ((cfg0.win 14).blk t).view.emb (ix2 r k) = (ix2 (at_ t r) k : S8192x1024.Idx) := by blk_ext [idx_val t, at_]
  have key := h_tile m c t r k
  rw [ei]
  blk_simp
  rw [after0_14]
  refine Eq.trans ?_ key
  by_cases h : t.val % 32 = 0
  · rw [outsAt0_A m c t h]; frame_out
  · rw [outsAt0_B m c t h]; frame_out

set_option maxHeartbeats 1600000 in
theorem final15 (c : Dev nD) : (dats m 0 c).arrAt 15 cfg0.N = fun j : S8192x1024.Idx => DZc m c (j 0) (j 1) := by
  refine (dats m 0 c).arrAt_eq_of_covers 15 _ (by decide +kernel) fun t hf y => ?_
  obtain ⟨r, k, rfl⟩ : ∃ (r : Fin 256) (k : Fin 1024), y = ix2 r k := ⟨_, _, eq_ix2 y⟩
  have ei : ((cfg0.win 15).blk t).view.emb (ix2 r k) = (ix2 (at_ t r) k : S8192x1024.Idx) := by blk_ext [idx_val t, at_]
  have key := congrFun (dzt_row m c t r) k
  simp only [row] at key
  rw [ei]
  blk_simp
  rw [after0_15]
  refine Eq.trans ?_ key
  by_cases h : t.val % 32 = 0
  · rw [outsAt0_A m c t h]; frame_out
  · rw [outsAt0_B m c t h]; frame_out

set_option maxHeartbeats 1600000 in
theorem final10 (c : Dev nD) : (dats m 0 c).arrAt 10 cfg0.N = fun j : S8192x1024.Idx => cc * DZc m c (j 0) (j 1) := by
  refine (dats m 0 c).arrAt_eq_of_covers 10 _ (by decide +kernel) fun t hf y => ?_
  obtain ⟨r, k, rfl⟩ : ∃ (r : Fin 256) (k : Fin 1024), y = ix2 r k := ⟨_, _, eq_ix2 y⟩
  have ei : ((cfg0.win 10).blk t).view.emb (ix2 r k) = (ix2 (at_ t r) k : S8192x1024.Idx) := by blk_ext [idx_val t, at_]
  have key := dx_eq m c t r k
  rw [ei]
  blk_simp
  rw [after0_10]
  refine Eq.trans ?_ key
  by_cases h : t.val % 32 = 0
  · rw [outsAt0_A m c t h]; frame_out
  · rw [outsAt0_B m c t h]; frame_out

set_option maxHeartbeats 1600000 in
theorem final11 (c : Dev nD) : (dats m 0 c).arrAt 11 cfg0.N
    = fun j : S8192x1024.Idx => DHc m c (j 0) (j 1) * sg (ga (aP m c) (j 0) (j 1)) := by
  refine (dats m 0 c).arrAt_eq_of_covers 11 _ (by decide +kernel) fun t hf y => ?_
  obtain ⟨r, k, rfl⟩ : ∃ (r : Fin 256) (k : Fin 1024), y = ix2 r k := ⟨_, _, eq_ix2 y⟩
  have ei : ((cfg0.win 11).blk t).view.emb (ix2 r k) = (ix2 (at_ t r) k : S8192x1024.Idx) := by blk_ext [idx_val t, at_]
  have key := dyc_eq m c t r k
  rw [ei]
  blk_simp
  rw [after0_11]
  refine Eq.trans ?_ key
  by_cases h : t.val % 32 = 0
  · rw [outsAt0_A m c t h]; frame_out
  · rw [outsAt0_B m c t h]; frame_out

set_option maxHeartbeats 1600000 in
theorem final12 (c : Dev nD) : (dats m 0 c).arrAt 12 cfg0.N
    = fun j : S8192x1024.Idx => DHc m c (j 0) (j 1) * sg (gb (aP m c) (j 0) (j 1)) := by
  refine (dats m 0 c).arrAt_eq_of_covers 12 _ (by decide +kernel) fun t hf y => ?_
  obtain ⟨r, k, rfl⟩ : ∃ (r : Fin 256) (k : Fin 1024), y = ix2 r k := ⟨_, _, eq_ix2 y⟩
  have ei : ((cfg0.win 12).blk t).view.emb (ix2 r k) = (ix2 (at_ t r) k : S8192x1024.Idx) := by blk_ext [idx_val t, at_]
  have key := dyg_eq m c t r k
  rw [ei]
  blk_simp
  rw [after0_12]
  refine Eq.trans ?_ key
  by_cases h : t.val % 32 = 0
  · rw [outsAt0_A m c t h]; frame_out
  · rw [outsAt0_B m c t h]; frame_out
end Cert.Kernel12Ideal.Merge
-- ==== Proof.MergeSums.lean ====
module
public import proofs.«01_k».proof.Proof.MergeKernel
public import proofs.«01_k».proof.Proof.PostGain
/-! # The result arrays stored in pieces: the gates' gradient, the loss and the gradients of gain and bias -/
@[expose] public section
set_option maxRecDepth 16384
noncomputable section
open Idealize.ShloMosaic Idealize.ShloMosaic.TcCoe Idealize.SL.Sem
open Idealize.ShloMosaic.Pipeline (Dat)
namespace Cert.Kernel12Ideal.Merge
open Cert.Kernel12Ideal Cert.Kernel12Ideal.Gen Cert.Merge
open Cert.Post (Row sg)
open Cert.Kernel2Ideal.Post (row)
variable (m : (ℓ : Loc nD τ sig) → Buf (Elt Ideal) ℓ)

/-! ## The gates' gradient: two halves of columns -/

/-- Token `r`: the gradient of the first and of the second half of the gates. -/
def GA (c : Dev nD) (r : Fin 8192) : Row := fun k =>
  DHc m c r k * row (aC m c) r k * sg (ga (aP m c) r k) * (1 - sg (ga (aP m c) r k))
def GB (c : Dev nD) (r : Fin 8192) : Row := fun k =>
  DHc m c r k * row (aY m c) r k * sg (gb (aP m c) r k) * (1 - sg (gb (aP m c) r k))
/-- Both, side by side. -/
def GP (c : Dev nD) (r : Fin 8192) (k : Fin 2048) : EReal :=
  if h : (k : ℕ) < 1024 then GA m c r ⟨k, h⟩ else GB m c r ⟨(k : ℕ) - 1024, by omega⟩

section Halves
variable (w w' : S256x1024.Idx → EReal) (r : Fin 256) (k : Fin 1024)
theorem emb_left : (Rect.unit (s := S256x2048) ![0, 0] ![256, 1024] inb_S256x2048_S256x1024_0_0).emb (ix2 r k)
    = (ix2 r ⟨k.val, by omega⟩ : S256x2048.Idx) := by
  funext a; fin_cases a <;> ext <;> simp [Rect.unit, Rect.emb]
theorem emb_right : (Rect.unit (s := S256x2048) ![0, 1024] ![256, 1024] inb_S256x2048_S256x1024_0_1024).emb (ix2 r k)
    = (ix2 r ⟨1024 + k.val, by omega⟩ : S256x2048.Idx) := by
  funext a; fin_cases a <;> ext <;> simp [Rect.unit, Rect.emb]
theorem not_right : (ix2 r ⟨k.val, by omega⟩ : S256x2048.Idx) ∉ (Rect.unit (s := S256x2048) ![0, 1024] ![256, 1024] inb_S256x2048_S256x1024_0_1024).set := by
  rw [Rect.mem_set_unit]
  intro hall
  have := hall 1
  simp at this
  omega
/-- The two halves stored one after the other, read in the left one … -/
theorem canon_left : View.canon (Val := Elt Ideal) (s := S256x2048) (e := .bf16) [⟨Rect.unit ![0, 1024] ![256, 1024] inb_S256x2048_S256x1024_0_1024, w'⟩,
    ⟨Rect.unit ![0, 0] ![256, 1024] inb_S256x2048_S256x1024_0_0, w⟩] (ix2 r ⟨k.val, by omega⟩) = w (ix2 r k) := by
  refine (View.canon_cons_of_not_mem (Val := Elt Ideal) (e := .bf16) ⟨Rect.unit (s := S256x2048) ![0, 1024] ![256, 1024] inb_S256x2048_S256x1024_0_1024, w'⟩ _ (not_right r k)).trans ?_
  refine (congrArg _ (emb_left r k).symm).trans ?_
  exact View.canon_cons_emb (Val := Elt Ideal) (e := .bf16) (Rect.unit (s := S256x2048) ![0, 0] ![256, 1024] inb_S256x2048_S256x1024_0_0) w _ (ix2 r k)
/-- … and in the right one. -/
theorem canon_right : View.canon (Val := Elt Ideal) (s := S256x2048) (e := .bf16) [⟨Rect.unit ![0, 1024] ![256, 1024] inb_S256x2048_S256x1024_0_1024, w'⟩,
    ⟨Rect.unit ![0, 0] ![256, 1024] inb_S256x2048_S256x1024_0_0, w⟩] (ix2 r ⟨1024 + k.val, by omega⟩) = w' (ix2 r k) := by
  refine (congrArg _ (emb_right r k).symm).trans ?_
  exact View.canon_cons_emb (Val := Elt Ideal) (e := .bf16) (Rect.unit (s := S256x2048) ![0, 1024] ![256, 1024] inb_S256x2048_S256x1024_0_1024) w' _ (ix2 r k)
end Halves

set_option maxHeartbeats 1600000 in
theorem out13_left (c : Dev nD) (t : Fin cfg0.N) (r : Fin 256) (k : Fin 1024) :
    (outsAt0 m c t.val t.isLt).2.2.2.2.1 (ix2 r ⟨k.val, by omega⟩) = GA m c (at_ t r) k := by
  have key := dga_eq m c t r k
  refine Eq.trans ?_ key
  by_cases h : t.val % 32 = 0
  · rw [outsAt0_A m c t h]; frame_out; exact canon_left _ _ r k
  · rw [outsAt0_B m c t h]; frame_out; exact canon_left _ _ r k

set_option maxHeartbeats 1600000 in
theorem out13_right (c : Dev nD) (t : Fin cfg0.N) (r : Fin 256) (k : Fin 1024) :
    (outsAt0 m c t.val t.isLt).2.2.2.2.1 (ix2 r ⟨1024 + k.val, by omega⟩) = GB m c (at_ t r) k := by
  have key := dgb_eq m c t r k
  refine Eq.trans ?_ key
  by_cases h : t.val % 32 = 0
  · rw [outsAt0_A m c t h]; frame_out; exact canon_right _ _ r k
  · rw [outsAt0_B m c t h]; frame_out; exact canon_right _ _ r k

set_option maxHeartbeats 1600000 in
theorem final13 (c : Dev nD) : (dats m 0 c).arrAt 13 cfg0.N = fun j : S8192x2048.Idx => GP m c (j 0) (j 1) := by
  refine (dats m 0 c).arrAt_eq_of_covers 13 _ (by decide +kernel) fun t hf y => ?_
  obtain ⟨r, k, rfl⟩ : ∃ (r : Fin 256) (k : Fin 2048), y = ix2 r k := ⟨_, _, eq_ix2 y⟩
  have ei : ((cfg0.win 13).blk t).view.emb (ix2 r k) = (ix2 (at_ t r) k : S8192x2048.Idx) := by blk_ext [idx_val t, at_]
  rw [ei]
  blk_simp
  rw [after0_13]
  show _ = GP m c (at_ t r) k
  by_cases h : (k : ℕ) < 1024
  · rw [GP, dif_pos h]; exact out13_left m c t r ⟨k, h⟩
  · rw [GP, dif_neg h]
    refine Eq.trans ?_ (out13_right m c t r ⟨(k : ℕ) - 1024, by omega⟩)
    have e : k = ⟨1024 + ((k : ℕ) - 1024), by omega⟩ := Fin.ext (by simp only; omega)
    exact congrArg (fun q : Fin 2048 => (outsAt0 m c t.val t.isLt).2.2.2.2.1 (ix2 r q)) e

/-- The last tile. -/
def t0_31 : Fin grid0.N := ⟨31, by rw [N_0]; decide⟩

/-! ## The loss: every tile adds its part to every entry -/

/-- What tile `t` adds to the loss. -/
def lossPart (c : Dev nD) (t : Fin cfg0.N) : EReal :=
  kLoss * ∑ r : Fin 256, ∑ k : Fin 1024, Ec m c (at_ t r) k * Ec m c (at_ t r) k

theorem loss_tile (c : Dev nD) (t : Fin cfg0.N) (q : FVec Ideal S8x128 .f32) (i : Fin 8) (l : Fin 128) :
    k0_pay16 (F := Ideal) (zt m c t) (bG m c t) (bB m c t) (bT m c t) q (ix2 i l) = q (ix2 i l) + lossPart m c t := by
  rw [loss_at]; simp only [zt_row, blkG, blkB, blkT]; rfl

theorem out9_A (c : Dev nD) (t : Fin cfg0.N) (h : t.val % 32 = 0) (i : Fin 8) (l : Fin 128) :
    (outsAt0 m c t.val t.isLt).1 (ix2 i l) = 0 + lossPart m c t := by
  have key := loss_tile m c t (k0_pay6 (F := Ideal)) i l
  have z : k0_pay6 (F := Ideal) (ix2 i l) = 0 := by pointwise [k0_pay6]
  rw [z] at key
  refine Eq.trans ?_ key
  rw [outsAt0_A m c t h]; frame_out

theorem out9_B (c : Dev nD) (t : Fin cfg0.N) (h : ¬ t.val % 32 = 0) (i : Fin 8) (l : Fin 128) :
    (outsAt0 m c t.val t.isLt).1 (ix2 i l) = (outsAt0 m c (t.val - 1) (by omega)).1 (ix2 i l) + lossPart m c t := by
  have key := loss_tile m c t (outsAt0 m c (t.val - 1) (by omega)).1 i l
  refine Eq.trans ?_ key
  rw [outsAt0_B m c t h]; frame_out

theorem final9 (c : Dev nD) : (dats m 0 c).arrAt 9 cfg0.N = fun j : S8x128.Idx => ∑ t : Fin cfg0.N, lossPart m c t := by
  refine (dats m 0 c).arrAt_eq_of_after_last 9 t0_31 (by decide +kernel) _ fun j => ?_
  obtain ⟨i, l, rfl⟩ : ∃ (i : Fin 8) (l : Fin 128), j = ix2 i l := ⟨_, _, eq_ix2 j⟩
  blk_simp
  rw [after0_9, Pipeline.eq_sum_fin_of_reset_step_apply_last (fun n h => (outsAt0 m c n h).1) 32 (fun _ => 0)
    (fun t j => lossPart m c t)
    (fun t h j => (congrArg _ (eq_ix2 j)).trans (out9_A m c t h _ _))
    (fun t h j => by
      obtain ⟨i, l, rfl⟩ : ∃ (i : Fin 8) (l : Fin 128), j = ix2 i l := ⟨_, _, eq_ix2 j⟩
      exact out9_B m c t h i l)
    (le_of_eq N_0) t0_31 rfl _, zero_add]

/-! ## The gradients of gain and bias: every tile adds a row each -/

section Rows
variable (v : View sig .tc .vmem S8x1024 .f32) (Z : S8x1024.Idx → EReal) (w w' : S1x1024.Idx → EReal) (k : Fin 1024)
theorem emb_0 : (Rect.unit (s := S8x1024) ![0, 0] ![1, 1024] inb_S8x1024_S1x1024_0_0).emb (ix2 0 k) = (ix2 0 k : S8x1024.Idx) := by
  funext a; fin_cases a <;> ext <;> simp [Rect.unit, Rect.emb]
theorem emb_1 : (Rect.unit (s := S8x1024) ![1, 0] ![1, 1024] inb_S8x1024_S1x1024_1_0).emb (ix2 0 k) = (ix2 1 k : S8x1024.Idx) := by
  funext a; fin_cases a <;> ext <;> simp [Rect.unit, Rect.emb]
theorem not_0 (i : Fin 8) (h : (i : ℕ) ≠ 0) : (ix2 i k : S8x1024.Idx) ∉ (Rect.unit (s := S8x1024) ![0, 0] ![1, 1024] inb_S8x1024_S1x1024_0_0).set := by
  rw [Rect.mem_set_unit]; intro hall; have := hall 0; simp at this; omega
theorem not_1 (i : Fin 8) (h : (i : ℕ) ≠ 1) : (ix2 i k : S8x1024.Idx) ∉ (Rect.unit (s := S8x1024) ![1, 0] ![1, 1024] inb_S8x1024_S1x1024_1_0).set := by
  rw [Rect.mem_set_unit]; intro hall; have := hall 0; simp at this; omega

/-- A store of row 1 over a store of row 0 over a store of the whole buffer. -/
abbrev pieces : List (View.Piece (Elt Ideal) S8x1024 .f32) := [⟨Rect.unit ![1, 0] ![1, 1024] inb_S8x1024_S1x1024_1_0, w'⟩,
  ⟨Rect.unit ![0, 0] ![1, 1024] inb_S8x1024_S1x1024_0_0, w⟩, ⟨Rect.unit ![0, 0] ![8, 1024] inb_S8x1024_S8x1024_0_0, Z⟩]
theorem canon_1 : View.canon (pieces Z w w') (ix2 1 k) = w' (ix2 0 k) := by
  refine (congrArg _ (emb_1 k).symm).trans ?_
  exact View.canon_cons_emb (Val := Elt Ideal) (e := .f32) (Rect.unit (s := S8x1024) ![1, 0] ![1, 1024] inb_S8x1024_S1x1024_1_0) w' _ (ix2 0 k)
theorem canon_0 : View.canon (pieces Z w w') (ix2 0 k) = w (ix2 0 k) := by
  refine (Cert.Kernel2Ideal.Post.canon_off (Rect.unit (s := S8x1024) ![1, 0] ![1, 1024] inb_S8x1024_S1x1024_1_0) w' _ _ (not_1 k 0 (by decide))).trans ?_
  refine (congrArg _ (emb_0 k).symm).trans ?_
  exact View.canon_cons_emb (Val := Elt Ideal) (e := .f32) (Rect.unit (s := S8x1024) ![0, 0] ![1, 1024] inb_S8x1024_S1x1024_0_0) w _ (ix2 0 k)
theorem canon_n (i : Fin 8) (h0 : (i : ℕ) ≠ 0) (h1 : (i : ℕ) ≠ 1) : View.canon (pieces Z w w') (ix2 i k) = Z (ix2 i k) := by
  refine (Cert.Kernel2Ideal.Post.canon_off (Rect.unit (s := S8x1024) ![1, 0] ![1, 1024] inb_S8x1024_S1x1024_1_0) w' _ _ (not_1 k i h1)).trans ?_
  refine (Cert.Kernel2Ideal.Post.canon_off (Rect.unit (s := S8x1024) ![0, 0] ![1, 1024] inb_S8x1024_S1x1024_0_0) w _ _ (not_0 k i h0)).trans ?_
  exact congrFun (View.canon_cons_unit_lit (Val := Elt Ideal) (S := S8x1024) (e := .f32) inb_S8x1024_S8x1024_0_0 Z [] (by decide)) _

/-- A load of row 0 after a store of the whole buffer … -/
theorem load_0 : (v.readCov (Val := Elt Ideal) [⟨Rect.unit (s := S8x1024) ![0, 0] ![8, 1024] inb_S8x1024_S8x1024_0_0, Z⟩]
    (Rect.unit (s := S8x1024) ![0, 0] ![1, 1024] inb_S8x1024_S1x1024_0_0).toLoadRect : S1x1024.Idx → EReal) (ix2 0 k) = Z (ix2 0 k) := by
  refine (congrFun (View.readCov_fill (Val := Elt Ideal) v inb_S8x1024_S8x1024_0_0 Z [] (Rect.unit ![0, 0] ![1, 1024] inb_S8x1024_S1x1024_0_0) (by decide)) _).trans ?_
  exact congrArg Z (emb_0 k)
/-- … and of row 1 after that and a store of row 0. -/
theorem load_1 : (v.readCov (Val := Elt Ideal) [⟨Rect.unit (s := S8x1024) ![0, 0] ![1, 1024] inb_S8x1024_S1x1024_0_0, w⟩,
    ⟨Rect.unit (s := S8x1024) ![0, 0] ![8, 1024] inb_S8x1024_S8x1024_0_0, Z⟩]
    (Rect.unit (s := S8x1024) ![1, 0] ![1, 1024] inb_S8x1024_S1x1024_1_0).toLoadRect : S1x1024.Idx → EReal) (ix2 0 k) = Z (ix2 1 k) := by
  refine (congrFun (View.readCov_skip (Val := Elt Ideal) v (Rect.unit ![0, 0] ![1, 1024] inb_S8x1024_S1x1024_0_0) w _ _ (by decide)) _).trans ?_
  refine (congrFun (View.readCov_fill (Val := Elt Ideal) v inb_S8x1024_S8x1024_0_0 Z [] (Rect.unit ![1, 0] ![1, 1024] inb_S8x1024_S1x1024_1_0) (by decide)) _).trans ?_
  exact congrArg Z (emb_1 k)

/-- Stores of rows 0 and 1 over what was there. -/
abbrev pieces2 : List (View.Piece (Elt Ideal) S8x1024 .f32) := [⟨Rect.unit ![1, 0] ![1, 1024] inb_S8x1024_S1x1024_1_0, w'⟩,
  ⟨Rect.unit ![0, 0] ![1, 1024] inb_S8x1024_S1x1024_0_0, w⟩]
variable (f : v.ty.Contents (Elt Ideal))
theorem store_1 : v.read (Elt Ideal) (v.writes (Elt Ideal) f (pieces2 w w')) (ix2 1 k) = w' (ix2 0 k) := by
  refine (congrArg _ (emb_1 k).symm).trans ?_
  exact View.read_writes_cons_emb (Val := Elt Ideal) v f (Rect.unit (s := S8x1024) ![1, 0] ![1, 1024] inb_S8x1024_S1x1024_1_0) w' _ (ix2 0 k)
theorem store_off1 (i : Fin 8) (h1 : (i : ℕ) ≠ 1) : v.read (Elt Ideal) (v.writes (Elt Ideal) f (pieces2 w w')) (ix2 i k)
    = v.read (Elt Ideal) (v.writes (Elt Ideal) f [⟨Rect.unit ![0, 0] ![1, 1024] inb_S8x1024_S1x1024_0_0, w⟩]) (ix2 i k) := by
  refine View.read_writes_cons_unit_of_not_mem v f inb_S8x1024_S1x1024_1_0 w' _ (ix2 i k) rfl (0 : Fin 2) ?_
  simp; omega
theorem store_0 : v.read (Elt Ideal) (v.writes (Elt Ideal) f (pieces2 w w')) (ix2 0 k) = w (ix2 0 k) := by
  refine (store_off1 v w w' k f 0 (by decide)).trans ?_
  refine (congrArg _ (emb_0 k).symm).trans ?_
  exact View.read_writes_cons_emb (Val := Elt Ideal) v f (Rect.unit (s := S8x1024) ![0, 0] ![1, 1024] inb_S8x1024_S1x1024_0_0) w [] (ix2 0 k)
theorem store_n (i : Fin 8) (h0 : (i : ℕ) ≠ 0) (h1 : (i : ℕ) ≠ 1) :
    v.read (Elt Ideal) (v.writes (Elt Ideal) f (pieces2 w w')) (ix2 i k) = v.read (Elt Ideal) f (ix2 i k) := by
  refine (store_off1 v w w' k f i h1).trans ?_
  refine (View.read_writes_cons_unit_of_not_mem v f inb_S8x1024_S1x1024_0_0 w [] (ix2 i k) rfl (0 : Fin 2) (Or.inr ?_)).trans rfl
  simp; omega
end Rows

/-- What tile `t` adds to the gradients of gain and bias. -/
def gPart (c : Dev nD) (t : Fin cfg0.N) (k : Fin 1024) : EReal := ∑ r : Fin 256, DYc m c (at_ t r) k * xh (Zc m c (at_ t r)) k
def bPart (c : Dev nD) (t : Fin cfg0.N) (k : Fin 1024) : EReal := ∑ r : Fin 256, DYc m c (at_ t r) k
/-- The same as a buffer. -/
def vTerm (c : Dev nD) (t : Fin cfg0.N) : S8x1024.Idx → EReal := fun j =>
  if (j 0 : ℕ) = 0 then gPart m c t (j 1) else if (j 0 : ℕ) = 1 then bPart m c t (j 1) else 0
theorem vTerm_0 (c : Dev nD) (t : Fin cfg0.N) (k : Fin 1024) : vTerm m c t (ix2 0 k) = gPart m c t k := by simp [vTerm]
theorem vTerm_1 (c : Dev nD) (t : Fin cfg0.N) (k : Fin 1024) : vTerm m c t (ix2 1 k) = bPart m c t k := by simp [vTerm]
theorem vTerm_n (c : Dev nD) (t : Fin cfg0.N) (i : Fin 8) (k : Fin 1024) (h0 : (i : ℕ) ≠ 0) (h1 : (i : ℕ) ≠ 1) : vTerm m c t (ix2 i k) = 0 := by
  simp [vTerm, h0, h1]

theorem g_tile (c : Dev nD) (t : Fin cfg0.N) (q : FVec Ideal S1x1024 .f32) (k : Fin 1024) :
    k0_pay18 (F := Ideal) (k0_pay14 (zt m c t)) (k0_pay17 (zt m c t) (bG m c t) (bB m c t) (bT m c t)) q (ix2 0 k) = q (ix2 0 k) + gPart m c t k := by
  rw [dg_at]; simp only [xh_at, dy_at, zt_row, blkG, blkB, blkT]; rfl
theorem b_tile (c : Dev nD) (t : Fin cfg0.N) (q : FVec Ideal S1x1024 .f32) (k : Fin 1024) :
    k0_pay19 (F := Ideal) (k0_pay17 (zt m c t) (bG m c t) (bB m c t) (bT m c t)) q (ix2 0 k) = q (ix2 0 k) + bPart m c t k := by
  rw [db_at]; simp only [dy_at, zt_row, blkG, blkB, blkT]; rfl

set_option maxHeartbeats 1600000 in
theorem out16_A (c : Dev nD) (t : Fin cfg0.N) (h : t.val % 32 = 0) (i : Fin 8) (k : Fin 1024) :
    (outsAt0 m c t.val t.isLt).2.2.2.2.2.2.2 (ix2 i k) = 0 + vTerm m c t (ix2 i k) := by
  have z : ∀ i : Fin 8, k0_pay7 (F := Ideal) (ix2 i k) = 0 := fun i => by pointwise [k0_pay7]
  rw [outsAt0_A m c t h]; frame_out
  by_cases h0 : i = 0
  · subst h0
    refine (canon_0 _ _ _ k).trans ?_
    refine (g_tile m c t _ k).trans ?_
    rw [vTerm_0, load_0, z]
  by_cases h1 : i = 1
  · subst h1
    refine (canon_1 _ _ _ k).trans ?_
    refine (b_tile m c t _ k).trans ?_
    rw [vTerm_1, load_1, z]
  have h0' : (i : ℕ) ≠ 0 := fun e => h0 (Fin.ext e)
  have h1' : (i : ℕ) ≠ 1 := fun e => h1 (Fin.ext e)
  refine (canon_n _ _ _ k i h0' h1').trans ?_
  rw [vTerm_n m c t i k h0' h1', z, add_zero]

set_option maxHeartbeats 1600000 in
theorem out16_B (c : Dev nD) (t : Fin cfg0.N) (h : ¬ t.val % 32 = 0) (i : Fin 8) (k : Fin 1024) :
    (outsAt0 m c t.val t.isLt).2.2.2.2.2.2.2 (ix2 i k) = (outsAt0 m c (t.val - 1) (by omega)).2.2.2.2.2.2.2 (ix2 i k) + vTerm m c t (ix2 i k) := by
  rw [outsAt0_B m c t h]; frame_out
  by_cases h0 : i = 0
  · subst h0
    refine (store_0 _ _ _ k _).trans ?_
    refine (g_tile m c t _ k).trans ?_
    rw [vTerm_0]
    exact congrArg (· + gPart m c t k) (congrArg (outsAt0 m c (t.val - 1) (by omega)).2.2.2.2.2.2.2 (emb_0 k))
  by_cases h1 : i = 1
  · subst h1
    refine (store_1 _ _ _ k _).trans ?_
    refine (b_tile m c t _ k).trans ?_
    rw [vTerm_1]
    exact congrArg (· + bPart m c t k) (congrArg (outsAt0 m c (t.val - 1) (by omega)).2.2.2.2.2.2.2 (emb_1 k))
  have h0' : (i : ℕ) ≠ 0 := fun e => h0 (Fin.ext e)
  have h1' : (i : ℕ) ≠ 1 := fun e => h1 (Fin.ext e)
  refine (store_n _ _ _ k _ i h0' h1').trans ?_
  rw [Memref.IsWhole.read_unread, vTerm_n m c t i k h0' h1', add_zero]

theorem final16 (c : Dev nD) : (dats m 0 c).arrAt 16 cfg0.N = fun j : S8x1024.Idx =>
    if (j 0 : ℕ) = 0 then ∑ t : Fin cfg0.N, gPart m c t (j 1) else if (j 0 : ℕ) = 1 then ∑ t : Fin cfg0.N, bPart m c t (j 1) else 0 := by
  refine (dats m 0 c).arrAt_eq_of_after_last 16 t0_31 (by decide +kernel) _ fun j => ?_
  obtain ⟨i, k, rfl⟩ : ∃ (i : Fin 8) (k : Fin 1024), j = ix2 i k := ⟨_, _, eq_ix2 j⟩
  blk_simp
  rw [after0_16, Pipeline.eq_sum_fin_of_reset_step_apply_last (fun n h => (outsAt0 m c n h).2.2.2.2.2.2.2) 32 (fun _ => 0)
    (fun t j => vTerm m c t j)
    (fun t h j => (congrArg _ (eq_ix2 j)).trans ((out16_A m c t h _ _).trans (congrArg (fun j => 0 + vTerm m c t j) (eq_ix2 j).symm)))
    (fun t h j => by
      obtain ⟨i, k, rfl⟩ : ∃ (i : Fin 8) (k : Fin 1024), j = ix2 i k := ⟨_, _, eq_ix2 j⟩
      exact out16_B m c t h i k)
    (le_of_eq N_0) t0_31 rfl _, zero_add]
  by_cases h0 : (i : ℕ) = 0
  · simp [h0, vTerm]
  by_cases h1 : (i : ℕ) = 1
  · simp [h1, vTerm]
  simp [h0, h1, vTerm]
end Cert.Kernel12Ideal.Merge
-- ==== Proof.MergeReal.lean ====
module
public import proofs.«01_k».proof.Proof.MergePure
public import proofs.«01_k».proof.Proof.PostReal
/-! # The two spellings of the norm's gradient agree on reals -/
@[expose] public section
noncomputable section
open Idealize.ShloMosaic Idealize.ShloMosaic.TcCoe
namespace Cert.Merge
open Cert.Post (Row sg up sum_coe sgR sg_up mhalf_coe)
open Cert.Reference2Ideal.Post (mhalf)

/-- The numbers one half, one and two, as their float words. -/
def half : EReal := Ideal.ofBits .f32 0x3F000000#32
def two : EReal := Ideal.ofBits .f32 0x40000000#32

/-- The loss's gradient at the norm's output, as the derivative spells it. -/
def dyRef (z g b t : Row) : Row := fun k => Ideal.div (half * 1) n1024 * (two * err z g b t k)
/-- The gradient that the variance sends to every entry of a row. -/
def sv (z g d : Row) : EReal := Ideal.div ((∑ j, cen z j * (d j * g j)) * (mhalf * Ideal.div (rs z) (var z))) n1024
/-- The gradient before the norm, as the derivative spells it. -/
def dzRef (z g d : Row) : Row := fun k =>
  d k * g k * rs z + sv z g d * (two * cen z k)
    + Ideal.div ((∑ j, -(d j * g j * rs z)) + ∑ j, -(sv z g d * (two * cen z j))) n1024

theorem n1024_coe : n1024 = ((1024 : ℝ) : EReal) := by
  rw [n1024]; simp [Ideal.ofBits, Ideal.ieee, -EReal.coe_mul]; norm_num
theorem half_coe : half = ((1 / 2 : ℝ) : EReal) := by
  rw [half]; simp [Ideal.ofBits, Ideal.ieee, -EReal.coe_mul]; norm_num
theorem two_coe : two = ((2 : ℝ) : EReal) := by
  rw [two]; simp [Ideal.ofBits, Ideal.ieee, -EReal.coe_mul]; norm_num
theorem kGrad_coe : kGrad = ((1 / 1024 : ℝ) : EReal) := by
  rw [kGrad]; simp [Ideal.ofBits, Ideal.ieee, -EReal.coe_mul]; norm_num
theorem kLoss_coe : kLoss = ((1 / 2048 : ℝ) : EReal) := by
  rw [kLoss]; simp [Ideal.ofBits, Ideal.ieee, -EReal.coe_mul]; norm_num
/-- The norm's small addend and the residual's factor, as reals. -/
def epsR : ℝ := eps.toReal
def ccR : ℝ := cc.toReal
theorem eps_coe : eps = ((epsR : ℝ) : EReal) := by
  rw [epsR, eps]; simp [Ideal.ofBits, Ideal.ieee, -EReal.coe_mul]
theorem epsR_pos : 0 < epsR := by
  rw [epsR, eps]; simp [Ideal.ofBits, Ideal.ieee, -EReal.coe_mul]
theorem cc_coe : cc = ((ccR : ℝ) : EReal) := by
  rw [ccR, cc]; simp [Ideal.ofBits, Ideal.ieee, -EReal.coe_mul]

/-- Division by 1024, of a real. -/
theorem div1024 (x : ℝ) : Ideal.div (x : EReal) n1024 = ((x * (1 / 1024) : ℝ) : EReal) := by
  rw [n1024_coe, Ideal.div_coe (by norm_num), ← EReal.coe_mul]

variable (z g b t d : Fin 1024 → ℝ) (k : Fin 1024)

def cenR : ℝ := z k - (∑ j, z j) * (1 / 1024)
def varR : ℝ := (∑ j, cenR z j * cenR z j) * (1 / 1024) + epsR
def rsR : ℝ := (√(varR z))⁻¹
def errR : ℝ := cenR z k * rsR z * g k + b k - t k

theorem varR_pos : 0 < varR z := by
  have : 0 ≤ ∑ j, cenR z j * cenR z j := Finset.sum_nonneg fun l _ => mul_self_nonneg _
  have := epsR_pos
  unfold varR; positivity

theorem cen_up : cen (up z) k = ((cenR z k : ℝ) : EReal) := by
  simp only [cen, up, sum_coe, div1024, ← EReal.coe_sub, cenR]
theorem var_up : var (up z) = ((varR z : ℝ) : EReal) := by
  simp only [var, cen_up, ← EReal.coe_mul, sum_coe, div1024, eps_coe, ← EReal.coe_add, varR]
theorem rs_up : rs (up z) = ((rsR z : ℝ) : EReal) := by
  rw [rs, var_up, Ideal.rsqrt_coe, if_neg (varR_pos z).not_gt, if_neg (varR_pos z).ne', rsR]
theorem xh_up : xh (up z) k = ((cenR z k * rsR z : ℝ) : EReal) := by
  rw [xh, cen_up, rs_up, ← EReal.coe_mul]
theorem err_up : err (up z) (up g) (up b) (up t) k = ((errR z g b t k : ℝ) : EReal) := by
  simp only [err, xh_up, up, ← EReal.coe_mul, ← EReal.coe_add, ← EReal.coe_sub, errR]

/-- The entries of the centred row sum to zero. -/
theorem sum_cenR : ∑ j, cenR z j = 0 := by
  simp only [cenR, Finset.sum_sub_distrib, Finset.sum_const, Finset.card_univ, Fintype.card_fin, nsmul_eq_mul]
  push_cast; ring

theorem dy_up : dy (up z) (up g) (up b) (up t) k = ((errR z g b t k * (1 / 1024) : ℝ) : EReal) := by
  rw [dy, err_up, kGrad_coe, ← EReal.coe_mul]
theorem dyRef_up : dyRef (up z) (up g) (up b) (up t) k = dy (up z) (up g) (up b) (up t) k := by
  rw [dy_up, dyRef, err_up, half_coe, two_coe, mul_one, div1024]
  simp only [← EReal.coe_mul]
  congr 1; ring

/-- The gradient before the norm: the derivative's formula is the kernel's. -/
theorem dzRef_up : dzRef (up z) (up g) (up d) k = dz (up z) (up g) (up d) k := by
  have hsv : sv (up z) (up g) (up d) = (((∑ j, cenR z j * (d j * g j)) * (-(1 / 2) * (rsR z * (1 / varR z))) * (1 / 1024) : ℝ) : EReal) := by
    rw [sv, var_up, rs_up, Ideal.div_coe (varR_pos z).ne', mhalf_coe]
    simp only [cen_up, up, ← EReal.coe_mul, sum_coe, div1024]
  rw [dzRef, dz, hsv]
  simp only [cen_up, xh_up, rs_up, two_coe, up, ← EReal.coe_mul, ← EReal.coe_neg, sum_coe, ← EReal.coe_add, ← EReal.coe_sub, div1024]
  congr 1
  have hm := varR_pos z
  have hs : √(varR z) * √(varR z) = varR z := Real.mul_self_sqrt hm.le
  have hp : 0 < √(varR z) := Real.sqrt_pos.mpr hm
  have e1 : ∑ j, -(d j * g j * rsR z) = -((∑ j, d j * g j) * rsR z) := by
    rw [Finset.sum_mul, Finset.sum_neg_distrib]
  have e2 : ∀ q : ℝ, ∑ j, -(q * (2 * cenR z j)) = 0 := fun q => by
    rw [Finset.sum_neg_distrib, ← Finset.mul_sum, ← Finset.mul_sum, sum_cenR]; ring
  have e3 : ∑ j, d j * g j * (cenR z j * rsR z) = (∑ j, cenR z j * (d j * g j)) * rsR z := by
    rw [Finset.sum_mul]; exact Finset.sum_congr rfl fun l _ => by ring
  rw [e1, e2, e3]
  generalize (∑ j, cenR z j * (d j * g j)) = P
  generalize (∑ j, d j * g j) = S
  rw [rsR]
  generalize √(varR z) = s at *
  rw [← hs]
  field_simp
  ring

/-- The residual stream of reals is real. -/
def zR (x h : Fin 1024 → ℝ) (w : Fin 1024 → Fin 1024 → ℝ) : Fin 1024 → ℝ := fun k => ccR * x k + ∑ j, h j * w j k
theorem z_up (x h : Fin 1024 → ℝ) (w : Fin 1024 → Fin 1024 → ℝ) : zRow (up x) (up h) (fun j => up (w j)) = up (zR x h w) := by
  funext k; simp only [zRow, cc_coe, up, ← EReal.coe_mul, sum_coe, ← EReal.coe_add, zR]
def hR (a b yc yg : Fin 1024 → ℝ) : Fin 1024 → ℝ := fun k => sgR (a k) * yc k + sgR (b k) * yg k
theorem h_up (a b yc yg : Fin 1024 → ℝ) : hRow (up a) (up b) (up yc) (up yg) = up (hR a b yc yg) := by
  funext k; simp only [hRow, sg_up, up, ← EReal.coe_mul, ← EReal.coe_add, hR]

end Cert.Merge
-- ==== Proof.MergeRef.lean ====
module
public import proofs.«01_k».proof.Proof.Gen.Reference12Ideal.Read
public import proofs.«01_k».proof.Proof.MergeReal
public import Idealize.ShloMosaic.Lib.Pointwise
/-! # The reference's results, read at an index -/
@[expose] public section
set_option maxRecDepth 16384
noncomputable section
open Idealize.ShloMosaic Idealize.ShloMosaic.TcCoe
namespace Cert.Reference12Ideal.Merge
open Cert.Reference12Ideal Cert.Reference12Ideal.Read Cert.Merge
open Cert.Post (Row sg)
open Cert.Kernel2Ideal.Post (row)
open Cert.Reference2Ideal.Post (mhalf)

variable (x yc yg : FVec Ideal S8192x1024 .f32) (p : FVec Ideal S8192x2048 .f32) (t : FVec Ideal S8192x1024 .f32)
  (w : FVec Ideal S1024x1024 .f32) (g b : FVec Ideal S1024 .f32) (r : Fin 8192) (k : Fin 1024)

/-- Token `r`: the loss's gradient behind the norm, before it, and before the output product, as the derivative spells them. -/
def DYr : Row := dyRef (Z x yc yg p w r) (vec g) (vec b) (row t r)
def DZr : Row := dzRef (Z x yc yg p w r) (vec g) (DYr x yc yg p t w g b r)
def DHr : Row := dhRow (DZr x yc yg p t w g b r) (row w)

theorem v6_at : val_main_v6 (F := Ideal) p (ix2 r k) = sg (ga p r k) := by
  pointwise [val_main_v6, val_main_v5, val_main_v4, val_main_v3, val_main_v2, val_main_v1, val_main_v0, val_main_cst, val_main_cst_0, sg, ga]
theorem v17_at : val_main_v17 (F := Ideal) p (ix2 r k) = sg (gb p r k) := by
  pointwise [val_main_v17, val_main_v16, val_main_v15, val_main_v14, val_main_v13, val_main_v12, val_main_v11, val_main_cst_2, val_main_cst_3, sg, gb]
theorem v22_at : val_main_v22 (F := Ideal) yc yg p (ix2 r k) = H yc yg p r k := by
  pointwise [val_main_v22, val_main_v21, val_main_v10, v6_at, v17_at, H, hRow]
theorem v26_at : val_main_v26 (F := Ideal) x yc yg p w (ix2 r k) = Z x yc yg p w r k := by
  pointwise [val_main_v26, val_main_v25, val_main_v24, val_main_v23, val_main_cst_5, v22_at, Z, zRow, cc]
theorem v30_at : val_main_v30 (F := Ideal) x yc yg p w (ix2 r 0) = Ideal.div (∑ j, Z x yc yg p w r j) n1024 := by
  pointwise [val_main_v30, val_main_v29, val_main_v28, val_main_v27, val_main_cst_6, val_main_cst_7, v26_at, n1024]
theorem v32_at : val_main_v32 (F := Ideal) x yc yg p w (ix2 r k) = cen (Z x yc yg p w r) k := by
  pointwise [val_main_v32, val_main_v31, v26_at, v30_at, cen]
theorem v41_at : val_main_v41 (F := Ideal) x yc yg p w (ix2 r k) = cen (Z x yc yg p w r) k := by
  pointwise [val_main_v41, val_main_v40, v26_at, v30_at, cen]
theorem v43_at : val_main_v43 (F := Ideal) x yc yg p w (ix2 r 0) = var (Z x yc yg p w r) := by
  pointwise [val_main_v43, val_main_v42, val_main_cst_11, val_main_v39, val_main_v38, val_main_cst_10, val_main_v37, val_main_v36, val_main_cst_9, val_main_v33, v32_at, var, n1024, eps]
theorem v44_at : val_main_v44 (F := Ideal) x yc yg p w (ix2 r 0) = rs (Z x yc yg p w r) := by
  pointwise [val_main_v44, v43_at, rs]
theorem v49_at : val_main_v49 (F := Ideal) x yc yg p w (ix2 r k) = xh (Z x yc yg p w r) k := by
  pointwise [val_main_v49, val_main_v48, v41_at, v44_at, xh]
theorem v56_at : val_main_v56 (F := Ideal) x yc yg p t w g b (ix2 r k) = E x yc yg p t w g b r k := by
  pointwise [val_main_v56, val_main_v55, val_main_v54, val_main_v53, val_main_v52, val_main_v51, val_main_v50, v49_at, E, err, vec]
theorem v70_at : val_main_v70 (F := Ideal) x yc yg p t w g b (ix2 r k) = DYr x yc yg p t w g b r k := by
  pointwise [val_main_v70, val_main_v69, val_main_v68, val_main_v67, val_main_v66, val_main_v65, val_main_cst_18, val_main_cst_19, val_main_cst_20, val_main_v59, val_main_v58, val_main_cst_13, v56_at, DYr, dyRef, E, n1024, half, two]
theorem v78_at : val_main_v78 (F := Ideal) x yc yg p t w g b (ix2 r k) = DYr x yc yg p t w g b r k * vec g k := by
  pointwise [val_main_v78, val_main_v77, val_main_v50, v70_at, vec]
theorem v84_at : val_main_v84 (F := Ideal) x yc yg p t w g b (ix2 r k) = DYr x yc yg p t w g b r k * vec g k * rs (Z x yc yg p w r) := by
  pointwise [val_main_v84, val_main_v83, v78_at, v44_at]
theorem v91_at : val_main_v91 (F := Ideal) x yc yg p t w g b (ix1 r) = sv (Z x yc yg p w r) (vec g) (DYr x yc yg p t w g b r) := by
  pointwise [val_main_v91, val_main_cst_28, val_main_v90, val_main_v89, val_main_cst_27, val_main_v85, val_main_v82, val_main_v81, val_main_cst_25, val_main_v80, v41_at, v78_at, val_main_v47, val_main_v46, val_main_cst_12, val_main_v45, sv, n1024, mhalf]
  rw [Fin.sum_univ_one, show (0 : Fin 1) = 0 from rfl, v43_at, v44_at]
theorem v93_at : val_main_v93 (F := Ideal) x yc yg p t w g b (ix2 r k) = sv (Z x yc yg p w r) (vec g) (DYr x yc yg p t w g b r) * (two * cen (Z x yc yg p w r) k) := by
  pointwise [val_main_v93, val_main_v92, v91_at, val_main_v35, val_main_v34, val_main_cst_8, v32_at, two]
theorem v101_at : val_main_v101 (F := Ideal) x yc yg p t w g b (ix1 r) =
    Ideal.div ((∑ j, -(DYr x yc yg p t w g b r j * vec g j * rs (Z x yc yg p w r)))
      + ∑ j, -(sv (Z x yc yg p w r) (vec g) (DYr x yc yg p t w g b r) * (two * cen (Z x yc yg p w r) j))) n1024 := by
  pointwise [val_main_v101, val_main_cst_31, val_main_v100, val_main_v99, val_main_cst_30, val_main_v98, val_main_v96, val_main_v95, val_main_cst_29, val_main_v94, v93_at, val_main_v88, val_main_v87, val_main_cst_26, val_main_v86, v84_at, n1024]
  rw [Fin.sum_univ_one]
theorem v103_at : val_main_v103 (F := Ideal) x yc yg p t w g b (ix2 r k) = DZr x yc yg p t w g b r k := by
  pointwise [val_main_v103, val_main_v97, val_main_v102, v84_at, v93_at, v101_at, DZr, dzRef]
theorem v104_at : val_main_v104 (F := Ideal) x yc yg p t w g b (ix2 r k) = DHr x yc yg p t w g b r k := by
  pointwise [val_main_v104, v103_at, DHr, dhRow]

/-! ## The results -/

theorem v106_at : val_main_v106 (F := Ideal) x yc yg p t w g b (ix2 r k) = cc * DZr x yc yg p t w g b r k := by
  pointwise [val_main_v106, val_main_v105, val_main_cst_32, v103_at, cc]
theorem v117_at : val_main_v117 (F := Ideal) x yc yg p t w g b (ix2 r k) = sg (ga p r k) * DHr x yc yg p t w g b r k := by
  pointwise [val_main_v117, val_main_v111, v6_at, v104_at]
theorem v118_at : val_main_v118 (F := Ideal) x yc yg p t w g b (ix2 r k) = sg (gb p r k) * DHr x yc yg p t w g b r k := by
  pointwise [val_main_v118, val_main_v107, v17_at, v104_at]
theorem v120_at : val_main_v120 (F := Ideal) yc yg p (ix2 r k) = H yc yg p r k := by
  pointwise [val_main_v120, v22_at]
theorem v121_at : val_main_v121 (F := Ideal) x yc yg p t w g b (ix2 r k) = DZr x yc yg p t w g b r k := by
  pointwise [val_main_v121, v103_at]
theorem v113_at : val_main_v113 (F := Ideal) x yc yg p t w g b (ix2 r k) =
    DHr x yc yg p t w g b r k * row yc r k * (sg (ga p r k) * (1 - sg (ga p r k))) := by
  pointwise [val_main_v113, val_main_v112, val_main_v9, val_main_v8, val_main_v7, val_main_cst_1, v6_at, v104_at]
theorem v109_at : val_main_v109 (F := Ideal) x yc yg p t w g b (ix2 r k) =
    DHr x yc yg p t w g b r k * row yg r k * (sg (gb p r k) * (1 - sg (gb p r k))) := by
  pointwise [val_main_v109, val_main_v108, val_main_v20, val_main_v19, val_main_v18, val_main_cst_4, v17_at, v104_at]
theorem v119_a : val_main_v119 (F := Ideal) x yc yg p t w g b (ix2 r ⟨k.val, by omega⟩) =
    DHr x yc yg p t w g b r k * row yc r k * (sg (ga p r k) * (1 - sg (ga p r k))) := by
  rw [← v113_at]
  pointwise [val_main_v119, val_main_v115, val_main_v114, val_main_v110, val_main_cst_33, val_main_cst_34]
  rw [dif_neg (fun h => h.1), zero_add]
theorem v119_b : val_main_v119 (F := Ideal) x yc yg p t w g b (ix2 r ⟨1024 + k.val, by omega⟩) =
    DHr x yc yg p t w g b r k * row yg r k * (sg (gb p r k) * (1 - sg (gb p r k))) := by
  rw [← v109_at]
  pointwise [val_main_v119, val_main_v115, val_main_v114, val_main_v110, val_main_cst_33, val_main_cst_34]
theorem v116_at (i : Fin 8) (l : Fin 128) : val_main_v116 (F := Ideal) x yc yg p t w g b (ix2 i l) =
    half * ∑ r : Fin 8192, Ideal.div (∑ k, E x yc yg p t w g b r k * E x yc yg p t w g b r k) n1024 := by
  pointwise [val_main_v116, val_main_v64, val_main_cst_17, val_main_v63, val_main_cst_16, val_main_v62, val_main_v61, val_main_cst_15, val_main_v60, val_main_cst_14, val_main_v57, v56_at, half, n1024]
theorem v125_at (i : Fin 8) (k : Fin 1024) : val_main_v125 (F := Ideal) x yc yg p t w g b (ix2 i k) =
    if (i : ℕ) = 0 then ∑ r : Fin 8192, xh (Z x yc yg p w r) k * DYr x yc yg p t w g b r k
    else if (i : ℕ) = 1 then ∑ r : Fin 8192, DYr x yc yg p t w g b r k else 0 := by
  pointwise [val_main_v125, val_main_v122, val_main_v123, val_main_v124, val_main_cst_35, val_main_v79, val_main_cst_24, val_main_v76, val_main_v75, val_main_cst_23, val_main_v74, val_main_v73, val_main_cst_22, val_main_v72, val_main_v71, val_main_cst_21, v49_at, v70_at]
  by_cases h0 : (i : ℕ) = 0
  · rw [dif_pos (by omega), if_pos h0, Fin.sum_univ_one]
  · rw [dif_neg (by omega), if_neg h0]
    by_cases h1 : (i : ℕ) = 1
    · rw [dif_pos (by omega), if_pos h1, Fin.sum_univ_one]
    · rw [dif_neg (by omega), if_neg h1]
end Cert.Reference12Ideal.Merge
-- ==== Proof.MergeClaim.lean ====
module
public import proofs.«01_k».proof.Defs
public import proofs.«01_k».proof.Proof.Gen.Pre_finite12
public import proofs.«01_k».proof.Proof.Gen.Reference12Ideal.Run
public import proofs.«01_k».proof.Proof.Finite
public import proofs.«01_k».proof.Proof.MergeSums
public import proofs.«01_k».proof.Proof.MergeRef
/-! # Merge, norm and loss: the kernel computes what the reference computes -/
@[expose] public section
set_option maxRecDepth 16384
noncomputable section
open Idealize.ShloMosaic Idealize.ShloMosaic.TcCoe Idealize.SL.Sem
namespace Cert.Merge.Claim
open Cert.Post (Row sg up sum_coe)
open Cert.Kernel2Ideal.Post (row)
open Cert.Merge Cert.Kernel12Ideal.Merge Cert.Kernel12Ideal.Gen Cert.Kernel12Ideal.Value Cert.Reference12Ideal.Merge Cert.Reference12Ideal.Read
open Cert.Kernel12Ideal (cfg0)

variable (m : (ℓ : Loc Cert.Kernel12Ideal.nD Cert.Kernel12Ideal.τ Cert.Kernel12Ideal.sig) → Buf (Elt Ideal) ℓ)

variable (h : Cert.Pre_Kernel12Ideal_finite12 m) (c : Dev Cert.Kernel12Ideal.nD)

/-! ## The arguments are real -/

include h in
theorem real_X (r : Fin 8192) (k : Fin 1024) : ((aX m c (ix2 r k)).toReal : EReal) = aX m c (ix2 r k) := by
  have e := congrFun (h c).1 (ix2 r k)
  simp only [Cert.Pre_finite12.fn, Cert.Pre_finite12.fn_part1, Cert.Pre_finite12.fn_part2] at e
  pointwise at e
  exact Cert.Finite.real_of _ e

include h in
theorem real_C (r : Fin 8192) (k : Fin 1024) : ((aC m c (ix2 r k)).toReal : EReal) = aC m c (ix2 r k) := by
  have e := congrFun (h c).2.1 (ix2 r k)
  simp only [Cert.Pre_finite12.fn, Cert.Pre_finite12.fn_part1, Cert.Pre_finite12.fn_part2] at e
  pointwise at e
  exact Cert.Finite.real_of _ e

include h in
theorem real_Y (r : Fin 8192) (k : Fin 1024) : ((aY m c (ix2 r k)).toReal : EReal) = aY m c (ix2 r k) := by
  have e := congrFun (h c).2.2.1 (ix2 r k)
  simp only [Cert.Pre_finite12.fn, Cert.Pre_finite12.fn_part1, Cert.Pre_finite12.fn_part2] at e
  pointwise at e
  exact Cert.Finite.real_of _ e

include h in
theorem real_P (r : Fin 8192) (k : Fin 2048) : ((aP m c (ix2 r k)).toReal : EReal) = aP m c (ix2 r k) := by
  have e := congrFun (h c).2.2.2.1 (ix2 r k)
  simp only [Cert.Pre_finite12.fn, Cert.Pre_finite12.fn_part1, Cert.Pre_finite12.fn_part2] at e
  pointwise at e
  exact Cert.Finite.real_of _ e

include h in
theorem real_T (r : Fin 8192) (k : Fin 1024) : ((aT m c (ix2 r k)).toReal : EReal) = aT m c (ix2 r k) := by
  have e := congrFun (h c).2.2.2.2.1 (ix2 r k)
  simp only [Cert.Pre_finite12.fn, Cert.Pre_finite12.fn_part1, Cert.Pre_finite12.fn_part2] at e
  pointwise at e
  exact Cert.Finite.real_of _ e

include h in
theorem real_W (r : Fin 1024) (k : Fin 1024) : ((aW m c (ix2 r k)).toReal : EReal) = aW m c (ix2 r k) := by
  have e := congrFun (h c).2.2.2.2.2.1 (ix2 r k)
  simp only [Cert.Pre_finite12.fn, Cert.Pre_finite12.fn_part1, Cert.Pre_finite12.fn_part2] at e
  pointwise at e
  exact Cert.Finite.real_of _ e

include h in
theorem real_G (k : Fin 1024) : ((aG m c (ix1 k)).toReal : EReal) = aG m c (ix1 k) := by
  have e := congrFun (h c).2.2.2.2.2.2.1 (ix1 k)
  simp only [Cert.Pre_finite12.fn, Cert.Pre_finite12.fn_part1, Cert.Pre_finite12.fn_part2] at e
  pointwise at e
  exact Cert.Finite.real_of _ e

include h in
theorem real_B (k : Fin 1024) : ((aB m c (ix1 k)).toReal : EReal) = aB m c (ix1 k) := by
  have e := congrFun (h c).2.2.2.2.2.2.2 (ix1 k)
  simp only [Cert.Pre_finite12.fn, Cert.Pre_finite12.fn_part1, Cert.Pre_finite12.fn_part2] at e
  pointwise at e
  exact Cert.Finite.real_of _ e

/-! ## The rows are rows of reals -/

include h in
theorem row_X (r : Fin 8192) : row (aX m c) r = up fun k => (aX m c (ix2 r k)).toReal := funext fun k => (real_X m h c r k).symm

include h in
theorem row_C (r : Fin 8192) : row (aC m c) r = up fun k => (aC m c (ix2 r k)).toReal := funext fun k => (real_C m h c r k).symm

include h in
theorem row_Y (r : Fin 8192) : row (aY m c) r = up fun k => (aY m c (ix2 r k)).toReal := funext fun k => (real_Y m h c r k).symm

include h in
theorem row_T (r : Fin 8192) : row (aT m c) r = up fun k => (aT m c (ix2 r k)).toReal := funext fun k => (real_T m h c r k).symm

include h in
theorem row_W : row (aW m c) = fun j => up fun k => (aW m c (ix2 j k)).toReal := funext fun j => funext fun k => (real_W m h c j k).symm
include h in
theorem ga_up (r : Fin 8192) : ga (aP m c) r = up fun k => (aP m c (ix2 r ⟨k.val, by omega⟩)).toReal := funext fun k => (real_P m h c r _).symm
include h in
theorem gb_up (r : Fin 8192) : gb (aP m c) r = up fun k => (aP m c (ix2 r ⟨1024 + k.val, by omega⟩)).toReal := funext fun k => (real_P m h c r _).symm
include h in
theorem vec_G : vec (aG m c) = up fun k => (aG m c (ix1 k)).toReal := funext fun k => (real_G m h c k).symm
include h in
theorem vec_B : vec (aB m c) = up fun k => (aB m c (ix1 k)).toReal := funext fun k => (real_B m h c k).symm

include h in
theorem Z_real (r : Fin 8192) : ∃ z : Fin 1024 → ℝ, Zc m c r = up z :=
  ⟨_, by rw [Zc, Z, H, row_X m h c, row_C m h c, row_Y m h c, ga_up m h c, gb_up m h c, row_W m h c, h_up, z_up]⟩
include h in
theorem E_real (r : Fin 8192) : ∃ e : Fin 1024 → ℝ, Ec m c r = up e := by
  obtain ⟨z, hz⟩ := Z_real m h c r
  refine ⟨fun k => errR z (fun k => (aG m c (ix1 k)).toReal) (fun k => (aB m c (ix1 k)).toReal) (fun k => (aT m c (ix2 r k)).toReal) k, funext fun k => ?_⟩
  rw [Ec, E, show Z (aX m c) (aC m c) (aY m c) (aP m c) (aW m c) r = up z from hz, vec_G m h c, vec_B m h c, row_T m h c]
  exact err_up _ _ _ _ k
include h in
theorem DY_real (r : Fin 8192) : ∃ d : Fin 1024 → ℝ, DYc m c r = up d := by
  obtain ⟨z, hz⟩ := Z_real m h c r
  refine ⟨fun k => errR z (fun k => (aG m c (ix1 k)).toReal) (fun k => (aB m c (ix1 k)).toReal) (fun k => (aT m c (ix2 r k)).toReal) k * (1 / 1024), funext fun k => ?_⟩
  rw [DYc, DY, show Z (aX m c) (aC m c) (aY m c) (aP m c) (aW m c) r = up z from hz, vec_G m h c, vec_B m h c, row_T m h c]
  exact dy_up _ _ _ _ k

/-! ## The derivative's spellings agree with the kernel's -/

include h in
theorem DY_eq (r : Fin 8192) : DYr (aX m c) (aC m c) (aY m c) (aP m c) (aT m c) (aW m c) (aG m c) (aB m c) r = DYc m c r := by
  obtain ⟨z, hz⟩ := Z_real m h c r
  funext k
  rw [DYr, DYc, DY, show Z (aX m c) (aC m c) (aY m c) (aP m c) (aW m c) r = up z from hz, vec_G m h c, vec_B m h c, row_T m h c]
  exact dyRef_up _ _ _ _ k
include h in
theorem DZ_eq (r : Fin 8192) : DZr (aX m c) (aC m c) (aY m c) (aP m c) (aT m c) (aW m c) (aG m c) (aB m c) r = DZc m c r := by
  obtain ⟨z, hz⟩ := Z_real m h c r
  obtain ⟨d, hd⟩ := DY_real m h c r
  funext k
  rw [DZr, DY_eq m h c, show DYc m c r = up d from hd, DZc, DZ, show DY (aX m c) (aC m c) (aY m c) (aP m c) (aT m c) (aW m c) (aG m c) (aB m c) r = up d from hd,
    show Z (aX m c) (aC m c) (aY m c) (aP m c) (aW m c) r = up z from hz, vec_G m h c]
  exact dzRef_up _ _ _ k
include h in
theorem DH_eq (r : Fin 8192) : DHr (aX m c) (aC m c) (aY m c) (aP m c) (aT m c) (aW m c) (aG m c) (aB m c) r = DHc m c r := by
  rw [DHr, DZ_eq m h c]; rfl

/-! ## The eight results -/

theorem loss_sums (e : Fin 8192 → Fin 1024 → ℝ) :
    ∑ t : Fin 32, (1 / 2048 : ℝ) * ∑ r : Fin 256, ∑ k : Fin 1024, e ⟨t.val * 256 + r.val, by omega⟩ k * e ⟨t.val * 256 + r.val, by omega⟩ k
      = 1 / 2 * ∑ r : Fin 8192, (∑ k : Fin 1024, e r k * e r k) * (1 / 1024) := by
  simp only [Finset.mul_sum (s := (Finset.univ : Finset (Fin 256))), Finset.mul_sum (s := (Finset.univ : Finset (Fin 8192)))]
  refine Fin.sum_mul_add_congr (S := 32) (n := 256) fun t r hl => ?_
  ring

include h in
theorem eq0 : (dats m 0 c).arrAt 9 cfg0.N = val_main_v116 (F := Ideal) (aX m c) (aC m c) (aY m c) (aP m c) (aT m c) (aW m c) (aG m c) (aB m c) := by
  rw [final9]
  funext j
  obtain ⟨i, l, rfl⟩ : ∃ (i : Fin 8) (l : Fin 128), j = ix2 i l := ⟨_, _, eq_ix2 j⟩
  rw [v116_at]
  choose e he using E_real m h c
  have hE : ∀ r k, E (aX m c) (aC m c) (aY m c) (aP m c) (aT m c) (aW m c) (aG m c) (aB m c) r k = ((e r k : ℝ) : EReal) :=
    fun r k => congrFun (he r) k
  simp only [lossPart, Ec, hE, ← EReal.coe_mul, sum_coe, kLoss_coe, half_coe, div1024]
  exact congrArg _ (loss_sums e)

include h in
theorem eq1 : (dats m 0 c).arrAt 10 cfg0.N = val_main_v106 (F := Ideal) (aX m c) (aC m c) (aY m c) (aP m c) (aT m c) (aW m c) (aG m c) (aB m c) := by
  rw [final10]
  funext j
  obtain ⟨r, k, rfl⟩ : ∃ (r : Fin 8192) (k : Fin 1024), j = ix2 r k := ⟨_, _, eq_ix2 j⟩
  rw [v106_at, DZ_eq m h c]; rfl

include h in
theorem eq2 : (dats m 0 c).arrAt 11 cfg0.N = val_main_v117 (F := Ideal) (aX m c) (aC m c) (aY m c) (aP m c) (aT m c) (aW m c) (aG m c) (aB m c) := by
  rw [final11]
  funext j
  obtain ⟨r, k, rfl⟩ : ∃ (r : Fin 8192) (k : Fin 1024), j = ix2 r k := ⟨_, _, eq_ix2 j⟩
  rw [v117_at, DH_eq m h c, mul_comm]; rfl

include h in
theorem eq3 : (dats m 0 c).arrAt 12 cfg0.N = val_main_v118 (F := Ideal) (aX m c) (aC m c) (aY m c) (aP m c) (aT m c) (aW m c) (aG m c) (aB m c) := by
  rw [final12]
  funext j
  obtain ⟨r, k, rfl⟩ : ∃ (r : Fin 8192) (k : Fin 1024), j = ix2 r k := ⟨_, _, eq_ix2 j⟩
  rw [v118_at, DH_eq m h c, mul_comm]; rfl

include h in
theorem eq4 : (dats m 0 c).arrAt 13 cfg0.N = val_main_v119 (F := Ideal) (aX m c) (aC m c) (aY m c) (aP m c) (aT m c) (aW m c) (aG m c) (aB m c) := by
  rw [final13]
  funext j
  obtain ⟨r, k, rfl⟩ : ∃ (r : Fin 8192) (k : Fin 2048), j = ix2 r k := ⟨_, _, eq_ix2 j⟩
  show GP m c r k = _
  by_cases hk : (k : ℕ) < 1024
  · have key := v119_a (aX m c) (aC m c) (aY m c) (aP m c) (aT m c) (aW m c) (aG m c) (aB m c) r ⟨k, hk⟩
    rw [DH_eq m h c] at key
    rw [GP, dif_pos hk]
    refine Eq.trans ?_ key.symm
    rw [GA, mul_assoc (DHc m c r _ * row (aC m c) r _)]
  · have key := v119_b (aX m c) (aC m c) (aY m c) (aP m c) (aT m c) (aW m c) (aG m c) (aB m c) r ⟨(k : ℕ) - 1024, by omega⟩
    rw [DH_eq m h c] at key
    have e : k = ⟨1024 + ((k : ℕ) - 1024), by omega⟩ := Fin.ext (by simp only; omega)
    rw [GP, dif_neg hk]
    refine Eq.trans ?_ (key.symm.trans (congrArg (fun q : Fin 2048 => val_main_v119 (F := Ideal) (aX m c) (aC m c) (aY m c) (aP m c) (aT m c) (aW m c) (aG m c) (aB m c) (ix2 r q)) e.symm))
    rw [GB, mul_assoc (DHc m c r _ * row (aY m c) r _)]

theorem eq5 : (dats m 0 c).arrAt 14 cfg0.N = val_main_v120 (F := Ideal) (aC m c) (aY m c) (aP m c) := by
  rw [final14]
  funext j
  obtain ⟨r, k, rfl⟩ : ∃ (r : Fin 8192) (k : Fin 1024), j = ix2 r k := ⟨_, _, eq_ix2 j⟩
  rw [v120_at]; rfl

include h in
theorem eq6 : (dats m 0 c).arrAt 15 cfg0.N = val_main_v121 (F := Ideal) (aX m c) (aC m c) (aY m c) (aP m c) (aT m c) (aW m c) (aG m c) (aB m c) := by
  rw [final15]
  funext j
  obtain ⟨r, k, rfl⟩ : ∃ (r : Fin 8192) (k : Fin 1024), j = ix2 r k := ⟨_, _, eq_ix2 j⟩
  rw [v121_at, DZ_eq m h c]; rfl

include h in
theorem eq7 : (dats m 0 c).arrAt 16 cfg0.N = val_main_v125 (F := Ideal) (aX m c) (aC m c) (aY m c) (aP m c) (aT m c) (aW m c) (aG m c) (aB m c) := by
  rw [final16]
  funext j
  obtain ⟨i, k, rfl⟩ : ∃ (i : Fin 8) (k : Fin 1024), j = ix2 i k := ⟨_, _, eq_ix2 j⟩
  rw [v125_at]
  simp only [DY_eq m h c]
  refine ite_congr rfl (fun _ => ?_) fun _ => ite_congr rfl (fun _ => ?_) fun _ => rfl
  · exact Fin.sum_mul_add_congr (S := 32) (n := 256) fun t r hl => mul_comm _ _
  · exact Fin.sum_mul_add_congr (S := 32) (n := 256) fun t r hl => rfl

/-- The reference runs, leaves its arguments as they were, and has no semaphore to leave raised. -/
theorem frame_ref : Cert.quiescent_Reference12Ideal := fun m ρ _ =>
  (θ_run _ _ _).mono (fun r h => And.intro (fun c => (h c).2.2.2.2.2.2.2.2) (Idealize.ShloMosaic.sem_eq_zero_of_no_sems (by decide) r.2))
    (Cert.Reference12Ideal.Value.run (F := Ideal) m ρ)

/-- From memories that agree on the arguments, both programs end with equal results and with the arguments unchanged. -/
theorem algebraic : Cert.algebraic_Kernel12Ideal_Reference12Ideal_pre_finite12 := by
  intro m g m' g' hpre hag
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N,
    Cert.Kernel12Ideal.Value.run_blocks m g, (θ_run _ _ _).mono (fun r hr c => ?_) (Cert.Reference12Ideal.Value.run m' g')⟩
  obtain ⟨e0, e1, e2, e3, e4, e5, e6, e7, k⟩ := hr c
  obtain ⟨a0, a1, a2, a3, a4, a5, a6, a7⟩ := hag c
  refine ⟨(e0.trans (val_main_v116_eq _)).trans ?_, (e1.trans (val_main_v106_eq _)).trans ?_, (e2.trans (val_main_v117_eq _)).trans ?_,
    (e3.trans (val_main_v118_eq _)).trans ?_, (e4.trans (val_main_v119_eq _)).trans ?_, (e5.trans (val_main_v120_eq _)).trans ?_,
    (e6.trans (val_main_v121_eq _)).trans ?_, (e7.trans (val_main_v125_eq _)).trans ?_, k⟩
  · show val_main_v116 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq0 m hpre c).symm
  · show val_main_v106 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq1 m hpre c).symm
  · show val_main_v117 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq2 m hpre c).symm
  · show val_main_v118 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq3 m hpre c).symm
  · show val_main_v119 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq4 m hpre c).symm
  · show val_main_v120 (F := Ideal) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) = _
    rw [a1, a2, a3]; exact (eq5 m c).symm
  · show val_main_v121 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq6 m hpre c).symm
  · show val_main_v125 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6)) (m' ((c.tc : Thread Cert.Reference12Ideal.nD Cert.Reference12Ideal.τ).loc Cert.Reference12Ideal.main_arg7)) = _
    rw [a0, a1, a2, a3, a4, a5, a6, a7]; exact (eq7 m hpre c).symm

end Cert.Merge.Claim
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.PostClaim
public import proofs.«01_k».proof.Proof.DvClaim
public import proofs.«01_k».proof.Proof.ScanFrameBits
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Fwd11
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.MergeClaim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite12
public import Idealize.ShloMosaic.Adequacy
public import Idealize.ShloMosaic.Init

/-! # Every claim of the certificate, collected -/
@[expose] public section

set_option maxRecDepth 16384

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Pre_finite2.Gen.facts,
    Cert.Pre_finite12.Gen.facts,
    fun m ρ _ => Cert.Kernel.Scan.frame m ρ,
    fun m ρ _ => Cert.KernelIdeal.Scan.frame m ρ,
    Cert.ReferenceIdeal.Dv.frame_ref,
    fun m ρ _ => Cert.Kernel2.Gen.frame m ρ,
    fun m ρ _ => Cert.Kernel2Ideal.Gen.frame m ρ,
    fun m ρ _ => Cert.Kernel2Ideal.Gen.frame m ρ,
    Cert.Post.Claim.frame_ref,
    fun m ρ _ => Cert.Post.Claim.frame_ref m ρ trivial,
    fun m ρ _ => Cert.Kernel3.Gen.frame m ρ,
    fun m ρ _ => Cert.Kernel3Ideal.Gen.frame m ρ,
    Cert.Reference3Ideal.Prod.frame_ref,
    fun m ρ _ => Cert.Kernel4.Gen.frame m ρ,
    fun m ρ _ => Cert.Kernel4Ideal.Gen.frame m ρ,
    Cert.Reference4Ideal.Prod.frame_ref,
    fun m ρ _ => Cert.Kernel5.Gen.frame m ρ,
    fun m ρ _ => Cert.Kernel5Ideal.Gen.frame m ρ,
    Cert.Reference5Ideal.Prod.frame_ref,
    fun m ρ _ => Cert.Kernel6.Gen.frame m ρ,
    fun m ρ _ => Cert.Kernel6Ideal.Gen.frame m ρ,
    Cert.Reference6Ideal.Prod.frame_ref,
    fun m ρ _ => Cert.Kernel7.Gen.frame m ρ,
    fun m ρ _ => Cert.Kernel7Ideal.Gen.frame m ρ,
    Cert.Reference7Ideal.Prod.frame_ref,
    fun m ρ _ => Cert.Kernel8.Gen.frame m ρ,
    fun m ρ _ => Cert.Kernel8Ideal.Gen.frame m ρ,
    Cert.Reference8Ideal.Prod.frame_ref,
    fun m ρ _ => Cert.Kernel9.Gen.frame m ρ,
    fun m ρ _ => Cert.Kernel9Ideal.Gen.frame m ρ,
    Cert.Reference9Ideal.Prod.frame_ref,
    fun m ρ _ => Cert.Kernel10.Gen.frame m ρ,
    fun m ρ _ => Cert.Kernel10Ideal.Gen.frame m ρ,
    Cert.Reference10Ideal.Prod.frame_ref,
    fun m ρ _ => Cert.Kernel11.Gen.frame m ρ,
    fun m ρ _ => Cert.Kernel11Ideal.Gen.frame m ρ,
    Cert.Reference11Ideal.Fwd.frame_ref,
    fun m ρ _ => Cert.Kernel12.Gen.frame m ρ,
    fun m ρ _ => Cert.Kernel12Ideal.Gen.frame m ρ,
    fun m ρ _ => Cert.Kernel12Ideal.Gen.frame m ρ,
    Cert.Merge.Claim.frame_ref,
    fun m ρ _ => Cert.Merge.Claim.frame_ref m ρ trivial,
    trivial,
    Cert.KernelIdeal.Dv.algebraic,
    trivial,
    Cert.Post.Claim.algebraic,
    trivial,
    Cert.Kernel3Ideal.Prod.algebraic,
    trivial,
    Cert.Kernel4Ideal.Prod.algebraic,
    trivial,
    Cert.Kernel5Ideal.Prod.algebraic,
    trivial,
    Cert.Kernel6Ideal.Prod.algebraic,
    trivial,
    Cert.Kernel7Ideal.Prod.algebraic,
    trivial,
    Cert.Kernel8Ideal.Prod.algebraic,
    trivial,
    Cert.Kernel9Ideal.Prod.algebraic,
    trivial,
    Cert.Kernel10Ideal.Prod.algebraic,
    trivial,
    Cert.Kernel11Ideal.Fwd.algebraic,
    trivial,
    Cert.Merge.Claim.algebraic⟩

end Cert.Proof

end
